-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)) (v4 : (c : Dev Cert.Kernel5Ideal.nD) → Buf (Elt Ideal) ((c.tc : Thread Cert.Kernel5Ideal.nD Cert.Kernel5Ideal.τ).loc Cert.Kernel5Ideal.main_v20_4)) (v5 : (c : Dev Cert.Kernel5Ideal.nD) → Buf (Elt Ideal) ((c.tc : Thread Cert.Kernel5Ideal.nD Cert.Kernel5Ideal.τ).loc Cert.Kernel5Ideal.main_v20_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_v20_4) = v4 c
          ∧ r.2.mem ((c.tc : Thread Cert.Kernel5Ideal.nD Cert.Kernel5Ideal.τ).loc Cert.Kernel5Ideal.main_v20_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_v60) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v41) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S1x8 : Shape := ⟨2, ![1, 8]⟩
abbrev S4096x768 : Shape := ⟨2, ![4096, 768]⟩
abbrev S4096x512 : Shape := ⟨2, ![4096, 512]⟩
abbrev S_ : Shape := ⟨0, ![]⟩

class Facts : Prop where
  bcast_S_S1x8 : S_.BroadcastsInDim S1x8 (![] : Fin 0 → Fin S1x8.rank)
  bitsLt_bf16_f32 : FTy.bits .bf16 < FTy.bits .f32
  bcast_S_S4096x768 : S_.BroadcastsInDim S4096x768 (![] : Fin 0 → Fin S4096x768.rank)
  bcast_S_S4096x512 : S_.BroadcastsInDim S4096x512 (![] : Fin 0 → Fin S4096x512.rank)

variable [Facts]

def fn {F : FTy → Type} [FloatOps F] (main_arg0 : FVec F S1x8 .f32) (main_arg1 : FVec F S4096x768 .bf16) (main_arg2 : FVec F S4096x512 .bf16) : IVec S1x8 1 × IVec S4096x768 1 × IVec S4096x512 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_v3 : FVec F S4096x768 .f32 := (extf .f32 · bitsLt_bf16_f32) main_arg1
  let main_v4 : FVec F S4096x768 .f32 := Host.absf main_v3
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_v7 : FVec F S4096x512 .f32 := (extf .f32 · bitsLt_bf16_f32) main_arg2
  let main_v8 : FVec F S4096x512 .f32 := Host.absf main_v7
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  (main_v2, main_v6, main_v10)
-- ==== Pre_finite5.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S4x1024x1408 : S_.BroadcastsInDim S4x1024x1408 (![] : Fin 0 → Fin S4x1024x1408.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S4x1024x1408 .bf16) (main_arg4 : FVec F S2816x1024 .bf16) : IVec S4096x1024 1 × IVec S4096x1024 1 × IVec S1x1024 1 × IVec S4x1024x1408 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4x1024x1408 .f32 := (extf .f32 · bitsLt_bf16_f32) main_arg3
  let main_v10 : FVec F S4x1024x1408 .f32 := Host.absf main_v9
  let main_cst_2 : FVec F S_ .f32 := constant S_ .f32 0x7F800000#32
  let main_v11 : FVec F S4x1024x1408 .f32 := broadcastInDim S4x1024x1408 ![] bcast_S_S4x1024x1408 main_cst_2
  let main_v12 : IVec S4x1024x1408 1 := cmpf .olt main_v10 main_v11
  let main_v13 : FVec F S2816x1024 .f32 := (extf .f32 · bitsLt_bf16_f32) main_arg4
  let main_v14 : FVec F S2816x1024 .f32 := Host.absf main_v13
  let main_cst_3 : FVec F S_ .f32 := constant S_ .f32 0x7F800000#32
  let main_v15 : FVec F S2816x1024 .f32 := broadcastInDim S2816x1024 ![] bcast_S_S2816x1024 main_cst_3
  let main_v16 : IVec S2816x1024 1 := cmpf .olt main_v14 main_v15
  (main_v2, main_v5, main_v8, main_v12, main_v16)
-- ==== Kernel.lean ====
abbrev S1x8 : Shape := ⟨2, ![1, 8]⟩
abbrev S4096x768 : Shape := ⟨2, ![4096, 768]⟩
abbrev S4096x512 : Shape := ⟨2, ![4096, 512]⟩
abbrev S2x512x256 : Shape := ⟨3, ![2, 512, 256]⟩
abbrev S_ : Shape := ⟨0, ![]⟩
abbrev S4096x256 : Shape := ⟨2, ![4096, 256]⟩
abbrev S8x128 : Shape := ⟨2, ![8, 128]⟩
abbrev S128x512 : Shape := ⟨2, ![128, 512]⟩
abbrev S128x256 : Shape := ⟨2, ![128, 256]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S1x512x256 : Shape := ⟨3, ![1, 512, 256]⟩
abbrev S512x1 : Shape := ⟨2, ![512, 1]⟩
abbrev S1x1 : Shape := ⟨2, ![1, 1]⟩
abbrev S512 : Shape := ⟨1, ![512]⟩
abbrev S1x128 : Shape := ⟨2, ![1, 128]⟩
abbrev S128x1 : Shape := ⟨2, ![128, 1]⟩
abbrev S1 : Shape := ⟨1, ![1]⟩

abbrev nBuf : Space → Nat
  | .hbm => 46
  | .vmem => 15
  | .smem => 1
  | _ => 0

abbrev bufTy : (tb : Table) → Fin (tcTables nBuf tb) → BufTy
  | .hbm, ⟨0, _⟩ => ⟨S1x8, .f32⟩
  | .hbm, ⟨1, _⟩ => ⟨S4096x768, .bf16⟩
  | .hbm, ⟨2, _⟩ => ⟨S4096x512, .bf16⟩
  | .hbm, ⟨3, _⟩ => ⟨S2x512x256, .i32⟩
  | .hbm, ⟨4, _⟩ => ⟨S2x512x256, .i32⟩
  | .hbm, ⟨5, _⟩ => ⟨S2x512x256, .i32⟩
  | .hbm, ⟨6, _⟩ => ⟨S_, .i32⟩
  | .hbm, ⟨7, _⟩ => ⟨S2x512x256, .i32⟩
  | .hbm, ⟨8, _⟩ => ⟨S2x512x256, .i32⟩
  | .hbm, ⟨9, _⟩ => ⟨S_, .i32⟩
  | .hbm, ⟨10, _⟩ => ⟨S2x512x256, .i32⟩
  | .hbm, ⟨11, _⟩ => ⟨S2x512x256, .i32⟩
  | .hbm, ⟨12, _⟩ => ⟨S2x512x256, .i32⟩
  | .hbm, ⟨13, _⟩ => ⟨S_, .i32⟩
  | .hbm, ⟨14, _⟩ => ⟨S2x512x256, .i32⟩
  | .hbm, ⟨15, _⟩ => ⟨S2x512x256, .i32⟩
  | .hbm, ⟨16, _⟩ => ⟨S_, .i32⟩
  | .hbm, ⟨17, _⟩ => ⟨S2x512x256, .i32⟩
  | .hbm, ⟨18, _⟩ => ⟨S2x512x256, .i32⟩
  | .hbm, ⟨19, _⟩ => ⟨S2x512x256, .i32⟩
  | .hbm, ⟨20, _⟩ => ⟨S_, .i32⟩
  | .hbm, ⟨21, _⟩ => ⟨S2x512x256, .i32⟩
  | .hbm, ⟨22, _⟩ => ⟨S2x512x256, .i32⟩
  | .hbm, ⟨23, _⟩ => ⟨S2x512x256, .f32⟩
  | .hbm, ⟨24, _⟩ => ⟨S2x512x256, .f32⟩
  | .hbm, ⟨25, _⟩ => ⟨S_, .f32⟩
  | .hbm, ⟨26, _⟩ => ⟨S2x512x256, .f32⟩
  | .hbm, ⟨27, _⟩ => ⟨S2x512x256, .f32⟩
  | .hbm, ⟨28, _⟩ => ⟨S2x512x256, .f32⟩
  | .hbm, ⟨29, _⟩ => ⟨S_, .i32⟩
  | .hbm, ⟨30, _⟩ => ⟨S2x512x256, .i32⟩
  | .hbm, ⟨31, _⟩ => ⟨S2x512x256, .i1⟩
  | .hbm, ⟨32, _⟩ => ⟨S_, .i32⟩
  | .hbm, ⟨33, _⟩ => ⟨S2x512x256, .i32⟩
  | .hbm, ⟨34, _⟩ => ⟨S2x512x256, .i1⟩
  | .hbm, ⟨35, _⟩ => ⟨S2x512x256, .i1⟩
  | .hbm, ⟨36, _⟩ => ⟨S2x512x256, .f32⟩
  | .hbm, ⟨37, _⟩ => ⟨S2x512x256, .f32⟩
  | .hbm, ⟨38, _⟩ => ⟨S2x512x256, .f32⟩
  | .hbm, ⟨39, _⟩ => ⟨S_, .f32⟩
  | .hbm, ⟨40, _⟩ => ⟨S_, .f32⟩
  | .hbm, ⟨41, _⟩ => ⟨S2x512x256, .f32⟩
  | .hbm, ⟨42, _⟩ => ⟨S2x512x256, .f32⟩
  | .hbm, ⟨43, _⟩ => ⟨S4096x512, .bf16⟩
  | .hbm, ⟨44, _⟩ => ⟨S4096x256, .bf16⟩
  | .hbm, ⟨45, _⟩ => ⟨S8x128, .f32⟩
  | .local _ .vmem, ⟨0, _⟩ => ⟨S2x512x256, .f32⟩
  | .local _ .vmem, ⟨1, _⟩ => ⟨S128x512, .bf16⟩
  | .local _ .vmem, ⟨2, _⟩ => ⟨S128x512, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x256, .bf16⟩
  | .local _ .vmem, ⟨12, _⟩ => ⟨S128x256, .bf16⟩
  | .local _ .vmem, ⟨13, _⟩ => ⟨S8x128, .f32⟩
  | .local _ .vmem, ⟨14, _⟩ => ⟨S128x256, .f32⟩
  | .local _ .smem, ⟨0, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1x8 : Shape := ⟨2, ![1, 8]⟩
abbrev S4096x768 : Shape := ⟨2, ![4096, 768]⟩
abbrev S4096x512 : Shape := ⟨2, ![4096, 512]⟩
abbrev S8 : Shape := ⟨1, ![8]⟩
abbrev S4096x128 : Shape := ⟨2, ![4096, 128]⟩
abbrev S4096x8x64 : Shape := ⟨3, ![4096, 8, 64]⟩
abbrev S4096x2x64 : Shape := ⟨3, ![4096, 2, 64]⟩
abbrev S32x128x2x4x64 : Shape := ⟨5, ![32, 128, 2, 4, 64]⟩
abbrev S32x128x2x64 : Shape := ⟨4, ![32, 128, 2, 64]⟩
abbrev S_ : Shape := ⟨0, ![]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S2x32x256x128x4 : Shape := ⟨5, ![2, 32, 256, 128, 4]⟩
abbrev S2x4x32x128x256 : Shape := ⟨5, ![2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x32x128x256 : Shape := ⟨5, ![1, 1, 32, 128, 256]⟩
abbrev S2x4x1x128x256 : Shape := ⟨5, ![2, 4, 1, 128, 256]⟩
abbrev S2x4x32x128 : Shape := ⟨4, ![2, 4, 32, 128]⟩
abbrev S2x4x32x128x1 : Shape := ⟨5, ![2, 4, 32, 128, 1]⟩
abbrev S32x2x64x4x128 : Shape := ⟨5, ![32, 2, 64, 4, 128]⟩
abbrev S32x2x4x128x256 : Shape := ⟨5, ![32, 2, 4, 128, 256]⟩
abbrev S32x2x64x256 : Shape := ⟨4, ![32, 2, 64, 256]⟩
abbrev S2x32x128x4x64 : Shape := ⟨5, ![2, 32, 128, 4, 64]⟩
abbrev S2x32x256x64 : Shape := ⟨4, ![2, 32, 256, 64]⟩
abbrev S4096x256 : Shape := ⟨2, ![4096, 256]⟩
abbrev S8x1 : Shape := ⟨2, ![8, 1]⟩
abbrev S8x128 : Shape := ⟨2, ![8, 128]⟩

abbrev nBuf : Space → Nat
  | .hbm => 240
  | .vmem => 0
  | .smem => 0
  | _ => 0

abbrev hbmTy0_0 (i : Nat) : BufTy := match i % 128 with
  | 0 => ⟨S1x8, .f32⟩
  | 1 => ⟨S4096x768, .bf16⟩
  | 2 => ⟨S4096x512, .bf16⟩
  | 3 => ⟨S4096x768, .f32⟩
  | 4 => ⟨S8, .f32⟩
  | 5 => ⟨S4096x512, .f32⟩
  | 6 => ⟨S4096x128, .f32⟩
  | 7 => ⟨S4096x128, .f32⟩
  | 8 => ⟨S4096x8x64, .f32⟩
  | 9 => ⟨S4096x2x64, .f32⟩
  | 10 => ⟨S4096x2x64, .f32⟩
  | 11 => ⟨S32x128x2x4x64, .f32⟩
  | 12 => ⟨S32x128x2x64, .f32⟩
  | 13 => ⟨S_, .f32⟩
  | 14 => ⟨S1x128x2x64, .f32⟩
  | 15 => ⟨S31x128x2x64, .f32⟩
  | 16 => ⟨S32x128x2x64, .f32⟩
  | 17 => ⟨S_, .f32⟩
  | 18 => ⟨S1x128x2x64, .f32⟩
  | 19 => ⟨S32x256x2x64, .f32⟩
  | 20 => ⟨S32x128x2x64, .f32⟩
  | 21 => ⟨S_, .f32⟩
  | 22 => ⟨S1x128x2x64, .f32⟩
  | 23 => ⟨S31x128x2x64, .f32⟩
  | 24 => ⟨S32x128x2x64, .f32⟩
  | 25 => ⟨S_, .f32⟩
  | 26 => ⟨S1x128x2x64, .f32⟩
  | 27 => ⟨S32x256x2x64, .f32⟩
  | 28 => ⟨S2x32x256x128x4, .f32⟩
  | 29 => ⟨S2x4x32x128x256, .f32⟩
  | 30 => ⟨S_, .f32⟩
  | 31 => ⟨S2x4x32x128x256, .f32⟩
  | 32 => ⟨S2x4x32x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S32, .i32⟩
  | 51 => ⟨S32x1x1, .i32⟩
  | 52 => ⟨S1x128x256, .i1⟩
  | 53 => ⟨S_, .i32⟩
  | 54 => ⟨S32x1x1, .i32⟩
  | 55 => ⟨S32x1x1, .i1⟩
  | 56 => ⟨S_, .i32⟩
  | 57 => ⟨S1x256, .i32⟩
  | 58 => ⟨S1x256, .i1⟩
  | 59 => ⟨S1x1x256, .i1⟩
  | 60 => ⟨S32x1x256, .i1⟩
  | 61 => ⟨S32x1x256, .i1⟩
  | 62 => ⟨S32x1x256, .i1⟩
  | 63 => ⟨S32x128x256, .i1⟩
  | 64 => ⟨S32x128x256, .i1⟩
  | 65 => ⟨S32x128x256, .i1⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S8, .f32⟩
  | 80 => ⟨S2x4, .f32⟩
  | 81 => ⟨S2x4x1x1, .f32⟩
  | 82 => ⟨S2x4x1x1, .f32⟩
  | 83 => ⟨S128x256, .i32⟩
  | 84 => ⟨S128x256, .f32⟩
  | 85 => ⟨S1x1x128x256, .f32⟩
  | 86 => ⟨S2x4x128x256, .f32⟩
  | 87 => ⟨S2x4x128x256, .f32⟩
  | 88 => ⟨S2x4x128x256, .f32⟩
  | 89 => ⟨S1x1x32x128x256, .i1⟩
  | 90 => ⟨S2x4x1x128x256, .f32⟩
  | 91 => ⟨S2x4x32x128x256, .f32⟩
  | 92 => ⟨S2x4x32x128x256, .f32⟩
  | 93 => ⟨S_, .f32⟩
  | 94 => ⟨S_, .f32⟩
  | 95 => ⟨S2x4x32x128x256, .i1⟩
  | 96 => ⟨S2x4x32x128x256, .f32⟩
  | 97 => ⟨S2x4x32x128x256, .f32⟩
  | 98 => ⟨S_, .f32⟩
  | 99 => ⟨S2x4x32x128x256, .f32⟩
  | 100 => ⟨S2x4, .f32⟩
  | 101 => ⟨S2x4x1x1, .f32⟩
  | 102 => ⟨S_, .f32⟩
  | 103 => ⟨S2x4x32x128, .f32⟩
  | 104 => ⟨S2x4x32x128x1, .f32⟩
  | 105 => ⟨S2x4x32x128x256, .f32⟩
  | 106 => ⟨S2x4x32x128x256, .i1⟩
  | 107 => ⟨S2x4x32x128x256, .f32⟩
  | 108 => ⟨S_, .f32⟩
  | 109 => ⟨S2x4x32x128, .f32⟩
  | 110 => ⟨S2x4x32x128, .f32⟩
  | 111 => ⟨S2x4x32x128, .f32⟩
  | 112 => ⟨S2x4x32x128, .f32⟩
  | 113 => ⟨S2x4x32x128, .i1⟩
  | 114 => ⟨S2x4x32x128, .f32⟩
  | 115 => ⟨S2x4x32x128, .i1⟩
  | 116 => ⟨S_, .f32⟩
  | 117 => ⟨S2x4x32x128, .f32⟩
  | 118 => ⟨S_, .f32⟩
  | 119 => ⟨S2x4x32x128, .f32⟩
  | 120 => ⟨S_, .f32⟩
  | 121 => ⟨S2x4x32x128, .f32⟩
  | 122 => ⟨S2x4x32x128, .f32⟩
  | 123 => ⟨S2x4x32x128, .f32⟩
  | 124 => ⟨S2x4x32x128, .f32⟩
  | 125 => ⟨S2x4x32x128, .i1⟩
  | 126 => ⟨S2x4x32x128, .f32⟩
  | 127 => ⟨S2x4x32x128, .i1⟩
  | _ => ⟨S1x8, .f32⟩

abbrev hbmTy0_1 (i : Nat) : BufTy := match i % 128 with
  | 0 => ⟨S_, .f32⟩
  | 1 => ⟨S2x4x32x128, .f32⟩
  | 2 => ⟨S_, .f32⟩
  | 3 => ⟨S2x4x32x128, .f32⟩
  | 4 => ⟨S_, .f32⟩
  | 5 => ⟨S2x4x32x128, .f32⟩
  | 6 => ⟨S2x4x32x128, .f32⟩
  | 7 => ⟨S2x4x32x128, .f32⟩
  | 8 => ⟨S2x4x32x128x1, .f32⟩
  | 9 => ⟨S2x4x32x128x256, .f32⟩
  | 10 => ⟨S2x4x32x128x256, .f32⟩
  | 11 => ⟨S2x4x32x128x256, .f32⟩
  | 12 => ⟨S_, .f32⟩
  | 13 => ⟨S2x4x32x128, .f32⟩
  | 14 => ⟨S2x4x32x128, .f32⟩
  | 15 => ⟨S2x4x32x128, .f32⟩
  | 16 => ⟨S2x4x32x128, .f32⟩
  | 17 => ⟨S2x4x32x128, .f32⟩
  | 18 => ⟨S2x4x32x128x1, .f32⟩
  | 19 => ⟨S2x4x32x128x256, .f32⟩
  | 20 => ⟨S2x4x32x128x256, .f32⟩
  | 21 => ⟨S2x4x32x128x1, .f32⟩
  | 22 => ⟨S_, .f32⟩
  | 23 => ⟨S2x4x32x128x1, .f32⟩
  | 24 => ⟨S2x4x32x128x1, .f32⟩
  | 25 => ⟨S32x2x64x4x128, .f32⟩
  | 26 => ⟨S32x128x2x4x64, .f32⟩
  | 27 => ⟨S4096x512, .f32⟩
  | 28 => ⟨S4096x512, .f32⟩
  | 29 => ⟨S32x128x2x4x64, .f32⟩
  | 30 => ⟨S32x2x64x4x128, .f32⟩
  | 31 => ⟨S32x2x4x128x256, .f32⟩
  | 32 => ⟨S2x4x32x128x256, .f32⟩
  | 33 => ⟨S32x2x64x256, .f32⟩
  | 34 => ⟨S32x256x2x64, .f32⟩
  | 35 => ⟨S2x4x32x128x256, .f32⟩
  | 36 => ⟨S2x4x32x128x256, .f32⟩
  | 37 => ⟨S2x4x32x128x256, .f32⟩
  | 38 => ⟨S_, .f32⟩
  | 39 => ⟨S2x4x32x128, .f32⟩
  | 40 => ⟨S2x4x32x128x1, .f32⟩
  | 41 => ⟨S2x4x32x128x1, .f32⟩
  | 42 => ⟨S2x4x32x128x256, .f32⟩
  | 43 => ⟨S2x4x32x128x256, .f32⟩
  | 44 => ⟨S_, .f32⟩
  | 45 => ⟨S2x4x32x128, .f32⟩
  | 46 => ⟨S2x4x32x128, .f32⟩
  | 47 => ⟨S_, .f32⟩
  | 48 => ⟨S2x4, .f32⟩
  | 49 => ⟨S2x4x1x1, .f32⟩
  | 50 => ⟨S2x4x32x128, .f32⟩
  | 51 => ⟨S2x4x32x128x256, .f32⟩
  | 52 => ⟨S2x4x32x128x256, .f32⟩
  | 53 => ⟨S2x4x32x128x256, .f32⟩
  | 54 => ⟨S2x4x32x128x256, .f32⟩
  | 55 => ⟨S_, .f32⟩
  | 56 => ⟨S2x4x32x128, .f32⟩
  | 57 => ⟨S2x4x32x128x1, .f32⟩
  | 58 => ⟨S_, .f32⟩
  | 59 => ⟨S2x4x32x128, .f32⟩
  | 60 => ⟨S2x4x32x128, .f32⟩
  | 61 => ⟨S2x4x32x128, .f32⟩
  | 62 => ⟨S_, .f32⟩
  | 63 => ⟨S2x4, .f32⟩
  | 64 => ⟨S2x4x1x1, .f32⟩
  | 65 => ⟨S2x4x1x1, .f32⟩
  | 66 => ⟨S2x4x32x128, .f32⟩
  | 67 => ⟨S2x4x32x128, .f32⟩
  | 68 => ⟨S2x4x32x128x256, .f32⟩
  | 69 => ⟨S2x4x32x128x256, .f32⟩
  | 70 => ⟨S2x4x32x128x256, .f32⟩
  | 71 => ⟨S_, .f32⟩
  | 72 => ⟨S2x4, .f32⟩
  | 73 => ⟨S8, .f32⟩
  | 74 => ⟨S_, .f32⟩
  | 75 => ⟨S2x4x32x128x256, .f32⟩
  | 76 => ⟨S2x4x32x128x256, .f32⟩
  | 77 => ⟨S_, .f32⟩
  | 78 => ⟨S2x4x32x128x256, .f32⟩
  | 79 => ⟨S2x4x32x128x256, .f32⟩
  | 80 => ⟨S2x32x256x128x4, .f32⟩
  | 81 => ⟨S2x32x128x4x64, .f32⟩
  | 82 => ⟨S32x128x2x4x64, .f32⟩
  | 83 => ⟨S2x32x256x64, .f32⟩
  | 84 => ⟨S32x256x2x64, .f32⟩
  | 85 => ⟨S32x128x2x64, .f32⟩
  | 86 => ⟨S32x128x2x64, .f32⟩
  | 87 => ⟨S1x128x2x64, .f32⟩
  | 88 => ⟨S31x128x2x64, .f32⟩
  | 89 => ⟨S_, .f32⟩
  | 90 => ⟨S32x128x2x64, .f32⟩
  | 91 => ⟨S32x128x2x64, .f32⟩
  | 92 => ⟨S4096x2x64, .f32⟩
  | 93 => ⟨S32x128x2x64, .f32⟩
  | 94 => ⟨S32x128x2x64, .f32⟩
  | 95 => ⟨S1x128x2x64, .f32⟩
  | 96 => ⟨S31x128x2x64, .f32⟩
  | 97 => ⟨S_, .f32⟩
  | 98 => ⟨S32x128x2x64, .f32⟩
  | 99 => ⟨S32x128x2x64, .f32⟩
  | 100 => ⟨S4096x2x64, .f32⟩
  | 101 => ⟨S4096x8x64, .f32⟩
  | 102 => ⟨S4096x128, .f32⟩
  | 103 => ⟨S4096x128, .f32⟩
  | 104 => ⟨S4096x512, .f32⟩
  | 105 => ⟨S4096x768, .f32⟩
  | 106 => ⟨S4096x512, .f32⟩
  | 107 => ⟨S4096x512, .bf16⟩
  | 108 => ⟨S4096x256, .f32⟩
  | 109 => ⟨S4096x256, .bf16⟩
  | 110 => ⟨S8x1, .f32⟩
  | 111 => ⟨S8x128, .f32⟩
  | _ => ⟨S1x8, .f32⟩

abbrev hbmTy (i : Nat) : BufTy := match i / 128 with
  | 0 => hbmTy0_0 i
  | 1 => hbmTy0_1 i
  | _ => ⟨S1x8, .f32⟩

abbrev bufTy : (tb : Table) → Fin (tcTables nBuf tb) → BufTy
  | .hbm, ⟨i, _⟩ => hbmTy i
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_call0_v0 : Ref sig .tc := ⟨.hbm, 94, rfl⟩
abbrev main_v76_1 : Ref sig .tc := ⟨.hbm, 95, rfl⟩
abbrev main_call0_v2 : Ref sig .tc := ⟨.hbm, 96, rfl⟩
abbrev main_v76_0 : Ref sig .tc := ⟨.hbm, 97, rfl⟩
abbrev main_call0_cst : Ref sig .tc := ⟨.hbm, 98, rfl⟩
abbrev main_v76_2 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_cst_16 : Ref sig .tc := ⟨.hbm, 118, rfl⟩
abbrev main_v92 : Ref sig .tc := ⟨.hbm, 119, rfl⟩
abbrev main_cst_17 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_18 : Ref sig .tc := ⟨.hbm, 128, rfl⟩
abbrev main_v100 : Ref sig .tc := ⟨.hbm, 129, rfl⟩
abbrev main_cst_19 : Ref sig .tc := ⟨.hbm, 130, rfl⟩
abbrev main_v101 : Ref sig .tc := ⟨.hbm, 131, rfl⟩
abbrev main_cst_20 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_21 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_22 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_23 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_24 : Ref sig .tc := ⟨.hbm, 172, rfl⟩
abbrev main_v138 : Ref sig .tc := ⟨.hbm, 173, rfl⟩
abbrev main_v139 : Ref sig .tc := ⟨.hbm, 174, rfl⟩
abbrev main_cst_25 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_26 : Ref sig .tc := ⟨.hbm, 183, rfl⟩
abbrev main_v147 : Ref sig .tc := ⟨.hbm, 184, rfl⟩
abbrev main_v148 : Ref sig .tc := ⟨.hbm, 185, rfl⟩
abbrev main_cst_27 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_28 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_29 : Ref sig .tc := ⟨.hbm, 199, rfl⟩
abbrev main_v160 : Ref sig .tc := ⟨.hbm, 200, rfl⟩
abbrev main_v161 : Ref sig .tc := ⟨.hbm, 201, rfl⟩
abbrev main_call1_cst : Ref sig .tc := ⟨.hbm, 202, rfl⟩
abbrev main_call1_v0 : Ref sig .tc := ⟨.hbm, 203, rfl⟩
abbrev main_v162 : Ref sig .tc := ⟨.hbm, 204, rfl⟩
abbrev main_cst_30 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_31 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_32 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩

abbrev nD : Nat := 1
abbrev τ : Topo := Topo.v7x

variable {F : FTy → Type} [FloatOps F]

def κ : String → Option EReal := fun
  | "mask" => some ⊥
  | _ => none
-- ==== Kernel2.lean ====
abbrev S4096x1024 : Shape := ⟨2, ![4096, 1024]⟩
abbrev S2x4096x2816 : Shape := ⟨3, ![2, 4096, 2816]⟩
abbrev S_ : Shape := ⟨0, ![]⟩
abbrev S8x128 : Shape := ⟨2, ![8, 128]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S_, .f32⟩
  | .hbm, ⟨3, _⟩ => ⟨S8x128, .f32⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c1_i32_4 : BitVec 32 := 1#32
  let v11 : BitVec 32 := Scalar.subi c1_i32_4 arg1
  let v12 : BitVec 32 := Scalar.select v10 arg1 v11
  let c0_i32_5 : BitVec 32 := 0#32
  let c0_i32_6 : BitVec 32 := 0#32
  ![v12.toNat, c0_i32_5.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c1_i32_11 : BitVec 32 := 1#32
  let v28 : BitVec 32 := Scalar.subi c1_i32_11 arg1
  let v29 : BitVec 32 := Scalar.select v27 arg1 v28
  let c2_i32_12 : BitVec 32 := 2#32
  let c0_i32_13 : BitVec 32 := 0#32
  let v30 : BitVec 1 := Scalar.cmpi .eq c2_i32_12 c0_i32_13
  let c1_i32_14 : BitVec 32 := 1#32
  let v31 : BitVec 32 := Scalar.select v30 c1_i32_14 c2_i32_12
  let v32 : BitVec 32 := Scalar.remsi arg0 v31
  let c0_i32_15 : BitVec 32 := 0#32
  let v33 : BitVec 1 := Scalar.cmpi .ne v32 c0_i32_15
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let v37 : BitVec 1 := Scalar.andi v36 v33
  let v38 : BitVec 32 := Scalar.addi v32 v31
  let v39 : BitVec 32 := Scalar.select v37 v38 v32
  let c0_i32_18 : BitVec 32 := 0#32
  ![v16.toNat, v29.toNat, v39.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S4096x2x2816, .bf16⟩
  | .hbm, ⟨4, _⟩ => ⟨S4096x5632, .bf16⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S_ : Shape := ⟨0, ![]⟩
abbrev S8x128 : Shape := ⟨2, ![8, 128]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S8x128, .f32⟩
  | .hbm, ⟨4, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c1_i32_4 : BitVec 32 := 1#32
  let v11 : BitVec 32 := Scalar.subi c1_i32_4 arg1
  let v12 : BitVec 32 := Scalar.select v10 arg1 v11
  let c0_i32_5 : BitVec 32 := 0#32
  ![v12.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c1_i32_4 : BitVec 32 := 1#32
  let v11 : BitVec 32 := Scalar.subi c1_i32_4 arg1
  let v12 : BitVec 32 := Scalar.select v10 arg1 v11
  let c0_i32_5 : BitVec 32 := 0#32
  let c0_i32_6 : BitVec 32 := 0#32
  ![v12.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S2x4096x2816 : Shape := ⟨3, ![2, 4096, 2816]⟩
abbrev S512x1024 : Shape := ⟨2, ![512, 1024]⟩
abbrev S2x512x2816 : Shape := ⟨3, ![2, 512, 2816]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S1x512x768 : Shape := ⟨3, ![1, 512, 768]⟩
abbrev S768x1024 : Shape := ⟨2, ![768, 1024]⟩
abbrev S1x1024x640 : Shape := ⟨3, ![1, 1024, 640]⟩
abbrev S1024x640 : Shape := ⟨2, ![1024, 640]⟩
abbrev S512x640 : Shape := ⟨2, ![512, 640]⟩
abbrev S1x512x640 : Shape := ⟨3, ![1, 512, 640]⟩
abbrev S640x1024 : Shape := ⟨2, ![640, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S4096x1024, .f32⟩
  | .hbm, ⟨5, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S2x512x2816, .bf16⟩
  | .local _ .vmem, ⟨6, _⟩ => ⟨S2x512x2816, .bf16⟩
  | .local _ .vmem, ⟨7, _⟩ => ⟨S4x1024x1408, .bf16⟩
  | .local _ .vmem, ⟨8, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x4x1408, .bf16⟩
  | .hbm, ⟨20, _⟩ => ⟨S1024x5632, .bf16⟩
  | .hbm, ⟨21, _⟩ => ⟨S1024x5632, .f32⟩
  | .hbm, ⟨22, _⟩ => ⟨S2816x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x2x2816, .f32⟩
  | .hbm, ⟨42, _⟩ => ⟨S2x4096x2816, .f32⟩
  | .hbm, ⟨43, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S8x128 : Shape := ⟨2, ![8, 128]⟩
abbrev S4096x2816 : Shape := ⟨2, ![4096, 2816]⟩
abbrev S256x1024 : Shape := ⟨2, ![256, 1024]⟩
abbrev S2x256x2816 : Shape := ⟨3, ![2, 256, 2816]⟩
abbrev S256x2816 : Shape := ⟨2, ![256, 2816]⟩
abbrev S6 : Shape := ⟨1, ![6]⟩
abbrev S1 : Shape := ⟨1, ![1]⟩
abbrev S1x1024x1408 : Shape := ⟨3, ![1, 1024, 1408]⟩
abbrev S1024x1408 : Shape := ⟨2, ![1024, 1408]⟩
abbrev S1408x1024 : Shape := ⟨2, ![1408, 1024]⟩
abbrev S256x1408 : Shape := ⟨2, ![256, 1408]⟩
abbrev S1x256x1408 : Shape := ⟨3, ![1, 256, 1408]⟩
abbrev S256 : Shape := ⟨1, ![256]⟩
abbrev S256x1 : Shape := ⟨2, ![256, 1]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4x1024x1408, .bf16⟩
  | .hbm, ⟨4, _⟩ => ⟨S2816x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x4x1408, .bf16⟩
  | .hbm, ⟨21, _⟩ => ⟨S1024x5632, .bf16⟩
  | .hbm, ⟨22, _⟩ => ⟨S1024x5632, .f32⟩
  | .hbm, ⟨23, _⟩ => ⟨S4096x5632, .f32⟩
  | .hbm, ⟨24, _⟩ => ⟨S4096x2x2816, .f32⟩
  | .hbm, ⟨25, _⟩ => ⟨S2x4096x2816, .f32⟩
  | .hbm, ⟨26, _⟩ => ⟨S2x4096x2816, .bf16⟩
  | .hbm, ⟨27, _⟩ => ⟨S_, .f32⟩
  | .hbm, ⟨28, _⟩ => ⟨S8x128, .f32⟩
  | .hbm, ⟨29, _⟩ => ⟨S4096x1024, .f32⟩
  | .hbm, ⟨30, _⟩ => ⟨S1x1024, .f32⟩
  | .hbm, ⟨31, _⟩ => ⟨S4096x1024, .bf16⟩
  | .hbm, ⟨32, _⟩ => ⟨S2x4096x2816, .bf16⟩
  | .hbm, ⟨33, _⟩ => ⟨S4096x2816, .bf16⟩
  | .hbm, ⟨34, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x256x2816, .bf16⟩
  | .local _ .vmem, ⟨6, _⟩ => ⟨S2x256x2816, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S2x256x2816, .bf16⟩
  | .local _ .vmem, ⟨13, _⟩ => ⟨S2x256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S4x1024x1408, .bf16⟩
  | .local _ .vmem, ⟨19, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4096x2x2816 : Shape := ⟨3, ![4096, 2, 2816]⟩
abbrev S2x4096x2816 : Shape := ⟨3, ![2, 4096, 2816]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4x1024x1408, .bf16⟩
  | .hbm, ⟨4, _⟩ => ⟨S2816x1024, .bf16⟩
  | .hbm, ⟨5, _⟩ => ⟨S1024x4x1408, .bf16⟩
  | .hbm, ⟨6, _⟩ => ⟨S1024x5632, .bf16⟩
  | .hbm, ⟨7, _⟩ => ⟨S1024x5632, .f32⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x5632, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S4096x2x2816, .f32⟩
  | .hbm, ⟨87, _⟩ => ⟨S2x4096x2816, .f32⟩
  | .hbm, ⟨88, _⟩ => ⟨S2x4096x2816, .bf16⟩
  | .hbm, ⟨89, _⟩ => ⟨S4096x2816, .bf16⟩
  | .hbm, ⟨90, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S4096x512, .bf16⟩
  | .hbm, ⟨4, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1024x1024 : Shape := ⟨2, ![1024, 1024]⟩
abbrev S_ : Shape := ⟨0, ![]⟩
abbrev S4096x512 : Shape := ⟨2, ![4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x512, .f32⟩
  | .hbm, ⟨9, _⟩ => ⟨S4096x512, .bf16⟩
  | .hbm, ⟨10, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x512 : Shape := ⟨2, ![4096, 512]⟩
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x512 : Shape := ⟨2, ![4096, 512]⟩
abbrev S4096x256 : Shape := ⟨2, ![4096, 256]⟩
abbrev S4096x1024 : Shape := ⟨2, ![4096, 1024]⟩
abbrev S1792x1024 : Shape := ⟨2, ![1792, 1024]⟩
abbrev S2048x512 : Shape := ⟨2, ![2048, 512]⟩
abbrev S2048x256 : Shape := ⟨2, ![2048, 256]⟩
abbrev S2048x1024 : Shape := ⟨2, ![2048, 1024]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S1792x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1792x1024, .bf16⟩
  | .local _ .vmem, ⟨9, _⟩ => ⟨S1792x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v27 : BitVec 1 := Scalar.cmpi .eq arg0 c1_i32
  let v28 : BitVec 32 := Scalar.extui v27
  let c0_i32_24 : BitVec 32 := 0#32
  let v29 : BitVec 1 := Scalar.cmpi .ne v28 c0_i32_24
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference8Ideal.lean ====
abbrev S4096x512 : Shape := ⟨2, ![4096, 512]⟩
abbrev S4096x256 : Shape := ⟨2, ![4096, 256]⟩
abbrev S4096x1024 : Shape := ⟨2, ![4096, 1024]⟩
abbrev S4096x1792 : Shape := ⟨2, ![4096, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1792, .bf16⟩
  | .hbm, ⟨6, _⟩ => ⟨S4096x1792, .f32⟩
  | .hbm, ⟨7, _⟩ => ⟨S_, .f32⟩
  | .hbm, ⟨8, _⟩ => ⟨S1024x1792, .f32⟩
  | .hbm, ⟨9, _⟩ => ⟨S4096x1792, .f32⟩
  | .hbm, ⟨10, _⟩ => ⟨S1792x1024, .f32⟩
  | .hbm, ⟨11, _⟩ => ⟨S1024x1792, .f32⟩
  | .hbm, ⟨12, _⟩ => ⟨S1792x1024, .f32⟩
  | .hbm, ⟨13, _⟩ => ⟨S1792x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1792x1024 : Shape := ⟨2, ![1792, 1024]⟩
abbrev S4096x768 : Shape := ⟨2, ![4096, 768]⟩
abbrev S1024x1024 : Shape := ⟨2, ![1024, 1024]⟩
abbrev S1024x768 : Shape := ⟨2, ![1024, 768]⟩
abbrev S1024 : Shape := ⟨1, ![1024]⟩
abbrev S1024x1 : Shape := ⟨2, ![1024, 1]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S4096x768, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1792x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S1024x1792 : Shape := ⟨2, ![1024, 1792]⟩
abbrev S4096x1792 : Shape := ⟨2, ![4096, 1792]⟩
abbrev S4096x768 : Shape := ⟨2, ![4096, 768]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1792, .bf16⟩
  | .hbm, ⟨19, _⟩ => ⟨S1024x1792, .f32⟩
  | .hbm, ⟨20, _⟩ => ⟨S4096x1792, .f32⟩
  | .hbm, ⟨21, _⟩ => ⟨S4096x768, .f32⟩
  | .hbm, ⟨22, _⟩ => ⟨S4096x768, .bf16⟩
  | .hbm, ⟨23, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .bf16⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S4096x512 : Shape := ⟨2, ![4096, 512]⟩
abbrev S4096x256 : Shape := ⟨2, ![4096, 256]⟩
abbrev S1792x1024 : Shape := ⟨2, ![1792, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x512, .bf16⟩
  | .hbm, ⟨4, _⟩ => ⟨S4096x256, .bf16⟩
  | .hbm, ⟨5, _⟩ => ⟨S4096x1024, .bf16⟩
  | .hbm, ⟨6, _⟩ => ⟨S1792x1024, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | .local _ .vmem, ⟨10, _⟩ => ⟨S512x1024, .bf16⟩
  | .local _ .vmem, ⟨11, _⟩ => ⟨S1792x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S4096x1024 : Shape := ⟨2, ![4096, 1024]⟩
abbrev S1x1024 : Shape := ⟨2, ![1, 1024]⟩
abbrev S4096x512 : Shape := ⟨2, ![4096, 512]⟩
abbrev S4096x256 : Shape := ⟨2, ![4096, 256]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S4096x1792 : Shape := ⟨2, ![4096, 1792]⟩
abbrev S1024x1792 : Shape := ⟨2, ![1024, 1792]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x512, .bf16⟩
  | .hbm, ⟨4, _⟩ => ⟨S4096x256, .bf16⟩
  | .hbm, ⟨5, _⟩ => ⟨S4096x1024, .bf16⟩
  | .hbm, ⟨6, _⟩ => ⟨S1792x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1792, .bf16⟩
  | .hbm, ⟨27, _⟩ => ⟨S4096x1792, .f32⟩
  | .hbm, ⟨28, _⟩ => ⟨S1024x1792, .bf16⟩
  | .hbm, ⟨29, _⟩ => ⟨S1024x1792, .f32⟩
  | .hbm, ⟨30, _⟩ => ⟨S4096x1792, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.AttnBase.lean ====
/- The grid points of the attention's gradient: which branch of the body a point takes, where the output windows are
   idle or fresh, the buffers a point of the pipeline works on, and what one point reads. -/
module

public import proofs.«01_k».proof.Proof.Gen.KernelIdeal.Skeleton
public import proofs.«01_k».proof.Proof.Gen.KernelIdeal.Frame
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first point clears what is carried. -/
abbrev isFirst (i : grid0.Coords) : Prop := k0_cond1 i = 1#1
/-- The points that work on a block of queries. -/
abbrev works (i : grid0.Coords) : Prop := k0_cond2 i = 1#1
/-- The last point only writes out the carried gradient of the last block of keys. -/
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem works_iff : ∀ t : Fin cfg0.N, works (grid0.coords t) ↔ t.val < 32 :=
  (by decide +kernel : ∀ t : Fin grid0.N, works (grid0.coords t) ↔ t.val < 32)
theorem isLast_iff : ∀ t : Fin cfg0.N, isLast (grid0.coords t) ↔ t.val = 32 :=
  (by decide +kernel : ∀ t : Fin grid0.N, isLast (grid0.coords t) ↔ t.val = 32)

/-- The gradient of the queries is stored at every working point. -/
theorem live6 : ∀ t : Fin cfg0.N, t.val < 32 → cfg0.idle 6 (grid0.coords t) = false := by decide +kernel
/-- The gradient of keys and values is stored at every point. -/
theorem live7 : ∀ t : Fin cfg0.N, cfg0.idle 7 (grid0.coords t) = false := by decide +kernel
/-- The gradient of the sinks is stored at every working point. -/
theorem live8 : ∀ t : Fin cfg0.N, t.val < 32 → cfg0.idle 8 (grid0.coords t) = false := by decide +kernel

/-- Whether the buffer of the queries' gradient holds nothing stored, position by position: it is written back after
    each point but point 31. -/
def fresh6 (n : ℕ) : Bool := !(n == 32)
theorem fresh6_step : ∀ t : Fin cfg0.N,
    fresh6 (t.val + 1) = ((cfg0.win 6).flush t || (cfg0.idle 6 (cfg0.grid.coords t) && fresh6 t.val)) := by decide +kernel
theorem fresh6_eq (t : Fin cfg0.N) : cfg0.fresh 6 t.val = fresh6 t.val :=
  Pipeline.Cfg.fresh_tab cfg0 6 fresh6 rfl fresh6_step t.val (Nat.le_of_lt t.isLt)
/-- The same for the sinks' gradient, written back after the last point only. -/
def fresh8 (n : ℕ) : Bool := n == 0 || n == 33
theorem fresh8_step : ∀ t : Fin cfg0.N,
    fresh8 (t.val + 1) = ((cfg0.win 8).flush t || (cfg0.idle 8 (cfg0.grid.coords t) && fresh8 t.val)) := by decide +kernel
theorem fresh8_eq (t : Fin cfg0.N) : cfg0.fresh 8 t.val = fresh8 t.val :=
  Pipeline.Cfg.fresh_tab cfg0 8 fresh8 rfl fresh8_step t.val (Nat.le_of_lt t.isLt)
theorem flush6_last : ∀ t : Fin cfg0.N, ¬ t.val < 32 → (cfg0.win 6).flush t = true := by decide +kernel
theorem flush8_last : ∀ t : Fin cfg0.N, ¬ t.val < 32 → (cfg0.win 8).flush t = true := by decide +kernel

/-- The buffers one point of the kernel works on: six staged inputs, three staged outputs, the carried scratch. -/
structure Bufs where
  a1 : Memref sig .tc .smem S1x8 .f32
  h1 : a1.IsWhole
  a2 : Memref sig .tc .vmem S2x512x256 .f32
  h2 : a2.IsWhole
  a3 : Memref sig .tc .vmem S128x512 .bf16
  h3 : a3.IsWhole
  a4 : Memref sig .tc .vmem S128x256 .bf16
  h4 : a4.IsWhole
  a5 : Memref sig .tc .vmem S128x256 .bf16
  h5 : a5.IsWhole
  a6 : Memref sig .tc .vmem S128x512 .bf16
  h6 : a6.IsWhole
  a7 : Memref sig .tc .vmem S128x512 .bf16
  h7 : a7.IsWhole
  a8 : Memref sig .tc .vmem S128x256 .bf16
  h8 : a8.IsWhole
  a9 : Memref sig .tc .vmem S8x128 .f32
  h9 : a9.IsWhole
  a10 : Memref sig .tc .vmem S128x256 .f32
  h10 : a10.IsWhole

/-- What the six input buffers hold. -/
structure Ins (F : FTy → Type) where
  x0 : Vec F S1x8 .f32
  x1 : Vec F S2x512x256 .f32
  x2 : Vec F S128x512 .bf16
  x3 : Vec F S128x256 .bf16
  x4 : Vec F S128x256 .bf16
  x5 : Vec F S128x512 .bf16

/-- The pieces one point leaves in the outputs and the scratch. -/
structure Pieces (F : FTy → Type) where
  dq : List (View.Piece (Elt F) S128x512 .bf16)
  dkv : List (View.Piece (Elt F) S128x256 .bf16)
  dsk : List (View.Piece (Elt F) S8x128 .f32)
  car : List (View.Piece (Elt F) S128x256 .f32)

abbrev VO6 : View sig .tc .vmem S128x512 .bf16 := (Memref.whole cc0_stg6_0 : Memref sig .tc .vmem S128x512 .bf16).view
abbrev VO7 : View sig .tc .vmem S128x256 .bf16 := (Memref.whole cc0_stg7_0 : Memref sig .tc .vmem S128x256 .bf16).view
abbrev VO8 : View sig .tc .vmem S8x128 .f32 := (Memref.whole cc0_stg8_0 : Memref sig .tc .vmem S8x128 .f32).view
abbrev carM : Memref sig .tc .vmem S128x256 .f32 := Memref.whole cc0_scratch0
abbrev VS0 : View sig .tc .vmem S128x256 .f32 := carM.view

/-- The buffers of point `t`, as the pipeline passes them. -/
abbrev bufsAt (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := carM
  h10 := Memref.isWhole_whole _

/-- The inputs' buffers owned at their contents. -/
def InsOwned (c : Dev nD) (b : Bufs) (x : Ins F) : sProp 𝕄 :=
  iprop(owns (c : Thread nD τ) b.a1 fullShare x.x0 ∗ owns (c : Thread nD τ) b.a2 fullShare x.x1 ∗ owns (c : Thread nD τ) b.a3 fullShare x.x2 ∗ owns (c : Thread nD τ) b.a4 fullShare x.x3 ∗ owns (c : Thread nD τ) b.a5 fullShare x.x4 ∗ owns (c : Thread nD τ) b.a6 fullShare x.x5)

/-- The frame kit's invariant, the carried scratch owned at some contents. -/
theorem PhiA0_eq (c : Dev nD) :
    (Pipeline.ΦA spec0 c : sProp 𝕄)
      = iprop(iprop((∃ d, owns (c : Thread nD τ) carM fullShare d)) ∗ (∃ r, prngReg c r)) := by
  unfold Pipeline.ΦA; rw [scopedRest0_eq]; simp only [carM, owns_whole]; try rfl

end Cert.KernelIdeal.Hand

end
-- ==== Proof.AttnRunA.lean ====
/- The first point: it clears the carried sums, then works on the first block of queries. -/
module

public import proofs.«01_k».proof.Proof.AttnBase

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The first point: it clears the carried sums, then works on the first block of queries. The pieces are what the run of the body finds. -/
noncomputable def runA (c : Dev nD) (i : grid0.Coords) (b : Bufs) (hc0 : isFirst i) (hc1 : works i) (hc2 : ¬isLast i)
    (x : Ins F) :
    { L : Pieces F //
      ∀ (E : Set ℕ) (K : PUnit → sProp 𝕄),
        iprop(InsOwned c b x ∗ (∃ d, owns (c : Thread nD τ) b.a7 fullShare d) ∗ (∃ d, owns (c : Thread nD τ) b.a8 fullShare d) ∗ (∃ d, owns (c : Thread nD τ) b.a9 fullShare d) ∗ (∃ d, owns (c : Thread nD τ) b.a10 fullShare d)
            ∗ (iprop(InsOwned c b x ∗ (∃ f, b.a7.view.loc (c : Thread nD τ) ↦[b.a7.view.set]{fullShare} b.a7.view.writes (Elt F) f L.dq) ∗ (∃ f, b.a8.view.loc (c : Thread nD τ) ↦[b.a8.view.set]{fullShare} b.a8.view.writes (Elt F) f L.dkv) ∗ (∃ f, b.a9.view.loc (c : Thread nD τ) ↦[b.a9.view.set]{fullShare} b.a9.view.writes (Elt F) f L.dsk) ∗ (∃ f, b.a10.view.loc (c : Thread nD τ) ↦[b.a10.view.set]{fullShare} b.a10.view.writes (Elt F) f L.car)) -∗ K ⟨⟩))
          ⊢ wp frame (wpE (defs₀ (F := F)) Variants.none c none) E (cc0_attn_bwd i b.a1 b.h1 b.a2 b.h2 b.a3 b.h3 b.a4 b.h4 b.a5 b.h5 b.a6 b.h6 b.a7 b.h7 b.a8 b.h8 b.a9 b.h9 b.a10 b.h10) K } := by
  refine ⟨⟨?_, ?_, ?_, ?_⟩, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold InsOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%ds0, %fs0, -, HS0⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5
    sl_exec (disch := first | sl_exact hc0 | sl_exact hc1 | sl_exact hc2)
    sl_step
    iapply Hk
    isplitl [H0 H1 H2 H3 H4 H5]
    · skip
      isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      isplitl [H4]
      · iexists _; isplitr; · ipureintro; exact b.h5.read_unread _
        iexact H4
      iexists _; isplitr; · ipureintro; exact b.h6.read_unread _
      iexact H5
    isplitl [H6]; · iexists _; iexact H6
    isplitl [H7]; · iexists _; iexact H7
    isplitl [H8]; · iexists _; iexact H8
    iexists _; iexact HS0

end Cert.KernelIdeal.Hand

end
-- ==== Proof.AttnRunB.lean ====
/- A middle point: it works on a block of queries, adding to what the point before carried. -/
module

public import proofs.«01_k».proof.Proof.AttnRunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- A middle point: it works on a block of queries, adding to what the point before carried. The pieces are what the run of the body finds. -/
noncomputable def runB (c : Dev nD) (i : grid0.Coords) (b : Bufs) (hc0 : ¬isFirst i) (hc1 : works i) (hc2 : ¬isLast i)
    (x : Ins F) (xo8 : Vec F S8x128 .f32) (xs0 : Vec F S128x256 .f32) :
    { L : Pieces F //
      ∀ (E : Set ℕ) (K : PUnit → sProp 𝕄),
        iprop(InsOwned c b x ∗ (∃ d, owns (c : Thread nD τ) b.a7 fullShare d) ∗ (∃ d, owns (c : Thread nD τ) b.a8 fullShare d) ∗ owns (c : Thread nD τ) b.a9 fullShare xo8 ∗ owns (c : Thread nD τ) b.a10 fullShare xs0
            ∗ (iprop(InsOwned c b x ∗ (∃ f, b.a7.view.loc (c : Thread nD τ) ↦[b.a7.view.set]{fullShare} b.a7.view.writes (Elt F) f L.dq) ∗ (∃ f, b.a8.view.loc (c : Thread nD τ) ↦[b.a8.view.set]{fullShare} b.a8.view.writes (Elt F) f L.dkv) ∗ (∃ f, b.a9.view.loc (c : Thread nD τ) ↦[b.a9.view.set]{fullShare} b.a9.view.writes (Elt F) f L.dsk) ∗ (∃ f, b.a10.view.loc (c : Thread nD τ) ↦[b.a10.view.set]{fullShare} b.a10.view.writes (Elt F) f L.car)) -∗ K ⟨⟩))
          ⊢ wp frame (wpE (defs₀ (F := F)) Variants.none c none) E (cc0_attn_bwd i b.a1 b.h1 b.a2 b.h2 b.a3 b.h3 b.a4 b.h4 b.a5 b.h5 b.a6 b.h6 b.a7 b.h7 b.a8 b.h8 b.a9 b.h9 b.a10 b.h10) K } := by
  refine ⟨⟨?_, ?_, ?_, ?_⟩, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold InsOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%f8, %hf8, H8⟩, ⟨%fs0, %hfs0, HS0⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h9.eq_unread hf8; obtain rfl := b.h10.eq_unread hfs0
    sl_exec (disch := first | sl_exact hc0 | sl_exact hc1 | sl_exact hc2)
    sl_step
    iapply Hk
    isplitl [H0 H1 H2 H3 H4 H5]
    · skip
      isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      isplitl [H4]
      · iexists _; isplitr; · ipureintro; exact b.h5.read_unread _
        iexact H4
      iexists _; isplitr; · ipureintro; exact b.h6.read_unread _
      iexact H5
    isplitl [H6]; · iexists _; iexact H6
    isplitl [H7]; · iexists _; iexact H7
    isplitl [H8]; · iexists _; iexact H8
    iexists _; iexact HS0

end Cert.KernelIdeal.Hand

end
-- ==== Proof.AttnRunC.lean ====
/- The last point: it writes out the carried gradient and leaves everything else as it found it. -/
module

public import proofs.«01_k».proof.Proof.AttnRunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The last point: it writes out the carried gradient and leaves everything else as it found it. The pieces are what the run of the body finds. -/
noncomputable def runC (c : Dev nD) (i : grid0.Coords) (b : Bufs) (hc0 : ¬isFirst i) (hc1 : ¬works i) (hc2 : isLast i)
    (x : Ins F) (xs0 : Vec F S128x256 .f32) :
    { L : Pieces F //
      ∀ (P6 P8 : sProp 𝕄) (E : Set ℕ) (K : PUnit → sProp 𝕄),
        iprop(InsOwned c b x ∗ P6 ∗ (∃ d, owns (c : Thread nD τ) b.a8 fullShare d) ∗ P8 ∗ owns (c : Thread nD τ) b.a10 fullShare xs0
            ∗ (iprop(InsOwned c b x ∗ P6 ∗ (∃ f, b.a8.view.loc (c : Thread nD τ) ↦[b.a8.view.set]{fullShare} b.a8.view.writes (Elt F) f L.dkv) ∗ P8 ∗ owns (c : Thread nD τ) b.a10 fullShare xs0) -∗ K ⟨⟩))
          ⊢ wp frame (wpE (defs₀ (F := F)) Variants.none c none) E (cc0_attn_bwd i b.a1 b.h1 b.a2 b.h2 b.a3 b.h3 b.a4 b.h4 b.a5 b.h5 b.a6 b.h6 b.a7 b.h7 b.a8 b.h8 b.a9 b.h9 b.a10 b.h10) K } := by
  refine ⟨⟨[], ?_, [], []⟩, fun P6 P8 E K => ?run⟩
  case run =>
    simp only [cc0_attn_bwd_eq_skeleton]; unfold cc0_attn_bwd_skel
    unfold InsOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, H6, ⟨%d7, %f7, -, H7⟩, H8, ⟨%fs0, %hfs0, HS0⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h10.eq_unread hfs0
    sl_exec (disch := first | sl_exact hc0 | sl_exact hc1 | sl_exact hc2)
    sl_step
    iapply Hk
    isplitl [H0 H1 H2 H3 H4 H5]
    · skip
      isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      isplitl [H4]
      · iexists _; isplitr; · ipureintro; exact b.h5.read_unread _
        iexact H4
      iexists _; isplitr; · ipureintro; exact b.h6.read_unread _
      iexact H5
    isplitl [H6]; · iexact H6
    isplitl [H7]; · iexists _; iexact H7
    isplitl [H8]; · iexact H8
    iexists _; isplitr; · ipureintro; exact b.h10.read_unread _
    iexact HS0

end Cert.KernelIdeal.Hand

end
-- ==== Proof.AttnFrame.lean ====
/- The run of the attention's gradient over its grid: what every point leaves in its outputs and in the carried
   scratch, and from it that the whole program runs to completion and what its arrays hold at the end. -/
module

public import proofs.«01_k».proof.Proof.AttnRunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Every case covers what it stores into -/

theorem dq_coverA (c : Dev nD) (i : grid0.Coords) (b : Bufs) (hc0 : isFirst i) (hc1 : works i) (hc2 : ¬isLast i) (x : Ins F) (y : S128x512.Idx) :
    ∃ p ∈ (runA c i b hc0 hc1 hc2 x).1.dq, y ∈ p.1.set :=
  View.cover_of_tiledL (runA c i b hc0 hc1 hc2 x).1.dq S128x64.size (by sl_kernel_rfl) y

theorem dkv_coverA (c : Dev nD) (i : grid0.Coords) (b : Bufs) (hc0 : isFirst i) (hc1 : works i) (hc2 : ¬isLast i) (x : Ins F) (y : S128x256.Idx) :
    ∃ p ∈ (runA c i b hc0 hc1 hc2 x).1.dkv, y ∈ p.1.set :=
  View.cover_of_tiledL (runA c i b hc0 hc1 hc2 x).1.dkv S128x64.size (by sl_kernel_rfl) y

theorem dsk_coverA (c : Dev nD) (i : grid0.Coords) (b : Bufs) (hc0 : isFirst i) (hc1 : works i) (hc2 : ¬isLast i) (x : Ins F) (y : S8x128.Idx) :
    ∃ p ∈ (runA c i b hc0 hc1 hc2 x).1.dsk, y ∈ p.1.set :=
  View.cover_of_tiledBy (runA c i b hc0 hc1 hc2 x).1.dsk ![1, 128] (by sl_kernel_rfl) y

theorem car_coverA (c : Dev nD) (i : grid0.Coords) (b : Bufs) (hc0 : isFirst i) (hc1 : works i) (hc2 : ¬isLast i) (x : Ins F) (y : S128x256.Idx) :
    ∃ p ∈ (runA c i b hc0 hc1 hc2 x).1.car, y ∈ p.1.set :=
  View.cover_of_wholeMem (runA c i b hc0 hc1 hc2 x).1.car (by sl_whole_mem) y

theorem dq_coverB (c : Dev nD) (i : grid0.Coords) (b : Bufs) (hc0 : ¬isFirst i) (hc1 : works i) (hc2 : ¬isLast i) (x : Ins F) (xo8 : Vec F S8x128 .f32) (xs0 : Vec F S128x256 .f32) (y : S128x512.Idx) :
    ∃ p ∈ (runB c i b hc0 hc1 hc2 x xo8 xs0).1.dq, y ∈ p.1.set :=
  View.cover_of_tiledL (runB c i b hc0 hc1 hc2 x xo8 xs0).1.dq S128x64.size (by sl_kernel_rfl) y

theorem dkv_coverB (c : Dev nD) (i : grid0.Coords) (b : Bufs) (hc0 : ¬isFirst i) (hc1 : works i) (hc2 : ¬isLast i) (x : Ins F) (xo8 : Vec F S8x128 .f32) (xs0 : Vec F S128x256 .f32) (y : S128x256.Idx) :
    ∃ p ∈ (runB c i b hc0 hc1 hc2 x xo8 xs0).1.dkv, y ∈ p.1.set :=
  View.cover_of_tiledL (runB c i b hc0 hc1 hc2 x xo8 xs0).1.dkv S128x64.size (by sl_kernel_rfl) y

theorem dsk_coverB (c : Dev nD) (i : grid0.Coords) (b : Bufs) (hc0 : ¬isFirst i) (hc1 : works i) (hc2 : ¬isLast i) (x : Ins F) (xo8 : Vec F S8x128 .f32) (xs0 : Vec F S128x256 .f32) (y : S8x128.Idx) :
    ∃ p ∈ (runB c i b hc0 hc1 hc2 x xo8 xs0).1.dsk, y ∈ p.1.set :=
  View.cover_of_tiledL (runB c i b hc0 hc1 hc2 x xo8 xs0).1.dsk S1x128.size (by sl_kernel_rfl) y

theorem car_coverB (c : Dev nD) (i : grid0.Coords) (b : Bufs) (hc0 : ¬isFirst i) (hc1 : works i) (hc2 : ¬isLast i) (x : Ins F) (xo8 : Vec F S8x128 .f32) (xs0 : Vec F S128x256 .f32) (y : S128x256.Idx) :
    ∃ p ∈ (runB c i b hc0 hc1 hc2 x xo8 xs0).1.car, y ∈ p.1.set :=
  View.cover_of_tiledL (runB c i b hc0 hc1 hc2 x xo8 xs0).1.car S128x64.size (by sl_kernel_rfl) y

theorem dkv_coverC (c : Dev nD) (i : grid0.Coords) (b : Bufs) (hc0 : ¬isFirst i) (hc1 : ¬works i) (hc2 : isLast i) (x : Ins F) (xs0 : Vec F S128x256 .f32) (y : S128x256.Idx) :
    ∃ p ∈ (runC c i b hc0 hc1 hc2 x xs0).1.dkv, y ∈ p.1.set :=
  View.cover_of_tiledL (runC c i b hc0 hc1 hc2 x xs0).1.dkv S128x256.size (by sl_kernel_rfl) y

/-! ## What each point leaves -/

/-- The three output buffers and the carried scratch after a point. -/
structure State (F : FTy → Type) where
  dq : Vec F S128x512 .bf16
  dkv : Vec F S128x256 .bf16
  dsk : Vec F S8x128 .f32
  car : Vec F S128x256 .f32

/-- The state the pieces of a point make. -/
def State.of (L : Pieces F) : State F where
  dq := View.canon L.dq
  dkv := View.canon L.dkv
  dsk := View.canon L.dsk
  car := View.canon L.car

/-- The blocks of the inputs that point `t` works on. -/
def insAt (c : Dev nD) (t : Fin cfg0.N) : Ins F where
  x0 := iblk m c 0 t
  x1 := iblk m c 1 t
  x2 := X0_2 m c t
  x3 := iblk m c 3 t
  x4 := iblk m c 4 t
  x5 := iblk m c 5 t

theorem lt33 (t : Fin cfg0.N) : t.val < 33 := lt_of_lt_of_eq t.isLt (show cfg0.N = 33 from N_0)

def stateA (c : Dev nD) (t : Fin cfg0.N) (h : t.val = 0) : State F :=
  .of (runA c (grid0.coords t) (bufsAt t) ((isFirst_iff t).mpr h) ((works_iff t).mpr (by omega))
    (fun h' => by have := (isLast_iff t).mp h'; omega) (insAt m c t)).1

def stateB (c : Dev nD) (t : Fin cfg0.N) (h : t.val ≠ 0) (h' : t.val < 32) (s : State F) : State F :=
  .of (runB c (grid0.coords t) (bufsAt t) (fun e => h ((isFirst_iff t).mp e)) ((works_iff t).mpr h')
    (fun e => by have := (isLast_iff t).mp e; omega) (insAt m c t) s.dsk s.car).1

def stateC (c : Dev nD) (t : Fin cfg0.N) (h : ¬ t.val < 32) (s : State F) : State F where
  dq := s.dq
  dkv := View.canon (runC c (grid0.coords t) (bufsAt t) (fun e => by have := (isFirst_iff t).mp e; omega)
    (fun e => h ((works_iff t).mp e)) ((isLast_iff t).mpr (by have := lt33 t; omega)) (insAt m c t) s.car).1.dkv
  dsk := s.dsk
  car := s.car

/-- What the outputs and the scratch hold after point `n`. -/
def stateAt (c : Dev nD) : (n : ℕ) → n < cfg0.N → State F
  | 0, hn => stateA m c ⟨0, hn⟩ rfl
  | n + 1, hn =>
    if h : n + 1 < 32 then stateB m c ⟨n + 1, hn⟩ (Nat.succ_ne_zero n) h (stateAt c n (Nat.lt_of_succ_lt hn))
    else stateC m c ⟨n + 1, hn⟩ h (stateAt c n (Nat.lt_of_succ_lt hn))

theorem stateAt_A (c : Dev nD) (t : Fin cfg0.N) (h : t.val = 0) : stateAt m c t.val t.isLt = stateA m c t h := by
  obtain ⟨n, hn⟩ := t
  obtain rfl : n = 0 := h
  rfl

theorem stateAt_B (c : Dev nD) (t : Fin cfg0.N) (h : t.val ≠ 0) (h' : t.val < 32) :
    stateAt m c t.val t.isLt = stateB m c t h h' (stateAt m c (t.val - 1) (Nat.lt_of_le_of_lt (Nat.sub_le _ _) t.isLt)) := by
  obtain ⟨n, hn⟩ := t
  cases n with
  | zero => exact absurd rfl h
  | succ n => exact dif_pos h'

theorem stateAt_C (c : Dev nD) (t : Fin cfg0.N) (h : ¬ t.val < 32) :
    stateAt m c t.val t.isLt = stateC m c t h (stateAt m c (t.val - 1) (Nat.lt_of_le_of_lt (Nat.sub_le _ _) t.isLt)) := by
  obtain ⟨n, hn⟩ := t
  cases n with
  | zero => exact absurd (by decide : (0 : ℕ) < 32) h
  | succ n => exact dif_neg h

/-- The invariant before position `n`: the carried scratch at anything before the first point, then at what the point
    before left. -/
def PhiS (c : Dev nD) : (n : ℕ) → n ≤ cfg0.N → sProp 𝕄
  | 0, _ => Pipeline.ΦA spec0 c
  | n + 1, hn => iprop(iprop(owns (c : Thread nD τ) carM fullShare (stateAt m c n hn).car) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) carM fullShare (stateAt m c (n - 1) (by omega)).car) ∗ (∃ r, prngReg c r)) := by
  cases n with
  | zero => exact absurd rfl hz
  | succ n => rfl

/-! ## The pipeline's proof data -/

/-- The arrays as the region finds them, what the body leaves in each window, the invariant above; inputs that share an
    array share its ownership. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => (stateAt m c t.val t.isLt).dq
    | ⟨7, _⟩ => (stateAt m c t.val t.isLt).dkv
    | ⟨8, _⟩ => (stateAt m c t.val t.isLt).dsk
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (stateAt m c t.val t.isLt).dq := by dsimp only [dats]
theorem after7 (c : Dev nD) (t : Fin cfg0.N) : (dats m 0 c).after 7 t = (stateAt m c t.val t.isLt).dkv := by dsimp only [dats]
theorem after8 (c : Dev nD) (t : Fin cfg0.N) : (dats m 0 c).after 8 t = (stateAt m c t.val t.isLt).dsk := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem leaves0 (c : Dev nD) (t : Fin cfg0.N) : (dats m 0 c).leavesExact 0 t = owns (c : Thread nD τ) (bufsAt t).a1 fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (bufsAt t).a2 fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (bufsAt t).a3 fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (bufsAt t).a4 fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (bufsAt t).a5 fullShare ((dats m 0 c).after 4 t) := by
  unfold Dat.leavesExact; rw [show cfg0.idle 4 (grid0.coords t) = false from rfl]
theorem leaves5 (c : Dev nD) (t : Fin cfg0.N) : (dats m 0 c).leavesExact 5 t = owns (c : Thread nD τ) (bufsAt t).a6 fullShare ((dats m 0 c).after 5 t) := by
  unfold Dat.leavesExact; rw [show cfg0.idle 5 (grid0.coords t) = false from rfl]
theorem leaves7 (c : Dev nD) (t : Fin cfg0.N) : (dats m 0 c).leavesExact 7 t = owns (c : Thread nD τ) (bufsAt t).a8 fullShare ((dats m 0 c).after 7 t) := by
  unfold Dat.leavesExact; rw [show cfg0.idle 7 (grid0.coords t) = false from live7 t]
theorem leaves6 (c : Dev nD) (t : Fin cfg0.N) : (dats m 0 c).leavesExact 6 t = owns (c : Thread nD τ) (bufsAt t).a7 fullShare ((dats m 0 c).after 6 t) := by
  unfold Dat.leavesExact
  by_cases h : t.val < 32
  · rw [live6 t h]
  · rw [flush6_last t h]; cases cfg0.idle 6 (grid0.coords t) <;> rfl
theorem leaves8 (c : Dev nD) (t : Fin cfg0.N) : (dats m 0 c).leavesExact 8 t = owns (c : Thread nD τ) (bufsAt t).a9 fullShare ((dats m 0 c).after 8 t) := by
  unfold Dat.leavesExact
  by_cases h : t.val < 32
  · rw [live8 t h]
  · rw [flush8_last t h]; cases cfg0.idle 8 (grid0.coords t) <;> rfl

/-- The last point carries the queries' gradient: what it leaves there is what the point before left. -/
theorem carry6 (c : Dev nD) (t : Fin cfg0.N) (h : t.val ≠ 0) (hi : cfg0.idle 6 (grid0.coords t) = true) (_ : cfg0.fresh 6 t.val = false) :
    (dats m 0 c).after 6 t = (dats m 0 c).after 6 ⟨t.val - 1, by omega⟩ := by
  by_cases h' : t.val < 32
  · rw [live6 t h'] at hi; exact absurd hi Bool.false_ne_true
  · rw [after6, after6, stateAt_C m c t h']; rfl

/-- The same for the sinks' gradient. -/
theorem carry8 (c : Dev nD) (t : Fin cfg0.N) (h : t.val ≠ 0) (hi : cfg0.idle 8 (grid0.coords t) = true) (_ : cfg0.fresh 8 t.val = false) :
    (dats m 0 c).after 8 t = (dats m 0 c).after 8 ⟨t.val - 1, by omega⟩ := by
  by_cases h' : t.val < 32
  · rw [live8 t h'] at hi; exact absurd hi Bool.false_ne_true
  · rw [after8, after8, stateAt_C m c t h']; rfl

theorem before6_last (c : Dev nD) (t : Fin cfg0.N) (h : ¬ t.val < 32) (d) :
    (dats m 0 c).before 6 t d = (stateAt m c (t.val - 1) (Nat.lt_of_le_of_lt (Nat.sub_le _ _) t.isLt)).dq := by
  rw [Dat.before_out_traj _ 6 rfl (fun _ _ => rfl) (carry6 m c) t.val t rfl d,
    if_neg (by rw [fresh6_eq t, show t.val = 32 from by have := lt33 t; omega]; decide)]
  dsimp only [dats]

theorem before8_pos (c : Dev nD) (t : Fin cfg0.N) (h : t.val ≠ 0) (d) :
    (dats m 0 c).before 8 t d = (stateAt m c (t.val - 1) (Nat.lt_of_le_of_lt (Nat.sub_le _ _) t.isLt)).dsk := by
  rw [Dat.before_out_traj _ 8 rfl (fun _ _ => rfl) (carry8 m c) t.val t rfl d,
    if_neg (by rw [fresh8_eq t]; have := lt33 t; unfold fresh8; simp only [Bool.or_eq_true, beq_iff_eq]; omega)]
  dsimp only [dats]

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (bufsAt t).a1 fullShare ((dats m 0 c).before 0 t d))
    ∗ (∃ d, owns (c : Thread nD τ) (bufsAt t).a2 fullShare ((dats m 0 c).before 1 t d))
    ∗ (∃ d, owns (c : Thread nD τ) (bufsAt t).a3 fullShare ((dats m 0 c).before 2 t d))
    ∗ (∃ d, owns (c : Thread nD τ) (bufsAt t).a4 fullShare ((dats m 0 c).before 3 t d))
    ∗ (∃ d, owns (c : Thread nD τ) (bufsAt t).a5 fullShare ((dats m 0 c).before 4 t d))
    ∗ (∃ d, owns (c : Thread nD τ) (bufsAt t).a6 fullShare ((dats m 0 c).before 5 t d))
    ∗ (∃ d, owns (c : Thread nD τ) (bufsAt t).a7 fullShare ((dats m 0 c).before 6 t d))
    ∗ (∃ d, owns (c : Thread nD τ) (bufsAt t).a8 fullShare ((dats m 0 c).before 7 t d))
    ∗ (∃ d, owns (c : Thread nD τ) (bufsAt t).a9 fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at a point takes the state before it to the state after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5,
    leaves0, leaves1, leaves2, leaves3, leaves4, leaves5, leaves6, leaves7, leaves8,
    after0, after1, after2, after3, after4, after5, after6, after7, after8]
  rw [show (dats m 0 c).owesAt () t.succ = (dats m 0 c).owesAt () t.castSucc from rfl]
  rw [show (dats m 0 c).Φ t.succ = iprop(iprop(owns (c : Thread nD τ) carM fullShare (stateAt m c t.val t.isLt).car) ∗ (∃ r, prngReg c r)) from rfl]
  rw [PhiS_castSucc m c t]
  have hN := lt33 t
  by_cases h0 : t.val = 0
  · rw [PhiS_zero m c _ _ h0, PhiA0_eq, stateAt_A m c t h0]
    unfold stateA State.of; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) (bufsAt t) ((isFirst_iff t).mpr h0) ((works_iff t).mpr (by omega))
      (fun h' => by have := (isLast_iff t).mp h'; omega) (insAt m c t)).2 Set.univ _)
    unfold InsOwned
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS0]; · iexact HS0
    iintro ⟨⟨H0, H1, H2, H3, H4, H5⟩, ⟨%e6, H6⟩, ⟨%e7, H7⟩, ⟨%e8, H8⟩, ⟨%es0, HS0⟩⟩
    isplitl [HS0 Hg]
    · isplitl [HS0]
      · unfold owns; iexists _; isplitr
        swap; · iexact HS0
        ipureintro; exact View.read_writes_eq_canon _ _ _ (car_coverA c (grid0.coords t) (bufsAt t) _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (dq_coverA c (grid0.coords t) (bufsAt t) _ _ _ _)
    isplitl [H7]
    · unfold owns; iexists _; isplitr
      swap; · iexact H7
      ipureintro; exact View.read_writes_eq_canon _ _ _ (dkv_coverA c (grid0.coords t) (bufsAt t) _ _ _ _)
    unfold owns; iexists _; isplitr
    swap; · iexact H8
    ipureintro; exact View.read_writes_eq_canon _ _ _ (dsk_coverA c (grid0.coords t) (bufsAt t) _ _ _ _)
  by_cases h1 : t.val < 32
  · rw [PhiS_pos m c _ _ h0, stateAt_B m c t h0 h1]
    simp only [before8_pos m c t h0]
    generalize stateAt m c (t.val - 1) _ = s
    unfold stateB State.of; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) (bufsAt t) (fun e => h0 ((isFirst_iff t).mp e)) ((works_iff t).mpr h1)
      (fun e => by have := (isLast_iff t).mp e; omega) (insAt m c t) s.dsk s.car).2 Set.univ _)
    unfold InsOwned
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexact H8
    isplitl [HS0]; · iexact HS0
    iintro ⟨⟨H0, H1, H2, H3, H4, H5⟩, ⟨%e6, H6⟩, ⟨%e7, H7⟩, ⟨%e8, H8⟩, ⟨%es0, HS0⟩⟩
    isplitl [HS0 Hg]
    · isplitl [HS0]
      · unfold owns; iexists _; isplitr
        swap; · iexact HS0
        ipureintro; exact View.read_writes_eq_canon _ _ _ (car_coverB c (grid0.coords t) (bufsAt t) _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (dq_coverB c (grid0.coords t) (bufsAt t) _ _ _ _ _ _)
    isplitl [H7]
    · unfold owns; iexists _; isplitr
      swap; · iexact H7
      ipureintro; exact View.read_writes_eq_canon _ _ _ (dkv_coverB c (grid0.coords t) (bufsAt t) _ _ _ _ _ _)
    unfold owns; iexists _; isplitr
    swap; · iexact H8
    ipureintro; exact View.read_writes_eq_canon _ _ _ (dsk_coverB c (grid0.coords t) (bufsAt t) _ _ _ _ _ _)
  · rw [PhiS_pos m c _ _ h0, stateAt_C m c t h1]
    simp only [before8_pos m c t h0, before6_last m c t h1]
    generalize stateAt m c (t.val - 1) _ = s
    unfold stateC; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runC c (grid0.coords t) (bufsAt t) (fun e => by have := (isFirst_iff t).mp e; omega)
      (fun e => h1 ((works_iff t).mp e)) ((isLast_iff t).mpr (by omega)) (insAt m c t) s.car).2
        (owns (c : Thread nD τ) (bufsAt t).a7 fullShare s.dq) (owns (c : Thread nD τ) (bufsAt t).a9 fullShare s.dsk) Set.univ _)
    unfold InsOwned
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexact H8
    isplitl [HS0]; · iexact HS0
    iintro ⟨⟨H0, H1, H2, H3, H4, H5⟩, H6, ⟨%e7, H7⟩, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (dkv_coverC c (grid0.coords t) (bufsAt t) _ _ _ _ _)
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA0_eq]
  iintro ⟨HS0, Hg⟩
  isplitl [HS0]
  · iexists _; iexact HS0
  iexact Hg

/-! ## The run -/

set_option backward.isDefEq.respectTransparency.types false in
/-- Every execution ends, with every array of the pipeline at what the points wrote back and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they began, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.AttnRow.lean ====
/- One query row of windowed attention with a sink, over the reals: its weights, its gradient, and how the extended
   reals of either program come to these numbers whatever real the row's maximum is. -/
module

public import Idealize.ShloMosaic.PureOps.Ideal
public import Idealize.ShloMosaic.PureOps.Ideal.Laws

@[expose] public section

noncomputable section

namespace Attn

open Idealize.ShloMosaic

/-- What one query row reads: its query and its output's gradient, the keys and values of its band of 256 positions,
    which of these it sees, the bias of each and the sink's logit. -/
structure Row where
  q : ℕ → ℝ
  g : ℕ → ℝ
  k : ℕ → ℕ → ℝ
  v : ℕ → ℕ → ℝ
  ok : ℕ → Prop
  b : ℕ → ℝ
  snk : ℝ

namespace Row

open Classical in
/-- The unnormalised weight of a position: zero where the row does not see it. -/
def w (R : Row) (s : ℕ) : ℝ :=
  if R.ok s then Real.exp ((∑ d : Fin 64, R.q d.val * R.k s d.val) * (1 / 8) + R.b s) else 0

/-- The score of a position. -/
def sc (R : Row) (s : ℕ) : ℝ := (∑ d : Fin 64, R.q d.val * R.k s d.val) * (1 / 8) + R.b s
/-- The sum of the weights with the sink's. -/
def Z (R : Row) : ℝ := ∑ s : Fin 256, R.w s.val + Real.exp R.snk
/-- The probability of a position. -/
def P (R : Row) (s : ℕ) : ℝ := R.w s / R.Z
/-- The probability of the sink. -/
def PS (R : Row) : ℝ := Real.exp R.snk / R.Z
/-- The gradient of a probability. -/
def dp (R : Row) (s : ℕ) : ℝ := ∑ d : Fin 64, R.g d.val * R.v s d.val
/-- The mean of the probabilities' gradients. -/
def dl (R : Row) : ℝ := ∑ s : Fin 256, R.P s.val * R.dp s.val
/-- The gradient of a score. -/
def ds (R : Row) (s : ℕ) : ℝ := R.P s * (R.dp s - R.dl)
/-- The gradient of the query. -/
def dq (R : Row) (d : ℕ) : ℝ := (∑ s : Fin 256, R.ds s.val * R.k s.val d) * (1 / 8)

theorem w_ok (R : Row) {s : ℕ} (h : R.ok s) : R.w s = Real.exp (R.sc s) := by simp [w, sc, h]
theorem w_not (R : Row) {s : ℕ} (h : ¬R.ok s) : R.w s = 0 := by simp [w, h]
theorem w_nonneg (R : Row) (s : ℕ) : 0 ≤ R.w s := by unfold w; split <;> positivity
theorem Z_pos (R : Row) : 0 < R.Z :=
  add_pos_of_nonneg_of_pos (Finset.sum_nonneg fun s _ => R.w_nonneg s.val) (Real.exp_pos _)
theorem P_not (R : Row) {s : ℕ} (h : ¬R.ok s) : R.P s = 0 := by simp [P, R.w_not h]
theorem ds_not (R : Row) {s : ℕ} (h : ¬R.ok s) : R.ds s = 0 := by simp [ds, R.P_not h]

theorem sum_P (R : Row) : ∑ s : Fin 256, R.P s.val = 1 - R.PS := by
  have hz := R.Z_pos.ne'
  unfold P PS
  rw [← Finset.sum_div, eq_sub_iff_add_eq, ← add_div, div_eq_one_iff_eq hz, Z]

/-- The scores' gradients sum to the mean times the sink's probability. -/
theorem sum_ds (R : Row) : ∑ s : Fin 256, R.ds s.val = R.dl * R.PS := by
  have : ∑ s : Fin 256, R.ds s.val = R.dl - (∑ s : Fin 256, R.P s.val) * R.dl := by
    unfold ds; simp only [mul_sub, Finset.sum_sub_distrib, ← Finset.sum_mul]; rfl
  rw [this, R.sum_P]; ring

section Congr
variable {R R' : Row} (hq : R.q = R'.q) (hg : R.g = R'.g) (hok : ∀ s, s < 256 → (R.ok s ↔ R'.ok s)) (hb : R.b = R'.b)
  (hsnk : R.snk = R'.snk) (hk : ∀ s, R.ok s → R.k s = R'.k s) (hv : ∀ s, R.ok s → R.v s = R'.v s)
include hq hg hok hb hsnk hk hv

/-- A row's numbers read its keys and values only where the row sees them. -/
theorem w_congr (s : ℕ) (hs : s < 256) : R.w s = R'.w s := by
  by_cases h : R.ok s
  · rw [R.w_ok h, R'.w_ok ((hok s hs).mp h)]; simp only [sc, hq, hk s h, hb]
  · rw [R.w_not h, R'.w_not (fun h' => h ((hok s hs).mpr h'))]
theorem Z_congr : R.Z = R'.Z := by
  unfold Z; rw [hsnk]; congr 1
  exact Finset.sum_congr rfl fun s _ => w_congr hq hg hok hb hsnk hk hv s.val s.isLt
theorem P_congr (s : ℕ) (hs : s < 256) : R.P s = R'.P s := by
  unfold P; rw [w_congr hq hg hok hb hsnk hk hv s hs, Z_congr hq hg hok hb hsnk hk hv]
theorem PS_congr : R.PS = R'.PS := by unfold PS; rw [hsnk, Z_congr hq hg hok hb hsnk hk hv]
theorem dp_congr (s : ℕ) (h : R.ok s) : R.dp s = R'.dp s := by unfold dp; rw [hg, hv s h]
theorem dl_congr : R.dl = R'.dl := by
  unfold dl
  refine Finset.sum_congr rfl fun s _ => ?_
  rw [← P_congr hq hg hok hb hsnk hk hv s.val s.isLt]
  by_cases h : R.ok s.val
  · rw [dp_congr hq hg hok hb hsnk hk hv s.val h]
  · rw [R.P_not h, zero_mul, zero_mul]
theorem ds_congr (s : ℕ) (hs : s < 256) : R.ds s = R'.ds s := by
  by_cases h : R.ok s
  · unfold ds; rw [P_congr hq hg hok hb hsnk hk hv s hs, dp_congr hq hg hok hb hsnk hk hv s h, dl_congr hq hg hok hb hsnk hk hv]
  · rw [R.ds_not h, R'.ds_not (fun h' => h ((hok s hs).mpr h'))]
theorem dq_congr (d : ℕ) : R.dq d = R'.dq d := by
  unfold dq; congr 1
  refine Finset.sum_congr rfl fun s _ => ?_
  rw [← ds_congr hq hg hok hb hsnk hk hv s.val s.isLt]
  by_cases h : R.ok s.val
  · rw [hk s.val h]
  · rw [R.ds_not h, zero_mul, zero_mul]
end Congr

end Row

/-! ## The same numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_one_div (x : ℝ) {y : ℝ} (h : y ≠ 0) : Ideal.div (x : EReal) (y : EReal) = ((x / y : ℝ) : EReal) := by
  rw [Ideal.div_coe h, ← EReal.coe_mul]; congr 1; ring

/-- A row's maximum with its sink is a real. -/
theorem max_real (S : Fin 256 → EReal) (hS : ∀ s, S s < ⊤) (x : ℝ) :
    ∃ μ : ℝ, max ((Finset.univ : Finset (Fin 256)).fold max ⊥ S) (x : EReal) = (μ : EReal) := by
  have h1 : max ((Finset.univ : Finset (Fin 256)).fold max ⊥ S) (x : EReal) < ⊤ := by
    rw [max_lt_iff]; exact ⟨by rw [Finset.fold_max_lt]; exact ⟨bot_lt_top, fun s _ => hS s⟩, EReal.coe_lt_top x⟩
  have h2 : ⊥ < max ((Finset.univ : Finset (Fin 256)).fold max ⊥ S) (x : EReal) :=
    lt_of_lt_of_le (EReal.bot_lt_coe x) (le_max_right _ _)
  exact ⟨_, (EReal.coe_toReal h1.ne h2.ne').symm⟩

open Classical in
/-- What a program has for a score: the real score where the row sees the position, and minus infinity elsewhere. -/
def Row.S (R : Row) (s : ℕ) : EReal := if R.ok s then ((R.sc s : ℝ) : EReal) else ⊥

theorem Row.S_lt (R : Row) (s : ℕ) : R.S s < ⊤ := by
  unfold Row.S; split
  · exact EReal.coe_lt_top _
  · exact bot_lt_top

theorem Row.exp_S (R : Row) (s : ℕ) (μ : ℝ) :
    Ideal.exp (R.S s - (μ : EReal)) = ((R.w s * Real.exp (-μ) : ℝ) : EReal) := by
  unfold Row.S
  split
  · rename_i h
    rw [R.w_ok h, ← EReal.coe_sub, Ideal.exp_coe, ← Real.exp_add]; rfl
  · rename_i h
    rw [R.w_not h, zero_mul, EReal.bot_sub, Ideal.exp_bot]; rfl

theorem exp_sink (x μ : ℝ) : Ideal.exp ((x : EReal) - (μ : EReal)) = ((Real.exp x * Real.exp (-μ) : ℝ) : EReal) := by
  rw [← EReal.coe_sub, Ideal.exp_coe, ← Real.exp_add]; rfl

theorem Row.den (R : Row) (μ : ℝ) :
    (∑ s : Fin 256, ((R.w s.val * Real.exp (-μ) : ℝ) : EReal)) + ((Real.exp R.snk * Real.exp (-μ) : ℝ) : EReal)
      = ((R.Z * Real.exp (-μ) : ℝ) : EReal) := by
  rw [← coe_sum, ← EReal.coe_add, Row.Z, ← Finset.sum_mul, add_mul]

theorem Row.Z_ne (R : Row) (μ : ℝ) : R.Z * Real.exp (-μ) ≠ 0 := mul_ne_zero R.Z_pos.ne' (Real.exp_pos _).ne'

/-- The probability from the shifted numbers, the sum inverted first. -/
theorem Row.P_of (R : Row) (s : ℕ) (μ : ℝ) :
    ((R.w s * Real.exp (-μ) : ℝ) : EReal) * Ideal.div 1 ((R.Z * Real.exp (-μ) : ℝ) : EReal) = (R.P s : EReal) := by
  rw [← EReal.coe_one, coe_one_div 1 (R.Z_ne μ), ← EReal.coe_mul]; congr 1
  have := R.Z_pos.ne'; have := (Real.exp_pos (-μ)).ne'
  unfold Row.P; field_simp

theorem Row.PS_of (R : Row) (μ : ℝ) :
    ((Real.exp R.snk * Real.exp (-μ) : ℝ) : EReal) * Ideal.div 1 ((R.Z * Real.exp (-μ) : ℝ) : EReal) = (R.PS : EReal) := by
  rw [← EReal.coe_one, coe_one_div 1 (R.Z_ne μ), ← EReal.coe_mul]; congr 1
  have := R.Z_pos.ne'; have := (Real.exp_pos (-μ)).ne'
  unfold Row.PS; field_simp

end Attn
-- ==== Proof.AttnBlock.lean ====
module

public import proofs.«01_k».proof.Proof.Gen.KernelIdeal.Skeleton
public import proofs.«01_k».proof.Proof.AttnRow
public import Idealize.ShloMosaic.Lib.ValueIdx
public import Idealize.ShloMosaic.Lib.Pipeline.Value
public import Idealize.ShloMosaic.PureOps.IdealRules

@[expose] public section

set_option maxRecDepth 16384

noncomputable section

namespace Cert.KernelIdeal.Hand

open Cert.KernelIdeal.Gen
open Idealize.ShloMosaic Idealize.ShloMosaic.ValueIdx Idealize.ShloMosaic.TcCoe
open Attn

/-! ## Constants -/

theorem c_eighth : Ideal.ofBits .f32 0x3E000000#32 = ((1 / 8 : ℝ) : EReal) := by
  simp [Ideal.ofBits, Ideal.ieee]
  rw [← EReal.coe_mul]; norm_num
theorem c_one : Ideal.ofBits .f32 0x3F800000#32 = 1 := by
  simp [Ideal.ofBits, Ideal.ieee]
  rw [← EReal.coe_mul]; norm_num
theorem c_ninf : Ideal.ofBits .f32 0xFF800000#32 = ⊥ := by
  simp [Ideal.ofBits, Ideal.ieee]
theorem c_zero : Ideal.ofBits .f32 0x00000000#32 = 0 := Ideal.ofBits_zero_f32

/-! ## The four products at an index -/

theorem mm_rows (x : FVec Ideal S512x64 .bf16) (y : FVec Ideal S256x64 .bf16) (r : Fin 512) (s : Fin 256) :
    matmul dot_S512x64_S256x64_S512x256_1_1_0_0_n_n none x y (constant S512x256 .f32 0x00000000#32) (ix2 r s)
      = ∑ d : Fin 64, x (ix2 r d) * y (ix2 s d) := by
  refine (Ideal.matmul_constant_zero_apply dot_S512x64_S256x64_S512x256_1_1_0_0_n_n none x y (ix2 r s)).trans ?_
  rw [← Equiv.sum_comp (contrEquiv1 dot_S512x64_S256x64_S512x256_1_1_0_0_n_n 64 rfl rfl).symm]
  refine Finset.sum_congr rfl fun d _ => ?_
  congr 2 <;> (funext a; match a with | 0 => rfl | 1 => rfl)

theorem mm_keys (x : FVec Ideal S512x256 .bf16) (y : FVec Ideal S256x64 .bf16) (r : Fin 512) (d : Fin 64) :
    matmul dot_S512x256_S256x64_S512x64_1_0_0_1_n_n none x y (constant S512x64 .f32 0x00000000#32) (ix2 r d)
      = ∑ s : Fin 256, x (ix2 r s) * y (ix2 s d) := by
  refine (Ideal.matmul_constant_zero_apply dot_S512x256_S256x64_S512x64_1_0_0_1_n_n none x y (ix2 r d)).trans ?_
  rw [← Equiv.sum_comp (contrEquiv1 dot_S512x256_S256x64_S512x64_1_0_0_1_n_n 256 rfl rfl).symm]
  refine Finset.sum_congr rfl fun d _ => ?_
  congr 2 <;> (funext a; match a with | 0 => rfl | 1 => rfl)

theorem mm_stack (x : FVec Ideal S512x256 .bf16) (y : FVec Ideal S512x64 .bf16) (s : Fin 256) (d : Fin 64) :
    matmul dot_S512x256_S512x64_S256x64_0_0_1_1_n_n none x y (constant S256x64 .f32 0x00000000#32) (ix2 s d)
      = ∑ r : Fin 512, x (ix2 r s) * y (ix2 r d) := by
  refine (Ideal.matmul_constant_zero_apply dot_S512x256_S512x64_S256x64_0_0_1_1_n_n none x y (ix2 s d)).trans ?_
  rw [← Equiv.sum_comp (contrEquiv1 dot_S512x256_S512x64_S256x64_0_0_1_1_n_n 512 rfl rfl).symm]
  refine Finset.sum_congr rfl fun d _ => ?_
  congr 2 <;> (funext a; match a with | 0 => rfl | 1 => rfl)

/-! ## A column stretched over the row, and a row's reductions -/

theorem col_apply (x : FVec Ideal S512x1 .f32) (r : Fin 512) (s : Fin 256) :
    broadcastTo S512x256 x broadcasts_S512x1_S512x256 (ix2 r s) = x (ix2 r 0) :=
  broadcastTo_apply _ _ _ _ fun a => by match a with | 0 => rfl | 1 => rfl

theorem cast_apply (x : FVec Ideal S512 .f32) (r : Fin 512) :
    shapeCast S512x1 x shapeCasts_S512_S512x1 (ix2 r 0) = x (ix1 r) :=
  shapeCast_apply _ _ _ _ (by rw [Shape.rowMajor_val_one, Shape.rowMajor_val_two]; simp [ix1, ix2])

theorem sum_apply (x : FVec Ideal S512x256 .f32) (r : Fin 512) :
    multiReduction .add [1] S512 x 0x00000000#32 reduces_S512x256_S512 (.inl rfl) rfl (ix1 r)
      = ∑ s : Fin 256, x (ix2 r s) := by
  refine (Ideal.multiReduction_add_single _ _ _ _ _ _).trans ?_
  refine Finset.sum_congr rfl fun s _ => congrArg x ?_
  funext a; match a with | 0 => rfl | 1 => rfl

theorem max_apply (x : FVec Ideal S512x256 .f32) (r : Fin 512) :
    multiReduction .maximumf [1] S512 x 0xFF800000#32 reduces_S512x256_S512 (.inl rfl) rfl (ix1 r)
      = (Finset.univ : Finset (Fin 256)).fold max ⊥ fun s => x (ix2 r s) := by
  refine (Ideal.multiReduction_maximumf_single _ _ _ _ _ _).trans ?_
  rw [show FloatOps.ofBits (F := Ideal) .f32 0xFF800000#32 = (⊥ : EReal) from c_ninf]
  refine congrArg (fun f => (Finset.univ : Finset (Fin 256)).fold max ⊥ f) ?_
  funext s; refine congrArg x ?_
  funext a; match a with | 0 => rfl | 1 => rfl

/-! ## The block's numbers

The block's 512 rows are the four heads of a group one below the other; `R r` is what row `r` reads. -/

section Weights
variable {v14 : IVec S512x256 1} {v19 : FVec Ideal S512x64 .bf16} {v27 : FVec Ideal S256x64 .bf16}
  {v32 : FVec Ideal S512x256 .f32} {v35 : IVec S512x1 32} {v36 : FVec Ideal S512x1 .f32} {c : BitVec 32}
  {x0 x1 x2 x3 : Elt Ideal .f32} (R : ℕ → Row)
  (hS : ∀ (r : Fin 512) (s : Fin 256), k0_pay17 v14 v19 v27 v32 (ix2 r s) = (R r.val).S s.val)
  (hx : ∀ r : Fin 512, k0_pay16 v35 v36 c x0 x1 x2 x3 (ix2 r 0) = ((R r.val).snk : EReal))

include hS hx in
/-- A row's maximum is a real number. -/
theorem pay18_real (r : Fin 512) : ∃ μ : ℝ, k0_pay18 v14 v19 v27 v32 v35 v36 c x0 x1 x2 x3 (ix2 r 0) = (μ : EReal) := by
  obtain ⟨μ, h⟩ := max_real (fun s => (R r.val).S s.val) (fun s => Row.S_lt _ _) (R r.val).snk
  refine ⟨μ, h ▸ ?_⟩
  unfold k0_pay18
  refine (maximumf_apply _ _ _).trans ?_
  rw [hx, cast_apply, max_apply]
  simp only [hS]

/-- The weights of a row, shifted by its maximum. -/
theorem pay19_apply (r : Fin 512) (s : Fin 256) (μ : ℝ) (hμ : k0_pay18 v14 v19 v27 v32 v35 v36 c x0 x1 x2 x3 (ix2 r 0) = (μ : EReal))
    (h : k0_pay17 v14 v19 v27 v32 (ix2 r s) = (R r.val).S s.val) :
    k0_pay19 v14 v19 v27 v32 v35 v36 c x0 x1 x2 x3 (ix2 r s) = (((R r.val).w s.val * Real.exp (-μ) : ℝ) : EReal) := by
  unfold k0_pay19
  show Ideal.exp (k0_pay17 v14 v19 v27 v32 (ix2 r s) - broadcastTo S512x256 _ broadcasts_S512x1_S512x256 (ix2 r s)) = _
  rw [col_apply, hμ, h, Row.exp_S]

theorem pay20_apply (r : Fin 512) (μ : ℝ) (hμ : k0_pay18 v14 v19 v27 v32 v35 v36 c x0 x1 x2 x3 (ix2 r 0) = (μ : EReal))
    (h : k0_pay16 v35 v36 c x0 x1 x2 x3 (ix2 r 0) = ((R r.val).snk : EReal)) :
    k0_pay20 v14 v19 v27 v32 v35 v36 c x0 x1 x2 x3 (ix2 r 0) = ((Real.exp (R r.val).snk * Real.exp (-μ) : ℝ) : EReal) := by
  unfold k0_pay20
  show Ideal.exp (k0_pay16 v35 v36 c x0 x1 x2 x3 (ix2 r 0) - k0_pay18 v14 v19 v27 v32 v35 v36 c x0 x1 x2 x3 (ix2 r 0)) = _
  rw [hμ, h, exp_sink]

include hS hx in
theorem pay21_apply (r : Fin 512) (μ : ℝ) (hμ : k0_pay18 v14 v19 v27 v32 v35 v36 c x0 x1 x2 x3 (ix2 r 0) = (μ : EReal)) :
    k0_pay21 v14 v19 v27 v32 v35 v36 c x0 x1 x2 x3 (ix2 r 0) = Ideal.div 1 (((R r.val).Z * Real.exp (-μ) : ℝ) : EReal) := by
  unfold k0_pay21
  show Ideal.div (Ideal.ofBits .f32 0x3F800000#32) (shapeCast S512x1 _ shapeCasts_S512_S512x1 (ix2 r 0) + k0_pay20 v14 v19 v27 v32 v35 v36 c x0 x1 x2 x3 (ix2 r 0)) = _
  rw [c_one, cast_apply, sum_apply, pay20_apply R r μ hμ (hx r), ← Row.den]
  simp only [pay19_apply R r _ μ hμ (hS r _)]

include hS hx in
/-- The probabilities. -/
theorem pay22_apply (r : Fin 512) (s : Fin 256) :
    k0_pay22 v14 v19 v27 v32 v35 v36 c x0 x1 x2 x3 (ix2 r s) = ((R r.val).P s.val : EReal) := by
  obtain ⟨μ, hμ⟩ := pay18_real R hS hx r
  unfold k0_pay22
  show k0_pay19 v14 v19 v27 v32 v35 v36 c x0 x1 x2 x3 (ix2 r s) * broadcastTo S512x256 _ broadcasts_S512x1_S512x256 (ix2 r s) = _
  rw [col_apply, pay19_apply R r s μ hμ (hS r s), pay21_apply R hS hx r μ hμ, Row.P_of]

include hS hx in
/-- The sink's probability. -/
theorem pay23_apply (r : Fin 512) :
    k0_pay23 v14 v19 v27 v32 v35 v36 c x0 x1 x2 x3 (ix2 r 0) = ((R r.val).PS : EReal) := by
  obtain ⟨μ, hμ⟩ := pay18_real R hS hx r
  unfold k0_pay23
  show k0_pay20 v14 v19 v27 v32 v35 v36 c x0 x1 x2 x3 (ix2 r 0) * k0_pay21 v14 v19 v27 v32 v35 v36 c x0 x1 x2 x3 (ix2 r 0) = _
  rw [pay20_apply R r μ hμ (hx r), pay21_apply R hS hx r μ hμ, Row.PS_of]
end Weights

section Gradients
variable {v19 v24 : FVec Ideal S512x64 .bf16} {v27 v30 : FVec Ideal S256x64 .bf16}
  {v77 : FVec Ideal S512x256 .f32} {v78 : FVec Ideal S512x1 .f32} (R : ℕ → Row)
  (hq : ∀ (r : Fin 512) (d : Fin 64), v19 (ix2 r d) = ((R r.val).q d.val : EReal))
  (hg : ∀ (r : Fin 512) (d : Fin 64), v24 (ix2 r d) = ((R r.val).g d.val : EReal))
  (hk : ∀ (r : Fin 512) (s : Fin 256) (d : Fin 64), v27 (ix2 s d) = ((R r.val).k s.val d.val : EReal))
  (hv : ∀ (r : Fin 512) (s : Fin 256) (d : Fin 64), v30 (ix2 s d) = ((R r.val).v s.val d.val : EReal))
  (hP : ∀ (r : Fin 512) (s : Fin 256), v77 (ix2 r s) = ((R r.val).P s.val : EReal))
  (hPS : ∀ r : Fin 512, v78 (ix2 r 0) = ((R r.val).PS : EReal))

include hg hv in
theorem pay24_apply (r : Fin 512) (s : Fin 256) :
    k0_pay24 v24 v30 (constant S512x256 .f32 0x00000000#32) (ix2 r s) = ((R r.val).dp s.val : EReal) := by
  unfold k0_pay24
  refine (mm_rows v24 v30 r s).trans ?_
  rw [Row.dp, coe_sum]
  refine Finset.sum_congr rfl fun d _ => ?_
  rw [hg, hv r, ← EReal.coe_mul]

include hg hv hP in
theorem pay25_apply (r : Fin 512) :
    k0_pay25 v24 v30 v77 (constant S512x256 .f32 0x00000000#32) (ix2 r 0) = ((R r.val).dl : EReal) := by
  unfold k0_pay25
  refine (cast_apply _ r).trans ((sum_apply _ r).trans ?_)
  rw [Row.dl, coe_sum]
  refine Finset.sum_congr rfl fun s _ => ?_
  refine (mulf_apply _ _ _).trans ?_
  rw [hP, pay24_apply R hg hv, ← EReal.coe_mul]

include hg hv hP in
/-- The gradient of the scores. -/
theorem pay26_apply (r : Fin 512) (s : Fin 256) :
    k0_pay26 v24 v30 v77 (constant S512x256 .f32 0x00000000#32) (ix2 r s) = ((R r.val).ds s.val : EReal) := by
  unfold k0_pay26
  show v77 (ix2 r s) * (k0_pay24 v24 v30 (constant S512x256 .f32 0x00000000#32) (ix2 r s) - broadcastTo S512x256 _ broadcasts_S512x1_S512x256 (ix2 r s)) = _
  rw [col_apply, hP, pay24_apply R hg hv, pay25_apply R hg hv hP, ← EReal.coe_sub, ← EReal.coe_mul, Row.ds]

include hg hv hP hPS in
theorem pay27_apply (r : Fin 512) :
    k0_pay27 v24 v30 v77 v78 (constant S512x256 .f32 0x00000000#32) (ix2 r 0) = ((-((R r.val).PS * (R r.val).dl) : ℝ) : EReal) := by
  unfold k0_pay27
  show (Ideal.ofBits .f32 0x00000000#32 - v78 (ix2 r 0)) * k0_pay25 v24 v30 v77 (constant S512x256 .f32 0x00000000#32) (ix2 r 0) = _
  rw [c_zero, hPS, pay25_apply R hg hv hP, ← EReal.coe_zero, ← EReal.coe_sub, ← EReal.coe_mul]
  congr 1; ring

include hg hk hv hP in
/-- The gradient of the queries. -/
theorem pay28_apply (r : Fin 512) (d : Fin 64) :
    k0_pay28 v24 v27 v30 v77 (constant S512x256 .f32 0x00000000#32) (ix2 r d) = ((R r.val).dq d.val : EReal) := by
  unfold k0_pay28
  refine (mulf_apply _ _ _).trans ?_
  refine (congrArg₂ (· * ·) (mm_keys _ v27 r d) (show _ = Ideal.ofBits .f32 0x3E000000#32 from rfl)).trans ?_
  rw [c_eighth, Row.dq, EReal.coe_mul, coe_sum]
  congr 1
  refine Finset.sum_congr rfl fun s _ => ?_
  rw [pay26_apply R hg hv hP, hk r, ← EReal.coe_mul]

include hq hg hv hP in
/-- The gradient of the band's keys from this block. -/
theorem pay29_apply (s : Fin 256) (d : Fin 64) :
    k0_pay29 v19 v24 v30 v77 (constant S512x256 .f32 0x00000000#32) (ix2 s d)
      = (((∑ r : Fin 512, (R r.val).ds s.val * (R r.val).q d.val) * (1 / 8) : ℝ) : EReal) := by
  unfold k0_pay29
  refine (mulf_apply _ _ _).trans ?_
  refine (congrArg₂ (· * ·) (mm_stack _ v19 s d) (show _ = Ideal.ofBits .f32 0x3E000000#32 from rfl)).trans ?_
  rw [c_eighth, EReal.coe_mul, coe_sum]
  congr 1
  refine Finset.sum_congr rfl fun r _ => ?_
  rw [pay26_apply R hg hv hP, hq r, ← EReal.coe_mul]

include hg hP in
/-- The gradient of the band's values from this block. -/
theorem pay30_apply (s : Fin 256) (d : Fin 64) :
    k0_pay30 v24 v77 (ix2 s d) = ((∑ r : Fin 512, (R r.val).P s.val * (R r.val).g d.val : ℝ) : EReal) := by
  unfold k0_pay30
  refine (mm_stack _ v24 s d).trans ?_
  rw [coe_sum]
  refine Finset.sum_congr rfl fun r _ => ?_
  show v77 (ix2 r s) * v24 (ix2 r d) = _
  rw [hP, hg, ← EReal.coe_mul]
end Gradients
-- ==== Proof.AttnGroup.lean ====
module

public import proofs.«01_k».proof.Proof.AttnBlock
public import proofs.«01_k».proof.Proof.AttnBase
public import Idealize.ShloMosaic.Lib.ValueIdx
public import Idealize.ShloMosaic.Lib.Pipeline.Value
public import Idealize.ShloMosaic.PureOps.IdealRules

@[expose] public section

set_option maxRecDepth 16384

noncomputable section

namespace Cert.KernelIdeal.Hand

open Cert.KernelIdeal.Gen
open Idealize.ShloMosaic Idealize.ShloMosaic.ValueIdx Idealize.ShloMosaic.TcCoe
open Attn

/-! ## The inputs of a point as reals -/

/-- The numbers a point's blocks hold: queries, output gradients, the keys and values before and at the block, the bias of
    each head's row, and the sinks. -/
structure RIns where
  q : ℕ → ℕ → ℝ
  g : ℕ → ℕ → ℝ
  kv0 : ℕ → ℕ → ℝ
  kv1 : ℕ → ℕ → ℝ
  bias : ℕ → ℕ → ℕ → ℝ
  snk : ℕ → ℝ

/-- The band a row of a block sees among the 256 positions of the block before and its own. -/
def band (r s : ℕ) : Prop := r < s ∧ s ≤ r + 128

/-- What head `h`'s row `r` of block `n` reads. -/
def row (X : RIns) (n h r : ℕ) : Row where
  q d := X.q r (64 * h + d)
  g d := X.g r (64 * h + d)
  k s d := if s < 128 then X.kv0 s (64 * (h / 4) + d) else X.kv1 (s - 128) (64 * (h / 4) + d)
  v s d := if s < 128 then X.kv0 s (128 + 64 * (h / 4) + d) else X.kv1 (s - 128) (128 + 64 * (h / 4) + d)
  ok s := band r s ∧ (0 < n ∨ 128 ≤ s)
  b s := X.bias h r s
  snk := X.snk h

/-- The rows of a group's four heads one below the other. -/
def stk (X : RIns) (n j r : ℕ) : Row := row X n (4 * j + r / 128) (r % 128)

open Classical in
/-- The blocks hold these numbers. -/
structure InsReal (x : Ins Ideal) (X : RIns) : Prop where
  h0 : ∀ h : Fin 8, x.x0 (ix2 0 h) = (X.snk h.val : EReal)
  h1 : ∀ (k : Fin 2) (r : Fin 512) (s : Fin 256), x.x1 (ix3 k r s)
    = if band (r.val % 128) s.val then (X.bias (4 * k.val + r.val / 128) (r.val % 128) s.val : EReal) else ⊥
  h2 : ∀ (r : Fin 128) (d : Fin 512), x.x2 (ix2 r d) = (X.q r.val d.val : EReal)
  h3 : ∀ (r : Fin 128) (d : Fin 256), x.x3 (ix2 r d) = (X.kv0 r.val d.val : EReal)
  h4 : ∀ (r : Fin 128) (d : Fin 256), x.x4 (ix2 r d) = (X.kv1 r.val d.val : EReal)
  h5 : ∀ (r : Fin 128) (d : Fin 512), x.x5 (ix2 r d) = (X.g r.val d.val : EReal)

/-! ## The loads -/

/-- A load of a rectangle of a whole memory ref whose contents are known by their coordinates. -/
theorem rd_real {sp : Space} {a b p q : ℕ} {e : EltTy} (m : Memref sig .tc sp ⟨2, ![a, b]⟩ e) (hm : m.IsWhole)
    (X : (⟨2, ![a, b]⟩ : Shape).Idx → Elt Ideal e) (F : ℕ → ℕ → Elt Ideal e)
    (hX : ∀ (r : Fin a) (c : Fin b), X (ix2 r c) = F r.val c.val)
    (o1 o2 : ℕ) (inb) (r : Fin p) (d : Fin q) :
    m.view.readAt (Elt Ideal) (Rect.unit (s := ⟨2, ![a, b]⟩) ![o1, o2] ![p, q] inb).toLoadRect (hm.unread X) (ix2 r d)
      = F (o1 + r.val) (o2 + d.val) := by
  have h1 : o1 + r.val < a := by have := inb 0; have := r.isLt; simp at *; omega
  have h2 : o2 + d.val < b := by have := inb 1; have := d.isLt; simp at *; omega
  rw [View.readAt_eq_ld, hm.read_unread, ← hX ⟨_, h1⟩ ⟨_, h2⟩]
  refine congrArg X ?_
  funext c; refine Fin.ext ?_
  match c with
  | 0 => show o1 + 1 * r.val = o1 + r.val; omega
  | 1 => show o2 + 1 * d.val = o2 + d.val; omega

section Loads
variable (b : Bufs) (x : Ins Ideal)

abbrev ldQ (o : ℕ) (inb : ∀ a, (![0, o] : Fin 2 → ℕ) a + S128x64.size a ≤ S128x512.size a) : Vec Ideal S128x64 .bf16 :=
  View.readAt (Elt Ideal) b.a3.view (Rect.unit (s := S128x512) ![0, o] S128x64.size inb).toLoadRect (b.h3.unread x.x2)
abbrev ldG (o : ℕ) (inb : ∀ a, (![0, o] : Fin 2 → ℕ) a + S128x64.size a ≤ S128x512.size a) : Vec Ideal S128x64 .bf16 :=
  View.readAt (Elt Ideal) b.a6.view (Rect.unit (s := S128x512) ![0, o] S128x64.size inb).toLoadRect (b.h6.unread x.x5)
abbrev ldP (o : ℕ) (inb : ∀ a, (![0, o] : Fin 2 → ℕ) a + S128x64.size a ≤ S128x256.size a) : Vec Ideal S128x64 .bf16 :=
  View.readAt (Elt Ideal) b.a4.view (Rect.unit (s := S128x256) ![0, o] S128x64.size inb).toLoadRect (b.h4.unread x.x3)
abbrev ldC (o : ℕ) (inb : ∀ a, (![0, o] : Fin 2 → ℕ) a + S128x64.size a ≤ S128x256.size a) : Vec Ideal S128x64 .bf16 :=
  View.readAt (Elt Ideal) b.a5.view (Rect.unit (s := S128x256) ![0, o] S128x64.size inb).toLoadRect (b.h5.unread x.x4)
abbrev ldB (o : ℕ) (inb : ∀ a, (![o, 0, 0] : Fin 3 → ℕ) a + S1x512x256.size a ≤ S2x512x256.size a) : Vec Ideal S1x512x256 .f32 :=
  View.readAt (Elt Ideal) b.a2.view (Rect.unit (s := S2x512x256) ![o, 0, 0] S1x512x256.size inb).toLoadRect (b.h2.unread x.x1)
abbrev ldS (o : ℕ) (inb : ∀ a, (![0, o] : Fin 2 → ℕ) a + S1x1.size a ≤ S1x8.size a) : Elt Ideal .f32 :=
  View.readAt (Elt Ideal) b.a1.view (Rect.unit (s := S1x8) ![0, o] S1x1.size inb).toLoadRect (b.h1.unread x.x0) (Shape.Idx.first (show 0 < S1x1.numel by decide))

/-! The stacked queries and output gradients, the bands of keys and values, the probabilities and the sink's, of each of
    the two groups. -/

def Q0 := k0_pay9 (ldQ b x 0 inb_S128x512_S128x64_0_0) (ldQ b x 64 inb_S128x512_S128x64_0_64) (ldQ b x 128 inb_S128x512_S128x64_0_128) (ldQ b x 192 inb_S128x512_S128x64_0_192)
def G0 := k0_pay10 (ldG b x 0 inb_S128x512_S128x64_0_0) (ldG b x 64 inb_S128x512_S128x64_0_64) (ldG b x 128 inb_S128x512_S128x64_0_128) (ldG b x 192 inb_S128x512_S128x64_0_192)
def K0 := k0_pay11 (ldP b x 0 inb_S128x256_S128x64_0_0) (ldC b x 0 inb_S128x256_S128x64_0_0)
def V0 := k0_pay12 (ldP b x 128 inb_S128x256_S128x64_0_128) (ldC b x 128 inb_S128x256_S128x64_0_128)
def Q1 := k0_pay46 (ldQ b x 256 inb_S128x512_S128x64_0_256) (ldQ b x 320 inb_S128x512_S128x64_0_320) (ldQ b x 384 inb_S128x512_S128x64_0_384) (ldQ b x 448 inb_S128x512_S128x64_0_448)
def G1 := k0_pay47 (ldG b x 256 inb_S128x512_S128x64_0_256) (ldG b x 320 inb_S128x512_S128x64_0_320) (ldG b x 384 inb_S128x512_S128x64_0_384) (ldG b x 448 inb_S128x512_S128x64_0_448)
def K1 := k0_pay48 (ldP b x 64 inb_S128x256_S128x64_0_64) (ldC b x 64 inb_S128x256_S128x64_0_64)
def V1 := k0_pay49 (ldP b x 192 inb_S128x256_S128x64_0_192) (ldC b x 192 inb_S128x256_S128x64_0_192)

variable (n : BitVec 32)
def P0 := k0_pay22 (k0_pay8 n) (Q0 b x) (K0 b x) (k0_pay13 (ldB b x 0 inb_S2x512x256_S1x512x256_0_0_0)) k0_pay14 k0_pay15 0#32
  (ldS b x 0 inb_S1x8_S1x1_0_0) (ldS b x 1 inb_S1x8_S1x1_0_1) (ldS b x 2 inb_S1x8_S1x1_0_2) (ldS b x 3 inb_S1x8_S1x1_0_3)
def PS0 := k0_pay23 (k0_pay8 n) (Q0 b x) (K0 b x) (k0_pay13 (ldB b x 0 inb_S2x512x256_S1x512x256_0_0_0)) k0_pay14 k0_pay15 0#32
  (ldS b x 0 inb_S1x8_S1x1_0_0) (ldS b x 1 inb_S1x8_S1x1_0_1) (ldS b x 2 inb_S1x8_S1x1_0_2) (ldS b x 3 inb_S1x8_S1x1_0_3)
def E1 := k0_pay53 (k0_pay8 n) (Q1 b x) (K1 b x) (ldB b x 1 inb_S2x512x256_S1x512x256_1_0_0)
  (ldS b x 4 inb_S1x8_S1x1_0_4) (ldS b x 5 inb_S1x8_S1x1_0_5) (ldS b x 6 inb_S1x8_S1x1_0_6) (ldS b x 7 inb_S1x8_S1x1_0_7)
def D1 := k0_pay54 (k0_pay8 n) (Q1 b x) (K1 b x) (ldB b x 1 inb_S2x512x256_S1x512x256_1_0_0)
  (ldS b x 4 inb_S1x8_S1x1_0_4) (ldS b x 5 inb_S1x8_S1x1_0_5) (ldS b x 6 inb_S1x8_S1x1_0_6) (ldS b x 7 inb_S1x8_S1x1_0_7)
def P1 := k0_pay22 (k0_pay8 n) (Q1 b x) (K1 b x) (k0_pay13 (ldB b x 1 inb_S2x512x256_S1x512x256_1_0_0)) k0_pay14 k0_pay15 0#32
  (ldS b x 4 inb_S1x8_S1x1_0_4) (ldS b x 5 inb_S1x8_S1x1_0_5) (ldS b x 6 inb_S1x8_S1x1_0_6) (ldS b x 7 inb_S1x8_S1x1_0_7)
def PS1 := k0_pay23 (k0_pay8 n) (Q1 b x) (K1 b x) (k0_pay13 (ldB b x 1 inb_S2x512x256_S1x512x256_1_0_0)) k0_pay14 k0_pay15 0#32
  (ldS b x 4 inb_S1x8_S1x1_0_4) (ldS b x 5 inb_S1x8_S1x1_0_5) (ldS b x 6 inb_S1x8_S1x1_0_6) (ldS b x 7 inb_S1x8_S1x1_0_7)

/-! The second group's steps are the first group's. -/

theorem g1_dq : k0_pay62 (G1 b x) (K1 b x) (V1 b x) (E1 b x n) (D1 b x n)
    = k0_pay28 (G1 b x) (K1 b x) (V1 b x) (P1 b x n) (constant S512x256 .f32 0x00000000#32) := rfl
theorem g1_dk : k0_pay63 (Q1 b x) (G1 b x) (V1 b x) (E1 b x n) (D1 b x n)
    = k0_pay29 (Q1 b x) (G1 b x) (V1 b x) (P1 b x n) (constant S512x256 .f32 0x00000000#32) := rfl
theorem g1_dv : k0_pay64 (G1 b x) (E1 b x n) (D1 b x n) = k0_pay30 (G1 b x) (P1 b x n) := rfl
theorem g1_ds : k0_pay61 (G1 b x) (V1 b x) (E1 b x n) (D1 b x n)
    = k0_pay27 (G1 b x) (V1 b x) (P1 b x n) (PS1 b x n) (constant S512x256 .f32 0x00000000#32) := rfl
end Loads

/-! ## Stacks, bands, scores and sinks at an index -/

theorem stack_apply (v0 v1 v2 v3 : Vec Ideal S128x64 .bf16) (f : ℕ → ℕ → ℕ → ℝ)
    (h0 : ∀ (r : Fin 128) (d : Fin 64), v0 (ix2 r d) = (f 0 r.val d.val : EReal)) (h1 : ∀ (r : Fin 128) (d : Fin 64), v1 (ix2 r d) = (f 1 r.val d.val : EReal))
    (h2 : ∀ (r : Fin 128) (d : Fin 64), v2 (ix2 r d) = (f 2 r.val d.val : EReal)) (h3 : ∀ (r : Fin 128) (d : Fin 64), v3 (ix2 r d) = (f 3 r.val d.val : EReal))
    (r : Fin 512) (d : Fin 64) : k0_pay9 v0 v1 v2 v3 (ix2 r d) = (f (r.val / 128) (r.val % 128) d.val : EReal) := by
  have hr := r.isLt
  unfold k0_pay9
  have key : ∀ (k : ℕ) (hk : k < 4) (w : Vec Ideal S128x64 .bf16)
      (hw : [(⟨S128x64, v0⟩ : (s : Shape) × (s.Idx → Elt Ideal .bf16)), ⟨S128x64, v1⟩, ⟨S128x64, v2⟩, ⟨S128x64, v3⟩][k]'hk = ⟨S128x64, w⟩)
      (hf : ∀ (r : Fin 128) (d : Fin 64), w (ix2 r d) = (f k r.val d.val : EReal)) (hq : r.val / 128 = k)
      (hpre : ((([(⟨S128x64, v0⟩ : (s : Shape) × (s.Idx → Elt Ideal .bf16)), ⟨S128x64, v1⟩, ⟨S128x64, v2⟩, ⟨S128x64, v3⟩].take k).map (·.1)).map
        fun s => if h : s.rank = S512x64.rank then s.size ((0 : Fin 2).cast h.symm) else 0).sum = 128 * k),
      concatenate S512x64 0 [(⟨S128x64, v0⟩ : (s : Shape) × (s.Idx → Elt Ideal .bf16)), ⟨S128x64, v1⟩, ⟨S128x64, v2⟩, ⟨S128x64, v3⟩]
        concatenates_S128x64_S128x64_S128x64_S128x64_S512x64_d0 (ix2 r d) = (f (r.val / 128) (r.val % 128) d.val : EReal) := by
    intro k hk w hw hf hq hpre
    refine (concatenate_apply_piece (t := S512x64) 0 [(⟨S128x64, v0⟩ : (s : Shape) × (s.Idx → Elt Ideal .bf16)), ⟨S128x64, v1⟩, ⟨S128x64, v2⟩, ⟨S128x64, v3⟩]
      concatenates_S128x64_S128x64_S128x64_S128x64_S512x64_d0 (ix2 r d) k hk S128x64 w hw rfl (128 * k) hpre (ix2 ⟨r.val % 128, by omega⟩ d) ?_ ?_).trans ?_
    · intro c hc
      match c with
      | 0 => exact absurd rfl hc
      | 1 => rfl
    · show 128 * k + r.val % 128 = r.val
      omega
    · rw [hf, hq]
  rcases (show r.val / 128 = 0 ∨ r.val / 128 = 1 ∨ r.val / 128 = 2 ∨ r.val / 128 = 3 by omega) with h | h | h | h
  · exact key 0 (by decide) v0 rfl h0 h rfl
  · exact key 1 (by decide) v1 rfl h1 h rfl
  · exact key 2 (by decide) v2 rfl h2 h rfl
  · exact key 3 (by decide) v3 rfl h3 h rfl

theorem band_apply (v0 v1 : Vec Ideal S128x64 .bf16) (f0 f1 : ℕ → ℕ → ℝ)
    (h0 : ∀ (r : Fin 128) (d : Fin 64), v0 (ix2 r d) = (f0 r.val d.val : EReal)) (h1 : ∀ (r : Fin 128) (d : Fin 64), v1 (ix2 r d) = (f1 r.val d.val : EReal))
    (s : Fin 256) (d : Fin 64) :
    k0_pay11 v0 v1 (ix2 s d) = ((if s.val < 128 then f0 s.val d.val else f1 (s.val - 128) d.val : ℝ) : EReal) := by
  have hs := s.isLt
  unfold k0_pay11
  by_cases h : s.val < 128
  · rw [if_pos h, ← h0 ⟨s.val, h⟩ d]
    exact concatenate_pair_apply_left (t := S256x64) 0 v0 v1 _ _ rfl _ fun c => by match c with | 0 => rfl | 1 => rfl
  · rw [if_neg h, ← h1 ⟨s.val - 128, by omega⟩ d]
    refine concatenate_pair_apply_right (t := S256x64) 0 v0 v1 _ _ rfl rfl _ (fun c hc => ?_) ?_
    · match c with
      | 0 => exact absurd rfl hc
      | 1 => rfl
    · show s.val - 128 + 128 = s.val
      omega

/-- The head of a stacked row. -/
theorem pay14_apply : ∀ r : Fin 512, k0_pay14 (ix2 r 0) = BitVec.ofNat 32 (r.val / 128) := by
  decide +kernel

theorem pay8_apply (n : ℕ) (hn : n < 33) (r : Fin 512) (s : Fin 256) :
    k0_pay8 (BitVec.ofNat 32 n) (ix2 r s) = if 0 < n ∨ 128 ≤ s.val then 1#1 else 0#1 := by
  have key : ∀ (n : Fin 33) (s : Fin 256), (Scalar.cmpi .sgt (BitVec.ofNat 32 n.val) 0#32) ||| (Scalar.cmpi .sge (BitVec.ofNat 32 s.val) 128#32)
      = if 0 < n.val ∨ 128 ≤ s.val then 1#1 else 0#1 := by decide +kernel
  exact (congrArg (fun v => _ ||| Scalar.cmpi .sge v 128#32) (iota_single_apply .tc S512x256 32 1 iota_S512x256_d1_w32 (ix2 r s))).trans (key ⟨n, hn⟩ s)

theorem pay13_apply (v : Vec Ideal S1x512x256 .f32) (r : Fin 512) (s : Fin 256) : k0_pay13 v (ix2 r s) = v (ix3 0 r s) := by
  unfold k0_pay13
  refine shapeCast_apply _ _ _ _ ?_
  rw [Shape.rowMajor_val_three, Shape.rowMajor_val_two]; simp [ix2, ix3]

theorem pay16_apply (x0 x1 x2 x3 : Elt Ideal .f32) (f : ℕ → ℝ) (h0 : x0 = (f 0 : EReal)) (h1 : x1 = (f 1 : EReal)) (h2 : x2 = (f 2 : EReal))
    (h3 : x3 = (f 3 : EReal)) (r : Fin 512) : k0_pay16 k0_pay14 (k0_pay15 (F := Ideal)) 0#32 x0 x1 x2 x3 (ix2 r 0) = (f (r.val / 128) : EReal) := by
  have hr := r.isLt
  unfold k0_pay16
  show Scalar.select (Scalar.cmpi .eq (k0_pay14 (ix2 r 0)) 3#32) x3 (Scalar.select (Scalar.cmpi .eq (k0_pay14 (ix2 r 0)) 2#32) x2
    (Scalar.select (Scalar.cmpi .eq (k0_pay14 (ix2 r 0)) 1#32) x1 (Scalar.select (Scalar.cmpi .eq (k0_pay14 (ix2 r 0)) 0#32) x0 _))) = _
  rw [pay14_apply]
  rcases (show r.val / 128 = 0 ∨ r.val / 128 = 1 ∨ r.val / 128 = 2 ∨ r.val / 128 = 3 by omega) with h | h | h | h <;>
    rw [h] <;> assumption

theorem mask_bot : Named.named (F := Ideal) κ "mask" (φ := .f32) 0xF149F2CA#32 = (⊥ : EReal) :=
  IdealRules.named_const.ideal_named_scalar _ _ _ _ rfl

open Classical in
/-- The masked scores. -/
theorem pay17_apply (n : ℕ) (hn : n < 33) (q : FVec Ideal S512x64 .bf16) (k : FVec Ideal S256x64 .bf16) (bb : FVec Ideal S512x256 .f32)
    (R : ℕ → Row) (hq : ∀ (r : Fin 512) (d : Fin 64), q (ix2 r d) = ((R r.val).q d.val : EReal))
    (hk : ∀ (r : Fin 512) (s : Fin 256) (d : Fin 64), k (ix2 s d) = ((R r.val).k s.val d.val : EReal))
    (hb : ∀ (r : Fin 512) (s : Fin 256), bb (ix2 r s) = if band (r.val % 128) s.val then ((R r.val).b s.val : EReal) else ⊥)
    (hok : ∀ (r : Fin 512) (s : Fin 256), (R r.val).ok s.val ↔ band (r.val % 128) s.val ∧ (0 < n ∨ 128 ≤ s.val))
    (r : Fin 512) (s : Fin 256) : k0_pay17 (k0_pay8 (BitVec.ofNat 32 n)) q k bb (ix2 r s) = (R r.val).S s.val := by
  unfold k0_pay17
  have hs : (matmul dot_S512x64_S256x64_S512x256_1_1_0_0_n_n none q k (constant S512x256 .f32 0x00000000#32) (ix2 r s) : EReal)
      = ((∑ d : Fin 64, (R r.val).q d.val * (R r.val).k s.val d.val : ℝ) : EReal) := by
    refine (mm_rows q k r s).trans ?_
    rw [coe_sum]
    refine Finset.sum_congr rfl fun d _ => ?_
    rw [hq, hk r, ← EReal.coe_mul]
  show Scalar.select (k0_pay8 (BitVec.ofNat 32 n) (ix2 r s))
    ((matmul dot_S512x64_S256x64_S512x256_1_1_0_0_n_n none q k (constant S512x256 .f32 0x00000000#32) (ix2 r s) : EReal) * Ideal.ofBits .f32 0x3E000000#32 + bb (ix2 r s))
    (Named.named (F := Ideal) κ "mask" (φ := .f32) 0xF149F2CA#32) = _
  rw [pay8_apply n hn, hs, c_eighth, hb, mask_bot]
  unfold Row.S
  by_cases h1 : 0 < n ∨ 128 ≤ s.val
  · rw [if_pos h1]
    refine (select_one _ _).trans ?_
    by_cases h2 : band (r.val % 128) s.val
    · rw [if_pos h2, if_pos ((hok r s).mpr ⟨h2, h1⟩), ← EReal.coe_mul, ← EReal.coe_add]; rfl
    · rw [if_neg h2, if_neg fun h => h2 ((hok r s).mp h).1, EReal.add_bot]
  · rw [if_neg h1, if_neg fun h => h1 ((hok r s).mp h).2]
    exact select_zero _ _

/-! ## The two groups of a point -/

/-- A group's vectors are the rows'. -/
structure Blk (R : ℕ → Row) (q g : FVec Ideal S512x64 .bf16) (k v : FVec Ideal S256x64 .bf16) (P : FVec Ideal S512x256 .f32)
    (PS : FVec Ideal S512x1 .f32) : Prop where
  hq : ∀ (r : Fin 512) (d : Fin 64), q (ix2 r d) = ((R r.val).q d.val : EReal)
  hg : ∀ (r : Fin 512) (d : Fin 64), g (ix2 r d) = ((R r.val).g d.val : EReal)
  hk : ∀ (r : Fin 512) (s : Fin 256) (d : Fin 64), k (ix2 s d) = ((R r.val).k s.val d.val : EReal)
  hv : ∀ (r : Fin 512) (s : Fin 256) (d : Fin 64), v (ix2 s d) = ((R r.val).v s.val d.val : EReal)
  hP : ∀ (r : Fin 512) (s : Fin 256), P (ix2 r s) = ((R r.val).P s.val : EReal)
  hPS : ∀ r : Fin 512, PS (ix2 r 0) = ((R r.val).PS : EReal)

open Classical in
/-- A group's vectors from its loads: four blocks of queries and of gradients, two of keys and of values, the bias and the
    four sinks. -/
theorem blk_of (X : RIns) (n j : ℕ) (hn : n < 33) (hj : j < 2) (q0 q1 q2 q3 g0 g1 g2 g3 k0 k1 v0 v1 : Vec Ideal S128x64 .bf16)
    (bb : Vec Ideal S1x512x256 .f32) (s0 s1 s2 s3 : Elt Ideal .f32)
    (hq0 : ∀ (r : Fin 128) (d : Fin 64), q0 (ix2 r d) = (X.q r.val (64 * (4 * j + 0) + d.val) : EReal))
    (hq1 : ∀ (r : Fin 128) (d : Fin 64), q1 (ix2 r d) = (X.q r.val (64 * (4 * j + 1) + d.val) : EReal))
    (hq2 : ∀ (r : Fin 128) (d : Fin 64), q2 (ix2 r d) = (X.q r.val (64 * (4 * j + 2) + d.val) : EReal))
    (hq3 : ∀ (r : Fin 128) (d : Fin 64), q3 (ix2 r d) = (X.q r.val (64 * (4 * j + 3) + d.val) : EReal))
    (hg0 : ∀ (r : Fin 128) (d : Fin 64), g0 (ix2 r d) = (X.g r.val (64 * (4 * j + 0) + d.val) : EReal))
    (hg1 : ∀ (r : Fin 128) (d : Fin 64), g1 (ix2 r d) = (X.g r.val (64 * (4 * j + 1) + d.val) : EReal))
    (hg2 : ∀ (r : Fin 128) (d : Fin 64), g2 (ix2 r d) = (X.g r.val (64 * (4 * j + 2) + d.val) : EReal))
    (hg3 : ∀ (r : Fin 128) (d : Fin 64), g3 (ix2 r d) = (X.g r.val (64 * (4 * j + 3) + d.val) : EReal))
    (hk0 : ∀ (r : Fin 128) (d : Fin 64), k0 (ix2 r d) = (X.kv0 r.val (64 * j + d.val) : EReal))
    (hk1 : ∀ (r : Fin 128) (d : Fin 64), k1 (ix2 r d) = (X.kv1 r.val (64 * j + d.val) : EReal))
    (hv0 : ∀ (r : Fin 128) (d : Fin 64), v0 (ix2 r d) = (X.kv0 r.val (128 + 64 * j + d.val) : EReal))
    (hv1 : ∀ (r : Fin 128) (d : Fin 64), v1 (ix2 r d) = (X.kv1 r.val (128 + 64 * j + d.val) : EReal))
    (hb : ∀ (r : Fin 512) (s : Fin 256), bb (ix3 0 r s)
      = if band (r.val % 128) s.val then (X.bias (4 * j + r.val / 128) (r.val % 128) s.val : EReal) else ⊥)
    (hs0 : s0 = (X.snk (4 * j + 0) : EReal)) (hs1 : s1 = (X.snk (4 * j + 1) : EReal)) (hs2 : s2 = (X.snk (4 * j + 2) : EReal))
    (hs3 : s3 = (X.snk (4 * j + 3) : EReal)) :
    Blk (stk X n j) (k0_pay9 q0 q1 q2 q3) (k0_pay9 g0 g1 g2 g3) (k0_pay11 k0 k1) (k0_pay11 v0 v1)
      (k0_pay22 (k0_pay8 (BitVec.ofNat 32 n)) (k0_pay9 q0 q1 q2 q3) (k0_pay11 k0 k1) (k0_pay13 bb) k0_pay14 k0_pay15 0#32 s0 s1 s2 s3)
      (k0_pay23 (k0_pay8 (BitVec.ofNat 32 n)) (k0_pay9 q0 q1 q2 q3) (k0_pay11 k0 k1) (k0_pay13 bb) k0_pay14 k0_pay15 0#32 s0 s1 s2 s3) := by
  have hh : ∀ r : Fin 512, (4 * j + r.val / 128) / 4 = j := fun r => by have := r.isLt; omega
  have hq : ∀ (r : Fin 512) (d : Fin 64), k0_pay9 q0 q1 q2 q3 (ix2 r d) = ((stk X n j r.val).q d.val : EReal) :=
    fun r d => stack_apply q0 q1 q2 q3 (fun t r d => X.q r (64 * (4 * j + t) + d)) hq0 hq1 hq2 hq3 r d
  have hk : ∀ (r : Fin 512) (s : Fin 256) (d : Fin 64), k0_pay11 k0 k1 (ix2 s d) = ((stk X n j r.val).k s.val d.val : EReal) := fun r s d => by
    rw [band_apply k0 k1 (fun s d => X.kv0 s (64 * j + d)) (fun s d => X.kv1 s (64 * j + d)) hk0 hk1 s d]
    unfold stk row; dsimp only; rw [hh]
  have hS := pay17_apply n hn (k0_pay9 q0 q1 q2 q3) (k0_pay11 k0 k1) (k0_pay13 bb) (stk X n j) hq hk
    (fun r s => (pay13_apply bb r s).trans (hb r s)) (fun r s => Iff.rfl)
  have hx := pay16_apply s0 s1 s2 s3 (fun t => X.snk (4 * j + t)) hs0 hs1 hs2 hs3
  exact {
    hq := hq
    hg := fun r d => stack_apply g0 g1 g2 g3 (fun t r d => X.g r (64 * (4 * j + t) + d)) hg0 hg1 hg2 hg3 r d
    hk := hk
    hv := fun r s d => by
      rw [band_apply v0 v1 (fun s d => X.kv0 s (128 + 64 * j + d)) (fun s d => X.kv1 s (128 + 64 * j + d)) hv0 hv1 s d]
      unfold stk row; dsimp only; rw [hh]
    hP := fun r s => pay22_apply (stk X n j) hS hx r s
    hPS := fun r => pay23_apply (stk X n j) hS hx r }

section Groups
variable (b : Bufs) (x : Ins Ideal) (X : RIns) (h : InsReal x X)
include h

theorem ldQ_apply (o : ℕ) (inb) (r : Fin 128) (d : Fin 64) : ldQ b x o inb (ix2 r d) = (X.q r.val (o + d.val) : EReal) :=
  (rd_real b.a3 b.h3 x.x2 (fun r c => ((X.q r c : ℝ) : EReal)) h.h2 0 o inb r d).trans (by simp only [Nat.zero_add])
theorem ldG_apply (o : ℕ) (inb) (r : Fin 128) (d : Fin 64) : ldG b x o inb (ix2 r d) = (X.g r.val (o + d.val) : EReal) :=
  (rd_real b.a6 b.h6 x.x5 (fun r c => ((X.g r c : ℝ) : EReal)) h.h5 0 o inb r d).trans (by simp only [Nat.zero_add])
theorem ldP_apply (o : ℕ) (inb) (r : Fin 128) (d : Fin 64) : ldP b x o inb (ix2 r d) = (X.kv0 r.val (o + d.val) : EReal) :=
  (rd_real b.a4 b.h4 x.x3 (fun r c => ((X.kv0 r c : ℝ) : EReal)) h.h3 0 o inb r d).trans (by simp only [Nat.zero_add])
theorem ldC_apply (o : ℕ) (inb) (r : Fin 128) (d : Fin 64) : ldC b x o inb (ix2 r d) = (X.kv1 r.val (o + d.val) : EReal) :=
  (rd_real b.a5 b.h5 x.x4 (fun r c => ((X.kv1 r c : ℝ) : EReal)) h.h4 0 o inb r d).trans (by simp only [Nat.zero_add])
theorem ldS_apply (o : ℕ) (inb) : ldS b x o inb = (X.snk o : EReal) := by
  refine (congrArg _ (show Shape.Idx.first (show 0 < S1x1.numel by decide) = ix2 0 0 from by
    funext a; match a with | 0 => rfl | 1 => rfl)).trans ?_
  exact rd_real b.a1 b.h1 x.x0 (fun _ c => ((X.snk c : ℝ) : EReal)) (fun r c => by
    obtain rfl : r = 0 := Subsingleton.elim _ _
    exact h.h0 c) 0 o inb 0 0
open Classical in
theorem ldB_apply (o : Fin 2) (inb) (r : Fin 512) (s : Fin 256) : ldB b x o.val inb (ix3 0 r s)
    = if band (r.val % 128) s.val then (X.bias (4 * o.val + r.val / 128) (r.val % 128) s.val : EReal) else ⊥ := by
  rw [← h.h1 o r s]
  refine (congrFun (View.readAt_eq_ld _ _ _) _).trans ?_
  rw [b.h2.read_unread]
  refine congrArg x.x1 ?_
  funext c; refine Fin.ext ?_
  match c with
  | 0 => show o.val + 1 * 0 = o.val; omega
  | 1 => show 0 + 1 * r.val = r.val; omega
  | 2 => show 0 + 1 * s.val = s.val; omega

/-- The first group's vectors. -/
theorem blk0 (n : ℕ) (hn : n < 33) : Blk (stk X n 0) (Q0 b x) (G0 b x) (K0 b x) (V0 b x) (P0 b x (BitVec.ofNat 32 n)) (PS0 b x (BitVec.ofNat 32 n)) :=
  blk_of X n 0 hn (by decide) _ _ _ _ _ _ _ _ _ _ _ _ _ _ _ _ _
    (ldQ_apply b x X h 0 _) (ldQ_apply b x X h 64 _) (ldQ_apply b x X h 128 _) (ldQ_apply b x X h 192 _)
    (ldG_apply b x X h 0 _) (ldG_apply b x X h 64 _) (ldG_apply b x X h 128 _) (ldG_apply b x X h 192 _)
    (ldP_apply b x X h 0 _) (ldC_apply b x X h 0 _) (ldP_apply b x X h 128 _) (ldC_apply b x X h 128 _)
    (ldB_apply b x X h 0 _) (ldS_apply b x X h 0 _) (ldS_apply b x X h 1 _) (ldS_apply b x X h 2 _) (ldS_apply b x X h 3 _)

/-- The second group's. -/
theorem blk1 (n : ℕ) (hn : n < 33) : Blk (stk X n 1) (Q1 b x) (G1 b x) (K1 b x) (V1 b x) (P1 b x (BitVec.ofNat 32 n)) (PS1 b x (BitVec.ofNat 32 n)) :=
  blk_of X n 1 hn (by decide) _ _ _ _ _ _ _ _ _ _ _ _ _ _ _ _ _
    (ldQ_apply b x X h 256 _) (ldQ_apply b x X h 320 _) (ldQ_apply b x X h 384 _) (ldQ_apply b x X h 448 _)
    (ldG_apply b x X h 256 _) (ldG_apply b x X h 320 _) (ldG_apply b x X h 384 _) (ldG_apply b x X h 448 _)
    (ldP_apply b x X h 64 _) (ldC_apply b x X h 64 _) (ldP_apply b x X h 192 _) (ldC_apply b x X h 192 _)
    (ldB_apply b x X h 1 _) (ldS_apply b x X h 4 _) (ldS_apply b x X h 5 _) (ldS_apply b x X h 6 _) (ldS_apply b x X h 7 _)
end Groups

end Cert.KernelIdeal.Hand
-- ==== Proof.AttnPoint.lean ====
/- What one point of the grid leaves in its outputs and in the carried scratch, as real numbers of its inputs. -/
module

public import proofs.«01_k».proof.Proof.AttnGroup
public import proofs.«01_k».proof.Proof.AttnFrame

@[expose] public section

set_option maxRecDepth 16384

noncomputable section

namespace Cert.KernelIdeal.Hand

open Cert.KernelIdeal.Gen
open Idealize.ShloMosaic Idealize.ShloMosaic.ValueIdx Idealize.ShloMosaic.TcCoe
open Attn

/-! ## Slices and sums of the group's results -/

theorem slice512 (o : ℕ) (y : FVec Ideal S512x64 .f32) (h : S512x64.Slices ![o, 0] S128x64) (ho : o + 128 ≤ 512) (r : Fin 128) (d : Fin 64) :
    extractStridedSlice S128x64 ![o, 0] y h (ix2 r d) = y (ix2 ⟨o + r.val, by have := r.isLt; omega⟩ d) :=
  extractStridedSlice_apply _ _ _ _ _ fun a => by
    match a with
    | 0 => rfl
    | 1 => exact (Nat.zero_add _).symm

theorem slice256 (o : ℕ) (y : FVec Ideal S256x64 .f32) (h : S256x64.Slices ![o, 0] S128x64) (ho : o + 128 ≤ 256) (r : Fin 128) (d : Fin 64) :
    extractStridedSlice S128x64 ![o, 0] y h (ix2 r d) = y (ix2 ⟨o + r.val, by have := r.isLt; omega⟩ d) :=
  extractStridedSlice_apply _ _ _ _ _ fun a => by
    match a with
    | 0 => rfl
    | 1 => exact (Nat.zero_add _).symm

/-- A head's row of the sinks' sums: what it held and the sum of the head's 128 rows, in every lane. -/
theorem sink_apply (o : ℕ) (y : FVec Ideal S512x1 .f32) (cr : Vec Ideal S1x128 .f32) (h : S512x1.Slices ![o, 0] S128x1) (ho : o + 128 ≤ 512) (l : Fin 128) :
    addf (F := Ideal) (shapeCast S1x128 cr shapeCasts_S1x128_S1x128)
      (broadcastTo S1x128 (shapeCast S1x1 (multiReduction .add [0] S1 (extractStridedSlice S128x1 ![o, 0] y h) 0x00000000#32 reduces_S128x1_S1 (.inl rfl) rfl)
        shapeCasts_S1_S1x1) broadcasts_S1x1_S1x128) (ix2 0 l)
      = cr (ix2 0 l) + ∑ r : Fin 128, y (ix2 ⟨o + r.val, by have := r.isLt; omega⟩ 0) := by
  refine (addf_apply _ _ _).trans ?_
  rw [shapeCast_self]
  congr 1
  refine (broadcastTo_apply _ _ _ (ix2 0 0) fun a => by match a with | 0 => rfl | 1 => rfl).trans ?_
  refine (shapeCast_apply _ _ _ (ix1 0) (by rw [Shape.rowMajor_val_one, Shape.rowMajor_val_two]; rfl)).trans ?_
  refine (Ideal.multiReduction_add_single _ _ _ _ _ _).trans ?_
  refine Finset.sum_congr rfl fun r _ => ?_
  exact extractStridedSlice_apply _ _ _ _ _ fun a => by
    match a with
    | 0 => rfl
    | 1 => rfl

/-! ## The numbers of a point -/

/-- The gradient that block `n`'s rows give the key of position `s` of its band, in group `j`. -/
def dkAt (X : RIns) (n j s d : ℕ) : ℝ := (∑ r : Fin 512, (stk X n j r.val).ds s * (stk X n j r.val).q d) * (1 / 8)
/-- The gradient that block `n`'s rows give the value there. -/
def dvAt (X : RIns) (n j s d : ℕ) : ℝ := ∑ r : Fin 512, (stk X n j r.val).P s * (stk X n j r.val).g d
/-- The two side by side: the two groups' keys, then their values. -/
def dkvAt (X : RIns) (n s c : ℕ) : ℝ := if c < 128 then dkAt X n (c / 64) s (c % 64) else dvAt X n (c / 64 - 2) s (c % 64)
/-- The gradient that block `n`'s rows give head `h`'s sink. -/
def dskAt (X : RIns) (n h : ℕ) : ℝ := ∑ r : Fin 128, -((row X n h r.val).PS * (row X n h r.val).dl)

theorem stk_at (X : RIns) (n j t : ℕ) (r : Fin 128) : stk X n j (128 * t + r.val) = row X n (4 * j + t) r.val := by
  have := r.isLt
  unfold stk
  rw [show (128 * t + r.val) / 128 = t by omega, show (128 * t + r.val) % 128 = r.val by omega]

section Results
variable {X : RIns} {n j : ℕ} {q g : FVec Ideal S512x64 .bf16} {k v : FVec Ideal S256x64 .bf16} {P : FVec Ideal S512x256 .f32}
  {PS : FVec Ideal S512x1 .f32} (B : Blk (stk X n j) q g k v P PS)
include B

theorem dq_of (t : ℕ) (ht : t < 4) (h : S512x64.Slices ![128 * t, 0] S128x64) (r : Fin 128) (d : Fin 64) :
    extractStridedSlice S128x64 ![128 * t, 0] (k0_pay28 g k v P (constant S512x256 .f32 0x00000000#32)) h (ix2 r d)
      = ((row X n (4 * j + t) r.val).dq d.val : EReal) := by
  rw [slice512 _ _ _ (by omega), pay28_apply (stk X n j) B.hg B.hk B.hv B.hP, ← stk_at]

theorem dsk_of (t : ℕ) (ht : t < 4) (cr : Vec Ideal S1x128 .f32) (h : S512x1.Slices ![128 * t, 0] S128x1) (l : Fin 128) :
    addf (F := Ideal) (shapeCast S1x128 cr shapeCasts_S1x128_S1x128)
      (broadcastTo S1x128 (shapeCast S1x1 (multiReduction .add [0] S1 (extractStridedSlice S128x1 ![128 * t, 0]
        (k0_pay27 g v P PS (constant S512x256 .f32 0x00000000#32)) h) 0x00000000#32 reduces_S128x1_S1 (.inl rfl) rfl)
        shapeCasts_S1_S1x1) broadcasts_S1x1_S1x128) (ix2 0 l)
      = cr (ix2 0 l) + (dskAt X n (4 * j + t) : EReal) := by
  rw [sink_apply _ _ _ _ (by omega), dskAt, coe_sum]
  congr 1
  refine Finset.sum_congr rfl fun r _ => ?_
  rw [pay27_apply (stk X n j) B.hg B.hv B.hP B.hPS, ← stk_at]

theorem dk_of (s : Fin 256) (d : Fin 64) :
    k0_pay29 q g v P (constant S512x256 .f32 0x00000000#32) (ix2 s d) = (dkAt X n j s.val d.val : EReal) :=
  pay29_apply (stk X n j) B.hq B.hg B.hv B.hP s d

theorem dv_of (s : Fin 256) (d : Fin 64) : k0_pay30 g P (ix2 s d) = (dvAt X n j s.val d.val : EReal) :=
  pay30_apply (stk X n j) B.hg B.hP s d
end Results

/-! ## The pieces of a point that works -/

section Pieces
variable (c : Dev nD) (i : grid0.Coords) (b : Bufs) (x : Ins Ideal)

local notation "𝟘" => constant (F := Ideal) S512x256 FTy.f32 0x00000000#32

/-- The stores into the queries' gradient, the last first. -/
def dqPieces (n : BitVec 32) : List (View.Piece (Elt Ideal) S128x512 .bf16) := [
  ⟨Rect.unit ![0, 448] ![128, 64] inb_S128x512_S128x64_0_448, k0_pay71 (k0_pay62 (G1 b x) (K1 b x) (V1 b x) (E1 b x n) (D1 b x n))⟩,
  ⟨Rect.unit ![0, 384] ![128, 64] inb_S128x512_S128x64_0_384, k0_pay69 (k0_pay62 (G1 b x) (K1 b x) (V1 b x) (E1 b x n) (D1 b x n))⟩,
  ⟨Rect.unit ![0, 320] ![128, 64] inb_S128x512_S128x64_0_320, k0_pay67 (G1 b x) (K1 b x) (V1 b x) (E1 b x n) (D1 b x n)⟩,
  ⟨Rect.unit ![0, 256] ![128, 64] inb_S128x512_S128x64_0_256, k0_pay65 (G1 b x) (K1 b x) (V1 b x) (E1 b x n) (D1 b x n)⟩,
  ⟨Rect.unit ![0, 192] ![128, 64] inb_S128x512_S128x64_0_192, k0_pay39 (k0_pay28 (G0 b x) (K0 b x) (V0 b x) (P0 b x n) 𝟘)⟩,
  ⟨Rect.unit ![0, 128] ![128, 64] inb_S128x512_S128x64_0_128, k0_pay37 (k0_pay28 (G0 b x) (K0 b x) (V0 b x) (P0 b x n) 𝟘)⟩,
  ⟨Rect.unit ![0, 64] ![128, 64] inb_S128x512_S128x64_0_64, k0_pay33 (G0 b x) (K0 b x) (V0 b x) (P0 b x n) 𝟘⟩,
  ⟨Rect.unit ![0, 0] ![128, 64] inb_S128x512_S128x64_0_0, k0_pay31 (G0 b x) (K0 b x) (V0 b x) (P0 b x n) 𝟘⟩]

/-- The stores into the carried half. -/
def carPieces (n : BitVec 32) : List (View.Piece (Elt Ideal) S128x256 .f32) := [
  ⟨Rect.unit ![0, 192] ![128, 64] inb_S128x256_S128x64_0_192, k0_pay6 (k0_pay64 (G1 b x) (E1 b x n) (D1 b x n))⟩,
  ⟨Rect.unit ![0, 64] ![128, 64] inb_S128x256_S128x64_0_64, k0_pay4 (k0_pay63 (Q1 b x) (G1 b x) (V1 b x) (E1 b x n) (D1 b x n))⟩,
  ⟨Rect.unit ![0, 128] S128x64.size inb_S128x256_S128x64_0_128, k0_pay45 (k0_pay30 (G0 b x) (P0 b x n))⟩,
  ⟨Rect.unit ![0, 0] S128x64.size inb_S128x256_S128x64_0_0, k0_pay43 (k0_pay42 (k0_pay29 (Q0 b x) (G0 b x) (V0 b x) (P0 b x n) 𝟘))⟩]

/-- The stores into the keys' and values' gradient, over what the scratch carried. -/
def dkvPieces (n : BitVec 32) (s0 s1 s2 s3 : Vec Ideal S128x64 .f32) : List (View.Piece (Elt Ideal) S128x256 .bf16) := [
  ⟨Rect.unit ![0, 192] ![128, 64] inb_S128x256_S128x64_0_192, k0_pay5 (k0_pay64 (G1 b x) (E1 b x n) (D1 b x n)) s3⟩,
  ⟨Rect.unit ![0, 64] ![128, 64] inb_S128x256_S128x64_0_64, k0_pay3 (k0_pay63 (Q1 b x) (G1 b x) (V1 b x) (E1 b x n) (D1 b x n)) s1⟩,
  ⟨Rect.unit ![0, 128] ![128, 64] inb_S128x256_S128x64_0_128, k0_pay44 (k0_pay30 (G0 b x) (P0 b x n)) s2⟩,
  ⟨Rect.unit ![0, 0] ![128, 64] inb_S128x256_S128x64_0_0, k0_pay41 (k0_pay29 (Q0 b x) (G0 b x) (V0 b x) (P0 b x n) 𝟘) s0⟩]

/-- The stores into the sinks' sums, over what the rows held. -/
def dskPieces (n : BitVec 32) (r0 r1 r2 r3 r4 r5 r6 r7 : Vec Ideal S1x128 .f32) : List (View.Piece (Elt Ideal) S8x128 .f32) := [
  ⟨Rect.unit ![7, 0] ![1, 128] inb_S8x128_S1x128_7_0, k0_pay72 (k0_pay61 (G1 b x) (V1 b x) (E1 b x n) (D1 b x n)) r7⟩,
  ⟨Rect.unit ![6, 0] ![1, 128] inb_S8x128_S1x128_6_0, k0_pay70 (k0_pay61 (G1 b x) (V1 b x) (E1 b x n) (D1 b x n)) r6⟩,
  ⟨Rect.unit ![5, 0] ![1, 128] inb_S8x128_S1x128_5_0, k0_pay68 (k0_pay61 (G1 b x) (V1 b x) (E1 b x n) (D1 b x n)) r5⟩,
  ⟨Rect.unit ![4, 0] ![1, 128] inb_S8x128_S1x128_4_0, k0_pay66 (G1 b x) (V1 b x) (E1 b x n) (D1 b x n) r4⟩,
  ⟨Rect.unit ![3, 0] ![1, 128] inb_S8x128_S1x128_3_0, k0_pay40 (k0_pay27 (G0 b x) (V0 b x) (P0 b x n) (PS0 b x n) 𝟘) r3⟩,
  ⟨Rect.unit ![2, 0] ![1, 128] inb_S8x128_S1x128_2_0, k0_pay38 (k0_pay27 (G0 b x) (V0 b x) (P0 b x n) (PS0 b x n) 𝟘) r2⟩,
  ⟨Rect.unit ![1, 0] ![1, 128] inb_S8x128_S1x128_1_0, k0_pay36 (k0_pay34 r1) (k0_pay35 (G0 b x) (V0 b x) (P0 b x n) (PS0 b x n) 𝟘)⟩,
  ⟨Rect.unit ![0, 0] ![1, 128] inb_S8x128_S1x128_0_0, k0_pay32 (G0 b x) (V0 b x) (P0 b x n) (PS0 b x n) 𝟘 r0⟩]

section B
variable (hc0 : ¬isFirst i) (hc1 : works i) (hc2 : ¬isLast i) (x8 : Vec Ideal S8x128 .f32) (s : Vec Ideal S128x256 .f32)

theorem dq_B : (runB c i b hc0 hc1 hc2 x x8 s).1.dq = dqPieces b x (BitVec.ofNat 32 (i 0).val) := by
  unfold runB; rfl
theorem car_B : (runB c i b hc0 hc1 hc2 x x8 s).1.car = carPieces b x (BitVec.ofNat 32 (i 0).val) := by
  unfold runB; rfl

abbrev ldCar (o : ℕ) (inb : ∀ a, (![0, o] : Fin 2 → ℕ) a + S128x64.size a ≤ S128x256.size a) : Vec Ideal S128x64 .f32 :=
  View.readAt (Elt Ideal) b.a10.view (Rect.unit (s := S128x256) ![0, o] S128x64.size inb).toLoadRect (b.h10.unread s)
abbrev ldSnk (o : ℕ) (inb : ∀ a, (![o, 0] : Fin 2 → ℕ) a + S1x128.size a ≤ S8x128.size a) : Vec Ideal S1x128 .f32 :=
  View.readAt (Elt Ideal) b.a9.view (Rect.unit (s := S8x128) ![o, 0] S1x128.size inb).toLoadRect (b.h9.unread x8)

theorem dkv_B : (runB c i b hc0 hc1 hc2 x x8 s).1.dkv = dkvPieces b x (BitVec.ofNat 32 (i 0).val)
    (ldCar b s 0 inb_S128x256_S128x64_0_0) (ldCar b s 64 inb_S128x256_S128x64_0_64) (ldCar b s 128 inb_S128x256_S128x64_0_128) (ldCar b s 192 inb_S128x256_S128x64_0_192) := by
  unfold runB; rfl

theorem dsk_B : (runB c i b hc0 hc1 hc2 x x8 s).1.dsk = dskPieces b x (BitVec.ofNat 32 (i 0).val)
    (ldSnk b x8 0 inb_S8x128_S1x128_0_0) (ldSnk b x8 1 inb_S8x128_S1x128_1_0) (ldSnk b x8 2 inb_S8x128_S1x128_2_0) (ldSnk b x8 3 inb_S8x128_S1x128_3_0)
    (ldSnk b x8 4 inb_S8x128_S1x128_4_0) (ldSnk b x8 5 inb_S8x128_S1x128_5_0) (ldSnk b x8 6 inb_S8x128_S1x128_6_0) (ldSnk b x8 7 inb_S8x128_S1x128_7_0) := by
  unfold runB; rfl
end B

section A
variable (hc0 : isFirst i) (hc1 : works i) (hc2 : ¬isLast i)

theorem dq_A : (runA c i b hc0 hc1 hc2 x).1.dq = dqPieces b x (BitVec.ofNat 32 (i 0).val) := by
  unfold runA; rfl
theorem car_A : (runA c i b hc0 hc1 hc2 x).1.car
    = carPieces b x (BitVec.ofNat 32 (i 0).val) ++ [⟨Rect.unit ![0, 0] ![128, 256] inb_S128x256_S128x256_0_0, k0_pay2 (F := Ideal)⟩] := by
  unfold runA; rfl

/-- What a row of the sinks' sums holds when the first point comes to it: the zero it was cleared to. -/
def clr (L : List (View.Piece (Elt Ideal) S8x128 .f32)) (o : ℕ) (inb : ∀ a, (![o, 0] : Fin 2 → ℕ) a + S1x128.size a ≤ S8x128.size a) : Vec Ideal S1x128 .f32 :=
  b.a9.view.readCov L (Rect.unit (s := S8x128) ![o, 0] S1x128.size inb).toLoadRect

theorem dsk_A : (runA c i b hc0 hc1 hc2 x).1.dsk = dskPieces b x (BitVec.ofNat 32 (i 0).val)
    (clr b runA.sl.H8_1 0 inb_S8x128_S1x128_0_0) (clr b (runA.sl.H8_2 c i b x) 1 inb_S8x128_S1x128_1_0)
    (clr b (runA.sl.H8_3 c i b x) 2 inb_S8x128_S1x128_2_0) (clr b (runA.sl.H8_4 c i b x) 3 inb_S8x128_S1x128_3_0)
    (clr b (runA.sl.H8_5 c i b x) 4 inb_S8x128_S1x128_4_0) (clr b (runA.sl.H8_6 c i b x) 5 inb_S8x128_S1x128_5_0)
    (clr b (runA.sl.H8_7 c i b x) 6 inb_S8x128_S1x128_6_0) (clr b (runA.sl.H8_8 c i b x) 7 inb_S8x128_S1x128_7_0)
    ++ [⟨Rect.unit ![0, 0] ![8, 128] inb_S8x128_S8x128_0_0, k0_pay1 (F := Ideal)⟩] := by
  unfold runA; rfl
end A

section C
variable (hc0 : ¬isFirst i) (hc1 : ¬works i) (hc2 : isLast i) (s : Vec Ideal S128x256 .f32)

theorem dkv_C : (runC c i b hc0 hc1 hc2 x s).1.dkv = [⟨Rect.unit ![0, 0] ![128, 256] inb_S128x256_S128x256_0_0,
    k0_pay7 (View.readAt (Elt Ideal) b.a10.view (Rect.unit (s := S128x256) ![0, 0] ![128, 256] inb_S128x256_S128x256_0_0).toLoadRect (b.h10.unread s))⟩] := by
  unfold runC; rfl
end C

/-! ### Every store's rectangle, and together all of the output -/

theorem dq_cover (n : BitVec 32) (y : S128x512.Idx) : ∃ p ∈ dqPieces b x n, y ∈ p.1.set :=
  View.cover_of_tiledL (dqPieces b x n) S128x64.size (by sl_kernel_rfl) y
theorem car_cover (n : BitVec 32) (y : S128x256.Idx) : ∃ p ∈ carPieces b x n, y ∈ p.1.set :=
  View.cover_of_tiledL (carPieces b x n) S128x64.size (by sl_kernel_rfl) y
theorem dkv_cover (n : BitVec 32) (s0 s1 s2 s3) (y : S128x256.Idx) : ∃ p ∈ dkvPieces b x n s0 s1 s2 s3, y ∈ p.1.set :=
  View.cover_of_tiledL (dkvPieces b x n s0 s1 s2 s3) S128x64.size (by sl_kernel_rfl) y
theorem dsk_cover (n : BitVec 32) (r0 r1 r2 r3 r4 r5 r6 r7) (y : S8x128.Idx) : ∃ p ∈ dskPieces b x n r0 r1 r2 r3 r4 r5 r6 r7, y ∈ p.1.set :=
  View.cover_of_tiledBy (dskPieces b x n r0 r1 r2 r3 r4 r5 r6 r7) ![1, 128] (by sl_kernel_rfl) y
end Pieces

/-- Pieces that agree with one function and cover an index leave that function's value there, whatever was written before. -/
theorem canon_over {S : Shape} {e : EltTy} (G : S.Idx → Elt Ideal e) (L₀ : List (View.Piece (Elt Ideal) S e)) :
    ∀ (L : List (View.Piece (Elt Ideal) S e)) (_ : ∀ p ∈ L, ∀ x : p.1.shape.Idx, p.2 x = G (p.1.emb x)) (y : S.Idx)
      (_ : ∃ p ∈ L, y ∈ p.1.set), View.canon (L ++ L₀) y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_over G L₀ L (fun q hq => hL q (by simp [hq])) y ?_
      obtain ⟨q, hq, hy⟩ := hy
      rcases List.mem_cons.mp hq with rfl | hq
      · exact absurd hy hm
      · exact ⟨q, hq, hy⟩

section Values
variable (b : Bufs) (x : Ins Ideal) (X : RIns) (h : InsReal x X) (n : ℕ) (hn : n < 33)

/-- The queries' gradient by its coordinates. -/
def dqG : S128x512.Idx → EReal := fun y => ((row X n ((y 1).val / 64) (y 0).val).dq ((y 1).val % 64) : EReal)
/-- The carried half by its coordinates. -/
def carG : S128x256.Idx → EReal := fun y => (dkvAt X n (128 + (y 0).val) (y 1).val : EReal)

theorem dqG_at (t : ℕ) (inb) (r : Fin 128) (d : Fin 64) :
    dqG X n ((Rect.unit (s := S128x512) ![0, 64 * t] ![128, 64] inb).emb (ix2 r d)) = ((row X n t r.val).dq d.val : EReal) := by
  have := d.isLt
  unfold dqG
  show ((row X n ((64 * t + 1 * d.val) / 64) (0 + 1 * r.val)).dq ((64 * t + 1 * d.val) % 64) : EReal) = _
  rw [show (64 * t + 1 * d.val) / 64 = t by omega, show 0 + 1 * r.val = r.val by omega, show (64 * t + 1 * d.val) % 64 = d.val by omega]

theorem carG_k (j : ℕ) (hj : j < 2) (inb) (r : Fin 128) (d : Fin 64) :
    carG X n ((Rect.unit (s := S128x256) ![0, 64 * j] ![128, 64] inb).emb (ix2 r d)) = (dkAt X n j (128 + r.val) d.val : EReal) := by
  have := d.isLt
  unfold carG dkvAt
  show ((if 64 * j + 1 * d.val < 128 then dkAt X n ((64 * j + 1 * d.val) / 64) (128 + (0 + 1 * r.val)) ((64 * j + 1 * d.val) % 64) else _ : ℝ) : EReal) = _
  rw [if_pos (by omega), show (64 * j + 1 * d.val) / 64 = j by omega, show 0 + 1 * r.val = r.val by omega, show (64 * j + 1 * d.val) % 64 = d.val by omega]

theorem carG_v (j : ℕ) (inb) (r : Fin 128) (d : Fin 64) :
    carG X n ((Rect.unit (s := S128x256) ![0, 64 * (j + 2)] ![128, 64] inb).emb (ix2 r d)) = (dvAt X n j (128 + r.val) d.val : EReal) := by
  have := d.isLt
  unfold carG dkvAt
  show ((if 64 * (j + 2) + 1 * d.val < 128 then _ else dvAt X n ((64 * (j + 2) + 1 * d.val) / 64 - 2) (128 + (0 + 1 * r.val)) ((64 * (j + 2) + 1 * d.val) % 64) : ℝ) : EReal) = _
  rw [if_neg (by omega), show (64 * (j + 2) + 1 * d.val) / 64 - 2 = j by omega, show 0 + 1 * r.val = r.val by omega, show (64 * (j + 2) + 1 * d.val) % 64 = d.val by omega]

include h hn in
theorem dq_pieces : ∀ p ∈ dqPieces b x (BitVec.ofNat 32 n), ∀ y : p.1.shape.Idx, p.2 y = dqG X n (p.1.emb y) := by
  have B0 := blk0 b x X h n hn
  have B1 := blk1 b x X h n hn
  unfold dqPieces
  simp only [g1_dq]
  simp only [List.forall_mem_cons, List.forall_mem_nil, and_true]
  refine ⟨fun y => ?_, fun y => ?_, fun y => ?_, fun y => ?_, fun y => ?_, fun y => ?_, fun y => ?_, fun y => ?_, fun p hp => absurd hp List.not_mem_nil⟩ <;> rw [eq_ix2 y]
  · exact (dq_of B1 3 (by decide) slices_S512x64_o384_0_S128x64 _ _).trans (dqG_at X n 7 _ _ _).symm
  · exact (dq_of B1 2 (by decide) slices_S512x64_o256_0_S128x64 _ _).trans (dqG_at X n 6 _ _ _).symm
  · exact (dq_of B1 1 (by decide) slices_S512x64_o128_0_S128x64 _ _).trans (dqG_at X n 5 _ _ _).symm
  · exact (dq_of B1 0 (by decide) slices_S512x64_o0_0_S128x64 _ _).trans (dqG_at X n 4 _ _ _).symm
  · exact (dq_of B0 3 (by decide) slices_S512x64_o384_0_S128x64 _ _).trans (dqG_at X n 3 _ _ _).symm
  · exact (dq_of B0 2 (by decide) slices_S512x64_o256_0_S128x64 _ _).trans (dqG_at X n 2 _ _ _).symm
  · exact (dq_of B0 1 (by decide) slices_S512x64_o128_0_S128x64 _ _).trans (dqG_at X n 1 _ _ _).symm
  · exact (dq_of B0 0 (by decide) slices_S512x64_o0_0_S128x64 _ _).trans (dqG_at X n 0 _ _ _).symm

/-- An index of one row is its lane. -/
theorem one_row (y : S1x128.Idx) : ∃ l : Fin 128, y = ix2 (0 : Fin 1) l := by
  have e : y 0 = (0 : Fin 1) := Fin.ext (Nat.lt_one_iff.mp (y 0).isLt)
  exact ⟨y 1, (eq_ix2 y).trans (congrArg (fun z : Fin 1 => ix2 z (y 1)) e)⟩

/-- The upper half of a 256-row result. -/
theorem upper_of (y : FVec Ideal S256x64 .f32) (f : ℕ → ℕ → ℝ) (hy : ∀ (s : Fin 256) (d : Fin 64), y (ix2 s d) = (f s.val d.val : EReal))
    (hs : S256x64.Slices ![128, 0] S128x64) (r : Fin 128) (d : Fin 64) :
    shapeCast S128x64 (extractStridedSlice S128x64 ![128, 0] y hs) shapeCasts_S128x64_S128x64 (ix2 r d) = (f (128 + r.val) d.val : EReal) := by
  rw [shapeCast_self, slice256 _ _ _ (by decide), hy]

/-- What the scratch carried and the lower half of a 256-row result. -/
theorem lower_of (y : FVec Ideal S256x64 .f32) (f : ℕ → ℕ → ℝ) (hy : ∀ (s : Fin 256) (d : Fin 64), y (ix2 s d) = (f s.val d.val : EReal))
    (cr : Vec Ideal S128x64 .f32) (hs : S256x64.Slices ![0, 0] S128x64) (r : Fin 128) (d : Fin 64) :
    truncf (F := Ideal) .bf16 (addf cr (extractStridedSlice S128x64 ![0, 0] y hs)) bitsLt_bf16_f32 (ix2 r d) = cr (ix2 r d) + (f r.val d.val : EReal) := by
  refine (truncf_apply _ bitsLt_bf16_f32 _).trans ((addf_apply _ _ _).trans ?_)
  rw [slice256 _ _ _ (by decide), hy]
  simp only [Nat.zero_add]

include h hn in
theorem car_pieces : ∀ p ∈ carPieces b x (BitVec.ofNat 32 n), ∀ y : p.1.shape.Idx, p.2 y = carG X n (p.1.emb y) := by
  have B0 := blk0 b x X h n hn
  have B1 := blk1 b x X h n hn
  unfold carPieces
  simp only [g1_dk, g1_dv]
  simp only [List.forall_mem_cons]
  refine ⟨fun y => ?_, fun y => ?_, fun y => ?_, fun y => ?_, fun p hp => absurd hp List.not_mem_nil⟩ <;> rw [eq_ix2 y]
  · exact (upper_of _ _ (dv_of B1) slices_S256x64_o128_0_S128x64 _ _).trans (carG_v X n 1 _ _ _).symm
  · exact (upper_of _ _ (dk_of B1) slices_S256x64_o128_0_S128x64 _ _).trans (carG_k X n 1 (by decide) _ _ _).symm
  · exact (upper_of _ _ (dv_of B0) slices_S256x64_o128_0_S128x64 _ _).trans (carG_v X n 0 _ _ _).symm
  · exact (upper_of _ _ (dk_of B0) slices_S256x64_o128_0_S128x64 _ _).trans (carG_k X n 0 (by decide) _ _ _).symm

/-- The keys' and values' gradient by its coordinates, over what the scratch carried. -/
def dkvG (s : ℕ → ℕ → EReal) : S128x256.Idx → EReal := fun y => s (y 0).val (y 1).val + (dkvAt X n (y 0).val (y 1).val : EReal)
/-- The sinks' sums by their coordinates, over what they held. -/
def dskG (s : ℕ → ℕ → EReal) : S8x128.Idx → EReal := fun y => s (y 0).val (y 1).val + (dskAt X n (y 0).val : EReal)

theorem dkvG_k (s : ℕ → ℕ → EReal) (j : ℕ) (hj : j < 2) (inb) (r : Fin 128) (d : Fin 64) :
    dkvG X n s ((Rect.unit (s := S128x256) ![0, 64 * j] ![128, 64] inb).emb (ix2 r d)) = s r.val (64 * j + d.val) + (dkAt X n j r.val d.val : EReal) := by
  have := d.isLt
  unfold dkvG dkvAt
  show s (0 + 1 * r.val) (64 * j + 1 * d.val) + ((if 64 * j + 1 * d.val < 128 then dkAt X n ((64 * j + 1 * d.val) / 64) (0 + 1 * r.val) ((64 * j + 1 * d.val) % 64) else _ : ℝ) : EReal) = _
  rw [if_pos (by omega), show (64 * j + 1 * d.val) / 64 = j by omega, show 0 + 1 * r.val = r.val by omega, show (64 * j + 1 * d.val) % 64 = d.val by omega, Nat.one_mul]

theorem dkvG_v (s : ℕ → ℕ → EReal) (j : ℕ) (inb) (r : Fin 128) (d : Fin 64) :
    dkvG X n s ((Rect.unit (s := S128x256) ![0, 64 * (j + 2)] ![128, 64] inb).emb (ix2 r d)) = s r.val (64 * (j + 2) + d.val) + (dvAt X n j r.val d.val : EReal) := by
  have := d.isLt
  unfold dkvG dkvAt
  show s (0 + 1 * r.val) (64 * (j + 2) + 1 * d.val) + ((if 64 * (j + 2) + 1 * d.val < 128 then _ else dvAt X n ((64 * (j + 2) + 1 * d.val) / 64 - 2) (0 + 1 * r.val) ((64 * (j + 2) + 1 * d.val) % 64) : ℝ) : EReal) = _
  rw [if_neg (by omega), show (64 * (j + 2) + 1 * d.val) / 64 - 2 = j by omega, show 0 + 1 * r.val = r.val by omega, show (64 * (j + 2) + 1 * d.val) % 64 = d.val by omega, Nat.one_mul]

theorem dskG_at (s : ℕ → ℕ → EReal) (t : ℕ) (inb) (l : Fin 128) :
    dskG X n s ((Rect.unit (s := S8x128) ![t, 0] ![1, 128] inb).emb (ix2 0 l)) = s t l.val + (dskAt X n t : EReal) := by
  unfold dskG
  show s (t + 1 * 0) (0 + 1 * l.val) + (dskAt X n (t + 1 * 0) : EReal) = _
  rw [show t + 1 * 0 = t by omega, show 0 + 1 * l.val = l.val by omega]

include h hn in
theorem dkv_pieces (s : ℕ → ℕ → EReal) (s0 s1 s2 s3 : Vec Ideal S128x64 .f32)
    (h0 : ∀ (r : Fin 128) (d : Fin 64), s0 (ix2 r d) = s r.val (64 * 0 + d.val)) (h1 : ∀ (r : Fin 128) (d : Fin 64), s1 (ix2 r d) = s r.val (64 * 1 + d.val))
    (h2 : ∀ (r : Fin 128) (d : Fin 64), s2 (ix2 r d) = s r.val (64 * 2 + d.val)) (h3 : ∀ (r : Fin 128) (d : Fin 64), s3 (ix2 r d) = s r.val (64 * 3 + d.val)) :
    ∀ p ∈ dkvPieces b x (BitVec.ofNat 32 n) s0 s1 s2 s3, ∀ y : p.1.shape.Idx, p.2 y = dkvG X n s (p.1.emb y) := by
  have B0 := blk0 b x X h n hn
  have B1 := blk1 b x X h n hn
  unfold dkvPieces
  simp only [g1_dk, g1_dv]
  simp only [List.forall_mem_cons]
  refine ⟨fun y => ?_, fun y => ?_, fun y => ?_, fun y => ?_, fun p hp => absurd hp List.not_mem_nil⟩ <;> rw [eq_ix2 y]
  · exact (lower_of _ _ (dv_of B1) _ slices_S256x64_o0_0_S128x64 _ _).trans ((congrArg (· + _) (h3 _ _)).trans (dkvG_v X n s 1 _ _ _).symm)
  · exact (lower_of _ _ (dk_of B1) _ slices_S256x64_o0_0_S128x64 _ _).trans ((congrArg (· + _) (h1 _ _)).trans (dkvG_k X n s 1 (by decide) _ _ _).symm)
  · exact (lower_of _ _ (dv_of B0) _ slices_S256x64_o0_0_S128x64 _ _).trans ((congrArg (· + _) (h2 _ _)).trans (dkvG_v X n s 0 _ _ _).symm)
  · exact (lower_of _ _ (dk_of B0) _ slices_S256x64_o0_0_S128x64 _ _).trans ((congrArg (· + _) (h0 _ _)).trans (dkvG_k X n s 0 (by decide) _ _ _).symm)

include h hn in
theorem dsk_pieces (s : ℕ → ℕ → EReal) (r0 r1 r2 r3 r4 r5 r6 r7 : Vec Ideal S1x128 .f32)
    (h0 : ∀ l : Fin 128, r0 (ix2 0 l) = s 0 l.val) (h1 : ∀ l : Fin 128, r1 (ix2 0 l) = s 1 l.val)
    (h2 : ∀ l : Fin 128, r2 (ix2 0 l) = s 2 l.val) (h3 : ∀ l : Fin 128, r3 (ix2 0 l) = s 3 l.val)
    (h4 : ∀ l : Fin 128, r4 (ix2 0 l) = s 4 l.val) (h5 : ∀ l : Fin 128, r5 (ix2 0 l) = s 5 l.val)
    (h6 : ∀ l : Fin 128, r6 (ix2 0 l) = s 6 l.val) (h7 : ∀ l : Fin 128, r7 (ix2 0 l) = s 7 l.val) :
    ∀ p ∈ dskPieces b x (BitVec.ofNat 32 n) r0 r1 r2 r3 r4 r5 r6 r7, ∀ y : p.1.shape.Idx, p.2 y = dskG X n s (p.1.emb y) := by
  have B0 := blk0 b x X h n hn
  have B1 := blk1 b x X h n hn
  unfold dskPieces
  simp only [g1_ds]
  simp only [List.forall_mem_cons]
  refine ⟨fun y => ?_, fun y => ?_, fun y => ?_, fun y => ?_, fun y => ?_, fun y => ?_, fun y => ?_, fun y => ?_, fun p hp => absurd hp List.not_mem_nil⟩ <;>
    (obtain ⟨l, rfl⟩ := one_row y)
  · exact (dsk_of B1 3 (by decide) _ slices_S512x1_o384_0_S128x1 _).trans ((congrArg (· + _) (h7 _)).trans (dskG_at X n s 7 _ _).symm)
  · exact (dsk_of B1 2 (by decide) _ slices_S512x1_o256_0_S128x1 _).trans ((congrArg (· + _) (h6 _)).trans (dskG_at X n s 6 _ _).symm)
  · exact (dsk_of B1 1 (by decide) _ slices_S512x1_o128_0_S128x1 _).trans ((congrArg (· + _) (h5 _)).trans (dskG_at X n s 5 _ _).symm)
  · exact (dsk_of B1 0 (by decide) _ slices_S512x1_o0_0_S128x1 _).trans ((congrArg (· + _) (h4 _)).trans (dskG_at X n s 4 _ _).symm)
  · exact (dsk_of B0 3 (by decide) _ slices_S512x1_o384_0_S128x1 _).trans ((congrArg (· + _) (h3 _)).trans (dskG_at X n s 3 _ _).symm)
  · exact (dsk_of B0 2 (by decide) _ slices_S512x1_o256_0_S128x1 _).trans ((congrArg (· + _) (h2 _)).trans (dskG_at X n s 2 _ _).symm)
  · exact (dsk_of B0 1 (by decide) _ slices_S512x1_o128_0_S128x1 _).trans ((congrArg (· + _) (h1 _)).trans (dskG_at X n s 1 _ _).symm)
  · exact (dsk_of B0 0 (by decide) _ slices_S512x1_o0_0_S128x1 _).trans ((congrArg (· + _) (h0 _)).trans (dskG_at X n s 0 _ _).symm)
end Values

/-! ### The rows the first point clears -/

/-- From row `k` on the pieces leave zero. -/
def Clean (k : ℕ) (L : List (View.Piece (Elt Ideal) S8x128 .f32)) : Prop := ∀ y : S8x128.Idx, k ≤ (y 0).val → View.canon L y = (0 : EReal)

theorem clean_whole : Clean 0 [⟨Rect.unit ![0, 0] ![8, 128] inb_S8x128_S8x128_0_0, k0_pay1 (F := Ideal)⟩] := fun y _ => by
  have e : (Rect.unit (s := S8x128) ![0, 0] ![8, 128] inb_S8x128_S8x128_0_0).emb y = y := by
    funext a; apply Fin.ext
    match a with
    | 0 => exact (show 0 + 1 * (y 0).val = (y 0).val by omega)
    | 1 => exact (show 0 + 1 * (y 1).val = (y 1).val by omega)
  refine (congrArg _ e).symm.trans ((View.canon_cons_emb _ _ _ _).trans ?_)
  exact c_zero

theorem clean_cons (k : ℕ) (inb) (w) (L : List (View.Piece (Elt Ideal) S8x128 .f32)) (h : Clean k L) :
    Clean (k + 1) (⟨Rect.unit (s := S8x128) ![k, 0] ![1, 128] inb, w⟩ :: L) := fun y hy => by
  rw [View.canon_cons_of_not_mem _ _ (fun hm => ?_)]
  · exact h y (by omega)
  · obtain ⟨z, rfl⟩ := (Rect.unit (s := S8x128) ![k, 0] ![1, 128] inb).toLoadRect.exists_idx_of_mem hm
    have h0 : (z 0).val < 1 := (z 0).isLt
    have : k + 1 ≤ k + 1 * (z 0).val := hy
    omega

theorem clr_zero (b : Bufs) (L) (o : ℕ) (inb) (h : Clean o L) (l : Fin 128) : clr b L o inb (ix2 0 l) = (0 : EReal) := by
  unfold clr
  rw [View.readCov_eq_canon']
  exact h _ (show o ≤ o + 1 * 0 by omega)

section Cleared
variable (c : Dev nD) (i : grid0.Coords) (b : Bufs) (x : Ins Ideal)
theorem clean1 : Clean 0 (runA.sl.H8_1 (F := Ideal)) := clean_whole
theorem clean2 : Clean 1 (runA.sl.H8_2 c i b x) := clean_cons 0 _ _ _ clean1
theorem clean3 : Clean 2 (runA.sl.H8_3 c i b x) := clean_cons 1 _ _ _ (clean2 c i b x)
theorem clean4 : Clean 3 (runA.sl.H8_4 c i b x) := clean_cons 2 _ _ _ (clean3 c i b x)
theorem clean5 : Clean 4 (runA.sl.H8_5 c i b x) := clean_cons 3 _ _ _ (clean4 c i b x)
theorem clean6 : Clean 5 (runA.sl.H8_6 c i b x) := clean_cons 4 _ _ _ (clean5 c i b x)
theorem clean7 : Clean 6 (runA.sl.H8_7 c i b x) := clean_cons 5 _ _ _ (clean6 c i b x)
theorem clean8 : Clean 7 (runA.sl.H8_8 c i b x) := clean_cons 6 _ _ _ (clean7 c i b x)
end Cleared

/-! ## The three kinds of point -/

section States
variable (m : (ℓ : Loc nD τ sig) → Buf (Elt Ideal) ℓ) (c : Dev nD) (t : Fin cfg0.N) (X : RIns) (hX : InsReal (insAt m c t) X)

theorem coord_val : (grid0.coords t 0).val = t.val := by
  have := lt33 t
  revert t
  decide +kernel

include hX in
theorem stateA_dq (h : t.val = 0) : (stateA m c t h).dq = dqG X t.val := funext fun y => by
  unfold stateA State.of
  dsimp only
  rw [dq_A, coord_val]
  refine (congrArg (View.canon · y) (List.append_nil _).symm).trans (canon_over _ [] _ (dq_pieces _ _ X hX _ (lt33 t)) y (dq_cover _ _ _ y))

include hX in
theorem stateA_car (h : t.val = 0) : (stateA m c t h).car = carG X t.val := funext fun y => by
  unfold stateA State.of
  dsimp only
  rw [car_A, coord_val]
  exact canon_over _ _ _ (car_pieces _ _ X hX _ (lt33 t)) y (car_cover _ _ _ y)

include hX in
theorem stateA_dsk (h : t.val = 0) : (stateA m c t h).dsk = dskG X t.val (fun _ _ => 0) := funext fun y => by
  unfold stateA State.of
  dsimp only
  rw [dsk_A, coord_val]
  refine canon_over _ _ _ (dsk_pieces _ _ X hX _ (lt33 t) (fun _ _ => 0) _ _ _ _ _ _ _ _ ?_ ?_ ?_ ?_ ?_ ?_ ?_ ?_) y (dsk_cover _ _ _ _ _ _ _ _ _ _ _ y)
  · exact clr_zero _ _ _ _ clean1
  · exact clr_zero _ _ _ _ (clean2 _ _ _ _)
  · exact clr_zero _ _ _ _ (clean3 _ _ _ _)
  · exact clr_zero _ _ _ _ (clean4 _ _ _ _)
  · exact clr_zero _ _ _ _ (clean5 _ _ _ _)
  · exact clr_zero _ _ _ _ (clean6 _ _ _ _)
  · exact clr_zero _ _ _ _ (clean7 _ _ _ _)
  · exact clr_zero _ _ _ _ (clean8 _ _ _ _)

variable (s : State Ideal)

include hX in
theorem stateB_dq (h : t.val ≠ 0) (h' : t.val < 32) : (stateB m c t h h' s).dq = dqG X t.val := funext fun y => by
  unfold stateB State.of
  dsimp only
  rw [dq_B, coord_val]
  refine (congrArg (View.canon · y) (List.append_nil _).symm).trans (canon_over _ [] _ (dq_pieces _ _ X hX _ (lt33 t)) y (dq_cover _ _ _ y))

include hX in
theorem stateB_car (h : t.val ≠ 0) (h' : t.val < 32) : (stateB m c t h h' s).car = carG X t.val := funext fun y => by
  unfold stateB State.of
  dsimp only
  rw [car_B, coord_val]
  refine (congrArg (View.canon · y) (List.append_nil _).symm).trans (canon_over _ [] _ (car_pieces _ _ X hX _ (lt33 t)) y (car_cover _ _ _ y))

theorem ldCar_apply (b : Bufs) (v : Vec Ideal S128x256 .f32) (f : ℕ → ℕ → EReal) (hf : ∀ y, v y = f (y 0).val (y 1).val) (o : ℕ) (inb) (r : Fin 128) (d : Fin 64) :
    ldCar b v o inb (ix2 r d) = f r.val (o + d.val) :=
  (rd_real b.a10 b.h10 v f (fun r c => hf (ix2 r c)) 0 o inb r d).trans (by simp only [Nat.zero_add])
theorem ldSnk_apply (b : Bufs) (v : Vec Ideal S8x128 .f32) (f : ℕ → ℕ → EReal) (hf : ∀ y, v y = f (y 0).val (y 1).val) (o : ℕ) (inb) (l : Fin 128) :
    ldSnk b v o inb (ix2 0 l) = f o l.val :=
  (rd_real b.a9 b.h9 v f (fun r c => hf (ix2 r c)) o 0 inb (0 : Fin 1) l).trans (by simp)

include hX in
theorem stateB_dkv (h : t.val ≠ 0) (h' : t.val < 32) (f : ℕ → ℕ → EReal) (hf : ∀ y, s.car y = f (y 0).val (y 1).val) :
    (stateB m c t h h' s).dkv = dkvG X t.val f := funext fun y => by
  unfold stateB State.of
  dsimp only
  rw [dkv_B, coord_val]
  refine (congrArg (View.canon · y) (List.append_nil _).symm).trans (canon_over _ [] _
    (dkv_pieces _ _ X hX _ (lt33 t) f _ _ _ _ ?_ ?_ ?_ ?_) y (dkv_cover _ _ _ _ _ _ _ y))
  all_goals exact fun r d => ldCar_apply _ _ f hf _ _ r d

include hX in
theorem stateB_dsk (h : t.val ≠ 0) (h' : t.val < 32) (f : ℕ → ℕ → EReal) (hf : ∀ y, s.dsk y = f (y 0).val (y 1).val) :
    (stateB m c t h h' s).dsk = dskG X t.val f := funext fun y => by
  unfold stateB State.of
  dsimp only
  rw [dsk_B, coord_val]
  refine (congrArg (View.canon · y) (List.append_nil _).symm).trans (canon_over _ [] _
    (dsk_pieces _ _ X hX _ (lt33 t) f _ _ _ _ _ _ _ _ ?_ ?_ ?_ ?_ ?_ ?_ ?_ ?_) y (dsk_cover _ _ _ _ _ _ _ _ _ _ _ y))
  all_goals exact fun l => ldSnk_apply _ _ f hf _ _ l

theorem stateC_dkv (h : ¬ t.val < 32) : (stateC m c t h s).dkv = s.car := funext fun y => by
  unfold stateC
  dsimp only
  rw [dkv_C]
  have e : (Rect.unit (s := S128x256) ![0, 0] ![128, 256] inb_S128x256_S128x256_0_0).emb y = y := by
    funext a; apply Fin.ext
    match a with
    | 0 => exact (show 0 + 1 * (y 0).val = (y 0).val by omega)
    | 1 => exact (show 0 + 1 * (y 1).val = (y 1).val by omega)
  refine (congrArg _ e).symm.trans ((View.canon_cons_emb _ _ _ _).trans ?_)
  refine (truncf_apply _ bitsLt_bf16_f32 _).trans ?_
  rw [View.readAt_eq_ld, Memref.IsWhole.read_unread]
  exact congrArg s.car e
end States

end Cert.KernelIdeal.Hand
-- ==== Proof.AttnHost.lean ====
/- The table of biases that the host makes before the kernel runs, at an index. -/
module

public import proofs.«01_k».proof.Proof.AttnGroup
public import proofs.«01_k».proof.Proof.AttnFrame
import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.ShloMosaic.StableHlo
open Attn

/-! ## The slopes and the biases -/

/-- The constant of the slopes: the single precision number nearest to the logarithm of two. -/
def ln2 : ℝ := 11629080 / 16777216
/-- The slope of head `h`. -/
def slope (h : ℕ) : ℝ := Real.exp (ln2 * (-((h : ℝ) + 1)))
/-- The bias of head `h` between row `r` of a block and key `s` of its band. -/
def biasR (h r s : ℕ) : ℝ := -slope h * ((r : ℝ) + 128 - s)

theorem c_ln2 : Ideal.ofBits .f32 0x3F317218#32 = (ln2 : EReal) := by
  simp [Ideal.ofBits, Ideal.ieee, ln2]
  rw [← EReal.coe_mul]; norm_num

/-! ## The words -/

/-- The distance's word. -/
def distW (r s : ℕ) : BitVec 32 := IntOp.subi (IntOp.addi (IntOp.andi (BitVec.ofNat 32 r) 127#32) 128#32) (BitVec.ofNat 32 s)
/-- The word of the head's number, one up. -/
def headW (k r : ℕ) : BitVec 32 := IntOp.addi (IntOp.addi (IntOp.muli (4#32) (BitVec.ofNat 32 k)) (IntOp.shrsi .host (BitVec.ofNat 32 r) 7#32)) 1#32

theorem and_127 : ∀ r : Fin 512, IntOp.andi (BitVec.ofNat 32 r.val) 127#32 = BitVec.ofNat 32 (r.val % 128) := by decide +kernel
theorem head_int : ∀ (k : Fin 2) (r : Fin 512), (headW k.val r.val).toInt = ((4 * k.val + r.val / 128 + 1 : ℕ) : ℤ) := by decide +kernel
theorem dist_facts : ∀ (a : Fin 128) (s : Fin 256),
    (IntOp.subi (IntOp.addi (BitVec.ofNat 32 a.val) 128#32) (BitVec.ofNat 32 s.val)).toInt = (a.val : ℤ) + 128 - s.val
      ∧ IntOp.andi (IntOp.cmpi .sge (IntOp.subi (IntOp.addi (BitVec.ofNat 32 a.val) 128#32) (BitVec.ofNat 32 s.val)) 0#32)
          (IntOp.cmpi .slt (IntOp.subi (IntOp.addi (BitVec.ofNat 32 a.val) 128#32) (BitVec.ofNat 32 s.val)) 128#32)
        = if a.val < s.val ∧ s.val ≤ a.val + 128 then 1#1 else 0#1 := by decide +kernel

theorem dist_int (r : Fin 512) (s : Fin 256) : (distW r.val s.val).toInt = ((r.val % 128 : ℕ) : ℤ) + 128 - s.val := by
  unfold distW
  rw [and_127]
  exact (dist_facts ⟨r.val % 128, Nat.mod_lt _ (by decide)⟩ s).1
theorem dist_band (r : Fin 512) (s : Fin 256) :
    IntOp.andi (IntOp.cmpi .sge (distW r.val s.val) 0#32) (IntOp.cmpi .slt (distW r.val s.val) 128#32)
      = if r.val % 128 < s.val ∧ s.val ≤ r.val % 128 + 128 then 1#1 else 0#1 := by
  unfold distW
  rw [and_127]
  exact (dist_facts ⟨r.val % 128, Nat.mod_lt _ (by decide)⟩ s).2

variable (m : (ℓ : Loc nD τ sig) → Buf (Elt Ideal) ℓ) (c : Dev nD)

theorem table_read (k : Fin 2) (r : Fin 512) (s : Fin 256) : (V m c main_v28 (ValueIdx.ix3 k r s) : EReal)
    = Scalar.select (IntOp.andi (IntOp.cmpi .sge (distW r.val s.val) 0#32) (IntOp.cmpi .slt (distW r.val s.val) 128#32))
        (-Ideal.exp (Ideal.ofBits .f32 0x3F317218#32 * -(((headW k.val r.val).toInt : ℝ) : EReal)) * (((distW r.val s.val).toInt : ℝ) : EReal))
        (Ideal.ofBits .f32 0xFF800000#32) := by
  unfold V
  simp only [hostOps0, hostOps0_1, List.flatten_cons, List.flatten_nil, List.append_nil, List.cons_append, List.nil_append]
  after_reads_at
  rfl

open Classical in
/-- The table: the head's bias inside the band, −∞ outside it. -/
theorem table_val (k : Fin 2) (r : Fin 512) (s : Fin 256) : (V m c main_v28 (ValueIdx.ix3 k r s) : EReal)
    = if band (r.val % 128) s.val then (biasR (4 * k.val + r.val / 128) (r.val % 128) s.val : EReal) else ⊥ := by
  rw [table_read, dist_band, head_int, dist_int, c_ln2, c_ninf]
  by_cases h : r.val % 128 < s.val ∧ s.val ≤ r.val % 128 + 128
  · rw [if_pos h, if_pos (show band _ _ from h), ValueIdx.select_one]
    unfold biasR slope
    rw [← EReal.coe_neg, ← EReal.coe_mul, Ideal.exp_coe, ← EReal.coe_neg, ← EReal.coe_mul]
    push_cast
    rfl
  · rw [if_neg h, if_neg (show ¬ band _ _ from h), ValueIdx.select_zero]

end Cert.KernelIdeal.Hand
-- ==== Proof.AttnValue.lean ====
/- What the whole run leaves in the three results, as real numbers of the three arguments. -/
module

public import proofs.«01_k».proof.Proof.AttnPoint
public import proofs.«01_k».proof.Proof.AttnHost
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.ValueIdx Idealize.ShloMosaic.TcCoe
open Idealize.ShloMosaic.Pipeline (Dat Cfg Window FramePost)
open Attn

/-! ## The arguments as numbers -/

/-- A two-axis array's entry as a real number, zero outside it. -/
def num {a b : ℕ} (v : (⟨2, ![a, b]⟩ : Shape).Idx → EReal) (r c : ℕ) : ℝ :=
  if h : r < a ∧ c < b then (v (ix2 ⟨r, h.1⟩ ⟨c, h.2⟩)).toReal else 0

/-- Every entry is a real number. -/
def AllReal {s : Shape} (v : s.Idx → EReal) : Prop := ∀ i, v i ≠ ⊤ ∧ v i ≠ ⊥

theorem num_coe {a b : ℕ} (v : (⟨2, ![a, b]⟩ : Shape).Idx → EReal) (hv : AllReal v) (i : (⟨2, ![a, b]⟩ : Shape).Idx) :
    v i = (num v (i 0).val (i 1).val : EReal) := by
  have h : (i 0).val < a ∧ (i 1).val < b := ⟨(i 0).isLt, (i 1).isLt⟩
  unfold num
  rw [dif_pos h, EReal.coe_toReal ((hv _).1) ((hv _).2)]
  exact congrArg v (eq_ix2 i)

/-- What point `n` reads of the projected rows `A`, the output's gradient `G` and the sinks `S`. -/
def ptR (A G : ℕ → ℕ → ℝ) (S : ℕ → ℝ) (n : ℕ) : RIns where
  q r c := A (128 * n + r) c
  g r c := G (128 * n + r) c
  kv0 r c := A (128 * (n - 1) + r) (512 + c)
  kv1 r c := A (128 * n + r) (512 + c)
  bias := biasR
  snk := S

/-! ## Where the windows' blocks lie -/

theorem e0 : ∀ t : Fin cfg0.N, win0_0.index t = ![0, 0] := (by decide +kernel : ∀ t : Fin grid0.N, win0_0.index t = ![0, 0])
theorem e1 : ∀ t : Fin cfg0.N, win0_1.index t = ![0, 0, 0] := (by decide +kernel : ∀ t : Fin grid0.N, win0_1.index t = ![0, 0, 0])
theorem e2 : ∀ t : Fin cfg0.N, win0_2.index t = ![min t.val 31, 0] := (by decide +kernel : ∀ t : Fin grid0.N, win0_2.index t = ![min t.val 31, 0])
theorem e3 : ∀ t : Fin cfg0.N, win0_3.index t = ![t.val - 1, 2] := (by decide +kernel : ∀ t : Fin grid0.N, win0_3.index t = ![t.val - 1, 2])
theorem e4 : ∀ t : Fin cfg0.N, win0_4.index t = ![min t.val 31, 2] := (by decide +kernel : ∀ t : Fin grid0.N, win0_4.index t = ![min t.val 31, 2])
theorem e5 : ∀ t : Fin cfg0.N, win0_5.index t = ![min t.val 31, 0] := (by decide +kernel : ∀ t : Fin grid0.N, win0_5.index t = ![min t.val 31, 0])
theorem e6 : ∀ t : Fin cfg0.N, win0_6.index t = ![min t.val 31, 0] := (by decide +kernel : ∀ t : Fin grid0.N, win0_6.index t = ![min t.val 31, 0])
theorem e7 : ∀ t : Fin cfg0.N, win0_7.index t = ![t.val - 1, 0] := (by decide +kernel : ∀ t : Fin grid0.N, win0_7.index t = ![t.val - 1, 0])
theorem f6 : ∀ t : Fin cfg0.N, (cfg0.win 6).flush t = true → t.val ≠ 31 := (by decide +kernel : ∀ t : Fin grid0.N, (cfg0.win 6).flush t = true → t.val ≠ 31)
theorem f7 : ∀ t : Fin cfg0.N, (cfg0.win 7).flush t = true → t.val ≠ 0 := (by decide +kernel : ∀ t : Fin grid0.N, (cfg0.win 7).flush t = true → t.val ≠ 0)

variable (m : (ℓ : Loc nD τ sig) → Buf (Elt Ideal) ℓ) (c : Dev nD)

/-- The projected rows, the output's gradient and the sinks on core `c`. -/
def rowsA : ℕ → ℕ → ℝ := num (a := 4096) (b := 768) (m ((c : Thread nD τ).loc main_arg1))
def rowsG : ℕ → ℕ → ℝ := num (a := 4096) (b := 512) (m ((c : Thread nD τ).loc main_arg2))
def sinks (h : ℕ) : ℝ := num (a := 1) (b := 8) (m ((c : Thread nD τ).loc main_arg0)) 0 h

variable (r0 : AllReal (s := S1x8) (m ((c : Thread nD τ).loc main_arg0)))
  (r1 : AllReal (s := S4096x768) (m ((c : Thread nD τ).loc main_arg1)))
  (r2 : AllReal (s := S4096x512) (m ((c : Thread nD τ).loc main_arg2)))

/-- Point `t` of core `c` in numbers. -/
abbrev ptAt (n : ℕ) : RIns := ptR (rowsA m c) (rowsG m c) (sinks m c) n

include r0 in
theorem in0 (t : Fin cfg0.N) (h : Fin 8) : iblk m c 0 t (ix2 0 h) = (sinks m c h.val : EReal) := by
  blk_simp [iblk]
  rw [show V m c main_arg0 = m ((c : Thread nD τ).loc main_arg0) from V_main_arg0 m c]
  refine (num_coe (a := 1) (b := 8) _ r0 _).trans ?_
  unfold sinks
  blk_simp [e0]

theorem in1 (t : Fin cfg0.N) (k : Fin 2) (r : Fin 512) (s : Fin 256) : iblk m c 1 t (ix3 k r s) = V m c main_v28 (ix3 k r s) := by
  blk_simp [iblk]
  congr 1
  funext a; apply Fin.ext
  match a with
  | 0 => blk_simp [e1]
  | 1 => blk_simp [e1]
  | 2 => blk_simp [e1]

include r1 in
theorem in2 (t : Fin cfg0.N) (h : t.val < 32) (r : Fin 128) (d : Fin 512) : (insAt m c t).x2 (ix2 r d) = ((ptAt m c t.val).q r.val d.val : EReal) := by
  show X0_2 m c t (ix2 r d) = _
  unfold X0_2 Pipeline.Window.fill
  rw [dif_pos (moved0_2 t _)]
  blk_simp [iblk]
  rw [show V m c main_arg1 = m ((c : Thread nD τ).loc main_arg1) from V_main_arg1 m c]
  refine (num_coe (a := 4096) (b := 768) _ r1 _).trans ?_
  blk_simp [e2]
  rw [show min t.val 31 = t.val by omega]
  show ((rowsA m c (t.val * 128 + r.val) d.val : ℝ) : EReal) = (rowsA m c (128 * t.val + r.val) d.val : ℝ)
  rw [Nat.mul_comm]
include r1 in
theorem in3 (t : Fin cfg0.N) (r : Fin 128) (d : Fin 256) : (insAt m c t).x3 (ix2 r d) = ((ptAt m c t.val).kv0 r.val d.val : EReal) := by
  show iblk m c 3 t (ix2 r d) = _
  blk_simp [iblk]
  rw [show V m c main_arg1 = m ((c : Thread nD τ).loc main_arg1) from V_main_arg1 m c]
  refine (num_coe (a := 4096) (b := 768) _ r1 _).trans ?_
  blk_simp [e3]
  show ((rowsA m c ((t.val - 1) * 128 + r.val) (2 * 256 + d.val) : ℝ) : EReal) = (rowsA m c (128 * (t.val - 1) + r.val) (512 + d.val) : ℝ)
  rw [Nat.mul_comm]
include r1 in
theorem in4 (t : Fin cfg0.N) (h : t.val < 32) (r : Fin 128) (d : Fin 256) : (insAt m c t).x4 (ix2 r d) = ((ptAt m c t.val).kv1 r.val d.val : EReal) := by
  show iblk m c 4 t (ix2 r d) = _
  blk_simp [iblk]
  rw [show V m c main_arg1 = m ((c : Thread nD τ).loc main_arg1) from V_main_arg1 m c]
  refine (num_coe (a := 4096) (b := 768) _ r1 _).trans ?_
  blk_simp [e4]
  rw [show min t.val 31 = t.val by omega]
  show ((rowsA m c (t.val * 128 + r.val) (2 * 256 + d.val) : ℝ) : EReal) = (rowsA m c (128 * t.val + r.val) (512 + d.val) : ℝ)
  rw [Nat.mul_comm]
include r2 in
theorem in5 (t : Fin cfg0.N) (h : t.val < 32) (r : Fin 128) (d : Fin 512) : (insAt m c t).x5 (ix2 r d) = ((ptAt m c t.val).g r.val d.val : EReal) := by
  show iblk m c 5 t (ix2 r d) = _
  blk_simp [iblk]
  rw [show V m c main_arg2 = m ((c : Thread nD τ).loc main_arg2) from V_main_arg2 m c]
  refine (num_coe (a := 4096) (b := 512) _ r2 _).trans ?_
  blk_simp [e5]
  rw [show min t.val 31 = t.val by omega]
  show ((rowsG m c (t.val * 128 + r.val) d.val : ℝ) : EReal) = (rowsG m c (128 * t.val + r.val) d.val : ℝ)
  rw [Nat.mul_comm]

include r0 r1 r2 in
theorem ins_real (t : Fin cfg0.N) (h : t.val < 32) : InsReal (insAt m c t) (ptAt m c t.val) where
  h0 := in0 m c r0 t
  h1 k r s := (in1 m c t k r s).trans (table_val m c k r s)
  h2 := in2 m c r1 t h
  h3 := in3 m c r1 t
  h4 := in4 m c r1 t h
  h5 := in5 m c r2 t h

/-! ## What the outputs and the scratch hold after each point -/

include r0 r1 r2

theorem st_car (n : ℕ) (hn : n < cfg0.N) (h : n < 32) : (stateAt m c n hn).car = carG (ptAt m c n) n := by
  by_cases h0 : n = 0
  · exact (congrArg State.car (stateAt_A m c ⟨n, hn⟩ h0)).trans (stateA_car m c ⟨n, hn⟩ _ (ins_real m c r0 r1 r2 _ h) h0)
  · exact (congrArg State.car (stateAt_B m c ⟨n, hn⟩ h0 h)).trans (stateB_car m c ⟨n, hn⟩ _ (ins_real m c r0 r1 r2 _ h) _ h0 h)

theorem st_dq (n : ℕ) (hn : n < cfg0.N) (h : n < 32) : (stateAt m c n hn).dq = dqG (ptAt m c n) n := by
  by_cases h0 : n = 0
  · exact (congrArg State.dq (stateAt_A m c ⟨n, hn⟩ h0)).trans (stateA_dq m c ⟨n, hn⟩ _ (ins_real m c r0 r1 r2 _ h) h0)
  · exact (congrArg State.dq (stateAt_B m c ⟨n, hn⟩ h0 h)).trans (stateB_dq m c ⟨n, hn⟩ _ (ins_real m c r0 r1 r2 _ h) _ h0 h)

theorem st_dkv (n : ℕ) (hn : n < cfg0.N) (h0 : n ≠ 0) (h : n < 32) :
    (stateAt m c n hn).dkv = dkvG (ptAt m c n) n (fun r d => (dkvAt (ptAt m c (n - 1)) (n - 1) (128 + r) d : EReal)) :=
  (congrArg State.dkv (stateAt_B m c ⟨n, hn⟩ h0 h)).trans (stateB_dkv m c ⟨n, hn⟩ _ (ins_real m c r0 r1 r2 _ h) _ h0 h _
    (fun y => congrFun (st_car m c r0 r1 r2 (n - 1) _ (by omega)) y))

theorem st_dsk (n : ℕ) (hn : n < cfg0.N) (h : n < 32) :
    (stateAt m c n hn).dsk = fun y => ((∑ i ∈ Finset.range (n + 1), dskAt (ptAt m c i) i (y 0).val : ℝ) : EReal) := by
  induction n with
  | zero =>
    refine (congrArg State.dsk (stateAt_A m c ⟨0, hn⟩ rfl)).trans ((stateA_dsk m c ⟨0, hn⟩ _ (ins_real m c r0 r1 r2 _ h) rfl).trans ?_)
    funext y
    show (0 : EReal) + (dskAt (ptAt m c 0) 0 (y 0).val : EReal) = _
    rw [zero_add, Finset.sum_range_one]
  | succ n ih =>
    refine (congrArg State.dsk (stateAt_B m c ⟨n + 1, hn⟩ (Nat.succ_ne_zero n) h)).trans ((stateB_dsk m c ⟨n + 1, hn⟩ _ (ins_real m c r0 r1 r2 _ h) _
      (Nat.succ_ne_zero n) h (fun k _ => ((∑ i ∈ Finset.range (n + 1), dskAt (ptAt m c i) i k : ℝ) : EReal))
      (fun y => congrFun (ih (by omega) (by omega)) y)).trans ?_)
    funext y
    show ((∑ i ∈ Finset.range (n + 1), dskAt (ptAt m c i) i (y 0).val : ℝ) : EReal) + (dskAt (ptAt m c (n + 1)) (n + 1) (y 0).val : EReal) = _
    rw [Finset.sum_range_succ _ (n + 1), EReal.coe_add]

omit r0 r1 r2

/-! ## The three results -/

/-- The queries' gradient. -/
def DQ (A G : ℕ → ℕ → ℝ) (S : ℕ → ℝ) (r d : ℕ) : ℝ := (row (ptR A G S (r / 128)) (r / 128) (d / 64) (r % 128)).dq (d % 64)
/-- The keys' and values' gradient: what the position's own block and, but for the last block, the block after it give. -/
def DKV (A G : ℕ → ℕ → ℝ) (S : ℕ → ℝ) (r d : ℕ) : ℝ :=
  dkvAt (ptR A G S (r / 128)) (r / 128) (128 + r % 128) d
    + if r / 128 < 31 then dkvAt (ptR A G S (r / 128 + 1)) (r / 128 + 1) (r % 128) d else 0
/-- A sink's gradient. -/
def DSK (A G : ℕ → ℕ → ℝ) (S : ℕ → ℝ) (h : ℕ) : ℝ := ∑ i ∈ Finset.range 32, dskAt (ptR A G S i) i h

/-- The three results of core `c`. -/
def outDQ : Buf (Elt Ideal) ((c : Thread nD τ).loc main_v29_0) := fun i : S4096x512.Idx => ((DQ (rowsA m c) (rowsG m c) (sinks m c) (i 0).val (i 1).val : ℝ) : EReal)
def outDKV : Buf (Elt Ideal) ((c : Thread nD τ).loc main_v29_1) := fun i : S4096x256.Idx => ((DKV (rowsA m c) (rowsG m c) (sinks m c) (i 0).val (i 1).val : ℝ) : EReal)
def outDSK : Buf (Elt Ideal) ((c : Thread nD τ).loc main_v29_2) := fun i : S8x128.Idx => ((DSK (rowsA m c) (rowsG m c) (sinks m c) (i 0).val : ℝ) : EReal)

theorem DQ_at (A G : ℕ → ℕ → ℝ) (S : ℕ → ℝ) (n r d : ℕ) (hr : r < 128) :
    DQ A G S (n * 128 + r) d = (row (ptR A G S n) n (d / 64) r).dq (d % 64) := by
  unfold DQ
  rw [show (n * 128 + r) / 128 = n by omega, show (n * 128 + r) % 128 = r by omega]
theorem DKV_at (A G : ℕ → ℕ → ℝ) (S : ℕ → ℝ) (n r d : ℕ) (hr : r < 128) :
    DKV A G S (n * 128 + r) d = dkvAt (ptR A G S n) n (128 + r) d + if n < 31 then dkvAt (ptR A G S (n + 1)) (n + 1) r d else 0 := by
  unfold DKV
  rw [show (n * 128 + r) / 128 = n by omega, show (n * 128 + r) % 128 = r by omega]

theorem emb6 (t : Fin cfg0.N) (y : S128x512.Idx) : (((win0_6.blk t).view.emb y 0 : ℕ) = min t.val 31 * 128 + (y 0).val)
    ∧ ((win0_6.blk t).view.emb y 1 : ℕ) = (y 1).val := by
  constructor
  · blk_simp [e6]
  · blk_simp [e6]
theorem emb7 (t : Fin cfg0.N) (y : S128x256.Idx) : (((win0_7.blk t).view.emb y 0 : ℕ) = (t.val - 1) * 128 + (y 0).val)
    ∧ ((win0_7.blk t).view.emb y 1 : ℕ) = (y 1).val := by
  constructor
  · blk_simp [e7]
  · blk_simp [e7]

include r0 r1 r2

theorem st_dq' (t : Fin cfg0.N) : (stateAt m c t.val t.isLt).dq = dqG (ptAt m c (min t.val 31)) (min t.val 31) := by
  have := lt33 t
  by_cases h : t.val < 32
  · rw [show min t.val 31 = t.val by omega]; exact st_dq m c r0 r1 r2 _ _ h
  · refine (congrArg State.dq (stateAt_C m c t h)).trans ?_
    have e : t.val - 1 = 31 := by omega
    rw [show min t.val 31 = 31 by omega]
    show (stateAt m c (t.val - 1) _).dq = _
    rw [st_dq m c r0 r1 r2 (t.val - 1) _ (by omega), e]

theorem final_dq : (dats m 0 c).arrAt 6 cfg0.N = outDQ m c := by
  refine (dats m 0 c).arrAt_eq_of_covers 6 _ (by decide +kernel) fun t hf y => ?_
  blk_simp
  rw [after6]
  refine (congrFun (st_dq' m c r0 r1 r2 t) y).trans ?_
  obtain ⟨a, b⟩ := emb6 t y
  unfold outDQ dqG
  dsimp only
  rw [a, b, DQ_at _ _ _ _ _ _ (y 0).isLt]

theorem final_dkv : (dats m 0 c).arrAt 7 cfg0.N = outDKV m c := by
  refine (dats m 0 c).arrAt_eq_of_covers 7 _ (by decide +kernel) fun t hf y => ?_
  blk_simp
  rw [after7]
  obtain ⟨a, b⟩ := emb7 t y
  have h0 := f7 t hf
  have := lt33 t
  unfold outDKV
  dsimp only
  rw [a, b, DKV_at _ _ _ _ _ _ (y 0).isLt]
  by_cases h : t.val < 32
  · refine (congrFun (st_dkv m c r0 r1 r2 _ _ h0 h) y).trans ?_
    rw [if_pos (by omega), show t.val - 1 + 1 = t.val by omega, EReal.coe_add]
    rfl
  · refine (congrFun (congrArg State.dkv (stateAt_C m c t h)) y).trans ?_
    rw [stateC_dkv, if_neg (by omega), add_zero, st_car m c r0 r1 r2 (t.val - 1) _ (by omega)]
    rfl

theorem st_dsk' (t : Fin cfg0.N) (h : ¬ t.val < 32) : (stateAt m c t.val t.isLt).dsk
    = fun y => ((∑ i ∈ Finset.range 32, dskAt (ptAt m c i) i (y 0).val : ℝ) : EReal) := by
  have := lt33 t
  refine (congrArg State.dsk (stateAt_C m c t h)).trans ?_
  show (stateAt m c (t.val - 1) _).dsk = _
  rw [st_dsk m c r0 r1 r2 (t.val - 1) _ (by omega), show t.val - 1 + 1 = 32 by omega]

theorem final_dsk : (dats m 0 c).arrAt 8 cfg0.N = outDSK m c := by
  refine (dats m 0 c).arrAt_eq_of_after_last 8 (⟨32, by decide⟩ : Fin cfg0.N) (by decide +kernel) _ fun j => ?_
  refine (cast_eq _ _).trans ?_
  exact (congrFun (after8 m c ⟨32, by decide⟩) _).trans (congrFun (st_dsk' m c r0 r1 r2 ⟨32, by decide⟩ (by decide)) _)

omit r0 r1 r2

/-! ## The run -/

/-- From memory whose arguments are real numbers the run ends with the three results, its arguments unchanged. -/
theorem run_value (ρ : Dev nD → PrngReg)
    (hr : ∀ c : Dev nD, AllReal (s := S1x8) (m ((c : Thread nD τ).loc main_arg0)) ∧ AllReal (s := S4096x768) (m ((c : Thread nD τ).loc main_arg1))
      ∧ AllReal (s := S4096x512) (m ((c : Thread nD τ).loc main_arg2))) :
    θ_run defs (onTc (τ := τ) (main (F := Ideal))) ⟨m, fun _ => 0, ρ⟩ fun r => ∀ c : Dev nD,
      r.2.mem ((c.tc : Thread nD τ).loc main_v29_0) = outDQ m c
      ∧ r.2.mem ((c.tc : Thread nD τ).loc main_v29_1) = outDKV m c
      ∧ r.2.mem ((c.tc : Thread nD τ).loc main_v29_2) = outDSK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨a, b, d⟩ := hr c
    obtain ⟨h, k⟩ := h
    exact ⟨(FramePost.out_eq h c 6).trans (final_dq m c a b d), (FramePost.out_eq h c 7).trans (final_dkv m c a b d),
      (FramePost.out_eq h c 8).trans (final_dsk m c a b d), k.1 c⟩) (θ_run_and (run_main m ρ) (frame m ρ))

end Cert.KernelIdeal.Hand
-- ==== Proof.RefBase.lean ====
/- The reference's arrays read at an index, as real numbers of the three arguments: the queries, the bands of keys and
   values, the mask, the slopes and the scores. -/
module

public import proofs.«01_k».proof.Proof.AttnValue
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.ValueIdx
open Attn
open Cert.KernelIdeal.Hand (num AllReal num_coe biasR ln2 c_ln2 band c_eighth c_ninf)

/-! ## What a row reads -/

/-- The keys and values of a block's band: zeros before the first block. -/
def KR (A : ℕ → ℕ → ℝ) (n s c : ℕ) : ℝ :=
  if s < 128 then (if n = 0 then 0 else A (128 * (n - 1) + s) (512 + c)) else A (128 * n + (s - 128)) (512 + c)

/-- What head `h`'s row `r` of block `n` reads in the reference. -/
def rrow (A G : ℕ → ℕ → ℝ) (S : ℕ → ℝ) (n h r : ℕ) : Row where
  q d := A (128 * n + r) (64 * h + d)
  g d := G (128 * n + r) (64 * h + d)
  k s d := KR A n s (64 * (h / 4) + d)
  v s d := KR A n s (128 + 64 * (h / 4) + d)
  ok s := band r s ∧ (0 < n ∨ 128 ≤ s)
  b s := biasR h r s
  snk := S h

/-- A flag chosen by a proposition is set when the proposition holds. -/
theorem select_if {α : Type} (p : Prop) [Decidable p] (x y : α) : Scalar.select (if p then 1#1 else 0#1) x y = if p then x else y := by
  by_cases h : p
  · rw [if_pos h, if_pos h, ValueIdx.select_one]
  · rw [if_neg h, if_neg h, ValueIdx.select_zero]

theorem c_zero32 : Ideal.ofBits .f32 0x00000000#32 = 0 := by simp [Ideal.ofBits, Ideal.ieee]

section Args
variable (x0 : (⟨S1x8, .f32⟩ : BufTy).Contents (Elt Ideal)) (x1 : (⟨S4096x768, .bf16⟩ : BufTy).Contents (Elt Ideal))
  (x2 : (⟨S4096x512, .bf16⟩ : BufTy).Contents (Elt Ideal))

/-- The arguments as numbers. -/
def nA : ℕ → ℕ → ℝ := num (a := 4096) (b := 768) x1
def nG : ℕ → ℕ → ℝ := num (a := 4096) (b := 512) x2
def nS (h : ℕ) : ℝ := num (a := 1) (b := 8) x0 0 h

variable (h0 : AllReal (s := S1x8) x0) (h1 : AllReal (s := S4096x768) x1) (h2 : AllReal (s := S4096x512) x2)

include h1 in
theorem v8_val (i : S32x128x2x4x64.Idx) : val_main_v8 (F := Ideal) x1 i
    = (nA x1 (128 * (i 0).val + (i 1).val) (64 * (4 * (i 2).val + (i 3).val) + (i 4).val) : EReal) := by
  simp only [val_main_v8_apply, val_main_v5_apply, val_main_v2_apply, val_main_v0_apply]
  refine (num_coe (a := 4096) (b := 768) x1 h1 _).trans ?_
  have b0 : (i 0).val < 32 := (i 0).isLt
  have b1 : (i 1).val < 128 := (i 1).isLt
  have b2 : (i 2).val < 2 := (i 2).isLt
  have b3 : (i 3).val < 4 := (i 3).isLt
  have b4 : (i 4).val < 64 := (i 4).isLt
  congr 1
  unfold nA
  congr 1
  · simp only [idx_main_v8, idx_main_v5, idx_main_v2]
    omega
  · simp only [idx_main_v8, idx_main_v5, idx_main_v2]
    omega

include h1 in
theorem v9_val (i : S32x128x2x64.Idx) : val_main_v9 (F := Ideal) x1 i
    = (nA x1 (128 * (i 0).val + (i 1).val) (512 + (64 * (i 2).val + (i 3).val)) : EReal) := by
  simp only [val_main_v9_apply, val_main_v6_apply, val_main_v3_apply, val_main_v0_apply]
  refine (num_coe (a := 4096) (b := 768) x1 h1 _).trans ?_
  have b0 : (i 0).val < 32 := (i 0).isLt
  have b1 : (i 1).val < 128 := (i 1).isLt
  have b2 : (i 2).val < 2 := (i 2).isLt
  have b3 : (i 3).val < 64 := (i 3).isLt
  congr 1
  unfold nA
  congr 1
  · simp only [idx_main_v9, idx_main_v6, idx_main_v3]
    omega
  · simp only [idx_main_v9, idx_main_v6, idx_main_v3]
    omega

include h1 in
theorem v15_val (i : S32x128x2x64.Idx) : val_main_v15 (F := Ideal) x1 i
    = (nA x1 (128 * (i 0).val + (i 1).val) (512 + (128 + (64 * (i 2).val + (i 3).val))) : EReal) := by
  simp only [val_main_v15_apply, val_main_v7_apply, val_main_v4_apply, val_main_v0_apply]
  refine (num_coe (a := 4096) (b := 768) x1 h1 _).trans ?_
  have b0 : (i 0).val < 32 := (i 0).isLt
  have b1 : (i 1).val < 128 := (i 1).isLt
  have b2 : (i 2).val < 2 := (i 2).isLt
  have b3 : (i 3).val < 64 := (i 3).isLt
  congr 1
  unfold nA
  congr 1
  · simp only [idx_main_v15, idx_main_v7, idx_main_v4]
    omega
  · simp only [idx_main_v15, idx_main_v7, idx_main_v4]
    omega

/-- The block before beside the block itself: zeros stand before the first block. -/
theorem band_pair (z : S1x128x2x64.Idx → EReal) (a : S31x128x2x64.Idx → EReal) (b : S32x128x2x64.Idx → EReal)
    (A : ℕ → ℕ → ℝ) (o : ℕ) (hz : ∀ i, z i = 0)
    (ha : ∀ i : S31x128x2x64.Idx, a i = (A (128 * (i 0).val + (i 1).val) (512 + (o + (64 * (i 2).val + (i 3).val))) : EReal))
    (hb : ∀ i : S32x128x2x64.Idx, b i = (A (128 * (i 0).val + (i 1).val) (512 + (o + (64 * (i 2).val + (i 3).val))) : EReal))
    (i : S32x256x2x64.Idx) :
    concatenate S32x256x2x64 1
      [⟨S32x128x2x64, concatenate S32x128x2x64 0 [⟨S1x128x2x64, z⟩, ⟨S31x128x2x64, a⟩] concatenates_S1x128x2x64_S31x128x2x64_S32x128x2x64_d0⟩,
        ⟨S32x128x2x64, b⟩] concatenates_S32x128x2x64_S32x128x2x64_S32x256x2x64_d1 i
      = (KR A (i 0).val (i 1).val (o + (64 * (i 2).val + (i 3).val)) : EReal) := by
  have b0 : (i 0).val < 32 := (i 0).isLt
  have b1 : (i 1).val < 256 := (i 1).isLt
  have b2 : (i 2).val < 2 := (i 2).isLt
  have b3 : (i 3).val < 64 := (i 3).isLt
  unfold KR
  by_cases hs : (i 1).val < 128
  · rw [if_pos hs]
    have e1 := concatenate_pair_apply_left (t := S32x256x2x64) 1
      (concatenate S32x128x2x64 0 [⟨S1x128x2x64, z⟩, ⟨S31x128x2x64, a⟩] concatenates_S1x128x2x64_S31x128x2x64_S32x128x2x64_d0) b
      concatenates_S32x128x2x64_S32x128x2x64_S32x256x2x64_d1 i rfl
      (fun k => match k with | ⟨0, _⟩ => ⟨(i 0).val, b0⟩ | ⟨1, _⟩ => ⟨(i 1).val, hs⟩ | ⟨2, _⟩ => ⟨(i 2).val, b2⟩ | ⟨3, _⟩ => ⟨(i 3).val, b3⟩)
      (fun k => by match k with | ⟨0, _⟩ => rfl | ⟨1, _⟩ => rfl | ⟨2, _⟩ => rfl | ⟨3, _⟩ => rfl)
    refine e1.trans ?_
    by_cases hn : (i 0).val = 0
    · rw [if_pos hn]
      refine (concatenate_pair_apply_left (t := S32x128x2x64) 0 z a concatenates_S1x128x2x64_S31x128x2x64_S32x128x2x64_d0 _ rfl
        (fun k => match k with | ⟨0, _⟩ => ⟨0, Nat.one_pos⟩ | ⟨1, _⟩ => ⟨(i 1).val, hs⟩ | ⟨2, _⟩ => ⟨(i 2).val, b2⟩ | ⟨3, _⟩ => ⟨(i 3).val, b3⟩)
        (fun k => by match k with | ⟨0, _⟩ => exact hn.symm | ⟨1, _⟩ => rfl | ⟨2, _⟩ => rfl | ⟨3, _⟩ => rfl)).trans (hz _)
    · rw [if_neg hn]
      refine (concatenate_pair_apply_right (t := S32x128x2x64) 0 z a concatenates_S1x128x2x64_S31x128x2x64_S32x128x2x64_d0 _ rfl rfl
        (fun k => match k with | ⟨0, _⟩ => ⟨(i 0).val - 1, by show (i 0).val - 1 < 31; omega⟩ | ⟨1, _⟩ => ⟨(i 1).val, hs⟩ | ⟨2, _⟩ => ⟨(i 2).val, b2⟩ | ⟨3, _⟩ => ⟨(i 3).val, b3⟩)
        (fun k hk => by match k with | ⟨0, _⟩ => exact absurd rfl hk | ⟨1, _⟩ => rfl | ⟨2, _⟩ => rfl | ⟨3, _⟩ => rfl)
        (by show (i 0).val - 1 + 1 = (i 0).val; omega)).trans (ha _)
  · rw [if_neg hs]
    refine (concatenate_pair_apply_right (t := S32x256x2x64) 1
      (concatenate S32x128x2x64 0 [⟨S1x128x2x64, z⟩, ⟨S31x128x2x64, a⟩] concatenates_S1x128x2x64_S31x128x2x64_S32x128x2x64_d0) b
      concatenates_S32x128x2x64_S32x128x2x64_S32x256x2x64_d1 i rfl rfl
      (fun k => match k with | ⟨0, _⟩ => ⟨(i 0).val, b0⟩ | ⟨1, _⟩ => ⟨(i 1).val - 128, by show (i 1).val - 128 < 128; omega⟩ | ⟨2, _⟩ => ⟨(i 2).val, b2⟩ | ⟨3, _⟩ => ⟨(i 3).val, b3⟩)
      (fun k hk => by match k with | ⟨0, _⟩ => rfl | ⟨1, _⟩ => exact absurd rfl hk | ⟨2, _⟩ => rfl | ⟨3, _⟩ => rfl)
      (by show (i 1).val - 128 + 128 = (i 1).val; omega)).trans (hb _)

include h1 in
theorem v14_val (i : S32x256x2x64.Idx) : val_main_v14 (F := Ideal) x1 i
    = (KR (nA x1) (i 0).val (i 1).val (64 * (i 2).val + (i 3).val) : EReal) := by
  unfold val_main_v14 val_main_v12
  refine (band_pair _ _ _ (nA x1) 0 (fun j => ?_) (fun j => ?_) (fun j => ?_) i).trans (by rw [Nat.zero_add])
  · rw [val_main_v10_apply]; exact c_zero32
  · rw [val_main_v11_apply, v9_val x1 h1, Nat.zero_add]
  · rw [v9_val x1 h1, Nat.zero_add]

include h1 in
theorem v20_val (i : S32x256x2x64.Idx) : val_main_v20 (F := Ideal) x1 i
    = (KR (nA x1) (i 0).val (i 1).val (128 + (64 * (i 2).val + (i 3).val)) : EReal) := by
  unfold val_main_v20 val_main_v18
  refine band_pair _ _ _ (nA x1) 128 (fun j => ?_) (fun j => ?_) (fun j => ?_) i
  · rw [val_main_v16_apply]; exact c_zero32
  · rw [val_main_v17_apply, v15_val x1 h1]
  · rw [v15_val x1 h1]

/-! ## The mask and the bias -/

/-- A block after the first, or a key of the block itself. -/
theorem live_facts : ∀ (n : Fin 32) (s : Fin 256),
    IntOp.ori (IntOp.cmpi .sgt (BitVec.ofNat 32 n.val) 0#32) (IntOp.cmpi .sge (BitVec.ofNat 32 s.val) 128#32)
      = if 0 < n.val ∨ 128 ≤ s.val then 1#1 else 0#1 := by decide +kernel

open Classical in
theorem v76_1_val (i : S2x4x32x128x256.Idx) : val_main_v76_1 (F := Ideal) i
    = if band (i 3).val (i 4).val ∧ (0 < (i 2).val ∨ 128 ≤ (i 4).val) then 1#1 else 0#1 := by
  have e : val_main_v76_1 (F := Ideal) i
      = IntOp.andi
        (IntOp.andi (IntOp.cmpi .sge (IntOp.subi (IntOp.addi (BitVec.ofNat 32 (i 3).val) 128#32) (BitVec.ofNat 32 (i 4).val)) 0#32)
          (IntOp.cmpi .slt (IntOp.subi (IntOp.addi (BitVec.ofNat 32 (i 3).val) 128#32) (BitVec.ofNat 32 (i 4).val)) 128#32))
        (IntOp.ori (IntOp.cmpi .sgt (BitVec.ofNat 32 (i 2).val) 0#32) (IntOp.cmpi .sge (BitVec.ofNat 32 (i 4).val) 128#32)) := by
    simp only [val_main_v76_1_apply, val_main_v72_apply, val_main_v52_apply, val_main_v50_apply, val_main_v51_apply,
      val_main_v49_apply, val_main_v48_apply, val_main_v47_apply, val_main_v46_apply, val_main_v45_apply, val_main_v44_apply,
      val_main_v43_apply, val_main_v42_apply, val_main_v41_apply, val_main_v40_apply, val_main_v39_apply, val_main_v38_apply,
      val_main_v37_apply, val_main_v36_apply, val_main_v35_apply, val_main_v34_apply, val_main_v33_apply, val_main_v32_apply,
      val_main_v31_apply, val_main_v30_apply, val_main_v29_apply, val_main_v28_apply, val_main_v27_apply, val_main_v26_apply,
      val_main_v25_apply]
    rfl
  rw [e, (Cert.KernelIdeal.Hand.dist_facts ⟨(i 3).val, (i 3).isLt⟩ ⟨(i 4).val, (i 4).isLt⟩).2,
    live_facts ⟨(i 2).val, (i 2).isLt⟩ ⟨(i 4).val, (i 4).isLt⟩]
  by_cases p : (i 3).val < (i 4).val ∧ (i 4).val ≤ (i 3).val + 128 <;>
    by_cases q : 0 < (i 2).val ∨ 128 ≤ (i 4).val
  · rw [if_pos p, if_pos q, if_pos (show band (i 3).val (i 4).val ∧ _ from ⟨p, q⟩)]; rfl
  · rw [if_pos p, if_neg q, if_neg (show ¬(band (i 3).val (i 4).val ∧ _) from fun h => q h.2)]; rfl
  · rw [if_neg p, if_pos q, if_neg (show ¬(band (i 3).val (i 4).val ∧ _) from fun h => p h.1)]; rfl
  · rw [if_neg p, if_neg q, if_neg (show ¬(band (i 3).val (i 4).val ∧ _) from fun h => p h.1)]; rfl

/-- A word that is not negative is its own absolute value. -/
theorem absi_of_nonneg (w : BitVec 32) (h : 0 ≤ w.toInt) : IntOp.absi w = w := by
  unfold IntOp.absi
  rw [if_neg]
  rw [BitVec.msb_eq_toInt]
  simpa using h

theorem c_neg8 : Ideal.ofBits .f32 0xC1000000#32 = ((-8 : ℝ) : EReal) := by
  simp [Ideal.ofBits, Ideal.ieee]; rw [← EReal.coe_mul]; norm_num
theorem c_8 : Ideal.ofBits .f32 0x41000000#32 = ((8 : ℝ) : EReal) := by
  simp [Ideal.ofBits, Ideal.ieee]; rw [← EReal.coe_mul]; norm_num
theorem c_1 : Ideal.ofBits .f32 0x3F800000#32 = ((1 : ℝ) : EReal) := by
  simp [Ideal.ofBits, Ideal.ieee]; rw [← EReal.coe_mul]; norm_num

theorem v62_val (i : S8.Idx) : val_main_v62 (F := Ideal) i = (Cert.KernelIdeal.Hand.slope (i 0).val : EReal) := by
  have hb : (i 0).val < 8 := (i 0).isLt
  have e : val_main_v62 (F := Ideal) i
      = Ideal.exp (Ideal.ofBits .f32 0x3F317218#32 * Ideal.div (Ideal.ofBits .f32 0xC1000000#32
        * (Ideal.ofBits .f32 0x3F800000#32 + (((BitVec.ofNat 32 (i 0).val).toInt : ℝ) : EReal))) (Ideal.ofBits .f32 0x41000000#32)) := by
    simp only [val_main_v62_apply, val_main_v61_apply, val_main_v60_apply, val_main_v59_apply, val_main_v58_apply, val_main_v57_apply,
      val_main_v56_apply, val_main_v55_apply, val_main_v54_apply]
    rfl
  have et : (BitVec.ofNat 32 (i 0).val).toInt = (i 0).val := by
    rw [BitVec.toInt_ofNat', Int.bmod_eq_of_le] <;> omega
  rw [e, c_ln2, c_neg8, c_1, c_8, et, ← EReal.coe_add, ← EReal.coe_mul, coe_one_div _ (by norm_num), ← EReal.coe_mul, Ideal.exp_coe]
  unfold Cert.KernelIdeal.Hand.slope
  congr 3
  push_cast
  ring

theorem v74_val (i : S2x4x32x128x256.Idx) (hb : band (i 3).val (i 4).val) : val_main_v74 (F := Ideal) i
    = (biasR (4 * (i 0).val + (i 1).val) (i 3).val (i 4).val : EReal) := by
  have b0 : (i 0).val < 2 := (i 0).isLt
  have b1 : (i 1).val < 4 := (i 1).isLt
  have hd := (Cert.KernelIdeal.Hand.dist_facts ⟨(i 3).val, (i 3).isLt⟩ ⟨(i 4).val, (i 4).isLt⟩).1
  have hn : 0 ≤ (IntOp.subi (IntOp.addi (BitVec.ofNat 32 (i 3).val) 128#32) (BitVec.ofNat 32 (i 4).val)).toInt := by
    rw [hd]; unfold band at hb; dsimp only; omega
  have e : val_main_v74 (F := Ideal) i
      = -(val_main_v63 (F := Ideal) (idx_main_v64 (idx_main_v69 (idx_main_v73 (idx_main_v74 i)))))
        * (((IntOp.absi (IntOp.subi (IntOp.addi (BitVec.ofNat 32 (i 3).val) 128#32) (BitVec.ofNat 32 (i 4).val))).toInt : ℝ) : EReal) := by
    simp only [val_main_v74_apply, val_main_v73_apply, val_main_v71_apply, val_main_v70_apply, val_main_v69_apply, val_main_v68_apply,
      val_main_v67_apply, val_main_v66_apply, val_main_v65_apply, val_main_v64_apply, val_main_v33_apply, val_main_v32_apply,
      val_main_v31_apply, val_main_v30_apply, val_main_v29_apply, val_main_v28_apply, val_main_v27_apply, val_main_v26_apply,
      val_main_v25_apply]
    rfl
  rw [e, absi_of_nonneg _ hn, hd, val_main_v63_apply, v62_val, ← EReal.coe_neg, ← EReal.coe_mul]
  unfold biasR
  congr 3
  · congr 2
    simp only [idx_main_v63, idx_main_v64, idx_main_v69, idx_main_v73, idx_main_v74]
    omega
  · push_cast; rfl

/-! ## The scores -/

/-- The row a coordinate stands in. -/
abbrev RW (k g n r : ℕ) : Row := rrow (nA x1) (nG x2) (nS x0) n (4 * k + g) r

include h1 in
theorem v24_val (i : S2x4x32x128x256.Idx) : val_main_v24 (F := Ideal) x1 i
    = (((∑ d : Fin 64, (RW x0 x1 x2 (i 0).val (i 1).val (i 2).val (i 3).val).q d.val
        * (RW x0 x1 x2 (i 0).val (i 1).val (i 2).val (i 3).val).k (i 4).val d.val) * (1 / 8) : ℝ) : EReal) := by
  have b0 : (i 0).val < 2 := (i 0).isLt
  have b1 : (i 1).val < 4 := (i 1).isLt
  rw [val_main_v24_apply, val_main_v22_apply, val_main_v21_apply, val_main_v23_apply]
  have e : ∀ d : Fin 64, val_main_v14 (F := Ideal) x1 (lidx_main_v21 (idx_main_v22 i) d) * val_main_v8 (F := Ideal) x1 (ridx_main_v21 (idx_main_v22 i) d)
      = (((RW x0 x1 x2 (i 0).val (i 1).val (i 2).val (i 3).val).q d.val
        * (RW x0 x1 x2 (i 0).val (i 1).val (i 2).val (i 3).val).k (i 4).val d.val : ℝ) : EReal) := by
    intro d
    rw [v14_val x1 h1, v8_val x1 h1, ← EReal.coe_mul, mul_comm]
    simp only [RW, rrow, idx_main_v22, lidx_main_v21, ridx_main_v21]
    rw [show (4 * (i 0).val + (i 1).val) / 4 = (i 0).val by omega]
  rw [Finset.sum_congr rfl fun d _ => e d, ← coe_sum]
  refine (congrArg (fun x : EReal => _ * x) (show _ = ((1 / 8 : ℝ) : EReal) from c_eighth)).trans ?_
  rw [← EReal.coe_mul]

include h1 in
theorem v76_val (i : S2x4x32x128x256.Idx) : val_main_v76_0 (F := Ideal) x1 i
    = (RW x0 x1 x2 (i 0).val (i 1).val (i 2).val (i 3).val).S (i 4).val := by
  rw [val_main_v76_0_apply, v76_1_val, select_if]
  unfold Row.S
  by_cases h : band (i 3).val (i 4).val ∧ (0 < (i 2).val ∨ 128 ≤ (i 4).val)
  · rw [if_pos h, if_pos (show (RW x0 x1 x2 (i 0).val (i 1).val (i 2).val (i 3).val).ok (i 4).val from h),
      val_main_v75_apply, v24_val x0 x1 x2 h1, v74_val i h.1]
    exact (EReal.coe_add _ _).symm
  · rw [if_neg h, if_neg (show ¬(RW x0 x1 x2 (i 0).val (i 1).val (i 2).val (i 3).val).ok (i 4).val from h),
      val_main_call0_v2_apply]
    exact c_ninf

end Args

end Cert.ReferenceIdeal.Hand
-- ==== Proof.RefSoft.lean ====
/- The reference's softmax and the gradient of its scores, row by row: every intermediate array as a real number of the row's
   own weights, and the two gradients that vanish (of the maximum taken out, whichever key or sink attains it). -/
module

public import proofs.«01_k».proof.Proof.RefBase
import Idealize.ShloMosaic.Lib.KernelVsHost

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.ValueIdx
open Attn
open Cert.KernelIdeal.Hand (num AllReal num_coe band c_ninf c_one c_zero c_eighth)

section Args
variable (x0 : (⟨S1x8, .f32⟩ : BufTy).Contents (Elt Ideal)) (x1 : (⟨S4096x768, .bf16⟩ : BufTy).Contents (Elt Ideal))
  (x2 : (⟨S4096x512, .bf16⟩ : BufTy).Contents (Elt Ideal))
variable (h0 : AllReal (s := S1x8) x0) (h1 : AllReal (s := S4096x768) x1) (h2 : AllReal (s := S4096x512) x2)

/-! ## The maximum -/

/-- Dropping the last, unit axis keeps the other coordinates. -/
theorem drop_unit (i : S2x4x32x128x1.Idx) : idx_main_v80 i = idx_main_v114 i := by
  have b0 : (i 0).val < 2 := (i 0).isLt
  have b1 : (i 1).val < 4 := (i 1).isLt
  have b2 : (i 2).val < 32 := (i 2).isLt
  have b3 : (i 3).val < 128 := (i 3).isLt
  have b4 : (i 4).val < 1 := (i 4).isLt
  funext a
  refine Fin.ext ?_
  match a with
  | ⟨0, _⟩ => simp only [idx_main_v80, idx_main_v114]; omega
  | ⟨1, _⟩ => simp only [idx_main_v80, idx_main_v114]; omega
  | ⟨2, _⟩ => simp only [idx_main_v80, idx_main_v114]; omega
  | ⟨3, _⟩ => simp only [idx_main_v80, idx_main_v114]; omega

/-- The row's scores. -/
abbrev scores (k g n r : ℕ) (s : Fin 256) : EReal := (RW x0 x1 x2 k g n r).S s.val

include h1 in
theorem v79_val (i : S2x4x32x128.Idx) : val_main_v79 (F := Ideal) x1 i
    = (Finset.univ : Finset (Fin 256)).fold max ⊥ (scores x0 x1 x2 (i 0).val (i 1).val (i 2).val (i 3).val) := by
  unfold val_main_v79
  refine (congrFun (hostReduce_maximumf_eq_multiReduction (F := Ideal) (φ := .f32) (val_main_v76_0 (F := Ideal) x1) 0xFF800000#32
    reducesTo_S2x4x32x128x256_S2x4x32x128_d4 h_S_ (by decide) (Or.inl rfl) rfl) i).trans ?_
  refine (Ideal.multiReduction_maximumf_single (φ := .f32) _ _ _ _ _ i).trans ?_
  refine (congrArg (fun b => (Finset.univ : Finset (Fin 256)).fold max b _) (show _ = (⊥ : EReal) from c_ninf)).trans ?_
  refine congrArg (fun f : Fin 256 → EReal => (Finset.univ : Finset (Fin 256)).fold max ⊥ f) (funext fun s => ?_)
  exact v76_val x0 x1 x2 h1 _

theorem v78_val (h0 : AllReal (s := S1x8) x0) (i : S2x4x1x1.Idx) : val_main_v78 (F := Ideal) x0 i
    = (nS x0 (4 * (i 0).val + (i 1).val) : EReal) := by
  have b0 : (i 0).val < 2 := (i 0).isLt
  have b1 : (i 1).val < 4 := (i 1).isLt
  rw [val_main_v78_apply, val_main_v77_apply, val_main_v1_apply]
  refine (num_coe (a := 1) (b := 8) x0 h0 _).trans ?_
  unfold nS
  congr 2
  simp only [idx_main_v1, idx_main_v77, idx_main_v78]
  omega

/-- The larger of a row's maximum and its sink. -/
def mu (k g n r : ℕ) : ℝ :=
  (max_real (scores x0 x1 x2 k g n r) (fun s => Row.S_lt _ s.val) (nS x0 (4 * k + g))).choose

theorem mu_spec (k g n r : ℕ) :
    max ((Finset.univ : Finset (Fin 256)).fold max ⊥ (scores x0 x1 x2 k g n r)) (nS x0 (4 * k + g) : EReal)
      = (mu x0 x1 x2 k g n r : EReal) :=
  (max_real (scores x0 x1 x2 k g n r) (fun s => Row.S_lt _ s.val) (nS x0 (4 * k + g))).choose_spec

include h0 h1 in
theorem v86_val (i : S2x4x32x128.Idx) : val_main_v86 (F := Ideal) x0 x1 i
    = (mu x0 x1 x2 (i 0).val (i 1).val (i 2).val (i 3).val : EReal) := by
  rw [val_main_v86_apply, v79_val x0 x1 x2 h1, val_main_v85_apply, v78_val x0 h0]
  exact mu_spec x0 x1 x2 _ _ _ _

/-- The factor the maximum takes out of a row's weights. -/
abbrev ee (k g n r : ℕ) : ℝ := Real.exp (-mu x0 x1 x2 k g n r)

include h0 h1 in
theorem v108_val (i : S2x4x32x128x256.Idx) : val_main_v108 (F := Ideal) x0 x1 i
    = (((RW x0 x1 x2 (i 0).val (i 1).val (i 2).val (i 3).val).w (i 4).val
        * ee x0 x1 x2 (i 0).val (i 1).val (i 2).val (i 3).val : ℝ) : EReal) := by
  rw [val_main_v108_apply, val_main_v107_apply, v76_val x0 x1 x2 h1, val_main_v106_apply, val_main_v105_apply,
    v86_val x0 x1 x2 h0 h1]
  exact Row.exp_S _ _ _

include h0 h1 in
theorem v112_val (i : S2x4x32x128.Idx) : val_main_v112 (F := Ideal) x0 x1 i
    = ((Real.exp (nS x0 (4 * (i 0).val + (i 1).val)) * ee x0 x1 x2 (i 0).val (i 1).val (i 2).val (i 3).val : ℝ) : EReal) := by
  rw [val_main_v112_apply, val_main_v111_apply, val_main_v110_apply, v78_val x0 h0, v86_val x0 x1 x2 h0 h1]
  exact exp_sink _ _

include h0 h1 in
theorem v113_val (i : S2x4x32x128.Idx) : val_main_v113 (F := Ideal) x0 x1 i
    = (((RW x0 x1 x2 (i 0).val (i 1).val (i 2).val (i 3).val).Z
        * ee x0 x1 x2 (i 0).val (i 1).val (i 2).val (i 3).val : ℝ) : EReal) := by
  rw [val_main_v113_apply, val_main_v109_apply, v112_val x0 x1 x2 h0 h1,
    Finset.sum_congr rfl fun s _ => v108_val x0 x1 x2 h0 h1 (idx_main_v109 i s)]
  refine (congrArg (fun z : EReal => (z + _) + _) (show _ = (0 : EReal) from c_zero)).trans ?_
  rw [zero_add]
  exact Row.den (RW x0 x1 x2 (i 0).val (i 1).val (i 2).val (i 3).val) _

include h0 h1 in
theorem v114_val (i : S2x4x32x128x1.Idx) : val_main_v114 (F := Ideal) x0 x1 i
    = (((RW x0 x1 x2 (i 0).val (i 1).val (i 2).val (i 3).val).Z
        * ee x0 x1 x2 (i 0).val (i 1).val (i 2).val (i 3).val : ℝ) : EReal) := by
  rw [val_main_v114_apply, v113_val x0 x1 x2 h0 h1]

include h0 h1 in
theorem v116_val (i : S2x4x32x128x256.Idx) : val_main_v116 (F := Ideal) x0 x1 i
    = ((RW x0 x1 x2 (i 0).val (i 1).val (i 2).val (i 3).val).P (i 4).val : EReal) := by
  rw [val_main_v116_apply, val_main_v115_apply, v108_val x0 x1 x2 h0 h1, v114_val x0 x1 x2 h0 h1]
  refine (coe_one_div _ (Row.Z_ne _ _)).trans ?_
  congr 1
  exact mul_div_mul_right _ _ (Real.exp_pos _).ne'

/-! ## The gradient of the weights -/

include h1 h2 in
theorem v127_val (i : S2x4x32x128x256.Idx) : val_main_v127 (F := Ideal) x1 x2 i
    = ((RW x0 x1 x2 (i 0).val (i 1).val (i 2).val (i 3).val).dp (i 4).val : EReal) := by
  have b0 : (i 0).val < 2 := (i 0).isLt
  have b1 : (i 1).val < 4 := (i 1).isLt
  have b2 : (i 2).val < 32 := (i 2).isLt
  have b3 : (i 3).val < 128 := (i 3).isLt
  rw [val_main_v127_apply, val_main_v126_apply]
  unfold Row.dp
  rw [coe_sum]
  refine Finset.sum_congr rfl fun d _ => ?_
  have bd : d.val < 64 := d.isLt
  rw [v20_val x1 h1, val_main_v125_apply, val_main_v124_apply, val_main_v123_apply, EReal.coe_mul]
  refine congrArg₂ (fun x y : EReal => x * y) ?_ ?_
  · refine (num_coe (a := 4096) (b := 512) x2 h2 _).trans ?_
    congr 1
    simp only [RW, rrow, nG]
    congr 1
    · omega
    · omega
  · simp only [RW, rrow, ridx_main_v126, idx_main_v127]
    rw [show (4 * (i 0).val + (i 1).val) / 4 = (i 0).val by omega, Nat.add_assoc]

include h0 h1 h2 in
theorem v133_val (i : S2x4x32x128.Idx) : val_main_v133 (F := Ideal) x0 x1 x2 i
    = (((RW x0 x1 x2 (i 0).val (i 1).val (i 2).val (i 3).val).dl
        / ((RW x0 x1 x2 (i 0).val (i 1).val (i 2).val (i 3).val).Z * ee x0 x1 x2 (i 0).val (i 1).val (i 2).val (i 3).val) : ℝ) : EReal) := by
  set R := RW x0 x1 x2 (i 0).val (i 1).val (i 2).val (i 3).val with hR
  set e := ee x0 x1 x2 (i 0).val (i 1).val (i 2).val (i 3).val with he
  have hZ : R.Z ≠ 0 := R.Z_pos.ne'
  have he0 : e ≠ 0 := (Real.exp_pos _).ne'
  have t : ∀ s : Fin 256, val_main_v132 (F := Ideal) x0 x1 x2 (idx_main_v133 i s)
      = ((R.P s.val * R.dp s.val / (R.Z * e) : ℝ) : EReal) := by
    intro s
    rw [val_main_v132_apply, val_main_v131_apply, val_main_v130_apply, val_main_v119_apply, val_main_v117_apply,
      val_main_v118_apply, v108_val x0 x1 x2 h0 h1, v114_val x0 x1 x2 h0 h1, v127_val x0 x1 x2 h1 h2]
    refine (show _ = ((R.dp s.val : ℝ) : EReal) * Ideal.div (Ideal.ofBits .f32 0x3F800000#32)
      (((R.Z * e : ℝ) : EReal) * ((R.Z * e : ℝ) : EReal)) * ((R.w s.val * e : ℝ) : EReal) from rfl).trans ?_
    rw [c_1, ← EReal.coe_mul, coe_one_div _ (mul_ne_zero (mul_ne_zero hZ he0) (mul_ne_zero hZ he0)), ← EReal.coe_mul, ← EReal.coe_mul]
    congr 1
    unfold Row.P
    field_simp
  rw [val_main_v133_apply, Finset.sum_congr rfl fun s _ => t s, ← coe_sum]
  refine (congrArg (fun z : EReal => z + _) (show _ = (0 : EReal) from c_zero)).trans ?_
  rw [zero_add]
  unfold Row.dl
  rw [Finset.sum_div]

include h0 h1 h2 in
theorem v138_val (i : S2x4x32x128.Idx) : val_main_v138 (F := Ideal) x0 x1 x2 i
    = ((-((RW x0 x1 x2 (i 0).val (i 1).val (i 2).val (i 3).val).dl
        / ((RW x0 x1 x2 (i 0).val (i 1).val (i 2).val (i 3).val).Z * ee x0 x1 x2 (i 0).val (i 1).val (i 2).val (i 3).val)) : ℝ) : EReal) := by
  rw [val_main_v138_apply, Fin.sum_univ_one, val_main_v135_apply, val_main_v134_apply,
    show idx_main_v134 (idx_main_v138 i 0) = i from (drop_unit _).trans (funext fun a => by
      match a with | ⟨0, _⟩ => rfl | ⟨1, _⟩ => rfl | ⟨2, _⟩ => rfl | ⟨3, _⟩ => rfl), v133_val x0 x1 x2 h0 h1 h2]
  refine (congrArg (fun z : EReal => z + _) (show _ = (0 : EReal) from c_zero)).trans ?_
  rw [zero_add]
  exact (EReal.coe_neg _).symm

include h0 h1 h2 in
theorem v139_val (i : S2x4x32x128.Idx) : val_main_v139 (F := Ideal) x0 x1 x2 i
    = ((-((RW x0 x1 x2 (i 0).val (i 1).val (i 2).val (i 3).val).PS
        * (RW x0 x1 x2 (i 0).val (i 1).val (i 2).val (i 3).val).dl) : ℝ) : EReal) := by
  rw [val_main_v139_apply, v138_val x0 x1 x2 h0 h1 h2, v112_val x0 x1 x2 h0 h1]
  refine (EReal.coe_mul _ _).symm.trans ?_
  congr 1
  have hZ : (RW x0 x1 x2 (i 0).val (i 1).val (i 2).val (i 3).val).Z ≠ 0 := (Row.Z_pos _).ne'
  have he0 : ee x0 x1 x2 (i 0).val (i 1).val (i 2).val (i 3).val ≠ 0 := (Real.exp_pos _).ne'
  unfold Row.PS
  rw [show nS x0 (4 * (i 0).val + (i 1).val) = (RW x0 x1 x2 (i 0).val (i 1).val (i 2).val (i 3).val).snk from rfl]
  field_simp

include h0 h1 h2 in
theorem v145_val (i : S2x4x32x128x256.Idx) : val_main_v145 (F := Ideal) x0 x1 x2 i
    = ((RW x0 x1 x2 (i 0).val (i 1).val (i 2).val (i 3).val).ds (i 4).val : EReal) := by
  rw [val_main_v145_apply, val_main_v144_apply, val_main_v143_apply, v138_val x0 x1 x2 h0 h1 h2, val_main_v137_apply,
    val_main_v136_apply, v114_val x0 x1 x2 h0 h1, v127_val x0 x1 x2 h1 h2, v108_val x0 x1 x2 h0 h1]
  set R := RW x0 x1 x2 (i 0).val (i 1).val (i 2).val (i 3).val with hR
  set e := ee x0 x1 x2 (i 0).val (i 1).val (i 2).val (i 3).val with he
  have hZ : R.Z ≠ 0 := R.Z_pos.ne'
  have he0 : e ≠ 0 := (Real.exp_pos _).ne'
  refine (show _ = (Ideal.div ((R.dp (i 4).val : ℝ) : EReal) ((R.Z * e : ℝ) : EReal) + ((-(R.dl / (R.Z * e)) : ℝ) : EReal))
    * ((R.w (i 4).val * e : ℝ) : EReal) from rfl).trans ?_
  rw [coe_one_div _ (mul_ne_zero hZ he0), ← EReal.coe_add, ← EReal.coe_mul]
  congr 1
  unfold Row.ds Row.P
  field_simp
  ring

/-! ## The gradients of the maximum vanish -/

include h0 h1 h2 in
theorem v150_val (i : S2x4x32x128.Idx) : val_main_v150 (F := Ideal) x0 x1 x2 i = (0 : EReal) := by
  set R := RW x0 x1 x2 (i 0).val (i 1).val (i 2).val (i 3).val with hR
  have t : val_main_v147 (F := Ideal) x0 x1 x2 i = ((-(R.dl * R.PS) : ℝ) : EReal) := by
    have u : ∀ s : Fin 256, val_main_v146 (F := Ideal) x0 x1 x2 (idx_main_v147 i s) = ((-R.ds s.val : ℝ) : EReal) := by
      intro s
      rw [val_main_v146_apply, v145_val x0 x1 x2 h0 h1 h2]
      exact (EReal.coe_neg _).symm
    rw [val_main_v147_apply, Finset.sum_congr rfl fun s _ => u s, ← coe_sum]
    refine (congrArg (fun z : EReal => z + _) (show _ = (0 : EReal) from c_zero)).trans ?_
    rw [zero_add, Finset.sum_neg_distrib, Row.sum_ds]
  rw [val_main_v150_apply, val_main_v142_apply, v139_val x0 x1 x2 h0 h1 h2, val_main_v149_apply, Fin.sum_univ_one,
    val_main_v148_apply, show idx_main_v148 (idx_main_v149 i 0) = i from (drop_unit _).trans (funext fun a => by
      match a with | ⟨0, _⟩ => rfl | ⟨1, _⟩ => rfl | ⟨2, _⟩ => rfl | ⟨3, _⟩ => rfl), t]
  refine (show _ = -((-(R.PS * R.dl) : ℝ) : EReal) + (Ideal.ofBits .f32 0x00000000#32 + ((-(R.dl * R.PS) : ℝ) : EReal)) from rfl).trans ?_
  rw [c_zero, zero_add, ← EReal.coe_neg, ← EReal.coe_add, ← EReal.coe_zero]
  congr 1
  ring

include x0 x2 h1 in
/-- Some key attains the row's maximum: the number of those that do is a number other than zero. -/
theorem v84_val (i : S2x4x32x128.Idx) : ∃ N : ℝ, N ≠ 0 ∧ val_main_v84 (F := Ideal) x1 i = (N : EReal) := by
  have q : ∀ s : Fin 256, val_main_v83 (F := Ideal) x1 (idx_main_v84 i s)
      = (((if scores x0 x1 x2 (i 0).val (i 1).val (i 2).val (i 3).val s
          = (Finset.univ : Finset (Fin 256)).fold max ⊥ (scores x0 x1 x2 (i 0).val (i 1).val (i 2).val (i 3).val) then 1 else 0 : ℝ)) : EReal) := by
    intro s
    rw [val_main_v83_apply, val_main_v82_apply, val_main_v81_apply, val_main_v80_apply, drop_unit, v79_val x0 x1 x2 h1,
      v76_val x0 x1 x2 h1]
    refine (show _ = (((BitVec.ofBool (decide (scores x0 x1 x2 (i 0).val (i 1).val (i 2).val (i 3).val s
      = (Finset.univ : Finset (Fin 256)).fold max ⊥ (scores x0 x1 x2 (i 0).val (i 1).val (i 2).val (i 3).val)))).toNat : ℝ) : EReal) from rfl).trans ?_
    split_ifs with h
    · rw [decide_eq_true h]; simp
    · rw [decide_eq_false h]; simp
  refine ⟨∑ s : Fin 256, (if scores x0 x1 x2 (i 0).val (i 1).val (i 2).val (i 3).val s
      = (Finset.univ : Finset (Fin 256)).fold max ⊥ (scores x0 x1 x2 (i 0).val (i 1).val (i 2).val (i 3).val) then 1 else 0 : ℝ), ?_, ?_⟩
  · obtain ⟨s, _, hs⟩ := Finset.exists_max_image (Finset.univ : Finset (Fin 256))
      (scores x0 x1 x2 (i 0).val (i 1).val (i 2).val (i 3).val) ⟨0, Finset.mem_univ _⟩
    have e : scores x0 x1 x2 (i 0).val (i 1).val (i 2).val (i 3).val s
        = (Finset.univ : Finset (Fin 256)).fold max ⊥ (scores x0 x1 x2 (i 0).val (i 1).val (i 2).val (i 3).val) :=
      le_antisymm (by rw [Finset.le_fold_max]; exact Or.inr ⟨s, Finset.mem_univ _, le_rfl⟩)
        (by rw [Finset.fold_max_le]; exact ⟨bot_le, fun t ht => hs t ht⟩)
    refine (lt_of_lt_of_le one_pos (le_trans (by rw [if_pos e]) (Finset.single_le_sum (f := fun s => if scores x0 x1 x2 (i 0).val (i 1).val (i 2).val (i 3).val s
      = (Finset.univ : Finset (Fin 256)).fold max ⊥ (scores x0 x1 x2 (i 0).val (i 1).val (i 2).val (i 3).val) then (1 : ℝ) else 0)
      (fun t _ => by dsimp only; split_ifs <;> norm_num) (Finset.mem_univ s)))).ne'
  · rw [val_main_v84_apply, Finset.sum_congr rfl fun s _ => q s, ← coe_sum]
    refine (congrArg (fun z : EReal => z + _) (show _ = (0 : EReal) from c_zero)).trans ?_
    rw [zero_add]

include h0 h1 h2 in
theorem v159_val (i : S2x4x32x128x256.Idx) : val_main_v159 (F := Ideal) x0 x1 x2 i
    = ((RW x0 x1 x2 (i 0).val (i 1).val (i 2).val (i 3).val).ds (i 4).val : EReal) := by
  obtain ⟨N, hN, eN⟩ := v84_val x0 x1 x2 h1 (idx_main_v157 i)
  rw [val_main_v159_apply, v145_val x0 x1 x2 h0 h1 h2, val_main_v158_apply, val_main_v157_apply, val_main_v156_apply,
    val_main_v155_apply, v150_val x0 x1 x2 h0 h1 h2, eN]
  refine (show _ = ((RW x0 x1 x2 (i 0).val (i 1).val (i 2).val (i 3).val).ds (i 4).val : EReal)
    + Ideal.div ((0 : EReal) * val_main_v95 (F := Ideal) x0 x1 (idx_main_v157 i)) (N : EReal) * val_main_v83 (F := Ideal) x1 i from rfl).trans ?_
  rw [zero_mul, ← EReal.coe_zero, coe_one_div 0 hN, zero_div, EReal.coe_zero, zero_mul, add_zero]

include h0 h1 h2 in
/-- The gradient of the scores, an eighth of it. -/
theorem v164_val (i : S2x4x32x128x256.Idx) : val_main_v164 (F := Ideal) x0 x1 x2 i
    = (((RW x0 x1 x2 (i 0).val (i 1).val (i 2).val (i 3).val).ds (i 4).val * (1 / 8) : ℝ) : EReal) := by
  rw [val_main_v164_apply, val_main_v162_apply, v76_1_val, select_if, val_main_v163_apply]
  rw [EReal.coe_mul]
  refine congrArg₂ (fun x y : EReal => x * y) ?_ c_eighth
  by_cases h : band (i 3).val (i 4).val ∧ (0 < (i 2).val ∨ 128 ≤ (i 4).val)
  · rw [if_pos h, v159_val x0 x1 x2 h0 h1 h2]
  · rw [if_neg h, Row.ds_not _ (show ¬(RW x0 x1 x2 (i 0).val (i 1).val (i 2).val (i 3).val).ok (i 4).val from h)]
    exact c_zero

end Args

end Cert.ReferenceIdeal.Hand
-- ==== Proof.RefOut.lean ====
/- The reference's three results: the products over heads and rows, the two halves of a position's key and value gradients
   added, and the sums over every row, each equal to the kernel's number. -/
module

public import proofs.«01_k».proof.Proof.RefSoft
import Idealize.ShloMosaic.Lib.TwoAxisContraction
import Idealize.ShloMosaic.Lib.IdealHost
import Idealize.ShloMosaic.Lib.Pipeline.ValueKit.Acc
import Idealize.ShloMosaic.Lib.KernelVsHost

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.ValueIdx
open Attn
open Cert.KernelIdeal.Hand (num AllReal num_coe band c_ninf c_one c_zero c_eighth row stk ptR dkAt dvAt dkvAt dskAt DQ DKV DSK)

/-! ## The reference's rows are the kernel's -/

section Same
variable (A G : ℕ → ℕ → ℝ) (S : ℕ → ℝ) (n h r : ℕ)

theorem rrow_k (s : ℕ) (hs : (rrow A G S n h r).ok s) : (rrow A G S n h r).k s = (row (ptR A G S n) n h r).k s := by
  funext d
  have h' : 0 < n ∨ 128 ≤ s := hs.2
  simp only [rrow, row, ptR, KR]
  by_cases q : s < 128
  · rw [if_pos q, if_pos q, if_neg (by omega)]
  · rw [if_neg q, if_neg q]

theorem rrow_v (s : ℕ) (hs : (rrow A G S n h r).ok s) : (rrow A G S n h r).v s = (row (ptR A G S n) n h r).v s := by
  funext d
  have h' : 0 < n ∨ 128 ≤ s := hs.2
  simp only [rrow, row, ptR, KR]
  by_cases q : s < 128
  · rw [if_pos q, if_pos q, if_neg (by omega)]
  · rw [if_neg q, if_neg q]

theorem rrow_P (s : ℕ) (hs : s < 256) : (rrow A G S n h r).P s = (row (ptR A G S n) n h r).P s :=
  Row.P_congr (R := rrow A G S n h r) (R' := row (ptR A G S n) n h r) rfl rfl (fun _ _ => Iff.rfl) rfl rfl (rrow_k A G S n h r) (rrow_v A G S n h r) s hs
theorem rrow_ds (s : ℕ) (hs : s < 256) : (rrow A G S n h r).ds s = (row (ptR A G S n) n h r).ds s :=
  Row.ds_congr (R := rrow A G S n h r) (R' := row (ptR A G S n) n h r) rfl rfl (fun _ _ => Iff.rfl) rfl rfl (rrow_k A G S n h r) (rrow_v A G S n h r) s hs
theorem rrow_PS : (rrow A G S n h r).PS = (row (ptR A G S n) n h r).PS :=
  Row.PS_congr (R := rrow A G S n h r) (R' := row (ptR A G S n) n h r) rfl rfl (fun _ _ => Iff.rfl) rfl rfl (rrow_k A G S n h r) (rrow_v A G S n h r)
theorem rrow_dl : (rrow A G S n h r).dl = (row (ptR A G S n) n h r).dl :=
  Row.dl_congr (R := rrow A G S n h r) (R' := row (ptR A G S n) n h r) rfl rfl (fun _ _ => Iff.rfl) rfl rfl (rrow_k A G S n h r) (rrow_v A G S n h r)
theorem rrow_dq (d : ℕ) : (rrow A G S n h r).dq d = (row (ptR A G S n) n h r).dq d :=
  Row.dq_congr (R := rrow A G S n h r) (R' := row (ptR A G S n) n h r) rfl rfl (fun _ _ => Iff.rfl) rfl rfl (rrow_k A G S n h r) (rrow_v A G S n h r) d

end Same

/-! ## Sums over two axes -/

/-- A sum over the stacked rows of a group is a sum over its heads and a block's rows. -/
theorem stk_sum (X : Cert.KernelIdeal.Hand.RIns) (n j : ℕ) (f : Row → ℝ) :
    ∑ r : Fin 512, f (stk X n j r.val) = ∑ g : Fin 4, ∑ r : Fin 128, f (row X n (4 * j + g.val) r.val) :=
  Fin.sum_univ_mul_divmod 4 128 fun g r => f (row X n (4 * j + g) r)

/-- A sum over the last two of four axes. -/
theorem sum_last_two {a b : ℕ} (h : (⟨4, ![2, 4, a, b]⟩ : Shape).ReducesTo [2, 3] ⟨2, ![2, 4]⟩)
    (x : (⟨4, ![2, 4, a, b]⟩ : Shape).Idx → EReal) (init : EReal) (j : (⟨2, ![2, 4]⟩ : Shape).Idx) :
    Ideal.hostReduceAdd h x init j = init + ∑ n : Fin a, ∑ r : Fin b, x (ix4 (j 0) (j 1) n r) := by
  unfold Ideal.hostReduceAdd
  congr 1
  rw [← Fintype.sum_prod_type' (fun (n : Fin a) (r : Fin b) => x (ix4 (j 0) (j 1) n r))]
  have d0 : ∀ i, (h.drop i 0).val = (i 0).val := fun i => rfl
  have d1 : ∀ i, (h.drop i 1).val = (i 1).val := fun i => rfl
  refine Finset.sum_nbij' (fun i => ((i 2 : Fin a), (i 3 : Fin b))) (fun p => ix4 (j 0) (j 1) p.1 p.2)
    (fun i _ => Finset.mem_univ _) (fun p _ => ?_) (fun i hi => ?_) (fun p _ => rfl) (fun i hi => ?_)
  · refine Finset.mem_filter.mpr ⟨Finset.mem_univ _, funext fun c => Fin.ext ?_⟩
    match c with
    | ⟨0, _⟩ => exact d0 _
    | ⟨1, _⟩ => exact d1 _
  · have hj := (Finset.mem_filter.mp hi).2
    funext c
    refine Fin.ext ?_
    match c with
    | ⟨0, _⟩ => exact (congrArg (fun q : (⟨2, ![2, 4]⟩ : Shape).Idx => (q 0).val) hj).symm.trans (d0 i)
    | ⟨1, _⟩ => exact (congrArg (fun q : (⟨2, ![2, 4]⟩ : Shape).Idx => (q 1).val) hj).symm.trans (d1 i)
    | ⟨2, _⟩ => rfl
    | ⟨3, _⟩ => rfl
  · have hj := (Finset.mem_filter.mp hi).2
    congr 1
    funext c
    refine Fin.ext ?_
    match c with
    | ⟨0, _⟩ => exact ((congrArg (fun q : (⟨2, ![2, 4]⟩ : Shape).Idx => (q 0).val) hj).symm.trans (d0 i)).symm
    | ⟨1, _⟩ => exact ((congrArg (fun q : (⟨2, ![2, 4]⟩ : Shape).Idx => (q 1).val) hj).symm.trans (d1 i)).symm
    | ⟨2, _⟩ => rfl
    | ⟨3, _⟩ => rfl

/-- The product of the outputs' gradients with the weights, over heads of a group and rows. -/
abbrev D1 := dot_S32x2x64x4x128_S2x4x32x128x256_S32x2x64x256_34_13_2_4_01_20
/-- The product of the scores' gradients with the queries, over rows and heads of a group. -/
abbrev D2 := dot_S2x32x256x128x4_S32x128x2x4x64_S2x32x256x64_34_13_2_4_01_20

/-- Where `D1` reads its operands. -/
def l1 (i : S32x2x64x256.Idx) (g : Fin 4) (r : Fin 128) : S32x2x64x4x128.Idx := fun a => match a with
  | ⟨0, _⟩ => ⟨(i 0).val, (i 0).isLt⟩ | ⟨1, _⟩ => ⟨(i 1).val, (i 1).isLt⟩ | ⟨2, _⟩ => ⟨(i 2).val, (i 2).isLt⟩
  | ⟨3, _⟩ => ⟨g.val, g.isLt⟩ | ⟨4, _⟩ => ⟨r.val, r.isLt⟩
def r1 (i : S32x2x64x256.Idx) (g : Fin 4) (r : Fin 128) : S2x4x32x128x256.Idx := fun a => match a with
  | ⟨0, _⟩ => ⟨(i 1).val, (i 1).isLt⟩ | ⟨1, _⟩ => ⟨g.val, g.isLt⟩ | ⟨2, _⟩ => ⟨(i 0).val, (i 0).isLt⟩
  | ⟨3, _⟩ => ⟨r.val, r.isLt⟩ | ⟨4, _⟩ => ⟨(i 3).val, (i 3).isLt⟩
/-- Where `D2` reads its operands. -/
def l2 (i : S2x32x256x64.Idx) (r : Fin 128) (g : Fin 4) : S2x32x256x128x4.Idx := fun a => match a with
  | ⟨0, _⟩ => ⟨(i 0).val, (i 0).isLt⟩ | ⟨1, _⟩ => ⟨(i 1).val, (i 1).isLt⟩ | ⟨2, _⟩ => ⟨(i 2).val, (i 2).isLt⟩
  | ⟨3, _⟩ => ⟨r.val, r.isLt⟩ | ⟨4, _⟩ => ⟨g.val, g.isLt⟩
def r2 (i : S2x32x256x64.Idx) (r : Fin 128) (g : Fin 4) : S32x128x2x4x64.Idx := fun a => match a with
  | ⟨0, _⟩ => ⟨(i 1).val, (i 1).isLt⟩ | ⟨1, _⟩ => ⟨r.val, r.isLt⟩ | ⟨2, _⟩ => ⟨(i 0).val, (i 0).isLt⟩
  | ⟨3, _⟩ => ⟨g.val, g.isLt⟩ | ⟨4, _⟩ => ⟨(i 3).val, (i 3).isLt⟩

theorem D1_apply (y0 : S32x2x64x4x128.Idx → EReal) (y1 : S2x4x32x128x256.Idx → EReal) (i : S32x2x64x256.Idx) :
    Host.dotGeneral (F := Ideal) (φ₁ := .f32) (φ₂ := .f32) D1 none y0 y1 i = ∑ g : Fin 4, ∑ r : Fin 128, y0 (l1 i g r) * y1 (r1 i g r) := by
  simp only [Host.dotGeneral]
  rw [Ideal.dotGeneral_apply, sum_contr2 D1 4 128 rfl rfl rfl]
  refine Finset.sum_congr rfl fun g _ => Finset.sum_congr rfl fun r _ => ?_
  have k0 := contrEquiv2_symm_val0 D1 4 128 rfl rfl rfl (g, r)
  have k1 := contrEquiv2_symm_val1 D1 4 128 rfl rfl rfl (g, r)
  refine congrArg₂ (fun x y : EReal => x * y) (congrArg y0 (funext fun a => Fin.ext ?_)) (congrArg y1 (funext fun a => Fin.ext ?_))
  · unfold DotDims.lhsIdx
    match a with
    | ⟨0, _⟩ => rw [dif_pos (by decide +revert)]; rfl
    | ⟨1, _⟩ => rw [dif_pos (by decide +revert)]; rfl
    | ⟨2, _⟩ => rw [dif_neg (by decide +revert), dif_pos (by decide +revert)]; rfl
    | ⟨3, _⟩ => rw [dif_neg (by decide +revert), dif_neg (by decide +revert)]; exact k0
    | ⟨4, _⟩ => rw [dif_neg (by decide +revert), dif_neg (by decide +revert)]; exact k1
  · unfold DotDims.rhsIdx
    match a with
    | ⟨0, _⟩ => rw [dif_pos (by decide +revert)]; rfl
    | ⟨1, _⟩ => rw [dif_neg (by decide +revert), dif_neg (by decide +revert)]; exact k0
    | ⟨2, _⟩ => rw [dif_pos (by decide +revert)]; rfl
    | ⟨3, _⟩ => rw [dif_neg (by decide +revert), dif_neg (by decide +revert)]; exact k1
    | ⟨4, _⟩ => rw [dif_neg (by decide +revert), dif_pos (by decide +revert)]; rfl

theorem D2_apply (y0 : S2x32x256x128x4.Idx → EReal) (y1 : S32x128x2x4x64.Idx → EReal) (i : S2x32x256x64.Idx) :
    Host.dotGeneral (F := Ideal) (φ₁ := .f32) (φ₂ := .f32) D2 none y0 y1 i = ∑ r : Fin 128, ∑ g : Fin 4, y0 (l2 i r g) * y1 (r2 i r g) := by
  simp only [Host.dotGeneral]
  rw [Ideal.dotGeneral_apply, sum_contr2 D2 128 4 rfl rfl rfl]
  refine Finset.sum_congr rfl fun r _ => Finset.sum_congr rfl fun g _ => ?_
  have k0 := contrEquiv2_symm_val0 D2 128 4 rfl rfl rfl (r, g)
  have k1 := contrEquiv2_symm_val1 D2 128 4 rfl rfl rfl (r, g)
  refine congrArg₂ (fun x y : EReal => x * y) (congrArg y0 (funext fun a => Fin.ext ?_)) (congrArg y1 (funext fun a => Fin.ext ?_))
  · unfold DotDims.lhsIdx
    match a with
    | ⟨0, _⟩ => rw [dif_pos (by decide +revert)]; rfl
    | ⟨1, _⟩ => rw [dif_pos (by decide +revert)]; rfl
    | ⟨2, _⟩ => rw [dif_neg (by decide +revert), dif_pos (by decide +revert)]; rfl
    | ⟨3, _⟩ => rw [dif_neg (by decide +revert), dif_neg (by decide +revert)]; exact k0
    | ⟨4, _⟩ => rw [dif_neg (by decide +revert), dif_neg (by decide +revert)]; exact k1
  · unfold DotDims.rhsIdx
    match a with
    | ⟨0, _⟩ => rw [dif_pos (by decide +revert)]; rfl
    | ⟨1, _⟩ => rw [dif_neg (by decide +revert), dif_neg (by decide +revert)]; exact k0
    | ⟨2, _⟩ => rw [dif_pos (by decide +revert)]; rfl
    | ⟨3, _⟩ => rw [dif_neg (by decide +revert), dif_neg (by decide +revert)]; exact k1
    | ⟨4, _⟩ => rw [dif_neg (by decide +revert), dif_pos (by decide +revert)]; rfl

/-- The next block's rows, zeros after the last. -/
theorem pad_next (z : S31x128x2x64.Idx → EReal) (o : S_.Idx → EReal) (f : ℕ → ℕ → ℕ → ℕ → ℝ) (ho : ∀ i, o i = 0)
    (hz : ∀ i : S31x128x2x64.Idx, z i = (f (1 + (i 0).val) (i 1).val (i 2).val (i 3).val : EReal)) (i : S32x128x2x64.Idx) :
    pad S32x128x2x64 ![0, 0, 0, 0] ![1, 0, 0, 0] ![0, 0, 0, 0] z o pads_S31x128x2x64_S32x128x2x64_010_000_000_000 h_S_ i
      = (((if (i 0).val < 31 then f ((i 0).val + 1) (i 1).val (i 2).val (i 3).val else 0 : ℝ)) : EReal) := by
  by_cases h : (i 0).val < 31
  · rw [if_pos h]
    refine (pad_apply_of_inside _ _ _ z o pads_S31x128x2x64_S32x128x2x64_010_000_000_000 h_S_ i
      (fun a => match a with | ⟨0, _⟩ => ⟨(i 0).val, h⟩ | ⟨1, _⟩ => ⟨(i 1).val, (i 1).isLt⟩ | ⟨2, _⟩ => ⟨(i 2).val, (i 2).isLt⟩ | ⟨3, _⟩ => ⟨(i 3).val, (i 3).isLt⟩)
      (fun a => by
        match a with
        | ⟨0, _⟩ => show (i 0).val = 0 + (i 0).val * 1; omega
        | ⟨1, _⟩ => show (i 1).val = 0 + (i 1).val * 1; omega
        | ⟨2, _⟩ => show (i 2).val = 0 + (i 2).val * 1; omega
        | ⟨3, _⟩ => show (i 3).val = 0 + (i 3).val * 1; omega)).trans ((hz _).trans ?_)
    rw [Nat.add_comm]
  · rw [if_neg h]
    refine (pad_apply_of_not_inside _ _ _ z o pads_S31x128x2x64_S32x128x2x64_010_000_000_000 h_S_ i 0 (fun q => h ?_)).trans
      ((ho _).trans EReal.coe_zero.symm)
    have t := q.2.2
    simpa using t

section Args
variable (x0 : (⟨S1x8, .f32⟩ : BufTy).Contents (Elt Ideal)) (x1 : (⟨S4096x768, .bf16⟩ : BufTy).Contents (Elt Ideal))
  (x2 : (⟨S4096x512, .bf16⟩ : BufTy).Contents (Elt Ideal))
variable (h0 : AllReal (s := S1x8) x0) (h1 : AllReal (s := S4096x768) x1) (h2 : AllReal (s := S4096x512) x2)

/-- What a block reads, of the arguments' numbers. -/
abbrev PT (n : ℕ) := ptR (nA x1) (nG x2) (nS x0) n

/-! ## The queries' gradient -/

include h0 h1 h2 in
theorem v166_val (i : S2x32x128x4x64.Idx) : val_main_v166 (F := Ideal) x0 x1 x2 i
    = ((RW x0 x1 x2 (i 0).val (i 3).val (i 1).val (i 2).val).dq (i 4).val : EReal) := by
  have b0 : (i 0).val < 2 := (i 0).isLt
  have b3 : (i 3).val < 4 := (i 3).isLt
  rw [val_main_v166_apply]
  unfold Row.dq
  rw [Finset.sum_mul, coe_sum]
  refine Finset.sum_congr rfl fun s _ => ?_
  rw [val_main_v165_apply, v164_val x0 x1 x2 h0 h1 h2, v14_val x1 h1, ← EReal.coe_mul]
  refine congrArg (fun x : ℝ => (x : EReal)) ?_
  refine (mul_right_comm _ _ _).trans ?_
  simp only [RW, rrow, ridx_main_v166]
  rw [show (4 * (i 0).val + (i 3).val) / 4 = (i 0).val by omega]

/-! ## The keys' and values' gradients -/

include h0 h1 h2 in
theorem v129_val (i : S32x256x2x64.Idx) : val_main_v129 (F := Ideal) x0 x1 x2 i
    = (dvAt (PT x0 x1 x2 (i 0).val) (i 0).val (i 2).val (i 1).val (i 3).val : EReal) := by
  have b0 : (i 0).val < 32 := (i 0).isLt
  have b1 : (i 1).val < 256 := (i 1).isLt
  have b2 : (i 2).val < 2 := (i 2).isLt
  have b3 : (i 3).val < 64 := (i 3).isLt
  rw [val_main_v129_apply]
  unfold val_main_v128
  refine (D1_apply _ _ _).trans ?_
  unfold dvAt
  have e := stk_sum (PT x0 x1 x2 (i 0).val) (i 0).val (i 2).val (fun R => R.P (i 1).val * R.g (i 3).val)
  dsimp only at e
  rw [e, coe_sum]
  refine Finset.sum_congr rfl fun g _ => ?_
  rw [coe_sum]
  refine Finset.sum_congr rfl fun r _ => ?_
  have bg : g.val < 4 := g.isLt
  have br : r.val < 128 := r.isLt
  rw [v116_val x0 x1 x2 h0 h1, val_main_v125_apply, val_main_v124_apply, val_main_v123_apply, EReal.coe_mul, mul_comm]
  refine congrArg₂ (fun x y : EReal => x * y) ?_ ?_
  · refine congrArg (fun x : ℝ => (x : EReal)) ?_
    exact rrow_P _ _ _ _ _ _ _ b1
  · refine (num_coe (a := 4096) (b := 512) x2 h2 _).trans ?_
    refine congrArg (fun x : ℝ => (x : EReal)) ?_
    simp only [row, ptR, nG]
    congr 1
    · simp only [idx_main_v124, idx_main_v125, l1, idx_main_v129]
      omega
    · simp only [idx_main_v124, idx_main_v125, l1, idx_main_v129]
      omega

include h0 h1 h2 in
theorem v169_val (i : S32x256x2x64.Idx) : val_main_v169 (F := Ideal) x0 x1 x2 i
    = (dkAt (PT x0 x1 x2 (i 0).val) (i 0).val (i 2).val (i 1).val (i 3).val : EReal) := by
  have b0 : (i 0).val < 32 := (i 0).isLt
  have b1 : (i 1).val < 256 := (i 1).isLt
  have b2 : (i 2).val < 2 := (i 2).isLt
  have b3 : (i 3).val < 64 := (i 3).isLt
  rw [val_main_v169_apply]
  unfold val_main_v168
  refine (D2_apply _ _ _).trans ?_
  rw [Finset.sum_comm]
  unfold dkAt
  have e := stk_sum (PT x0 x1 x2 (i 0).val) (i 0).val (i 2).val (fun R => R.ds (i 1).val * R.q (i 3).val)
  dsimp only at e
  rw [e, Finset.sum_mul, coe_sum]
  refine Finset.sum_congr rfl fun g _ => ?_
  rw [Finset.sum_mul, coe_sum]
  refine Finset.sum_congr rfl fun r _ => ?_
  have bg : g.val < 4 := g.isLt
  have br : r.val < 128 := r.isLt
  rw [val_main_v165_apply, v164_val x0 x1 x2 h0 h1 h2, v8_val x1 h1, ← EReal.coe_mul]
  refine congrArg (fun x : ℝ => (x : EReal)) ?_
  refine (mul_right_comm _ _ _).trans ?_
  refine congrArg (fun x : ℝ => x * (1 / 8)) (congrArg₂ (fun x y : ℝ => x * y) ?_ ?_)
  · exact rrow_ds _ _ _ _ _ _ _ b1
  · rfl

/-- A gradient of a block's band, a position's share of its own block and of the next. -/
abbrev twice (f : ℕ → ℕ → ℕ → ℕ → ℝ) (n s k d : ℕ) : ℝ := f n k (128 + s) d + (if n < 31 then f (n + 1) k s d else 0)

include h0 h1 h2 in
theorem v175_val (i : S32x128x2x64.Idx) : val_main_v175 (F := Ideal) x0 x1 x2 i
    = (twice (fun n k s d => dvAt (PT x0 x1 x2 n) n k s d) (i 0).val (i 1).val (i 2).val (i 3).val : EReal) := by
  rw [val_main_v175_apply, val_main_v171_apply, v129_val x0 x1 x2 h0 h1 h2]
  unfold val_main_v174
  refine (congrArg (fun y : EReal => _ + y) (pad_next _ _ (fun n s k d => dvAt (PT x0 x1 x2 n) n k s d) (fun _ => c_zero) (fun j => ?_) i)).trans
    (EReal.coe_add _ _).symm
  rw [val_main_v173_apply, val_main_v170_apply, v129_val x0 x1 x2 h0 h1 h2]

include h0 h1 h2 in
theorem v182_val (i : S32x128x2x64.Idx) : val_main_v182 (F := Ideal) x0 x1 x2 i
    = (twice (fun n k s d => dkAt (PT x0 x1 x2 n) n k s d) (i 0).val (i 1).val (i 2).val (i 3).val : EReal) := by
  rw [val_main_v182_apply, val_main_v178_apply, v169_val x0 x1 x2 h0 h1 h2]
  unfold val_main_v181
  refine (congrArg (fun y : EReal => _ + y) (pad_next _ _ (fun n s k d => dkAt (PT x0 x1 x2 n) n k s d) (fun _ => c_zero) (fun j => ?_) i)).trans
    (EReal.coe_add _ _).symm
  rw [val_main_v180_apply, val_main_v177_apply, v169_val x0 x1 x2 h0 h1 h2]

/-! ## The three results -/

include h0 h1 h2 in
theorem v190_val (i : S4096x512.Idx) : val_main_v190 (F := Ideal) x0 x1 x2 i
    = (DQ (nA x1) (nG x2) (nS x0) (i 0).val (i 1).val : EReal) := by
  have b0 : (i 0).val < 4096 := (i 0).isLt
  have b1 : (i 1).val < 512 := (i 1).isLt
  rw [val_main_v190_apply, val_main_v189_apply]
  unfold val_main_v188
  refine (concatenate_apply_piece (t := S4096x768) 1
    [⟨S4096x512, val_main_v187 (F := Ideal) x0 x1 x2⟩, ⟨S4096x128, val_main_v186 (F := Ideal) x0 x1 x2⟩, ⟨S4096x128, val_main_v185 (F := Ideal) x0 x1 x2⟩]
    concatenates_S4096x512_S4096x128_S4096x128_S4096x768_d1 (idx_main_v189 i) 0 (by simp) S4096x512 (val_main_v187 (F := Ideal) x0 x1 x2)
    rfl rfl 0 rfl i (fun b hb => by match b with | ⟨0, _⟩ => rfl | ⟨1, _⟩ => exact absurd rfl hb) (by show 0 + (i 1).val = (i 1).val; omega)).trans ?_
  rw [val_main_v187_apply, val_main_v184_apply, val_main_v167_apply, v166_val x0 x1 x2 h0 h1 h2]
  refine congrArg (fun x : ℝ => (x : EReal)) ?_
  unfold DQ
  rw [← rrow_dq]
  simp only [idx_main_v187, idx_main_v184, idx_main_v167]
  unfold RW
  congr 1
  · congr 1 <;> omega
  · omega

include h0 h1 h2 in
theorem v192_val (i : S4096x256.Idx) : val_main_v192 (F := Ideal) x0 x1 x2 i
    = (DKV (nA x1) (nG x2) (nS x0) (i 0).val (i 1).val : EReal) := by
  have b0 : (i 0).val < 4096 := (i 0).isLt
  have b1 : (i 1).val < 256 := (i 1).isLt
  rw [val_main_v192_apply, val_main_v191_apply]
  unfold val_main_v188 DKV dkvAt
  by_cases h : (i 1).val < 128
  · simp only [if_pos h]
    refine (concatenate_apply_piece (t := S4096x768) 1
      [⟨S4096x512, val_main_v187 (F := Ideal) x0 x1 x2⟩, ⟨S4096x128, val_main_v186 (F := Ideal) x0 x1 x2⟩, ⟨S4096x128, val_main_v185 (F := Ideal) x0 x1 x2⟩]
      concatenates_S4096x512_S4096x128_S4096x128_S4096x768_d1 (idx_main_v191 i) 1 (by simp) S4096x128 (val_main_v186 (F := Ideal) x0 x1 x2)
      rfl rfl 512 rfl (fun a => match a with | ⟨0, _⟩ => ⟨(i 0).val, b0⟩ | ⟨1, _⟩ => ⟨(i 1).val, h⟩)
      (fun b hb => by match b with | ⟨0, _⟩ => rfl | ⟨1, _⟩ => exact absurd rfl hb) rfl).trans ?_
    rw [val_main_v186_apply, val_main_v183_apply, v182_val x0 x1 x2 h0 h1 h2]
    refine congrArg (fun x : ℝ => (x : EReal)) ?_
    simp only [idx_main_v186, idx_main_v183, twice]
    rw [show ((((i 0).val * 128 + (i 1).val) / 128 * 2 + ((i 0).val * 128 + (i 1).val) / 64 % 2) * 64 + ((i 0).val * 128 + (i 1).val) % 64) / 16384 = (i 0).val / 128 by omega,
      show ((((i 0).val * 128 + (i 1).val) / 128 * 2 + ((i 0).val * 128 + (i 1).val) / 64 % 2) * 64 + ((i 0).val * 128 + (i 1).val) % 64) / 128 % 128 = (i 0).val % 128 by omega,
      show ((((i 0).val * 128 + (i 1).val) / 128 * 2 + ((i 0).val * 128 + (i 1).val) / 64 % 2) * 64 + ((i 0).val * 128 + (i 1).val) % 64) / 64 % 2 = (i 1).val / 64 by omega,
      show ((((i 0).val * 128 + (i 1).val) / 128 * 2 + ((i 0).val * 128 + (i 1).val) / 64 % 2) * 64 + ((i 0).val * 128 + (i 1).val) % 64) % 64 = (i 1).val % 64 by omega]
  · simp only [if_neg h]
    refine (concatenate_apply_piece (t := S4096x768) 1
      [⟨S4096x512, val_main_v187 (F := Ideal) x0 x1 x2⟩, ⟨S4096x128, val_main_v186 (F := Ideal) x0 x1 x2⟩, ⟨S4096x128, val_main_v185 (F := Ideal) x0 x1 x2⟩]
      concatenates_S4096x512_S4096x128_S4096x128_S4096x768_d1 (idx_main_v191 i) 2 (by simp) S4096x128 (val_main_v185 (F := Ideal) x0 x1 x2)
      rfl rfl 640 rfl (fun a => match a with | ⟨0, _⟩ => ⟨(i 0).val, b0⟩ | ⟨1, _⟩ => ⟨(i 1).val - 128, by show (i 1).val - 128 < 128; omega⟩)
      (fun b hb => by match b with | ⟨0, _⟩ => rfl | ⟨1, _⟩ => exact absurd rfl hb)
      (by show 640 + ((i 1).val - 128) = 512 + (i 1).val; omega)).trans ?_
    rw [val_main_v185_apply, val_main_v176_apply, v175_val x0 x1 x2 h0 h1 h2]
    refine congrArg (fun x : ℝ => (x : EReal)) ?_
    simp only [idx_main_v185, idx_main_v176, twice]
    rw [show ((((i 0).val * 128 + ((i 1).val - 128)) / 128 * 2 + ((i 0).val * 128 + ((i 1).val - 128)) / 64 % 2) * 64 + ((i 0).val * 128 + ((i 1).val - 128)) % 64) / 16384 = (i 0).val / 128 by omega,
      show ((((i 0).val * 128 + ((i 1).val - 128)) / 128 * 2 + ((i 0).val * 128 + ((i 1).val - 128)) / 64 % 2) * 64 + ((i 0).val * 128 + ((i 1).val - 128)) % 64) / 128 % 128 = (i 0).val % 128 by omega,
      show ((((i 0).val * 128 + ((i 1).val - 128)) / 128 * 2 + ((i 0).val * 128 + ((i 1).val - 128)) / 64 % 2) * 64 + ((i 0).val * 128 + ((i 1).val - 128)) % 64) / 64 % 2 = (i 1).val / 64 - 2 by omega,
      show ((((i 0).val * 128 + ((i 1).val - 128)) / 128 * 2 + ((i 0).val * 128 + ((i 1).val - 128)) / 64 % 2) * 64 + ((i 0).val * 128 + ((i 1).val - 128)) % 64) % 64 = (i 1).val % 64 by omega]

include h0 h1 h2 in
theorem v140_val (i : S2x4.Idx) : val_main_v140 (F := Ideal) x0 x1 x2 i
    = (DSK (nA x1) (nG x2) (nS x0) (4 * (i 0).val + (i 1).val) : EReal) := by
  unfold val_main_v140
  rw [hostReduceAdd_apply]
  refine (sum_last_two (a := 32) (b := 128) reducesTo_S2x4x32x128_S2x4_d2_3 (val_main_v139 (F := Ideal) x0 x1 x2) _ i).trans ?_
  refine (congrArg (fun z : EReal => z + _) (show _ = (0 : EReal) from c_zero)).trans ?_
  rw [zero_add]
  unfold DSK
  rw [← Fin.sum_univ_eq_sum_range (fun n => dskAt (PT x0 x1 x2 n) n (4 * (i 0).val + (i 1).val)) 32, coe_sum]
  refine Finset.sum_congr rfl fun n _ => ?_
  unfold dskAt
  rw [coe_sum]
  refine Finset.sum_congr rfl fun r _ => ?_
  rw [v139_val x0 x1 x2 h0 h1 h2]
  refine congrArg (fun x : ℝ => (x : EReal)) ?_
  rw [← rrow_PS, ← rrow_dl]

include h0 h1 h2 in
theorem v152_val (i : S2x4.Idx) : val_main_v152 (F := Ideal) x0 x1 x2 i = (0 : EReal) := by
  unfold val_main_v152
  rw [hostReduceAdd_apply]
  refine (sum_last_two (a := 32) (b := 128) reducesTo_S2x4x32x128_S2x4_d2_3 (val_main_v151 (F := Ideal) x0 x1 x2) _ i).trans ?_
  refine (congrArg (fun z : EReal => z + _) (show _ = (0 : EReal) from c_zero)).trans ?_
  rw [zero_add]
  refine Finset.sum_eq_zero fun n _ => Finset.sum_eq_zero fun r _ => ?_
  rw [val_main_v151_apply, v150_val x0 x1 x2 h0 h1 h2]
  exact zero_mul _

include h0 h1 h2 in
theorem v194_val (i : S8x128.Idx) : val_main_v194 (F := Ideal) x0 x1 x2 i
    = (DSK (nA x1) (nG x2) (nS x0) (i 0).val : EReal) := by
  have b0 : (i 0).val < 8 := (i 0).isLt
  rw [val_main_v194_apply, val_main_v193_apply, val_main_v161_apply]
  unfold val_main_v160
  rw [hostReduceAdd_apply]
  refine (sum_last_two (a := 1) (b := 1) reducesTo_S2x4x1x1_S2x4_d2_3 (val_main_v154 (F := Ideal) x0 x1 x2) _ _).trans ?_
  refine (congrArg (fun z : EReal => z + _) (show _ = (0 : EReal) from c_zero)).trans ?_
  rw [zero_add, Fin.sum_univ_one, Fin.sum_univ_one, val_main_v154_apply, val_main_v141_apply, v140_val x0 x1 x2 h0 h1 h2,
    val_main_v153_apply, v152_val x0 x1 x2 h0 h1 h2]
  refine (add_zero _).trans ?_
  refine congrArg (fun x : ℝ => (x : EReal)) ?_
  congr 1
  show 4 * ((((((i 0).val / 4) * 4 + (i 0).val % 4) * 1 + 0) * 1 + 0) / 4) + (((((i 0).val / 4) * 4 + (i 0).val % 4) * 1 + 0) * 1 + 0) % 4 = (i 0).val
  omega

end Args

end Cert.ReferenceIdeal.Hand
-- ==== Proof.Finite.lean ====
/- The precondition `finite` read: every entry of the three arguments is a real number. And the reference's run at such
   arguments ends in the kernel's numbers. -/
module

public import proofs.«01_k».proof.Defs
public import proofs.«01_k».proof.Proof.RefOut

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.ValueIdx Idealize.SL.Sem
open Cert.KernelIdeal.Hand (AllReal DQ DKV DSK)

/-- The side conditions the precondition's printed function states. -/
theorem finite_facts : Cert.Pre_finite.Facts where
  bcast_S_S1x8 := by decide
  bitsLt_bf16_f32 := by decide
  bcast_S_S4096x768 := by decide
  bcast_S_S4096x512 := by decide

theorem c_pinf : Ideal.ofBits .f32 0x7F800000#32 = ⊤ := by simp [Ideal.ofBits, Ideal.ieee]

/-- A number whose absolute value is below `⊤` is a real. -/
theorem real_of_abs_lt {x : EReal} (h : BitVec.ofBool (decide (max x (-x) < ⊤)) = 1#1) : x ≠ ⊤ ∧ x ≠ ⊥ := by
  by_cases q : max x (-x) < ⊤
  · obtain ⟨a, b⟩ := max_lt_iff.mp q
    refine ⟨a.ne, fun e => ?_⟩
    rw [e, EReal.neg_bot] at b
    exact lt_irrefl _ b
  · rw [decide_eq_false q] at h
    exact absurd h (by decide)

section Pre
variable [Cert.Pre_finite.Facts] (x0 : (⟨S1x8, .f32⟩ : BufTy).Contents (Elt Ideal)) (x1 : (⟨S4096x768, .bf16⟩ : BufTy).Contents (Elt Ideal))
  (x2 : (⟨S4096x512, .bf16⟩ : BufTy).Contents (Elt Ideal))

theorem real0 (h : (Cert.Pre_finite.fn (F := Ideal) x0 x1 x2).1 = fun _ => 1#1) : AllReal (s := S1x8) x0 := fun i =>
  real_of_abs_lt (by
    have e := congrFun h i
    rw [← c_pinf]
    exact e)
theorem real1 (h : (Cert.Pre_finite.fn (F := Ideal) x0 x1 x2).2.1 = fun _ => 1#1) : AllReal (s := S4096x768) x1 := fun i =>
  real_of_abs_lt (by
    have e := congrFun h i
    rw [← c_pinf]
    exact e)
theorem real2 (h : (Cert.Pre_finite.fn (F := Ideal) x0 x1 x2).2.2 = fun _ => 1#1) : AllReal (s := S4096x512) x2 := fun i =>
  real_of_abs_lt (by
    have e := congrFun h i
    rw [← c_pinf]
    exact e)

end Pre

/-- The reference's run at real arguments. -/
theorem run_value (m : (ℓ : Loc nD τ sig) → Buf (Elt Ideal) ℓ) (ρ : Dev nD → PrngReg)
    (hr : ∀ c : Dev nD, AllReal (s := S1x8) (m ((c.tc : Thread nD τ).loc main_arg0)) ∧ AllReal (s := S4096x768) (m ((c.tc : Thread nD τ).loc main_arg1))
      ∧ AllReal (s := S4096x512) (m ((c.tc : Thread nD τ).loc main_arg2))) :
    θ_run defs (onTc (τ := τ) (main (F := Ideal))) ⟨m, fun _ => 0, ρ⟩ fun r => ∀ c : Dev nD,
      r.2.mem ((c.tc : Thread nD τ).loc main_v190) = (fun i : S4096x512.Idx => ((DQ (nA (m ((c.tc : Thread nD τ).loc main_arg1))) (nG (m ((c.tc : Thread nD τ).loc main_arg2))) (nS (m ((c.tc : Thread nD τ).loc main_arg0))) (i 0).val (i 1).val : ℝ) : EReal))
      ∧ r.2.mem ((c.tc : Thread nD τ).loc main_v192) = (fun i : S4096x256.Idx => ((DKV (nA (m ((c.tc : Thread nD τ).loc main_arg1))) (nG (m ((c.tc : Thread nD τ).loc main_arg2))) (nS (m ((c.tc : Thread nD τ).loc main_arg0))) (i 0).val (i 1).val : ℝ) : EReal))
      ∧ r.2.mem ((c.tc : Thread nD τ).loc main_v194) = (fun i : S8x128.Idx => ((DSK (nA (m ((c.tc : Thread nD τ).loc main_arg1))) (nG (m ((c.tc : Thread nD τ).loc main_arg2))) (nS (m ((c.tc : Thread nD τ).loc main_arg0))) (i 0).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨a, b, d, u⟩ := h c
    obtain ⟨r0, r1, r2⟩ := hr c
    refine ⟨a.trans ((val_main_v190_eq _).trans (funext fun i => v190_val _ _ _ r0 r1 r2 i)),
      b.trans ((val_main_v192_eq _).trans (funext fun i => v192_val _ _ _ r0 r1 r2 i)),
      d.trans ((val_main_v194_eq _).trans (funext fun i => v194_val _ _ _ r0 r1 r2 i)), u⟩)
    (Cert.ReferenceIdeal.Value.run (F := Ideal) m ρ)

end Cert.ReferenceIdeal.Hand
-- ==== Proof.Layout.lean ====
/- Rows, columns and products of blocks of any size, read at an entry. -/
module

public import Idealize.ShloMosaic.PureOps.Ideal.Laws
public import Idealize.ShloMosaic.Lib.ValueIdxCore
public import Idealize.ShloMosaic.Lib.Pipeline.Value

@[expose] public section

noncomputable section

namespace Cert.Ffn

open Idealize.ShloMosaic Idealize.ShloMosaic.ValueIdx

variable {a b : ℕ}

theorem row_sum (x : FVec Ideal ⟨2, ![a, b]⟩ .f32) {h : Shape.Reduces ⟨2, ![a, b]⟩ [1] ⟨1, ![a]⟩} (r : Fin a) :
    multiReduction .add [1] ⟨1, ![a]⟩ x 0x00000000#32 h (.inl rfl) rfl (ix1 r) = ∑ k : Fin b, x (ix2 r k) := by
  refine (Ideal.multiReduction_add_single _ _ _ _ _ _).trans ?_
  refine Finset.sum_congr rfl fun s _ => congrArg x ?_
  funext a; match a with | 0 => rfl | 1 => rfl

theorem column_sum (x : FVec Ideal ⟨2, ![a, b]⟩ .f32) {h : Shape.Reduces ⟨2, ![a, b]⟩ [0] ⟨1, ![b]⟩} (d : Fin b) :
    multiReduction .add [0] ⟨1, ![b]⟩ x 0x00000000#32 h (.inl rfl) rfl (ix1 d) = ∑ r : Fin a, x (ix2 r d) := by
  refine (Ideal.multiReduction_add_single _ _ _ _ _ _).trans ?_
  refine Finset.sum_congr rfl fun s _ => congrArg x ?_
  funext a; match a with | 0 => rfl | 1 => rfl

/-- A row stood up as a column. -/
theorem stand_apply (x : FVec Ideal ⟨1, ![a]⟩ .f32) {h : Shape.ShapeCasts ⟨1, ![a]⟩ ⟨2, ![a, 1]⟩} (r : Fin a) :
    shapeCast ⟨2, ![a, 1]⟩ x h (ix2 r 0) = x (ix1 r) :=
  shapeCast_apply _ _ _ _ (by rw [Shape.rowMajor_val_one, Shape.rowMajor_val_two]; show r.val = r.val * 1 + 0; omega)

/-- A row as a block of one row. -/
theorem flat_apply (x : FVec Ideal ⟨1, ![b]⟩ .f32) {h : Shape.ShapeCasts ⟨1, ![b]⟩ ⟨2, ![1, b]⟩} (d : Fin b) :
    shapeCast ⟨2, ![1, b]⟩ x h (ix2 0 d) = x (ix1 d) :=
  shapeCast_apply _ _ _ _ (by rw [Shape.rowMajor_val_one, Shape.rowMajor_val_two]; show d.val = 0 * b + d.val; omega)

/-- A column repeated along the rows. -/
theorem along_apply (x : FVec Ideal ⟨2, ![a, 1]⟩ .f32) {h : Shape.Broadcasts ⟨2, ![a, 1]⟩ ⟨2, ![a, b]⟩} (r : Fin a) (d : Fin b) :
    broadcastTo ⟨2, ![a, b]⟩ x h (ix2 r d) = x (ix2 r 0) :=
  broadcastTo_apply _ _ _ _ fun i => by
    match i with
    | 0 => show r.val = if a = 1 then 0 else r.val; split <;> omega
    | 1 => rfl

/-- A row repeated down the columns. -/
theorem down_apply (x : FVec Ideal ⟨2, ![1, b]⟩ .f32) {h : Shape.Broadcasts ⟨2, ![1, b]⟩ ⟨2, ![a, b]⟩} (r : Fin a) (d : Fin b) :
    broadcastTo ⟨2, ![a, b]⟩ x h (ix2 r d) = x (ix2 0 d) :=
  broadcastTo_apply _ _ _ _ fun i => by
    match i with
    | 0 => rfl
    | 1 => show d.val = if b = 1 then 0 else d.val; split <;> omega

/-- A product with nothing added, its one summed axis counted. -/
theorem product_at {sl sr so : Shape} {φ₁ φ₂ : FTy} (D : DotDims sl sr so) {n : ℕ} (hr : D.contr.rank = 1)
    (hs : D.contr.size ⟨0, by omega⟩ = n) (x : FVec Ideal sl φ₁) (y : FVec Ideal sr φ₂) (j : so.Idx) (p : Fin n → sl.Idx) (q : Fin n → sr.Idx)
    (hp : ∀ k, D.lhsIdx j ((contrEquiv1 D n hr hs).symm k) = p k) (hq : ∀ k, D.rhsIdx j ((contrEquiv1 D n hr hs).symm k) = q k) :
    matmul D none x y (constant so .f32 0x00000000#32) j = ∑ k : Fin n, x (p k) * y (q k) := by
  refine (Ideal.matmul_constant_zero_apply D none x y j).trans ?_
  rw [← Equiv.sum_comp (contrEquiv1 D n hr hs).symm]
  exact Finset.sum_congr rfl fun k _ => by rw [hp, hq]

end Cert.Ffn
-- ==== Proof.Entries.lean ====
/- Arrays of extended reals read at plain numbers, and a sum over 4096 rows taken in two halves. -/
module

public import proofs.«01_k».proof.Proof.AttnValue
public import proofs.«01_k».proof.Proof.Layout

@[expose] public section

noncomputable section

namespace Cert.Ffn

open Idealize.ShloMosaic Idealize.ShloMosaic.ValueIdx

/-- A two-axis array's entry, zero outside it. -/
def ent2 {a b : ℕ} (v : (⟨2, ![a, b]⟩ : Shape).Idx → EReal) (r c : ℕ) : EReal :=
  if h : r < a ∧ c < b then v (ix2 ⟨r, h.1⟩ ⟨c, h.2⟩) else 0

/-- A three-axis array's entry, zero outside it. -/
def ent3 {a b d : ℕ} (v : (⟨3, ![a, b, d]⟩ : Shape).Idx → EReal) (k r c : ℕ) : EReal :=
  if h : k < a ∧ r < b ∧ c < d then v (ix3 ⟨k, h.1⟩ ⟨r, h.2.1⟩ ⟨c, h.2.2⟩) else 0

theorem ent2_at {a b : ℕ} (v : (⟨2, ![a, b]⟩ : Shape).Idx → EReal) (i : (⟨2, ![a, b]⟩ : Shape).Idx) :
    v i = ent2 v (i 0).val (i 1).val := by
  have h : (i 0).val < a ∧ (i 1).val < b := ⟨(i 0).isLt, (i 1).isLt⟩
  unfold ent2
  rw [dif_pos h]
  exact congrArg v (eq_ix2 i)

theorem ent3_at {a b d : ℕ} (v : (⟨3, ![a, b, d]⟩ : Shape).Idx → EReal) (i : (⟨3, ![a, b, d]⟩ : Shape).Idx) :
    v i = ent3 v (i 0).val (i 1).val (i 2).val := by
  have h : (i 0).val < a ∧ (i 1).val < b ∧ (i 2).val < d := ⟨(i 0).isLt, (i 1).isLt, (i 2).isLt⟩
  unfold ent3
  rw [dif_pos h]
  exact congrArg v (eq_ix3 i)

/-- A sum of 4096 terms, the two halves of it taken in either order. -/
theorem sum_halves (g : ℕ → EReal) (a b : ℕ) (h : a + b = 1) :
    ∑ r : Fin 2048, g (a * 2048 + r.val) + ∑ r : Fin 2048, g (b * 2048 + r.val) = ∑ r : Fin 4096, g r.val := by
  have e : ∑ r : Fin 4096, g r.val = ∑ r : Fin 2048, g r.val + ∑ r : Fin 2048, g (2048 + r.val) :=
    Fin.sum_univ_add (a := 2048) (b := 2048) (fun r => g r.val)
  rw [e]
  obtain ⟨rfl, rfl⟩ | ⟨rfl, rfl⟩ : (a = 0 ∧ b = 1) ∨ (a = 1 ∧ b = 0) := by omega
  · simp only [Nat.zero_mul, Nat.zero_add, Nat.one_mul]
  · simp only [Nat.zero_mul, Nat.zero_add, Nat.one_mul]
    exact add_comm _ _

/-- Which half of the rows point `n` reads: the halves in turn, forth and back. -/
def half (n : ℕ) : ℕ := (n % 4 + 1) / 2 % 2

/-- The two halves of a sum over the rows, read at an even point and the next. -/
theorem sum_turns (g : ℕ → EReal) (n : ℕ) (h : n % 2 = 1) :
    ∑ r : Fin 2048, g (half (n - 1) * 2048 + r.val) + ∑ r : Fin 2048, g (half n * 2048 + r.val) = ∑ r : Fin 4096, g r.val :=
  sum_halves g _ _ (by unfold half; omega)

end Cert.Ffn
-- ==== Proof.FwdLoad.lean ====
/- The FFN forward kernel's first point: it copies both weights into scratch, six copies started and waited for, and then
   does what every other point does. -/
module

public import proofs.«01_k».proof.Proof.Gen.Kernel4Ideal.Frame
public import proofs.«01_k».proof.Proof.Gen.Kernel4Ideal.Skeleton

@[expose] public section

set_option maxRecDepth 65536

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The copies of the first point: started, then waited for. -/
def loads (i : grid0.Coords) (arg1 : Memref sig .tc .vmem S512x1024 .f32) (harg1 : arg1.IsWhole) (arg2 : Memref sig .tc .vmem S1x1024 .f32) (harg2 : arg2.IsWhole) (arg3 : Memref sig .tc .hbm S4x1024x1408 .bf16) (harg3 : arg3.IsWhole) (arg4 : Memref sig .tc .hbm S2816x1024 .bf16) (harg4 : arg4.IsWhole) (arg5 : Memref sig .tc .vmem S512x1024 .f32) (harg5 : arg5.IsWhole) (arg6 : Memref sig .tc .vmem S2x512x2816 .bf16) (harg6 : arg6.IsWhole) (arg7 : Memref sig .tc .vmem S4x1024x1408 .bf16) (harg7 : arg7.IsWhole) (arg8 : Memref sig .tc .vmem S2816x1024 .bf16) (harg8 : arg8.IsWhole) (arg9 : DmaSems sig S6) :
    Prog (TpuEff nD τ sig (Elt F) Λ₀ .tc) PUnit := do
  k0_part1 i arg1 harg1 arg2 harg2 arg3 harg3 arg4 harg4 arg5 harg5 arg6 harg6 arg7 harg7 arg8 harg8 arg9
  k0_part2 i arg1 harg1 arg2 harg2 arg3 harg3 arg4 harg4 arg5 harg5 arg6 harg6 arg7 harg7 arg8 harg8 arg9
  let v177 : DmaSems sig S1 := arg9.slice (Rect.unit (s := S6) ![3] S1.size inb_S6_S1_3)
  let v178 : DmaSems sig S_ := v177.squeeze S_ squeezes_S1_S_
  let v179 : Memref sig .tc .vmem S1x1024x1408 .bf16 := arg7.slice (Rect.unit (s := S4x1024x1408) ![3, 0, 0] S1x1024x1408.size inb_S4x1024x1408_S1x1024x1408_3_0_0) (fun _ => rfl)
  let v180 : Memref sig .tc .vmem S1024x1408 .bf16 := v179.squeeze S1024x1408 squeezes_S1x1024x1408_S1024x1408
  let v181 : Memref sig .tc .hbm S1x1024x1408 .bf16 := arg3.slice (Rect.unit (s := S4x1024x1408) ![3, 0, 0] S1x1024x1408.size inb_S4x1024x1408_S1x1024x1408_3_0_0) (fun _ => rfl)
  let v182 : Memref sig .tc .hbm S1024x1408 .bf16 := v181.squeeze S1024x1408 squeezes_S1x1024x1408_S1024x1408
  Prog.lift (.waitDma2 v178.sem v182 v180 ((harg3.wordExact_slice rfl _ wordsbf16_S4x1024x1408_S1x1024x1408_3_0_0).reshape _ _) ((harg7.wordExact_slice rfl _ wordsbf16_S4x1024x1408_S1x1024x1408_3_0_0).reshape _ _))
  let v183 : DmaSems sig S1 := arg9.slice (Rect.unit (s := S6) ![4] S1.size inb_S6_S1_4)
  let v184 : DmaSems sig S_ := v183.squeeze S_ squeezes_S1_S_
  let v185 : Memref sig .tc .vmem S1408x1024 .bf16 := arg8.slice (Rect.unit (s := S2816x1024) ![0, 0] S1408x1024.size inb_S2816x1024_S1408x1024_0_0) (fun _ => rfl)
  let v186 : Memref sig .tc .hbm S1408x1024 .bf16 := arg4.slice (Rect.unit (s := S2816x1024) ![0, 0] S1408x1024.size inb_S2816x1024_S1408x1024_0_0) (fun _ => rfl)
  Prog.lift (.waitDma2 v184.sem v186 v185 (harg4.wordExact_slice rfl _ wordsbf16_S2816x1024_S1408x1024_0_0) (harg8.wordExact_slice rfl _ wordsbf16_S2816x1024_S1408x1024_0_0))
  let v187 : DmaSems sig S1 := arg9.slice (Rect.unit (s := S6) ![5] S1.size inb_S6_S1_5)
  let v188 : DmaSems sig S_ := v187.squeeze S_ squeezes_S1_S_
  let v189 : Memref sig .tc .vmem S1408x1024 .bf16 := arg8.slice (Rect.unit (s := S2816x1024) ![1408, 0] S1408x1024.size inb_S2816x1024_S1408x1024_1408_0) (fun _ => rfl)
  let v190 : Memref sig .tc .hbm S1408x1024 .bf16 := arg4.slice (Rect.unit (s := S2816x1024) ![1408, 0] S1408x1024.size inb_S2816x1024_S1408x1024_1408_0) (fun _ => rfl)
  Prog.lift (.waitDma2 v188.sem v190 v189 (harg4.wordExact_slice rfl _ wordsbf16_S2816x1024_S1408x1024_1408_0) (harg8.wordExact_slice rfl _ wordsbf16_S2816x1024_S1408x1024_1408_0))
  pure ⟨⟩

/-- The branch's condition at a point. -/
abbrev firstPoint (i : grid0.Coords) : Prop := (Scalar.cmpi .ne (Scalar.extui (Scalar.cmpi .eq (BitVec.ofNat 32 (i 0).val) 0#32)) 0#32) = 1#1

set_option maxHeartbeats 1000000 in
theorem body_first (i j : grid0.Coords) (arg1 : Memref sig .tc .vmem S512x1024 .f32) (harg1 : arg1.IsWhole) (arg2 : Memref sig .tc .vmem S1x1024 .f32) (harg2 : arg2.IsWhole) (arg3 : Memref sig .tc .hbm S4x1024x1408 .bf16) (harg3 : arg3.IsWhole) (arg4 : Memref sig .tc .hbm S2816x1024 .bf16) (harg4 : arg4.IsWhole) (arg5 : Memref sig .tc .vmem S512x1024 .f32) (harg5 : arg5.IsWhole) (arg6 : Memref sig .tc .vmem S2x512x2816 .bf16) (harg6 : arg6.IsWhole) (arg7 : Memref sig .tc .vmem S4x1024x1408 .bf16) (harg7 : arg7.IsWhole) (arg8 : Memref sig .tc .vmem S2816x1024 .bf16) (harg8 : arg8.IsWhole) (arg9 : DmaSems sig S6) (hi : firstPoint i) (hj : ¬firstPoint j) :
    cc0_ffn_fwd (F := F) i arg1 harg1 arg2 harg2 arg3 harg3 arg4 harg4 arg5 harg5 arg6 harg6 arg7 harg7 arg8 harg8 arg9
      = (loads i arg1 harg1 arg2 harg2 arg3 harg3 arg4 harg4 arg5 harg5 arg6 harg6 arg7 harg7 arg8 harg8 arg9 >>= fun _ =>
          cc0_ffn_fwd j arg1 harg1 arg2 harg2 arg3 harg3 arg4 harg4 arg5 harg5 arg6 harg6 arg7 harg7 arg8 harg8 arg9) := by
  simp only [cc0_ffn_fwd_eq_skeleton]; unfold cc0_ffn_fwd_skel
  simp only [k0_part3_eq_skeleton]; unfold k0_part3_skel
  dsimp only
  rw [dif_pos hi, dif_neg hj]
  unfold loads
  simp only [bind_assoc, pure_bind]
  rfl

abbrev scM0_0 : Memref sig .tc .vmem S4x1024x1408 .bf16 := Memref.whole cc0_scratch0
abbrev scM0_1 : Memref sig .tc .vmem S2816x1024 .bf16 := Memref.whole cc0_scratch1
abbrev hbM0_0 : Memref sig .tc .hbm S4x1024x1408 .bf16 := Memref.whole main_arg2
abbrev hbM0_1 : Memref sig .tc .hbm S2816x1024 .bf16 := Memref.whole main_arg3
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The six cells of the copies, all at zero. -/
abbrev cells (c : Dev nD) : sProp 𝕄 :=
  iprop(semVal ((c : Thread nD τ), SemLoc.dma 7) 0 ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0 ∗ semVal ((c : Thread nD τ), SemLoc.dma 12) 0)

/-- Writing, through the reshape of a rectangle, what the same rectangle of another buffer holds: inside the rectangle the
    result reads as that buffer, outside as before. -/
theorem slab_put {sig : RefSig} {κ κ' : Kind} {sp sp' : Space} {s s' : Shape} {e : EltTy} (v : View sig κ sp s e) (u : View sig κ' sp' s e) (r : Rect s)
    (hn : s'.numel = r.shape.numel) (f : v.ty.Contents (Elt F)) (g : u.ty.Contents (Elt F)) (y : s.Idx) :
    v.read (Elt F) (((v.slice r).reshape s' hn).write (Elt F) f (((u.slice r).reshape s' hn).read (Elt F) g) Finset.univ) y
      = if y ∈ r.set then u.read (Elt F) g y else v.read (Elt F) f y := by
  split_ifs with h
  · obtain ⟨x, rfl⟩ : ∃ x : r.shape.Idx, r.emb x = y := by simpa [← Rect.map_emb_univ] using h
    obtain ⟨x', rfl⟩ : ∃ x' : s'.Idx, Shape.reshapeEquiv hn x' = x := ⟨(Shape.reshapeEquiv hn).symm x, Equiv.apply_symm_apply _ _⟩
    rw [View.read_apply, show v.emb (r.emb (Shape.reshapeEquiv hn x')) = ((v.slice r).reshape s' hn).emb x' from rfl,
      View.write_emb_of_mem _ _ (Finset.mem_univ _), cast_cast, cast_eq]
    rfl
  · rw [View.read_apply, View.read_apply, View.write_of_not_mem]
    intro hm
    obtain ⟨x', -, hx⟩ := Finset.mem_map.mp hm
    exact h (by
      have := v.emb.injective hx
      rw [← this, ← Rect.map_emb_univ]
      exact Finset.mem_map_of_mem _ (Finset.mem_univ _))

/-- The same through the rectangle itself. -/
theorem slice_put {sig : RefSig} {κ κ' : Kind} {sp sp' : Space} {s : Shape} {e : EltTy} (v : View sig κ sp s e) (u : View sig κ' sp' s e) (r : Rect s)
    (f : v.ty.Contents (Elt F)) (g : u.ty.Contents (Elt F)) (y : s.Idx) :
    v.read (Elt F) ((v.slice r).write (Elt F) f ((u.slice r).read (Elt F) g) Finset.univ) y
      = if y ∈ r.set then u.read (Elt F) g y else v.read (Elt F) f y := by
  split_ifs with h
  · obtain ⟨x, rfl⟩ : ∃ x : r.shape.Idx, r.emb x = y := by simpa [← Rect.map_emb_univ] using h
    rw [View.read_slice_write_emb _ _ _ (Finset.mem_univ _)]
    rfl
  · exact View.read_slice_write_of_not_mem _ _ _ _ (by rwa [Rect.map_emb_univ])

/-- Every element of a stack of four slabs lies in one of them. -/
theorem slab_cover (y : S4x1024x1408.Idx) :
    y ∈ (Rect.unit (s := S4x1024x1408) ![3, 0, 0] S1x1024x1408.size inb_S4x1024x1408_S1x1024x1408_3_0_0).set ∨ y ∈ (Rect.unit (s := S4x1024x1408) ![2, 0, 0] S1x1024x1408.size inb_S4x1024x1408_S1x1024x1408_2_0_0).set
      ∨ y ∈ (Rect.unit (s := S4x1024x1408) ![1, 0, 0] S1x1024x1408.size inb_S4x1024x1408_S1x1024x1408_1_0_0).set ∨ y ∈ (Rect.unit (s := S4x1024x1408) ![0, 0, 0] S1x1024x1408.size inb_S4x1024x1408_S1x1024x1408_0_0_0).set := by
  have h0 : (y 0).val < 4 := (y 0).isLt
  have h1 : (y 1).val < 1024 := (y 1).isLt
  have h2 : (y 2).val < 1408 := (y 2).isLt
  simp only [Rect.mem_set_unit]
  simp [Fin.forall_fin_succ]
  omega

theorem slice_cover (y : S2816x1024.Idx) :
    y ∈ (Rect.unit (s := S2816x1024) ![1408, 0] S1408x1024.size inb_S2816x1024_S1408x1024_1408_0).set ∨ y ∈ (Rect.unit (s := S2816x1024) ![0, 0] S1408x1024.size inb_S2816x1024_S1408x1024_0_0).set := by
  have h0 : (y 0).val < 2816 := (y 0).isLt
  have h1 : (y 1).val < 1024 := (y 1).isLt
  simp only [Rect.mem_set_unit]
  simp [Fin.forall_fin_succ]
  omega

set_option sl_exec.dmaWindow true in
set_option maxHeartbeats 2000000 in
theorem loads_run (c : Dev nD) (i : grid0.Coords) (arg1 : Memref sig .tc .vmem S512x1024 .f32) (harg1 : arg1.IsWhole) (arg2 : Memref sig .tc .vmem S1x1024 .f32) (harg2 : arg2.IsWhole)
    (arg5 : Memref sig .tc .vmem S512x1024 .f32) (harg5 : arg5.IsWhole) (arg6 : Memref sig .tc .vmem S2x512x2816 .bf16) (harg6 : arg6.IsWhole)
    (fh0 : HbBuf0 (F := F) c hbM0_0) (fh1 : HbBuf0 (F := F) c hbM0_1) (W : Waits sig Unit) (K : PUnit → sProp 𝕄) :
    iprop((∃ f, hbPt0 c scM0_0 f) ∗ (∃ f, hbPt0 c scM0_1 f) ∗ cells (F := F) c
        ∗ hbPt0 c hbM0_0 fh0 ∗ hbPt0 c hbM0_1 fh1 ∗ owes (c : Thread nD τ) 0 W
        ∗ (iprop((∃ f, ⌜scM0_0.view.read (Elt F) f = hbM0_0.view.read (Elt F) fh0⌝ ∗ hbPt0 c scM0_0 f)
            ∗ (∃ f, ⌜scM0_1.view.read (Elt F) f = hbM0_1.view.read (Elt F) fh1⌝ ∗ hbPt0 c scM0_1 f)
            ∗ cells (F := F) c ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ
          (loads i arg1 harg1 arg2 harg2 (Memref.whole main_arg2) (Memref.isWhole_whole _) (Memref.whole main_arg3) (Memref.isWhole_whole _) arg5 harg5 arg6 harg6 scM0_0 (Memref.isWhole_whole _) scM0_1 (Memref.isWhole_whole _) cc0_scratch2) K := by
  unfold loads
  simp only [k0_part1_eq_skeleton, k0_part2_eq_skeleton]
  iintro ⟨⟨%f0, HS0⟩, ⟨%f1, HS1⟩, ⟨Hq0, Hq1, Hq2, Hq3, Hq4, Hq5⟩, Hh0, Hh1, HW, Hk⟩
  sl_exec
  sl_step
  iapply Hk
  isplitl [HS0]
  · iexists _
    isplitr
    swap
    · iexact HS0
    ipureintro
    funext y
    refine (slab_put scM0_0.view hbM0_0.view _ _ _ fh0 y).trans ?_
    split_ifs with h3
    · rfl
    refine (slab_put scM0_0.view hbM0_0.view _ _ _ fh0 y).trans ?_
    split_ifs with h2
    · rfl
    refine (slab_put scM0_0.view hbM0_0.view _ _ _ fh0 y).trans ?_
    split_ifs with h1
    · rfl
    refine (slab_put scM0_0.view hbM0_0.view _ _ _ fh0 y).trans ?_
    split_ifs with h0
    · rfl
    exact absurd (slab_cover y) (by simp only [h3, h2, h1, h0, or_self, not_false_eq_true])
  isplitl [HS1]
  · iexists _
    isplitr
    swap
    · iexact HS1
    ipureintro
    funext y
    refine (slice_put scM0_1.view hbM0_1.view _ _ fh1 y).trans ?_
    split_ifs with h1
    · rfl
    refine (slice_put scM0_1.view hbM0_1.view _ _ fh1 y).trans ?_
    split_ifs with h0
    · rfl
    exact absurd (slice_cover y) (by simp only [h1, h0, or_self, not_false_eq_true])
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  iexists _; iexact HW

end Cert.Kernel4Ideal.Hand
-- ==== Proof.FwdRun.lean ====
/- One point of the FFN forward kernel, the weights already in scratch: what it leaves in the two results' buffers. -/
module

public import proofs.«01_k».proof.Proof.FwdLoad

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The kernel's body behind the branch: the pieces it leaves in the two results' buffers, and that it runs to them, the
    inputs and the weights in scratch as they were. -/
noncomputable def restRun (c : Dev nD) (j : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S2x512x2816 .bf16) (harg6 : arg6.IsWhole) (arg7 : Memref sig .tc .vmem S4x1024x1408 .bf16) (harg7 : arg7.IsWhole) (arg8 : Memref sig .tc .vmem S2816x1024 .bf16) (harg8 : arg8.IsWhole) (hj : ¬firstPoint j)
    (x0 : Vec F S512x1024 .f32) (x1 : Vec F S1x1024 .f32) (xs0 : Vec F S4x1024x1408 .bf16) (xs1 : Vec F S2816x1024 .bf16) :
    Σ' (L2 : List (View.Piece (Elt F) S512x1024 .f32)), { L3 : List (View.Piece (Elt F) S2x512x2816 .bf16) //
      ∀ (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ owns (c : Thread nD τ) arg7 fullShare xs0 ∗ owns (c : Thread nD τ) arg8 fullShare xs1) -∗ K ⟨⟩))
          ⊢ wp frame (wpE (defs₀ (F := F)) Variants.none c none) Set.univ (cc0_ffn_fwd j arg1 harg1 arg2 harg2 (Memref.whole main_arg2) (Memref.isWhole_whole _) (Memref.whole main_arg3) (Memref.isWhole_whole _) arg5 harg5 arg6 harg6 arg7 harg7 arg8 harg8 cc0_scratch2) K } := by
  refine ⟨?_, ?_, fun K => ?run⟩
  case run =>
    simp only [cc0_ffn_fwd_eq_skeleton]; unfold cc0_ffn_fwd_skel
    simp only [k0_part3_eq_skeleton, k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg7.eq_unread hfs0; obtain rfl := harg8.eq_unread hfs1
    sl_exec (disch := first | sl_exact hj)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _; isplitr; · ipureintro; exact harg7.read_unread _
      iexact HS0
    iexists _; isplitr; · ipureintro; exact harg8.read_unread _
    iexact HS1

theorem cover_x (c : Dev nD) (j : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S2x512x2816 .bf16) (harg6 : arg6.IsWhole) (arg7 : Memref sig .tc .vmem S4x1024x1408 .bf16) (harg7 : arg7.IsWhole) (arg8 : Memref sig .tc .vmem S2816x1024 .bf16) (harg8 : arg8.IsWhole) (hj : ¬firstPoint j) (x0 : Vec F S512x1024 .f32) (x1 : Vec F S1x1024 .f32) (xs0 : Vec F S4x1024x1408 .bf16) (xs1 : Vec F S2816x1024 .bf16) (y : S512x1024.Idx) :
    ∃ pc ∈ (restRun c j arg1 harg1 arg2 harg2 arg5 harg5 arg6 harg6 arg7 harg7 arg8 harg8 hj x0 x1 xs0 xs1).1, y ∈ pc.1.set :=
  View.cover_of_tiledL (restRun c j arg1 harg1 arg2 harg2 arg5 harg5 arg6 harg6 arg7 harg7 arg8 harg8 hj x0 x1 xs0 xs1).1 S512x1024.size (by sl_kernel_rfl) y

theorem cover_gu (c : Dev nD) (j : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S2x512x2816 .bf16) (harg6 : arg6.IsWhole) (arg7 : Memref sig .tc .vmem S4x1024x1408 .bf16) (harg7 : arg7.IsWhole) (arg8 : Memref sig .tc .vmem S2816x1024 .bf16) (harg8 : arg8.IsWhole) (hj : ¬firstPoint j) (x0 : Vec F S512x1024 .f32) (x1 : Vec F S1x1024 .f32) (xs0 : Vec F S4x1024x1408 .bf16) (xs1 : Vec F S2816x1024 .bf16) (y : S2x512x2816.Idx) :
    ∃ pc ∈ (restRun c j arg1 harg1 arg2 harg2 arg5 harg5 arg6 harg6 arg7 harg7 arg8 harg8 hj x0 x1 xs0 xs1).2.1, y ∈ pc.1.set :=
  View.cover_of_tiledBy (restRun c j arg1 harg1 arg2 harg2 arg5 harg5 arg6 harg6 arg7 harg7 arg8 harg8 hj x0 x1 xs0 xs1).2.1 ![1, 512, 128] (by sl_kernel_rfl) y

end Cert.Kernel4Ideal.Hand
-- ==== Proof.FwdFrame.lean ====
/- The FFN forward kernel's run, point after point: the weights copied into scratch at the first, and every point's
   results written from its own block of the activations and the two weights. -/
module

public import proofs.«01_k».proof.Proof.FwdRun
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem main_region (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Input window 0's staging buffer holds its block at every point. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The branch is taken at the first point and at no other. -/
theorem firstPoint_iff : ∀ t : Fin cfg0.N, firstPoint (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val = 0 ↔ t.val % 8 = 0 := by omega
    rw [e1]
    simp only [firstPoint, e0]
    word_cmp
   : ∀ t : Fin grid0.N, firstPoint (grid0.coords t) ↔ t.val = 0)

/-- A point that is not the first. -/
abbrev j₁ : grid0.Coords := grid0.coords ⟨1, by rw [N_0]; decide⟩
theorem not_first₁ : ¬firstPoint j₁ := fun h => absurd ((firstPoint_iff _).mp h) (by decide)

set_option maxHeartbeats 1000000 in
/-- The body does the same at any two points that are not the first. -/
theorem body_rest (i j : grid0.Coords) (arg1 : Memref sig .tc .vmem S512x1024 .f32) (harg1 : arg1.IsWhole) (arg2 : Memref sig .tc .vmem S1x1024 .f32) (harg2 : arg2.IsWhole) (arg3 : Memref sig .tc .hbm S4x1024x1408 .bf16) (harg3 : arg3.IsWhole) (arg4 : Memref sig .tc .hbm S2816x1024 .bf16) (harg4 : arg4.IsWhole) (arg5 : Memref sig .tc .vmem S512x1024 .f32) (harg5 : arg5.IsWhole) (arg6 : Memref sig .tc .vmem S2x512x2816 .bf16) (harg6 : arg6.IsWhole) (arg7 : Memref sig .tc .vmem S4x1024x1408 .bf16) (harg7 : arg7.IsWhole) (arg8 : Memref sig .tc .vmem S2816x1024 .bf16) (harg8 : arg8.IsWhole) (arg9 : DmaSems sig S6) (hi : ¬firstPoint i) (hj : ¬firstPoint j) :
    cc0_ffn_fwd (F := F) i arg1 harg1 arg2 harg2 arg3 harg3 arg4 harg4 arg5 harg5 arg6 harg6 arg7 harg7 arg8 harg8 arg9
      = cc0_ffn_fwd j arg1 harg1 arg2 harg2 arg3 harg3 arg4 harg4 arg5 harg5 arg6 harg6 arg7 harg7 arg8 harg8 arg9 := by
  simp only [cc0_ffn_fwd_eq_skeleton]; unfold cc0_ffn_fwd_skel
  simp only [k0_part3_eq_skeleton]; unfold k0_part3_skel
  dsimp only
  rw [dif_neg hi, dif_neg hj]
  rfl

abbrev VO0_2 : View sig .tc .vmem S512x1024 .f32 := (Memref.whole cc0_stg2_0 : Memref sig .tc .vmem S512x1024 .f32).view
abbrev VO0_3 : View sig .tc .vmem S2x512x2816 .bf16 := (Memref.whole cc0_stg3_0 : Memref sig .tc .vmem S2x512x2816 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512x2816 .bf16 := win0_3.stage (cfg0.slots t 3)
abbrev hs0_3 (t : Fin cfg0.N) : (ms0_3 t).IsWhole := hstage0_3 ((cfg0.slots t 3).cast nbuf0_3)

abbrev osem0 : Fin 6 → SemLoc sig := fun j => (![SemLoc.dma 7, SemLoc.dma 8, SemLoc.dma 9, SemLoc.dma 10, SemLoc.dma 11, SemLoc.dma 12] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5] (by decide) (by decide)]; rfl
def H0 : Finset (Ref sig .tc) := {main_arg2, main_arg3}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg2) ∗ hbPt0 c hbM0_1 (V m c main_arg3))) := by
  rw [Pipeline.ΦD_eq, scopedRest0_eq, ownSems00_eq, hbmPts0_eq]; simp only [scM0_0, scM0_1, owns_whole]; try rfl

/-- The two weights, as the copies read them. -/
def wIn (c : Dev nD) : Vec F S4x1024x1408 .bf16 := hbM0_0.view.read (Elt F) (V m c main_arg2)
def wOut (c : Dev nD) : Vec F S2816x1024 .bf16 := hbM0_1.view.read (Elt F) (V m c main_arg3)

theorem scr_open (c : Dev nD) (b : Ref sig .tc) :
    iprop(∃ d, owns (c : Thread nD τ) (Memref.whole b) fullShare d) ⊢ (iprop(∃ f, hbPt0 (F := F) c (Memref.whole b) f) : sProp 𝕄) := by
  unfold owns
  simp only [View.set_whole]
  iintro ⟨%d, %f, -, H⟩
  iexists f; iexact H

theorem scr_close (c : Dev nD) (b : Ref sig .tc) (w) :
    (iprop(∃ f, ⌜(Memref.whole b).view.read (Elt F) f = w⌝ ∗ hbPt0 (F := F) c (Memref.whole b) f) : sProp 𝕄)
      ⊢ owns (c : Thread nD τ) (Memref.whole b) fullShare w := by
  unfold owns
  simp only [View.set_whole]
  iintro ⟨%f, %hf, H⟩
  iexists f
  isplitr
  · ipureintro; exact hf
  iexact H

/-- What a point leaves in the results' buffers. -/
def xAt (c : Dev nD) (t : Fin cfg0.N) : Vec F S512x1024 .f32 :=
  VO0_2.read (Elt F) (VO0_2.writes (Elt F) VO0_2.junk (restRun c j₁ (ms0_0 t) (hs0_0 t) (ms0_1 t) (hs0_1 t) (ms0_2 t) (hs0_2 t) (ms0_3 t) (hs0_3 t) scM0_0 (Memref.isWhole_whole _) scM0_1 (Memref.isWhole_whole _) not_first₁ (iblk m c 0 t) (iblk m c 1 t) (wIn m c) (wOut m c)).1)
def guAt (c : Dev nD) (t : Fin cfg0.N) : Vec F S2x512x2816 .bf16 :=
  VO0_3.read (Elt F) (VO0_3.writes (Elt F) VO0_3.junk (restRun c j₁ (ms0_0 t) (hs0_0 t) (ms0_1 t) (hs0_1 t) (ms0_2 t) (hs0_2 t) (ms0_3 t) (hs0_3 t) scM0_0 (Memref.isWhole_whole _) scM0_1 (Memref.isWhole_whole _) not_first₁ (iblk m c 0 t) (iblk m c 1 t) (wIn m c) (wOut m c)).2.1)

/-- The invariant: before the first point the launch's, afterwards the same with the weights in scratch. -/
def inv (c : Dev nD) : (n : ℕ) → n ≤ cfg0.N → sProp 𝕄
  | 0, _ => Pipeline.ΦD osem0 spec0 H0 (V m) c
  | _ + 1, _ => iprop(iprop(owns (c : Thread nD τ) scM0_0 fullShare (wIn m c) ∗ owns (c : Thread nD τ) scM0_1 fullShare (wOut m c)) ∗ (∃ r, prngReg c r) ∗ cells (F := F) c ∗ iprop(hbPt0 c hbM0_0 (V m c main_arg2) ∗ hbPt0 c hbM0_1 (V m c main_arg3)))

theorem inv_zero (c : Dev nD) (n : ℕ) (h : n ≤ cfg0.N) (hz : n = 0) : inv m c n h = Pipeline.ΦD osem0 spec0 H0 (V m) c := by
  subst hz; rfl

theorem inv_pos (c : Dev nD) (n : ℕ) (h : n ≤ cfg0.N) (hz : n ≠ 0) : inv m c n h = iprop(iprop(owns (c : Thread nD τ) scM0_0 fullShare (wIn m c) ∗ owns (c : Thread nD τ) scM0_1 fullShare (wOut m c)) ∗ (∃ r, prngReg c r) ∗ cells (F := F) c ∗ iprop(hbPt0 c hbM0_0 (V m c main_arg2) ∗ hbPt0 c hbM0_1 (V m c main_arg3))) := by
  cases n with
  | zero => exact absurd rfl hz
  | succ n => rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => xAt m c t
    | ⟨3, _⟩ => guAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = xAt m c t := by dsimp only [dats]
theorem after_3 (c : Dev nD) (t : Fin cfg0.N) : (dats m 0 c).after 3 t = guAt m c t := by dsimp only [dats]
theorem before_0 (c : Dev nD) (t : Fin cfg0.N) (d) : (dats m 0 c).before 0 t d = iblk m c 0 t :=
  before0 m (dats m 0 c) (A_eq m c 0) (after_0 m c) t d
theorem before_1 (c : Dev nD) (t : Fin cfg0.N) (d) : (dats m 0 c).before 1 t d = iblk m c 1 t :=
  before1 m (dats m 0 c) (A_eq m c 1) (after_1 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = inv m c (t.val + 1) t.isLt from rfl, inv_pos m c _ _ (Nat.succ_ne_zero _),
    after_0, after_1, after_2, after_3]
  unfold Dat.owesAt Pipeline.owesWithin xAt guAt
  rw [show (dats m 0 c).owed t.castSucc = 0 from rfl, show (dats m 0 c).owed t.succ = 0 from rfl]
  by_cases hz : t.val = 0
  · rw [inv_castSucc m c t, inv_zero m c _ _ hz, PhiD0_eq, body_first _ j₁ _ _ _ _ _ _ _ _ _ _ _ _ _ _ _ _ _ ((firstPoint_iff t).mpr hz) not_first₁]
    iintro ⟨⟨⟨⟨%d5, HS0⟩, ⟨%d6, HS1⟩⟩, Hg, Hq, ⟨Hh0, Hh1⟩⟩, ⟨%W, -, HW⟩, ⟨%d0, H0⟩, ⟨%d1, H1⟩, ⟨%d2, H2⟩, ⟨%d3, H3⟩⟩
    rw [wp_bind]
    iapply (loads_run c (grid0.coords t) (ms0_0 t) (hs0_0 t) (ms0_1 t) (hs0_1 t) (ms0_2 t) (hs0_2 t) (ms0_3 t) (hs0_3 t) (V m c main_arg2) (V m c main_arg3) W _)
    isplitl [HS0]; · iapply (scr_open c cc0_scratch0); iexists d5; iexact HS0
    isplitl [HS1]; · iapply (scr_open c cc0_scratch1); iexists d6; iexact HS1
    isplitl [Hq]; · iexact Hq
    isplitl [Hh0]; · iexact Hh0
    isplitl [Hh1]; · iexact Hh1
    isplitl [HW]; · iexact HW
    iintro ⟨HS0, HS1, Hq, Hh0, Hh1, ⟨%W', HW⟩⟩
    ihave HS0 : iprop(owns (c : Thread nD τ) scM0_0 fullShare (wIn m c)) $$ [HS0]
    · iapply (scr_close c cc0_scratch0 (wIn m c)); iexact HS0
    ihave HS1 : iprop(owns (c : Thread nD τ) scM0_1 fullShare (wOut m c)) $$ [HS1]
    · iapply (scr_close c cc0_scratch1 (wOut m c)); iexact HS1
    · iapply ((restRun c j₁ (ms0_0 t) (hs0_0 t) (ms0_1 t) (hs0_1 t) (ms0_2 t) (hs0_2 t) (ms0_3 t) (hs0_3 t) scM0_0 (Memref.isWhole_whole _) scM0_1 (Memref.isWhole_whole _) not_first₁ (iblk m c 0 t) (iblk m c 1 t) (wIn m c) (wOut m c)).2.2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, HS0, HS1⟩
      isplitl [HS0 HS1 Hg Hq Hh0 Hh1]
      · isplitl [HS0 HS1]
        · isplitl [HS0]; · iexact HS0
          iexact HS1
        isplitl [Hg]; · iexact Hg
        isplitl [Hq]; · iexact Hq
        isplitl [Hh0]; · iexact Hh0
        iexact Hh1
      isplitl [HW]
      · iexists _; isplitr
        swap; · iexact HW
        ipureintro; exact fun _ _ => Or.inl trivial
      isplitl [H0]; · iexact H0
      isplitl [H1]; · iexact H1
      isplitl [H2]
      · unfold owns; iexists _; isplitr
        swap; · iexact H2
        ipureintro; exact View.read_writes_of_cover _ _ _ _ _ (cover_x c _ _ _ _ _ _ _ _ _ _ _ _ _ _ _ _ _ _)
      unfold owns; iexists _; isplitr
      swap; · iexact H3
      ipureintro; exact View.read_writes_of_cover _ _ _ _ _ (cover_gu c _ _ _ _ _ _ _ _ _ _ _ _ _ _ _ _ _ _)
  · rw [inv_castSucc m c t, inv_pos m c _ _ hz, body_rest _ j₁ _ _ _ _ _ _ _ _ _ _ _ _ _ _ _ _ _ (fun h => hz ((firstPoint_iff t).mp h)) not_first₁]
    · iintro ⟨⟨⟨HS0, HS1⟩, Hg, Hq, ⟨Hh0, Hh1⟩⟩, ⟨%W, -, HW⟩, ⟨%d0, H0⟩, ⟨%d1, H1⟩, ⟨%d2, H2⟩, ⟨%d3, H3⟩⟩
      iapply ((restRun c j₁ (ms0_0 t) (hs0_0 t) (ms0_1 t) (hs0_1 t) (ms0_2 t) (hs0_2 t) (ms0_3 t) (hs0_3 t) scM0_0 (Memref.isWhole_whole _) scM0_1 (Memref.isWhole_whole _) not_first₁ (iblk m c 0 t) (iblk m c 1 t) (wIn m c) (wOut m c)).2.2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, HS0, HS1⟩
      isplitl [HS0 HS1 Hg Hq Hh0 Hh1]
      · isplitl [HS0 HS1]
        · isplitl [HS0]; · iexact HS0
          iexact HS1
        isplitl [Hg]; · iexact Hg
        isplitl [Hq]; · iexact Hq
        isplitl [Hh0]; · iexact Hh0
        iexact Hh1
      isplitl [HW]
      · iexists _; isplitr
        swap; · iexact HW
        ipureintro; exact fun _ _ => Or.inl trivial
      isplitl [H0]; · iexact H0
      isplitl [H1]; · iexact H1
      isplitl [H2]
      · unfold owns; iexists _; isplitr
        swap; · iexact H2
        ipureintro; exact View.read_writes_of_cover _ _ _ _ _ (cover_x c _ _ _ _ _ _ _ _ _ _ _ _ _ _ _ _ _ _)
      unfold owns; iexists _; isplitr
      swap; · iexact H3
      ipureintro; exact View.read_writes_of_cover _ _ _ _ _ (cover_gu c _ _ _ _ _ _ _ _ _ _ _ _ _ _ _ _ _ _)

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = inv m c 0 (Nat.zero_le _) from rfl, inv_zero m c 0 _ rfl]
  try exact Idealize.SL.BI.Entails.refl _

/-- After the last point the invariant gives the launch's back. -/
theorem hout (c : Dev nD) : (dats m 0 c).Φ (Fin.last cfg0.N) ⊢ Pipeline.ΦD osem0 spec0 H0 (V m) c := by
  rw [show (dats m 0 c).Φ (Fin.last cfg0.N) = inv m c cfg0.N le_rfl from rfl, inv_pos m c _ _ (by rw [show cfg0.N = 8 from N_0]; decide), PhiD0_eq]
  iintro ⟨⟨HS0, HS1⟩, Hg, Hq, ⟨Hh0, Hh1⟩⟩
  isplitl [HS0 HS1]
  · isplitl [HS0]
    · iexists _; iexact HS0
    iexists _; iexact HS1
  isplitl [Hg]; · iexact Hg
  isplitl [Hq]; · iexact Hq
  isplitl [Hh0]; · iexact Hh0
  iexact Hh1

set_option backward.isDefEq.respectTransparency.types false in
/-- The launch: every execution ends, the arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_region m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel4Ideal.Hand
-- ==== Proof.FwdPay.lean ====
/- The gated feed-forward layer over extended reals: a row of the block's input is scaled by its root mean square and the
   gain, multiplied into 2816 gates and 2816 values, and the gated values are multiplied back into the row. -/
module

public import proofs.«01_k».proof.Proof.Entries
public import proofs.«01_k».proof.Proof.FwdFrame
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Ffn

open Idealize.ShloMosaic Idealize.ShloMosaic.ValueIdx

/-- The normalised entry in row `r` and column `d`. -/
def normed (X G : ℕ → ℕ → EReal) (r d : ℕ) : EReal :=
  X r d * Ideal.rsqrt (Ideal.div (∑ k : Fin 1024, X r k.val * X r k.val) (Ideal.ofBits .f32 0x44800000#32) + Ideal.ofBits .f32 0x358637BD#32) * G 0 d

/-- Column `p` of the first product, its 5632 columns held in four slabs. -/
def wide (X G : ℕ → ℕ → EReal) (W : ℕ → ℕ → ℕ → EReal) (r p : ℕ) : EReal :=
  ∑ k : Fin 1024, normed X G r k.val * W (p / 1408) k.val (p % 1408)

/-- A value passed through its gate. -/
def gated (g u : EReal) : EReal :=
  g * Ideal.div (Ideal.ofBits .f32 0x3F800000#32) (Ideal.ofBits .f32 0x3F800000#32 + Ideal.exp (-g)) * u

/-- What column `f` of the gated values contributes to row `r` and column `d`. -/
def part (X G : ℕ → ℕ → EReal) (W : ℕ → ℕ → ℕ → EReal) (V : ℕ → ℕ → EReal) (r d f : ℕ) : EReal :=
  gated (wide X G W r f) (wide X G W r (2816 + f)) * V f d

/-- The layer's output in row `r` and column `d`: the input plus half of what the gated values contribute. -/
def layer (X G : ℕ → ℕ → EReal) (W : ℕ → ℕ → ℕ → EReal) (V : ℕ → ℕ → EReal) (r d : ℕ) : EReal :=
  X r d + Ideal.ofBits .f32 0x3F000000#32 * ∑ f : Fin 2816, part X G W V r d f.val

/-- A sum of 2816 terms taken in the four chunks of 768, 640, 768 and 640. -/
theorem sum_chunks (g : ℕ → EReal) :
    0 + ∑ f : Fin 768, g f.val + ∑ f : Fin 640, g (768 + f.val) + ∑ f : Fin 768, g (1408 + f.val) + ∑ f : Fin 640, g (2176 + f.val)
      = ∑ f : Fin 2816, g f.val := by
  have e1 : ∑ f : Fin 2816, g f.val = ∑ f : Fin 2176, g f.val + ∑ f : Fin 640, g (2176 + f.val) :=
    Fin.sum_univ_add (a := 2176) (b := 640) (fun r => g r.val)
  have e2 : ∑ f : Fin 2176, g f.val = ∑ f : Fin 1408, g f.val + ∑ f : Fin 768, g (1408 + f.val) :=
    Fin.sum_univ_add (a := 1408) (b := 768) (fun r => g r.val)
  have e3 : ∑ f : Fin 1408, g f.val = ∑ f : Fin 768, g f.val + ∑ f : Fin 640, g (768 + f.val) :=
    Fin.sum_univ_add (a := 768) (b := 640) (fun r => g r.val)
  rw [e1, e2, e3, zero_add]

/-- The gate as the kernel computes it: minus by subtracting from zero, the quotient by a reciprocal. -/
theorem gated_kernel (g u : EReal) :
    g * Ideal.div 1 (Ideal.ofBits .f32 0x3F800000#32 + Ideal.exp (Ideal.ofBits .f32 0x00000000#32 - g)) * u = gated g u := by
  unfold gated
  rw [Ideal.ofBits_zero_f32, zero_sub, Cert.KernelIdeal.Hand.c_one]

end Cert.Ffn

namespace Cert.Kernel4Ideal.Hand

open Cert.Ffn Cert.Kernel4Ideal Cert.Kernel4Ideal.Gen
open Idealize.ShloMosaic Idealize.ShloMosaic.ValueIdx

/-! ## The normalised block -/

theorem pay5_apply (x : Vec Ideal S512x1024 .f32) (g : Vec Ideal S1x1024 .f32) (r : Fin 512) (d : Fin 1024) :
    k0_pay5 (F := Ideal) x g (ix2 r d)
      = x (ix2 r d) * Ideal.rsqrt (Ideal.div (∑ k : Fin 1024, x (ix2 r k) * x (ix2 r k)) (Ideal.ofBits .f32 0x44800000#32) + Ideal.ofBits .f32 0x358637BD#32)
        * g (ix2 0 d) := by
  unfold k0_pay5
  refine (congrArg₂ (fun a b : EReal => x (ix2 r d) * a * b) (along_apply _ r d) (down_apply g r d)).trans ?_
  refine congrArg (fun e : EReal => x (ix2 r d) * Ideal.rsqrt (Ideal.div e (Ideal.ofBits .f32 0x44800000#32) + Ideal.ofBits .f32 0x358637BD#32) * g (ix2 0 d)) ?_
  exact (stand_apply _ r).trans (row_sum _ r)

/-! ## The products -/

theorem up768 (h : FVec Ideal S512x1024 .bf16) (w : Vec Ideal S1x1024x768 .bf16) (r : Fin 512) (f : Fin 768) :
    k0_pay17 (F := Ideal) h w (ix2 r f) = ∑ k : Fin 1024, h (ix2 r k) * w (ix3 0 k f) := by
  unfold k0_pay17
  refine (Ideal.matmul_constant_zero_apply dot_S512x1024_S1024x768_S512x768_1_0_0_1_n_n none h _ (ix2 r f)).trans ?_
  rw [← Equiv.sum_comp (contrEquiv1 dot_S512x1024_S1024x768_S512x768_1_0_0_1_n_n 1024 rfl rfl).symm]
  refine Finset.sum_congr rfl fun k _ => ?_
  refine congrArg₂ (fun a b : EReal => a * b) (congrArg h (by funext a; match a with | 0 => rfl | 1 => rfl)) ?_
  exact shapeCast_apply _ _ _ (ix3 0 k f) (by rewrite [Shape.rowMajor_val_two, Shape.rowMajor_val_three]; simp [ix2, ix3]; rfl)

theorem up640 (h : FVec Ideal S512x1024 .bf16) (w : Vec Ideal S1x1024x640 .bf16) (r : Fin 512) (f : Fin 640) :
    k0_pay12 (F := Ideal) h w (ix2 r f) = ∑ k : Fin 1024, h (ix2 r k) * w (ix3 0 k f) := by
  unfold k0_pay12
  refine (Ideal.matmul_constant_zero_apply dot_S512x1024_S1024x640_S512x640_1_0_0_1_n_n none h _ (ix2 r f)).trans ?_
  rw [← Equiv.sum_comp (contrEquiv1 dot_S512x1024_S1024x640_S512x640_1_0_0_1_n_n 1024 rfl rfl).symm]
  refine Finset.sum_congr rfl fun k _ => ?_
  refine congrArg₂ (fun a b : EReal => a * b) (congrArg h (by funext a; match a with | 0 => rfl | 1 => rfl)) ?_
  exact shapeCast_apply _ _ _ (ix3 0 k f) (by rewrite [Shape.rowMajor_val_two, Shape.rowMajor_val_three]; simp [ix2, ix3]; rfl)

theorem back768 (a : FVec Ideal S512x768 .bf16) (v : FVec Ideal S768x1024 .bf16) (r : Fin 512) (d : Fin 1024) :
    matmul dot_S512x768_S768x1024_S512x1024_1_0_0_1_n_n none a v (constant S512x1024 .f32 0x00000000#32) (ix2 r d)
      = ∑ f : Fin 768, a (ix2 r f) * v (ix2 f d) :=
  product_at _ rfl rfl a v _ _ _ (fun k => by funext a; match a with | 0 => rfl | 1 => rfl)
    fun k => by funext a; match a with | 0 => rfl | 1 => rfl

theorem back640 (a : FVec Ideal S512x640 .bf16) (v : FVec Ideal S640x1024 .bf16) (r : Fin 512) (d : Fin 1024) :
    matmul dot_S512x640_S640x1024_S512x1024_1_0_0_1_n_n none a v (constant S512x1024 .f32 0x00000000#32) (ix2 r d)
      = ∑ f : Fin 640, a (ix2 r f) * v (ix2 f d) :=
  product_at _ rfl rfl a v _ _ _ (fun k => by funext a; match a with | 0 => rfl | 1 => rfl)
    fun k => by funext a; match a with | 0 => rfl | 1 => rfl

/-! ## The contributions of the four chunks -/

theorem pay11_apply (x : FVec Ideal S512x1024 .f32) (g u : FVec Ideal S512x768 .f32) (v : Vec Ideal S768x1024 .bf16) (r : Fin 512) (d : Fin 1024) :
    k0_pay11 (F := Ideal) x g u v (ix2 r d) = x (ix2 r d) + ∑ f : Fin 768, gated (g (ix2 r f)) (u (ix2 r f)) * v (ix2 f d) := by
  unfold k0_pay11
  refine congrArg (fun e : EReal => (x (ix2 r d) : EReal) + e) ((back768 _ v r d).trans ?_)
  exact Finset.sum_congr rfl fun f _ => congrArg (fun e : EReal => e * v (ix2 f d)) (gated_kernel _ _)

theorem pay16_apply (h : FVec Ideal S512x1024 .bf16) (w w' : Vec Ideal S1x1024x640 .bf16) (r : Fin 512) (f : Fin 640) :
    k0_pay16 (F := Ideal) h w w' (ix2 r f) = gated (k0_pay12 (F := Ideal) h w (ix2 r f)) (k0_pay12 (F := Ideal) h w' (ix2 r f)) :=
  gated_kernel _ _

theorem pay21_apply (h : FVec Ideal S512x1024 .bf16) (x : FVec Ideal S512x1024 .f32) (a : FVec Ideal S512x640 .bf16) (v : Vec Ideal S640x1024 .bf16)
    (w w' : Vec Ideal S1x1024x768 .bf16) (v' : Vec Ideal S768x1024 .bf16) (r : Fin 512) (d : Fin 1024) :
    k0_pay21 (F := Ideal) h x a v w w' v' (ix2 r d)
      = x (ix2 r d) + ∑ f : Fin 640, a (ix2 r f) * v (ix2 f d)
        + ∑ f : Fin 768, gated (k0_pay17 (F := Ideal) h w (ix2 r f)) (k0_pay17 (F := Ideal) h w' (ix2 r f)) * v' (ix2 f d) := by
  unfold k0_pay21
  refine congrArg₂ (fun e e' : EReal => (x (ix2 r d) : EReal) + e + e') (back640 a v r d) ((back768 _ v' r d).trans ?_)
  exact Finset.sum_congr rfl fun f _ => congrArg (fun e : EReal => e * v' (ix2 f d)) (gated_kernel _ _)

theorem pay4_apply (x : Vec Ideal S512x1024 .f32) (h : FVec Ideal S512x1024 .bf16) (y : FVec Ideal S512x1024 .f32) (g : FVec Ideal S512x640 .f32)
    (w : Vec Ideal S1x1024x640 .bf16) (v : Vec Ideal S640x1024 .bf16) (r : Fin 512) (d : Fin 1024) :
    k0_pay4 (F := Ideal) x h y g w v (ix2 r d)
      = x (ix2 r d) + Ideal.ofBits .f32 0x3F000000#32
        * (y (ix2 r d) + ∑ f : Fin 640, gated (g (ix2 r f)) (k0_pay12 (F := Ideal) h w (ix2 r f)) * v (ix2 f d)) := by
  unfold k0_pay4
  refine congrArg (fun e : EReal => (x (ix2 r d) : EReal) + Ideal.ofBits .f32 0x3F000000#32 * (y (ix2 r d) + e)) ((back640 _ v r d).trans ?_)
  exact Finset.sum_congr rfl fun f _ => congrArg (fun e : EReal => e * v (ix2 f d)) (gated_kernel _ _)

/-! ## What is stored of the first product -/

theorem lie768 (x : FVec Ideal S512x768 .bf16) (r : Fin 512) (f : Fin 768) :
    shapeCast S1x512x768 x shapeCasts_S512x768_S1x512x768 (ix3 0 r f) = x (ix2 r f) :=
  shapeCast_apply _ _ _ (ix2 r f) (by rewrite [Shape.rowMajor_val_two, Shape.rowMajor_val_three]; simp [ix2, ix3])

theorem lie640 (x : FVec Ideal S512x640 .bf16) (r : Fin 512) (f : Fin 640) :
    shapeCast S1x512x640 x shapeCasts_S512x640_S1x512x640 (ix3 0 r f) = x (ix2 r f) :=
  shapeCast_apply _ _ _ (ix2 r f) (by rewrite [Shape.rowMajor_val_two, Shape.rowMajor_val_three]; simp [ix2, ix3])

end Cert.Kernel4Ideal.Hand
-- ==== Proof.FwdReference.lean ====
/- The reference's two results are the same functions of its arguments as the kernel's. -/
module

public import proofs.«01_k».proof.Proof.FwdPay
public import proofs.«01_k».proof.Proof.Gen.Reference4Ideal.Run
public import proofs.«01_k».proof.Proof.Gen.Reference4Ideal.Read

@[expose] public section

set_option maxRecDepth 16384

noncomputable section

namespace Cert.Ffn

open Idealize.ShloMosaic Idealize.ShloMosaic.ValueIdx

theorem ent2_of {a b : ℕ} (v : (⟨2, ![a, b]⟩ : Shape).Idx → EReal) (i : (⟨2, ![a, b]⟩ : Shape).Idx) {r c : ℕ}
    (hr : (i 0).val = r) (hc : (i 1).val = c) : v i = ent2 v r c := by
  subst hr hc
  exact ent2_at v i

theorem ent3_of {a b d : ℕ} (v : (⟨3, ![a, b, d]⟩ : Shape).Idx → EReal) (i : (⟨3, ![a, b, d]⟩ : Shape).Idx) {k r c : ℕ}
    (hk : (i 0).val = k) (hr : (i 1).val = r) (hc : (i 2).val = c) : v i = ent3 v k r c := by
  subst hk hr hc
  exact ent3_at v i

end Cert.Ffn

namespace Cert.Reference4Ideal.Hand

open Cert.Ffn Cert.Reference4Ideal Cert.Reference4Ideal.Gen Cert.Reference4Ideal.Read
open Idealize.ShloMosaic Idealize.ShloMosaic.ValueIdx Idealize.SL.Sem

variable (x0 : (⟨S4096x1024, .f32⟩ : BufTy).Contents (Elt Ideal)) (x1 : (⟨S1x1024, .f32⟩ : BufTy).Contents (Elt Ideal))
  (x2 : (⟨S4x1024x1408, .bf16⟩ : BufTy).Contents (Elt Ideal)) (x3 : (⟨S2816x1024, .bf16⟩ : BufTy).Contents (Elt Ideal))

theorem norm_val (i : S4096x1024.Idx) :
    val_main_v11 (F := Ideal) x0 x1 i = normed (ent2 (a := 4096) (b := 1024) x0) (ent2 (a := 1) (b := 1024) x1) (i 0).val (i 1).val := by
  rw [val_main_v11_apply, val_main_v9_apply, val_main_v8_apply, val_main_v7_apply, val_main_v6_apply, val_main_v4_apply, val_main_v2_apply,
    val_main_v1_apply, val_main_v3_apply, val_main_v5_apply, val_main_v10_apply]
  unfold normed
  refine congrArg₂ (fun a b : EReal => a * b) (congrArg₂ (fun a b : EReal => a * Ideal.rsqrt (Ideal.div b (Ideal.ofBits .f32 0x44800000#32) + Ideal.ofBits .f32 0x358637BD#32))
    (ent2_of (a := 4096) (b := 1024) x0 i rfl rfl) ?_) (ent2_of (a := 1) (b := 1024) x1 _ ?_ rfl)
  · refine (congrArg₂ (fun a b : EReal => a + b) Ideal.ofBits_zero_f32 (Finset.sum_congr rfl fun k _ => ?_)).trans (zero_add _)
    rw [val_main_v0_apply]
    exact congrArg₂ (fun a b : EReal => a * b) (ent2_of (a := 4096) (b := 1024) x0 _ rfl rfl) (ent2_of (a := 4096) (b := 1024) x0 _ rfl rfl)
  · rfl

theorem wide_val (i : S4096x5632.Idx) :
    val_main_v16 (F := Ideal) x0 x1 x2 i
      = wide (ent2 (a := 4096) (b := 1024) x0) (ent2 (a := 1) (b := 1024) x1) (ent3 (a := 4) (b := 1024) (d := 1408) x2) (i 0).val (i 1).val := by
  have h1 : (i 1).val < 5632 := (i 1).isLt
  rw [val_main_v16_apply]
  unfold wide
  refine Finset.sum_congr rfl fun k _ => congrArg₂ (fun a b : EReal => a * b) (norm_val x0 x1 _) ?_
  rw [val_main_v14_apply]
  show val_main_v13 (F := Ideal) x2 _ = _
  rw [val_main_v13_apply, val_main_v12_apply]
  have hk : k.val < 1024 := k.isLt
  refine ent3_of (a := 4) (b := 1024) (d := 1408) x2 _ ?_ ?_ ?_
  · show (k.val * 5632 + (i 1).val) / 1408 % 4 = (i 1).val / 1408
    omega
  · show (k.val * 5632 + (i 1).val) / 5632 = k.val
    omega
  · show (k.val * 5632 + (i 1).val) % 1408 = (i 1).val % 1408
    omega

theorem gu_val (i : S2x4096x2816.Idx) :
    val_main_v27 (F := Ideal) x0 x1 x2 i
      = wide (ent2 (a := 4096) (b := 1024) x0) (ent2 (a := 1) (b := 1024) x1) (ent3 (a := 4) (b := 1024) (d := 1408) x2)
        (i 1).val ((i 0).val * 2816 + (i 2).val) := by
  have h0 : (i 0).val < 2 := (i 0).isLt
  have h2 : (i 2).val < 2816 := (i 2).isLt
  rw [val_main_v27_apply]
  show val_main_v26 (F := Ideal) x0 x1 x2 i = _
  rw [val_main_v26_apply, val_main_v25_apply, wide_val]
  refine congrArg₂ _ ?_ ?_
  · show (((i 1).val * 2 + (i 0).val) * 2816 + (i 2).val) / 5632 = (i 1).val
    omega
  · show (((i 1).val * 2 + (i 0).val) * 2816 + (i 2).val) % 5632 = (i 0).val * 2816 + (i 2).val
    omega

theorem x_val (i : S4096x1024.Idx) :
    val_main_v24 (F := Ideal) x0 x1 x2 x3 i
      = layer (ent2 (a := 4096) (b := 1024) x0) (ent2 (a := 1) (b := 1024) x1) (ent3 (a := 4) (b := 1024) (d := 1408) x2)
        (ent2 (a := 2816) (b := 1024) x3) (i 0).val (i 1).val := by
  rw [val_main_v24_apply, val_main_v23_apply, val_main_v22_apply, val_main_v21_apply]
  unfold layer
  refine congrArg₂ (fun a b : EReal => a + Ideal.ofBits .f32 0x3F000000#32 * b) (ent2_of (a := 4096) (b := 1024) x0 i rfl rfl) (Finset.sum_congr rfl fun f _ => ?_)
  unfold part
  rw [val_main_v20_apply, val_main_v19_apply, val_main_call0_v5_apply, val_main_call0_v4_apply, val_main_call0_v3_apply, val_main_call0_v2_apply,
    val_main_call0_v1_apply, val_main_call0_v0_apply, val_main_v18_apply, val_main_v17_apply, wide_val, wide_val]
  refine congrArg₂ (fun a b : EReal => a * b) (congrArg₂ gated (congrArg₂ _ ?_ ?_) (congrArg₂ _ ?_ ?_)) (ent2_of (a := 2816) (b := 1024) x3 _ rfl rfl)
  all_goals rfl

/-- The reference's run ends with the same two results, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = (fun i : S4096x1024.Idx =>
        layer (ent2 (a := 4096) (b := 1024) (m ((c.tc : Thread nD τ).loc main_arg0))) (ent2 (a := 1) (b := 1024) (m ((c.tc : Thread nD τ).loc main_arg1)))
          (ent3 (a := 4) (b := 1024) (d := 1408) (m ((c.tc : Thread nD τ).loc main_arg2))) (ent2 (a := 2816) (b := 1024) (m ((c.tc : Thread nD τ).loc main_arg3)))
          (i 0).val (i 1).val)
      ∧ r.2.mem ((c.tc : Thread nD τ).loc main_v27) = (fun i : S2x4096x2816.Idx =>
        wide (ent2 (a := 4096) (b := 1024) (m ((c.tc : Thread nD τ).loc main_arg0))) (ent2 (a := 1) (b := 1024) (m ((c.tc : Thread nD τ).loc main_arg1)))
          (ent3 (a := 4) (b := 1024) (d := 1408) (m ((c.tc : Thread nD τ).loc main_arg2))) (i 1).val ((i 0).val * 2816 + (i 2).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v24_eq _ _ _ _).trans (funext (x_val _ _ _ _))),
    (h c).2.1.trans ((val_main_v27_eq _ _ _).trans (funext (gu_val _ _ _))), (h c).2.2⟩) (Value.run (F := Ideal) m ρ)

end Cert.Reference4Ideal.Hand
-- ==== Proof.MixBeside.lean ====
/- Arrays side by side: the attention's columns before the convolution's, and the gradients of the mixer's input
   projection, one after another. -/
module

public import proofs.«01_k».proof.Proof.FwdReference

@[expose] public section

set_option maxRecDepth 16384

noncomputable section

namespace Cert.Ffn

open Idealize.ShloMosaic Idealize.ShloMosaic.ValueIdx

/-- 512 columns of `A`, then those of `C`. -/
def beside (A C : ℕ → ℕ → EReal) (r k : ℕ) : EReal := if k < 512 then A r k else C r (k - 512)

theorem beside_left (A C : ℕ → ℕ → EReal) (r : ℕ) {k : ℕ} (h : k < 512) : beside A C r k = A r k := if_pos h

theorem beside_right (A C : ℕ → ℕ → EReal) (r k : ℕ) : beside A C r (512 + k) = C r k := by
  unfold beside
  rw [if_neg (by omega), Nat.add_sub_cancel_left]

theorem beside_val (x y : (⟨2, ![4096, 512]⟩ : Shape).Idx → EReal)
    (h : Shape.Concatenates [⟨2, ![4096, 512]⟩, ⟨2, ![4096, 512]⟩] (⟨2, ![4096, 1024]⟩ : Shape) 1) (i : (⟨2, ![4096, 1024]⟩ : Shape).Idx) :
    concatenate (⟨2, ![4096, 1024]⟩ : Shape) 1 [⟨⟨2, ![4096, 512]⟩, x⟩, ⟨⟨2, ![4096, 512]⟩, y⟩] h i
      = beside (ent2 (a := 4096) (b := 512) x) (ent2 (a := 4096) (b := 512) y) (i 0).val (i 1).val := by
  have hi0 : (i 0).val < 4096 := (i 0).isLt
  have hi1 : (i 1).val < 1024 := (i 1).isLt
  unfold beside
  by_cases hp : (i 1).val < 512
  · rw [if_pos hp]
    exact (concatenate_pair_apply_left (t := ⟨2, ![4096, 1024]⟩) (s₁ := ⟨2, ![4096, 512]⟩) (s₂ := ⟨2, ![4096, 512]⟩) 1 x y h i rfl
      (ix2 (⟨(i 0).val, hi0⟩ : Fin 4096) (⟨(i 1).val, hp⟩ : Fin 512)) (fun b => by fin_cases b <;> rfl)).trans
      (ent2_of (a := 4096) (b := 512) x _ rfl rfl)
  · rw [if_neg hp]
    exact (concatenate_pair_apply_right (t := ⟨2, ![4096, 1024]⟩) (s₁ := ⟨2, ![4096, 512]⟩) (s₂ := ⟨2, ![4096, 512]⟩) 1 x y h i rfl rfl
      (ix2 (⟨(i 0).val, hi0⟩ : Fin 4096) (⟨(i 1).val - 512, by omega⟩ : Fin 512)) (fun b hb => by
        fin_cases b
        · rfl
        · exact absurd rfl hb)
      (show (i 1).val - 512 + 512 = (i 1).val by omega)).trans
      (ent2_of (a := 4096) (b := 512) y _ rfl rfl)

/-- 512 columns of `Q`, then 256 of `K`, then those of `U`. -/
def three (Q K U : ℕ → ℕ → EReal) (r k : ℕ) : EReal := if k < 512 then Q r k else if k < 768 then K r (k - 512) else U r (k - 768)

theorem three_first (Q K U : ℕ → ℕ → EReal) (r : ℕ) {k : ℕ} (h : k < 512) : three Q K U r k = Q r k := if_pos h

theorem three_middle (Q K U : ℕ → ℕ → EReal) (r : ℕ) {k : ℕ} (h : k < 256) : three Q K U r (512 + k) = K r k := by
  unfold three
  rw [if_neg (by omega), if_pos (by omega), Nat.add_sub_cancel_left]

theorem three_last (Q K U : ℕ → ℕ → EReal) (r k : ℕ) : three Q K U r (768 + k) = U r k := by
  unfold three
  rw [if_neg (by omega), if_neg (by omega), Nat.add_sub_cancel_left]

theorem three_val (x : (⟨2, ![4096, 512]⟩ : Shape).Idx → EReal) (y : (⟨2, ![4096, 256]⟩ : Shape).Idx → EReal) (z : (⟨2, ![4096, 1024]⟩ : Shape).Idx → EReal)
    (h : Shape.Concatenates [⟨2, ![4096, 512]⟩, ⟨2, ![4096, 256]⟩, ⟨2, ![4096, 1024]⟩] (⟨2, ![4096, 1792]⟩ : Shape) 1) (i : (⟨2, ![4096, 1792]⟩ : Shape).Idx) :
    concatenate (⟨2, ![4096, 1792]⟩ : Shape) 1 [⟨⟨2, ![4096, 512]⟩, x⟩, ⟨⟨2, ![4096, 256]⟩, y⟩, ⟨⟨2, ![4096, 1024]⟩, z⟩] h i
      = three (ent2 (a := 4096) (b := 512) x) (ent2 (a := 4096) (b := 256) y) (ent2 (a := 4096) (b := 1024) z) (i 0).val (i 1).val := by
  have hi0 : (i 0).val < 4096 := (i 0).isLt
  have hi1 : (i 1).val < 1792 := (i 1).isLt
  unfold three
  by_cases hp : (i 1).val < 512
  · rw [if_pos hp]
    exact (concatenate_apply_piece (t := ⟨2, ![4096, 1792]⟩) 1 [⟨⟨2, ![4096, 512]⟩, x⟩, ⟨⟨2, ![4096, 256]⟩, y⟩, ⟨⟨2, ![4096, 1024]⟩, z⟩] h i 0 (show 0 < 3 by decide) ⟨2, ![4096, 512]⟩ x rfl rfl 0 rfl
      (ix2 (⟨(i 0).val, hi0⟩ : Fin 4096) (⟨(i 1).val, by omega⟩ : Fin 512)) (fun b hb => by
        fin_cases b
        · rfl
        · exact absurd rfl hb)
      (show 0 + ((i 1).val) = (i 1).val by omega)).trans
      (ent2_of (a := 4096) (b := 512) x _ rfl rfl)
  by_cases hq : (i 1).val < 768
  · rw [if_neg hp, if_pos hq]
    exact (concatenate_apply_piece (t := ⟨2, ![4096, 1792]⟩) 1 [⟨⟨2, ![4096, 512]⟩, x⟩, ⟨⟨2, ![4096, 256]⟩, y⟩, ⟨⟨2, ![4096, 1024]⟩, z⟩] h i 1 (show 1 < 3 by decide) ⟨2, ![4096, 256]⟩ y rfl rfl 512 rfl
      (ix2 (⟨(i 0).val, hi0⟩ : Fin 4096) (⟨(i 1).val - 512, by omega⟩ : Fin 256)) (fun b hb => by
        fin_cases b
        · rfl
        · exact absurd rfl hb)
      (show 512 + ((i 1).val - 512) = (i 1).val by omega)).trans
      (ent2_of (a := 4096) (b := 256) y _ rfl rfl)
  · rw [if_neg hp, if_neg hq]
    exact (concatenate_apply_piece (t := ⟨2, ![4096, 1792]⟩) 1 [⟨⟨2, ![4096, 512]⟩, x⟩, ⟨⟨2, ![4096, 256]⟩, y⟩, ⟨⟨2, ![4096, 1024]⟩, z⟩] h i 2 (show 2 < 3 by decide) ⟨2, ![4096, 1024]⟩ z rfl rfl 768 rfl
      (ix2 (⟨(i 0).val, hi0⟩ : Fin 4096) (⟨(i 1).val - 768, by omega⟩ : Fin 1024)) (fun b hb => by
        fin_cases b
        · rfl
        · exact absurd rfl hb)
      (show 768 + ((i 1).val - 768) = (i 1).val by omega)).trans
      (ent2_of (a := 4096) (b := 1024) z _ rfl rfl)

end Cert.Ffn
-- ==== Proof.BwdMath.lean ====
/- The gradient of the gated feed-forward layer over extended reals: how far a small change of a row of the input, of the
   gain and of the two products moves the layer's output, first as the kernel multiplies it out and then as the chain rule does. -/
module

public import proofs.«01_k».proof.Proof.FwdPay
public import proofs.«01_k».proof.Proof.AttnRow

@[expose] public section

set_option maxRecDepth 16384

noncomputable section

namespace Cert.Ffn

open Idealize.ShloMosaic Idealize.ShloMosaic.ValueIdx
open Cert.KernelIdeal.Hand (c_one)
open Attn (coe_sum coe_one_div)

/-! ## The gradient as the kernel multiplies it out -/

/-- The gate: the logistic function. -/
def gate (g : EReal) : EReal :=
  Ideal.div (Ideal.ofBits .f32 0x3F800000#32) (Ideal.ofBits .f32 0x3F800000#32 + Ideal.exp (-g))

/-- The mean square of row `r`, with a small number added. -/
def meansq (X : ℕ → ℕ → EReal) (r : ℕ) : EReal :=
  Ideal.div (∑ k : Fin 1024, X r k.val * X r k.val) (Ideal.ofBits .f32 0x44800000#32) + Ideal.ofBits .f32 0x358637BD#32

/-- The factor that normalises row `r`. -/
def scale (X : ℕ → ℕ → EReal) (r : ℕ) : EReal := Ideal.rsqrt (meansq X r)

/-- The gradient of the gated value in row `r` and column `f`: half the output's gradient times the second weights. -/
def dAct (D V : ℕ → ℕ → EReal) (r f : ℕ) : EReal :=
  ∑ k : Fin 1024, Ideal.ofBits .f32 0x3F000000#32 * D r k.val * V f k.val

/-- The gradient of a gate `g` whose value is `u`, the gated value's gradient being `a`. -/
def gateGrad (a g u : EReal) : EReal := a * u * (gate g + g * gate g * (Ideal.ofBits .f32 0x3F800000#32 - gate g))

/-- The gradient of a value whose gate is `g`, the gated value's gradient being `a`. -/
def valueGrad (a g : EReal) : EReal := a * (g * gate g)

section Layer

variable (D X G : ℕ → ℕ → EReal) (W : ℕ → ℕ → ℕ → EReal) (V : ℕ → ℕ → EReal)

/-- The gradient of column `p` of the first product: the 2816 gates and then the 2816 values. -/
def dWide (r p : ℕ) : EReal :=
  if p < 2816 then gateGrad (dAct D V r p) (wide X G W r p) (wide X G W r (2816 + p))
  else valueGrad (dAct D V r (p - 2816)) (wide X G W r (p - 2816))

/-- The gradient of the normalised entry in row `r` and column `d`. -/
def dNorm (r d : ℕ) : EReal := ∑ p : Fin 5632, dWide D X G W V r p.val * W (p.val / 1408) d (p.val % 1408)

/-- The gradient of the input in row `r` and column `d`. -/
def dIn (r d : ℕ) : EReal :=
  D r d + scale X r * (dNorm D X G W V r d * G 0 d - X r d * scale X r
    * Ideal.div (∑ k : Fin 1024, dNorm D X G W V r k.val * G 0 k.val * (X r k.val * scale X r)) (Ideal.ofBits .f32 0x44800000#32))

/-- The gradient of the gain in column `d`. -/
def dGain (d : ℕ) : EReal := ∑ r : Fin 4096, dNorm D X G W V r.val d * (X r.val d * scale X r.val)

end Layer

/-- The gate as the kernel computes it: minus by subtracting from zero, the quotient by a reciprocal. -/
theorem gate_kernel (g : EReal) :
    Ideal.div 1 (Ideal.ofBits .f32 0x3F800000#32 + Ideal.exp (Ideal.ofBits .f32 0x00000000#32 - g)) = gate g := by
  unfold gate
  rw [Ideal.ofBits_zero_f32, zero_sub, c_one]

/-- A sum over the 5632 columns in four slabs, taken slab 0, 2, 1, 3. -/
theorem sum_slabs (g : ℕ → EReal) :
    0 + ∑ f : Fin 1408, g f.val + ∑ f : Fin 1408, g (2816 + f.val) + ∑ f : Fin 1408, g (1408 + f.val) + ∑ f : Fin 1408, g (4224 + f.val)
      = ∑ p : Fin 5632, g p.val := by
  have e1 : ∑ f : Fin 5632, g f.val = ∑ f : Fin 4224, g f.val + ∑ f : Fin 1408, g (4224 + f.val) :=
    Fin.sum_univ_add (a := 4224) (b := 1408) (fun r => g r.val)
  have e2 : ∑ f : Fin 4224, g f.val = ∑ f : Fin 2816, g f.val + ∑ f : Fin 1408, g (2816 + f.val) :=
    Fin.sum_univ_add (a := 2816) (b := 1408) (fun r => g r.val)
  have e3 : ∑ f : Fin 2816, g f.val = ∑ f : Fin 1408, g f.val + ∑ f : Fin 1408, g (1408 + f.val) :=
    Fin.sum_univ_add (a := 1408) (b := 1408) (fun r => g r.val)
  rw [e1, e2, e3, zero_add, add_right_comm (∑ f : Fin 1408, g f.val)]

/-! ## Finite entries -/

/-- A real number. -/
def Num (e : EReal) : Prop := ∃ x : ℝ, e = (x : EReal)

theorem Num.add {a b : EReal} : Num a → Num b → Num (a + b) := by
  rintro ⟨x, rfl⟩ ⟨y, rfl⟩; exact ⟨x + y, (EReal.coe_add x y).symm⟩

theorem Num.mul {a b : EReal} : Num a → Num b → Num (a * b) := by
  rintro ⟨x, rfl⟩ ⟨y, rfl⟩; exact ⟨x * y, (EReal.coe_mul x y).symm⟩

theorem Num.sub {a b : EReal} : Num a → Num b → Num (a - b) := by
  rintro ⟨x, rfl⟩ ⟨y, rfl⟩; exact ⟨x - y, (EReal.coe_sub x y).symm⟩

theorem Num.sum {n : ℕ} {f : Fin n → EReal} (h : ∀ k, Num (f k)) : Num (∑ k, f k) := by
  choose x hx using h
  exact ⟨∑ k, x k, by rw [coe_sum]; exact Finset.sum_congr rfl fun k _ => hx k⟩

theorem c_half : Ideal.ofBits .f32 0x3F000000#32 = ((1 / 2 : ℝ) : EReal) := by
  simp [Ideal.ofBits, Ideal.ieee]
  rw [← EReal.coe_mul]; norm_num

theorem c_mhalf : Ideal.ofBits .f32 0xBF000000#32 = ((-1 / 2 : ℝ) : EReal) := by
  simp [Ideal.ofBits, Ideal.ieee]
  rw [← EReal.coe_mul, ← EReal.coe_neg]; norm_num

theorem c_width : Ideal.ofBits .f32 0x44800000#32 = ((1024 : ℝ) : EReal) := by
  simp [Ideal.ofBits, Ideal.ieee]
  rw [← EReal.coe_mul]; norm_num

theorem c_small : ∃ e : ℝ, 0 < e ∧ Ideal.ofBits .f32 0x358637BD#32 = (e : EReal) := by
  refine ⟨8796093 / 2 ^ 43, by positivity, ?_⟩
  simp [Ideal.ofBits, Ideal.ieee]
  rw [← EReal.coe_mul]; norm_num

/-- The gate of a real number is a real number. -/
theorem gate_num {g : EReal} (h : Num g) : Num (gate g) := by
  obtain ⟨x, rfl⟩ := h
  refine ⟨1 / (1 + Real.exp (-x)), ?_⟩
  unfold gate
  rw [c_one, ← EReal.coe_neg, Ideal.exp_coe, ← EReal.coe_one, ← EReal.coe_add]
  exact coe_one_div 1 (by positivity)

/-- A row's mean square is a positive number and its scale the reciprocal root, or it is infinite and its scale zero. -/
theorem scale_cases (X : ℕ → ℕ → EReal) (r : ℕ) :
    (∃ m : ℝ, 0 < m ∧ meansq X r = (m : EReal) ∧ scale X r = (((√m)⁻¹ : ℝ) : EReal)) ∨ (meansq X r = ⊤ ∧ scale X r = 0) := by
  have hs : 0 ≤ ∑ k : Fin 1024, X r k.val * X r k.val := Finset.sum_nonneg fun k _ =>
    EReal.mul_nonneg_iff.mpr ((le_total 0 (X r k.val)).imp (fun h => ⟨h, h⟩) fun h => ⟨h, h⟩)
  obtain ⟨e, he, hc⟩ := c_small
  have hw : (1024 : ℝ) ≠ 0 := by norm_num
  unfold scale meansq
  generalize ∑ k : Fin 1024, X r k.val * X r k.val = s at hs
  rw [hc, c_width]
  induction s with
  | bot => exact absurd hs (by simp)
  | top =>
    rw [Ideal.div_coe hw, EReal.top_mul_coe_of_pos (by norm_num), EReal.top_add_coe]
    exact .inr ⟨rfl, Ideal.rsqrt_top⟩
  | coe t =>
    have ht : 0 ≤ t := EReal.coe_nonneg.mp hs
    have hm : 0 < t / 1024 + e := by positivity
    rw [coe_one_div _ hw, ← EReal.coe_add]
    exact .inl ⟨_, hm, rfl, by rw [Ideal.rsqrt_coe, if_neg (not_lt.mpr hm.le), if_neg hm.ne']⟩

/-! ## The chain rule's form -/

/-- The gradient of a gate, its two paths added: through the gated value and through the gate's own slope. -/
theorem gateGrad_chain {a g u : EReal} (ha : Num a) (hg : Num g) (hu : Num u) :
    a * u * gate g + g * (a * u) * (gate g * (Ideal.ofBits .f32 0x3F800000#32 - gate g)) = gateGrad a g u := by
  unfold gateGrad
  obtain ⟨s, hs⟩ := gate_num hg
  obtain ⟨x, rfl⟩ := ha
  obtain ⟨y, rfl⟩ := hg
  obtain ⟨z, rfl⟩ := hu
  rw [hs, c_one, ← EReal.coe_one]
  simp only [← EReal.coe_mul, ← EReal.coe_add, ← EReal.coe_sub]
  congr 1; ring

/-- A sum times a nonnegative real number. -/
theorem sum_mul_real {r : ℝ} (hr : 0 ≤ r) (f : Fin 1024 → EReal) : (∑ k, f k) * (r : EReal) = ∑ k, f k * (r : EReal) :=
  map_sum (⟨⟨fun y => y * (r : EReal), zero_mul _⟩,
    EReal.right_distrib_of_nonneg_of_ne_top (EReal.coe_nonneg.mpr hr) (EReal.coe_ne_top r)⟩ : EReal →+ EReal) f Finset.univ

/-- The gradient of a normalised entry `d` of a row `x`: directly, and twice through the mean square. At infinite entries too:
    either the row's scale is a positive number or it is zero. -/
theorem row_chain (X : ℕ → ℕ → EReal) (r : ℕ) (n g : Fin 1024 → EReal) (D : EReal) (d : Fin 1024)
    {S : EReal} (hS : S = Ideal.div ((∑ k : Fin 1024, X r k.val * (n k * g k))
      * (Ideal.ofBits .f32 0xBF000000#32 * Ideal.div (scale X r) (meansq X r))) (Ideal.ofBits .f32 0x44800000#32)) :
    D + (n d * g d * scale X r + X r d.val * S + S * X r d.val)
      = D + scale X r * (n d * g d - X r d.val * scale X r
        * Ideal.div (∑ k : Fin 1024, n k * g k * (X r k.val * scale X r)) (Ideal.ofBits .f32 0x44800000#32)) := by
  have hw : (1024 : ℝ) ≠ 0 := by norm_num
  refine congrArg (fun e : EReal => D + e) ?_
  rw [hS, c_width, c_mhalf, Ideal.div_coe hw, Ideal.div_coe hw]
  obtain ⟨m, hm, hms, hrr⟩ | ⟨hms, hrr⟩ := scale_cases X r
  · have hq : 0 ≤ (√m)⁻¹ := by positivity
    have e1 : ∑ k : Fin 1024, n k * g k * (X r k.val * scale X r) = (∑ k : Fin 1024, X r k.val * (n k * g k)) * (((√m)⁻¹ : ℝ) : EReal) := by
      rw [sum_mul_real hq, hrr]
      exact Finset.sum_congr rfl fun k _ => by rw [← mul_assoc, mul_comm (n k * g k)]
    have e2 : (√m)⁻¹ / m = (√m)⁻¹ * ((√m)⁻¹ * (√m)⁻¹) := by
      rw [← mul_inv, Real.mul_self_sqrt hm.le]; rfl
    have two : ∀ y : EReal, y + y = y * ((2 : ℝ) : EReal) := fun y => by
      rw [show ((2 : ℝ) : EReal) = 1 + 1 by rw [← EReal.coe_one, ← EReal.coe_add]; norm_num,
        EReal.left_distrib_of_nonneg zero_le_one zero_le_one, mul_one]
    rw [e1, hrr, hms, coe_one_div _ hm.ne', e2]
    generalize ∑ k : Fin 1024, X r k.val * (n k * g k) = A
    generalize X r d.val = x
    generalize (√m)⁻¹ = q at hq
    rw [mul_comm _ x, add_assoc, two, sub_eq_add_neg,
      EReal.left_distrib_of_nonneg_of_ne_top (EReal.coe_nonneg.mpr hq) (EReal.coe_ne_top q), mul_comm (q : EReal) (n d * g d)]
    refine congrArg (fun e : EReal => n d * g d * (q : EReal) + e) ?_
    have l : x * (A * (((-1 / 2 : ℝ) : EReal) * ((q * (q * q) : ℝ) : EReal)) * ((1 / 1024 : ℝ) : EReal)) * ((2 : ℝ) : EReal)
        = x * A * ((-(q * q * q / 1024) : ℝ) : EReal) := by
      rw [mul_assoc A, ← mul_assoc x, mul_assoc (x * A), ← EReal.coe_mul, ← EReal.coe_mul, ← EReal.coe_mul]
      congr 2; ring
    have u : x * (q : EReal) * (A * (q : EReal) * ((1 / 1024 : ℝ) : EReal)) * (q : EReal) = x * A * ((q * q * q / 1024 : ℝ) : EReal) := by
      rw [mul_assoc A, mul_mul_mul_comm, mul_assoc (x * A), ← EReal.coe_mul, ← EReal.coe_mul, ← EReal.coe_mul]
      congr 2; ring
    rw [l, mul_comm (q : EReal), neg_mul, u, EReal.coe_neg, mul_neg]
  · rw [hrr, hms]
    have z : Ideal.div 0 ⊤ = 0 := by
      unfold Ideal.div
      rw [if_neg EReal.top_ne_zero, zero_mul]
    rw [z]
    simp only [mul_zero, zero_mul, add_zero]

section Finite

variable {D X G : ℕ → ℕ → EReal} {W : ℕ → ℕ → ℕ → EReal} {V : ℕ → ℕ → EReal}
variable (hD : ∀ r d, Num (D r d)) (hX : ∀ r d, Num (X r d)) (hG : ∀ r d, Num (G r d)) (hW : ∀ s r d, Num (W s r d)) (hV : ∀ r d, Num (V r d))

theorem scale_num (X : ℕ → ℕ → EReal) (r : ℕ) : Num (scale X r) := by
  obtain ⟨m, _, _, h⟩ | ⟨_, h⟩ := scale_cases X r
  · exact ⟨_, h⟩
  · exact ⟨0, h⟩

include hX hG hW in
theorem wide_num (r p : ℕ) : Num (wide X G W r p) :=
  Num.sum fun _ => (((hX _ _).mul (scale_num X r)).mul (hG _ _)).mul (hW _ _ _)

include hD hV in
theorem dAct_num (r f : ℕ) : Num (dAct D V r f) := Num.sum fun _ => (Num.mul ⟨_, c_half⟩ (hD _ _)).mul (hV _ _)

end Finite

/-- The gradient of the input as the chain rule gives it. -/
theorem dIn_chain (D X G : ℕ → ℕ → EReal) (W : ℕ → ℕ → ℕ → EReal) (V : ℕ → ℕ → EReal) (r : ℕ) (d : Fin 1024) {S : EReal}
    (hS : S = Ideal.div ((∑ k : Fin 1024, X r k.val * (dNorm D X G W V r k.val * G 0 k.val))
      * (Ideal.ofBits .f32 0xBF000000#32 * Ideal.div (scale X r) (meansq X r))) (Ideal.ofBits .f32 0x44800000#32)) :
    D r d.val + (dNorm D X G W V r d.val * G 0 d.val * scale X r + X r d.val * S + S * X r d.val) = dIn D X G W V r d.val :=
  row_chain X r (fun k => dNorm D X G W V r k.val) (fun k => G 0 k.val) (D r d.val) d hS

end Cert.Ffn
-- ==== Proof.MixBack.lean ====
/- The gradient through the mixer's normalisation: the three gradients of the input projection are multiplied back into the
   gradient of the normalised rows, and from there the chain rule leads to the input's and the gain's gradients. -/
module

public import proofs.«01_k».proof.Proof.MixBeside
public import proofs.«01_k».proof.Proof.BwdMath
public import proofs.«01_k».proof.Proof.Gen.Kernel11Ideal.Frame

@[expose] public section

set_option maxRecDepth 16384

noncomputable section

namespace Cert.Ffn

open Idealize.ShloMosaic Idealize.ShloMosaic.ValueIdx

/-- The gradient of the normalised entry in row `r` and column `d`. -/
def dRow (Z T : ℕ → ℕ → EReal) (r d : ℕ) : EReal := ∑ f : Fin 1792, Z r f.val * T f.val d

/-- The gradient of the input in row `r` and column `d`, `N` being the normalised rows' gradient. -/
def backIn (D X G N : ℕ → ℕ → EReal) (r d : ℕ) : EReal :=
  D r d + scale X r * (N r d * G 0 d - X r d * scale X r
    * Ideal.div (∑ k : Fin 1024, N r k.val * G 0 k.val * (X r k.val * scale X r)) (Ideal.ofBits .f32 0x44800000#32))

/-- The gradient of the gain in column `d`. -/
def backGain (X N : ℕ → ℕ → EReal) (d : ℕ) : EReal := ∑ r : Fin 4096, N r.val d * (X r.val d * scale X r.val)

/-- The 1792 columns in the three groups the projection has. -/
theorem sum_groups (g : ℕ → EReal) :
    0 + ∑ f : Fin 512, g f.val + ∑ f : Fin 256, g (512 + f.val) + ∑ f : Fin 1024, g (768 + f.val) = ∑ f : Fin 1792, g f.val := by
  have e1 : ∑ f : Fin 1792, g f.val = ∑ f : Fin 768, g f.val + ∑ f : Fin 1024, g (768 + f.val) :=
    Fin.sum_univ_add (a := 768) (b := 1024) (fun r => g r.val)
  have e2 : ∑ f : Fin 768, g f.val = ∑ f : Fin 512, g f.val + ∑ f : Fin 256, g (512 + f.val) :=
    Fin.sum_univ_add (a := 512) (b := 256) (fun r => g r.val)
  rw [e1, e2, zero_add]

end Cert.Ffn

namespace Cert.Kernel11Ideal.Hand

open Cert.Ffn Cert.Kernel11Ideal Cert.Kernel11Ideal.Gen
open Idealize.ShloMosaic Idealize.ShloMosaic.ValueIdx Idealize.ShloMosaic.TcCoe Idealize.SL.Sem
open Idealize.ShloMosaic.Pipeline (Dat Cfg Window FramePost)

/-! ## Rows, columns and products -/

theorem first_product (x : FVec Ideal S512x512 .bf16) (y : FVec Ideal S512x1024 .bf16) (r : Fin 512) (d : Fin 1024) :
    matmul dot_S512x512_S512x1024_S512x1024_1_0_0_1_n_n none x y (constant S512x1024 .f32 0x00000000#32) (ix2 r d)
      = ∑ k : Fin 512, x (ix2 r k) * y (ix2 k d) :=
  product_at _ rfl rfl x y _ _ _ (fun k => by funext a; match a with | 0 => rfl | 1 => rfl)
    fun k => by funext a; match a with | 0 => rfl | 1 => rfl

theorem middle_product (x : FVec Ideal S512x256 .bf16) (y : FVec Ideal S256x1024 .bf16) (r : Fin 512) (d : Fin 1024) :
    matmul dot_S512x256_S256x1024_S512x1024_1_0_0_1_n_n none x y (constant S512x1024 .f32 0x00000000#32) (ix2 r d)
      = ∑ k : Fin 256, x (ix2 r k) * y (ix2 k d) :=
  product_at _ rfl rfl x y _ _ _ (fun k => by funext a; match a with | 0 => rfl | 1 => rfl)
    fun k => by funext a; match a with | 0 => rfl | 1 => rfl

theorem last_product (x : FVec Ideal S512x1024 .bf16) (y : FVec Ideal S1024x1024 .bf16) (r : Fin 512) (d : Fin 1024) :
    matmul dot_S512x1024_S1024x1024_S512x1024_1_0_0_1_n_n none x y (constant S512x1024 .f32 0x00000000#32) (ix2 r d)
      = ∑ k : Fin 1024, x (ix2 r k) * y (ix2 k d) :=
  product_at _ rfl rfl x y _ _ _ (fun k => by funext a; match a with | 0 => rfl | 1 => rfl)
    fun k => by funext a; match a with | 0 => rfl | 1 => rfl

/-! ## What a point computes from its blocks -/

theorem pay5_apply (q : Vec Ideal S512x512 .bf16) (u : Vec Ideal S512x1024 .bf16) (k : Vec Ideal S512x256 .bf16) (v : Vec Ideal S256x1024 .bf16)
    (z : Vec Ideal S512x1024 .bf16) (w : Vec Ideal S1024x1024 .bf16) (r : Fin 512) (d : Fin 1024) :
    k0_pay5 (F := Ideal) q u k v z w (ix2 r d)
      = Ideal.ofBits .f32 0x00000000#32 + ∑ f : Fin 512, q (ix2 r f) * u (ix2 f d) + ∑ f : Fin 256, k (ix2 r f) * v (ix2 f d)
        + ∑ f : Fin 1024, z (ix2 r f) * w (ix2 f d) := by
  unfold k0_pay5
  exact congrArg₂ (fun a b : EReal => a + b) (congrArg₂ (fun a b : EReal => Ideal.ofBits .f32 0x00000000#32 + a + b) (first_product q u r d)
    (middle_product k v r d)) (last_product z w r d)

theorem pay6_apply (x : Vec Ideal S512x1024 .f32) (r : Fin 512) :
    k0_pay6 (F := Ideal) x (ix2 r 0)
      = Ideal.rsqrt (Ideal.div (∑ k : Fin 1024, x (ix2 r k) * x (ix2 r k)) (Ideal.ofBits .f32 0x44800000#32) + Ideal.ofBits .f32 0x358637BD#32) :=
  congrArg (fun e : EReal => Ideal.rsqrt (Ideal.div e (Ideal.ofBits .f32 0x44800000#32) + Ideal.ofBits .f32 0x358637BD#32))
    ((stand_apply _ r).trans (row_sum _ r))

theorem pay7_apply (x : Vec Ideal S512x1024 .f32) (r : Fin 512) (d : Fin 1024) :
    k0_pay7 (F := Ideal) x (ix2 r d) = x (ix2 r d) * k0_pay6 (F := Ideal) x (ix2 r 0) :=
  congrArg (fun e : EReal => x (ix2 r d) * e) (along_apply _ r d)

theorem pay3_apply (g : Vec Ideal S1x1024 .f32) (x : FVec Ideal S512x1024 .f32) (r : Fin 512) (d : Fin 1024) :
    k0_pay3 (F := Ideal) g x (ix2 r d) = x (ix2 r d) * g (ix2 0 d) :=
  congrArg (fun e : EReal => x (ix2 r d) * e) (down_apply g r d)

theorem pay2_apply (n x : FVec Ideal S512x1024 .f32) (s : Vec Ideal S1x1024 .f32) (d : Fin 1024) :
    k0_pay2 (F := Ideal) n x s (ix2 0 d) = s (ix2 0 d) + ∑ r : Fin 512, n (ix2 r d) * x (ix2 r d) := by
  unfold k0_pay2
  exact congrArg₂ (fun a b : EReal => a + b) (congrFun (shapeCast_self _ _) _) ((flat_apply _ d).trans (column_sum _ d))

theorem pay8_apply (q : Vec Ideal S512x512 .bf16) (u : Vec Ideal S512x1024 .bf16) (k : Vec Ideal S512x256 .bf16) (v : Vec Ideal S256x1024 .bf16)
    (z : Vec Ideal S512x1024 .bf16) (w : Vec Ideal S1024x1024 .bf16) (g : Vec Ideal S1x1024 .f32) (r : Fin 512) (d : Fin 1024) :
    k0_pay8 (F := Ideal) q u k v z w g (ix2 r d) = k0_pay5 (F := Ideal) q u k v z w (ix2 r d) * g (ix2 0 d) :=
  congrArg (fun e : EReal => k0_pay5 (F := Ideal) q u k v z w (ix2 r d) * e) (down_apply g r d)

theorem pay9_apply (q : Vec Ideal S512x512 .bf16) (u : Vec Ideal S512x1024 .bf16) (k : Vec Ideal S512x256 .bf16) (v : Vec Ideal S256x1024 .bf16)
    (z : Vec Ideal S512x1024 .bf16) (w : Vec Ideal S1024x1024 .bf16) (x : Vec Ideal S512x1024 .f32) (g : Vec Ideal S1x1024 .f32) (r : Fin 512) :
    k0_pay9 (F := Ideal) q u k v z w x g (ix1 r)
      = ∑ d : Fin 1024, k0_pay8 (F := Ideal) q u k v z w g (ix2 r d) * k0_pay7 (F := Ideal) x (ix2 r d) :=
  row_sum _ r

theorem pay1_apply (s : FVec Ideal S512x1 .f32) (x n : FVec Ideal S512x1024 .f32) (p : FVec Ideal S512 .f32) (D : Vec Ideal S512x1024 .f32)
    (r : Fin 512) (d : Fin 1024) :
    k0_pay1 (F := Ideal) s x n p D (ix2 r d)
      = D (ix2 r d) + s (ix2 r 0) * (n (ix2 r d) - x (ix2 r d) * Ideal.div (p (ix1 r)) (Ideal.ofBits .f32 0x44800000#32)) := by
  unfold k0_pay1
  refine congrArg₂ (fun a b : EReal => (D (ix2 r d) : EReal) + a * b) (along_apply _ r d)
    (congrArg (fun a : EReal => n (ix2 r d) - x (ix2 r d) * a) ((along_apply _ r d).trans ?_))
  exact congrArg (fun a : EReal => Ideal.div a (Ideal.ofBits .f32 0x44800000#32)) (stand_apply _ r)

/-! ## The blocks -/

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])
theorem e8 : ∀ t : Fin cfg0.N, win0_8.index t = ![0, 0] := (by decide +kernel : ∀ t : Fin grid0.N, win0_8.index t = ![0, 0])
theorem e9 : ∀ t : Fin cfg0.N, win0_9.index t = ![t.val, 0] := (by decide +kernel : ∀ t : Fin grid0.N, win0_9.index t = ![t.val, 0])

variable (m : (ℓ : Loc nD τ sig) → Buf (Elt Ideal) ℓ) (c : Dev nD)

def argD : ℕ → ℕ → EReal := ent2 (a := 4096) (b := 1024) (m ((c : Thread nD τ).loc main_arg0))
def argX : ℕ → ℕ → EReal := ent2 (a := 4096) (b := 1024) (m ((c : Thread nD τ).loc main_arg1))
def argG : ℕ → ℕ → EReal := ent2 (a := 1) (b := 1024) (m ((c : Thread nD τ).loc main_arg2))
def argQ : ℕ → ℕ → EReal := ent2 (a := 4096) (b := 512) (m ((c : Thread nD τ).loc main_arg3))
def argK : ℕ → ℕ → EReal := ent2 (a := 4096) (b := 256) (m ((c : Thread nD τ).loc main_arg4))
def argU : ℕ → ℕ → EReal := ent2 (a := 4096) (b := 1024) (m ((c : Thread nD τ).loc main_arg5))
def argT : ℕ → ℕ → EReal := ent2 (a := 1792) (b := 1024) (m ((c : Thread nD τ).loc main_arg6))

/-- The gradient of the normalised rows. -/
def norms : ℕ → ℕ → EReal := dRow (three (argQ m c) (argK m c) (argU m c)) (argT m c)

theorem in0 (t : Fin cfg0.N) (r : Fin 512) (d : Fin 1024) : iblk m c 0 t (ix2 r d) = argD m c (t.val * 512 + r.val) d.val := by
  blk_simp [iblk]
  rw [show V m c main_arg0 = m ((c : Thread nD τ).loc main_arg0) from V_main_arg0 m c]
  refine (ent2_at (a := 4096) (b := 1024) _ _).trans ?_
  unfold argD
  blk_simp [e0]

theorem in1 (t : Fin cfg0.N) (r : Fin 512) (d : Fin 1024) : iblk m c 1 t (ix2 r d) = argX m c (t.val * 512 + r.val) d.val := by
  blk_simp [iblk]
  rw [show V m c main_arg1 = m ((c : Thread nD τ).loc main_arg1) from V_main_arg1 m c]
  refine (ent2_at (a := 4096) (b := 1024) _ _).trans ?_
  unfold argX
  blk_simp [e1]

theorem in2 (t : Fin cfg0.N) (d : Fin 1024) : iblk m c 2 t (ix2 0 d) = argG m c 0 d.val := by
  blk_simp [iblk]
  rw [show V m c main_arg2 = m ((c : Thread nD τ).loc main_arg2) from V_main_arg2 m c]
  refine (ent2_at (a := 1) (b := 1024) _ _).trans ?_
  unfold argG
  blk_simp [e2]

theorem in3 (t : Fin cfg0.N) (r f : Fin 512) : iblk m c 3 t (ix2 r f) = argQ m c (t.val * 512 + r.val) f.val := by
  blk_simp [iblk]
  rw [show V m c main_arg3 = m ((c : Thread nD τ).loc main_arg3) from V_main_arg3 m c]
  refine (ent2_at (a := 4096) (b := 512) _ _).trans ?_
  unfold argQ
  blk_simp [e3]

theorem in4 (t : Fin cfg0.N) (r : Fin 512) (f : Fin 256) : iblk m c 4 t (ix2 r f) = argK m c (t.val * 512 + r.val) f.val := by
  blk_simp [iblk]
  rw [show V m c main_arg4 = m ((c : Thread nD τ).loc main_arg4) from V_main_arg4 m c]
  refine (ent2_at (a := 4096) (b := 256) _ _).trans ?_
  unfold argK
  blk_simp [e4]

theorem in5 (t : Fin cfg0.N) (r : Fin 512) (f : Fin 1024) : iblk m c 5 t (ix2 r f) = argU m c (t.val * 512 + r.val) f.val := by
  blk_simp [iblk]
  rw [show V m c main_arg5 = m ((c : Thread nD τ).loc main_arg5) from V_main_arg5 m c]
  refine (ent2_at (a := 4096) (b := 1024) _ _).trans ?_
  unfold argU
  blk_simp [e5]

theorem in6 (t : Fin cfg0.N) (f : Fin 1792) (d : Fin 1024) : iblk m c 6 t (ix2 f d) = argT m c f.val d.val := by
  blk_simp [iblk]
  rw [show V m c main_arg6 = m ((c : Thread nD τ).loc main_arg6) from V_main_arg6 m c]
  refine (ent2_at (a := 1792) (b := 1024) _ _).trans ?_
  unfold argT
  blk_simp [e6]

/-- Rows of the projection's weights, from row `o` on. -/
abbrev rows (t : Fin cfg0.N) (o n : ℕ) (h : ∀ a : Fin 2, (![o, 0] : Fin 2 → ℕ) a + (![n, 1024] : Fin 2 → ℕ) a ≤ S1792x1024.size a) :
    Vec Ideal ⟨2, ![n, 1024]⟩ .bf16 :=
  View.ld (iblk m c 6 t) (Rect.unit (s := S1792x1024) ![o, 0] ![n, 1024] h)

theorem rows_at (t : Fin cfg0.N) (o n : ℕ) (h) (f : Fin n) (d : Fin 1024) : rows m c t o n h (ix2 f d) = argT m c (o + f.val) d.val := by
  have ho : o + n ≤ 1792 := h 0
  refine Eq.trans (congrArg (iblk m c 6 t) ?_) (in6 m c t ⟨o + f.val, by omega⟩ d)
  funext a
  match a with
  | 0 => exact Fin.ext (show o + 1 * f.val = o + f.val by omega)
  | 1 => exact Fin.ext (show 0 + 1 * d.val = d.val by omega)

/-- The gradient of the normalised rows a point computes. -/
abbrev nAt (t : Fin cfg0.N) : FVec Ideal S512x1024 .f32 :=
  k0_pay5 (iblk m c 3 t) (rows m c t 0 512 inb_S1792x1024_S512x1024_0_0) (iblk m c 4 t) (rows m c t 512 256 inb_S1792x1024_S256x1024_512_0)
    (iblk m c 5 t) (rows m c t 768 1024 inb_S1792x1024_S1024x1024_768_0)

theorem n_at (t : Fin cfg0.N) (r : Fin 512) (d : Fin 1024) : nAt m c t (ix2 r d) = norms m c (t.val * 512 + r.val) d.val := by
  unfold nAt
  rw [pay5_apply]
  unfold norms dRow
  rw [← sum_groups fun f => three (argQ m c) (argK m c) (argU m c) (t.val * 512 + r.val) f * argT m c f d.val]
  refine congrArg₂ (fun a b : EReal => a + b) (congrArg₂ (fun a b : EReal => a + b) (congrArg₂ (fun a b : EReal => a + b) Ideal.ofBits_zero_f32 ?_) ?_) ?_
    <;> refine Finset.sum_congr rfl fun f _ => ?_
  · refine congrArg₂ (fun a b : EReal => a * b) ((in3 m c t r f).trans (three_first _ _ _ _ f.isLt).symm) ((rows_at m c t 0 512 _ f d).trans ?_)
    rw [Nat.zero_add]
  · exact congrArg₂ (fun a b : EReal => a * b) ((in4 m c t r f).trans (three_middle _ _ _ _ f.isLt).symm) (rows_at m c t 512 256 _ f d)
  · exact congrArg₂ (fun a b : EReal => a * b) ((in5 m c t r f).trans (three_last _ _ _ _ f.val).symm) (rows_at m c t 768 1024 _ f d)

theorem scale_at (t : Fin cfg0.N) (r : Fin 512) : k0_pay6 (F := Ideal) (iblk m c 1 t) (ix2 r 0) = scale (argX m c) (t.val * 512 + r.val) := by
  rw [pay6_apply]
  unfold scale meansq
  simp only [in1]

theorem scaled_at (t : Fin cfg0.N) (r : Fin 512) (d : Fin 1024) :
    k0_pay7 (F := Ideal) (iblk m c 1 t) (ix2 r d) = argX m c (t.val * 512 + r.val) d.val * scale (argX m c) (t.val * 512 + r.val) := by
  rw [pay7_apply, scale_at, in1]

theorem gained_at (t : Fin cfg0.N) (r : Fin 512) (d : Fin 1024) :
    k0_pay8 (F := Ideal) (iblk m c 3 t) (rows m c t 0 512 inb_S1792x1024_S512x1024_0_0) (iblk m c 4 t) (rows m c t 512 256 inb_S1792x1024_S256x1024_512_0)
      (iblk m c 5 t) (rows m c t 768 1024 inb_S1792x1024_S1024x1024_768_0) (iblk m c 2 t) (ix2 r d)
        = norms m c (t.val * 512 + r.val) d.val * argG m c 0 d.val := by
  rw [pay8_apply]
  exact congrArg₂ (fun a b : EReal => a * b) (n_at m c t r d) (in2 m c t d)

/-- The input's gradient in a point's rows. -/
theorem dx_block (t : Fin cfg0.N) (r : Fin 512) (d : Fin 1024) :
    k0_pay1 (F := Ideal) (k0_pay6 (iblk m c 1 t)) (k0_pay7 (iblk m c 1 t))
      (k0_pay8 (iblk m c 3 t) (rows m c t 0 512 inb_S1792x1024_S512x1024_0_0) (iblk m c 4 t) (rows m c t 512 256 inb_S1792x1024_S256x1024_512_0)
        (iblk m c 5 t) (rows m c t 768 1024 inb_S1792x1024_S1024x1024_768_0) (iblk m c 2 t))
      (k0_pay9 (iblk m c 3 t) (rows m c t 0 512 inb_S1792x1024_S512x1024_0_0) (iblk m c 4 t) (rows m c t 512 256 inb_S1792x1024_S256x1024_512_0)
        (iblk m c 5 t) (rows m c t 768 1024 inb_S1792x1024_S1024x1024_768_0) (iblk m c 1 t) (iblk m c 2 t)) (iblk m c 0 t) (ix2 r d)
      = backIn (argD m c) (argX m c) (argG m c) (norms m c) (t.val * 512 + r.val) d.val := by
  rw [pay1_apply, pay9_apply]
  unfold backIn
  simp only [scale_at, scaled_at, gained_at, in0]

/-- What a point adds to the gain's gradient. -/
theorem dg_block (t : Fin cfg0.N) (s : Vec Ideal S1x1024 .f32) (d : Fin 1024) :
    k0_pay2 (F := Ideal) (nAt m c t) (k0_pay7 (iblk m c 1 t)) s (ix2 0 d)
      = s (ix2 0 d) + ∑ r : Fin 512, norms m c (t.val * 512 + r.val) d.val * (argX m c (t.val * 512 + r.val) d.val * scale (argX m c) (t.val * 512 + r.val)) := by
  rw [pay2_apply]
  simp only [n_at, scaled_at]

/-- The normalised rows of a point. -/
theorem h_block (t : Fin cfg0.N) (r : Fin 512) (d : Fin 1024) :
    k0_pay3 (F := Ideal) (iblk m c 2 t) (k0_pay7 (iblk m c 1 t)) (ix2 r d) = normed (argX m c) (argG m c) (t.val * 512 + r.val) d.val := by
  rw [pay3_apply, scaled_at, in2]
  rfl

/-! ## What a point leaves -/

theorem dx_at (t : Fin cfg0.N) (r : Fin 512) (d : Fin 1024) : (outsAt0 m c t.val t.isLt).1 (ix2 r d)
    = backIn (argD m c) (argX m c) (argG m c) (norms m c) (t.val * 512 + r.val) d.val := by
  by_cases h0 : t.val % 8 = 0
  · rw [outsAt0_A m c t h0]; frame_out
    exact dx_block m c t r d
  · rw [outsAt0_B m c t h0]; frame_out
    exact dx_block m c t r d

theorem h_at (t : Fin cfg0.N) (r : Fin 512) (d : Fin 1024) : (outsAt0 m c t.val t.isLt).2.2 (ix2 r d)
    = normed (argX m c) (argG m c) (t.val * 512 + r.val) d.val := by
  by_cases h0 : t.val % 8 = 0
  · rw [outsAt0_A m c t h0]; frame_out
    exact h_block m c t r d
  · rw [outsAt0_B m c t h0]; frame_out
    exact h_block m c t r d

/-- What row `r` adds to the gain's gradient in column `d`. -/
abbrev gainRow (d r : ℕ) : EReal := norms m c r d * (argX m c r d * scale (argX m c) r)

theorem dg_first (t : Fin cfg0.N) (h0 : t.val % 8 = 0) (d : Fin 1024) :
    (outsAt0 m c t.val t.isLt).2.1 (ix2 0 d) = ∑ r : Fin 512, gainRow m c d.val (t.val * 512 + r.val) := by
  rw [outsAt0_A m c t h0]; frame_out
  refine (dg_block m c t (k0_pay4 (F := Ideal)) d).trans ?_
  exact (congrArg (fun a : EReal => a + _) Ideal.ofBits_zero_f32).trans (zero_add _)

theorem dg_later (t : Fin cfg0.N) (h0 : ¬t.val % 8 = 0) (ht : t.val - 1 < cfg0.N) (d : Fin 1024) :
    (outsAt0 m c t.val t.isLt).2.1 (ix2 0 d)
      = (outsAt0 m c (t.val - 1) ht).2.1 (ix2 0 d) + ∑ r : Fin 512, gainRow m c d.val (t.val * 512 + r.val) := by
  rw [outsAt0_B m c t h0]; frame_out
  exact dg_block m c t _ d

/-- After point `n` the first `512 (n + 1)` rows are in it. -/
theorem gain_sum (d : Fin 1024) : ∀ (n : ℕ) (h : n < cfg0.N), (outsAt0 m c n h).2.1 (ix2 0 d) = ∑ r ∈ Finset.range ((n + 1) * 512), gainRow m c d.val r
  | 0, h => by
    refine (dg_first m c ⟨0, h⟩ rfl d).trans ?_
    rw [Nat.zero_add, Nat.one_mul, Finset.sum_range]
    refine Finset.sum_congr rfl fun r _ => ?_
    rw [Nat.zero_mul, Nat.zero_add]
  | n + 1, h => by
    have h8 : n + 1 < 8 := h
    refine (dg_later m c ⟨n + 1, h⟩ (by show ¬(n + 1) % 8 = 0; omega) (Nat.lt_of_succ_lt h) d).trans ?_
    rw [Nat.succ_mul (n + 1), Finset.sum_range_add]
    exact congrArg₂ (fun a b : EReal => a + b) (gain_sum d n (Nat.lt_of_succ_lt h))
      (Finset.sum_range fun r => gainRow m c d.val ((n + 1) * 512 + r)).symm

/-! ## The results after the run -/

def dxOut : Buf (Elt Ideal) ((c : Thread nD τ).loc main_v0_0) := fun i : S4096x1024.Idx =>
  backIn (argD m c) (argX m c) (argG m c) (norms m c) (i 0).val (i 1).val
def dgOut : Buf (Elt Ideal) ((c : Thread nD τ).loc main_v0_1) := fun i : S1x1024.Idx => backGain (argX m c) (norms m c) (i 1).val
def hOut : Buf (Elt Ideal) ((c : Thread nD τ).loc main_v0_2) := fun i : S4096x1024.Idx => normed (argX m c) (argG m c) (i 0).val (i 1).val

theorem emb7 (t : Fin cfg0.N) (y : S512x1024.Idx) : ((win0_7.blk t).view.emb y 0 : ℕ) = t.val * 512 + (y 0).val ∧ ((win0_7.blk t).view.emb y 1 : ℕ) = (y 1).val := by
  refine ⟨?_, ?_⟩ <;> blk_simp [e7]
theorem emb8 (t : Fin cfg0.N) (y : S1x1024.Idx) : ((win0_8.blk t).view.emb y 1 : ℕ) = (y 1).val := by
  blk_simp [e8]
theorem emb9 (t : Fin cfg0.N) (y : S512x1024.Idx) : ((win0_9.blk t).view.emb y 0 : ℕ) = t.val * 512 + (y 0).val ∧ ((win0_9.blk t).view.emb y 1 : ℕ) = (y 1).val := by
  refine ⟨?_, ?_⟩ <;> blk_simp [e9]

theorem final_dx : (dats m 0 c).arrAt 7 cfg0.N = dxOut m c := by
  refine (dats m 0 c).arrAt_eq_of_covers 7 _ (by decide +kernel) fun t hf y => ?_
  blk_simp
  rw [after0_7]
  obtain ⟨p, q⟩ := emb7 t y
  refine (congrArg (outsAt0 m c t.val t.isLt).1 (eq_ix2 y)).trans ((dx_at m c t (y 0) (y 1)).trans ?_)
  unfold dxOut
  dsimp only
  rw [p, q]

theorem final_h : (dats m 0 c).arrAt 9 cfg0.N = hOut m c := by
  refine (dats m 0 c).arrAt_eq_of_covers 9 _ (by decide +kernel) fun t hf y => ?_
  blk_simp
  rw [after0_9]
  obtain ⟨p, q⟩ := emb9 t y
  refine (congrArg (outsAt0 m c t.val t.isLt).2.2 (eq_ix2 y)).trans ((h_at m c t (y 0) (y 1)).trans ?_)
  unfold hOut
  dsimp only
  rw [p, q]

theorem last_8 : ∀ t : Fin cfg0.N, (cfg0.win 8).flush t = true → t.val = 7 :=
  (by decide +kernel : ∀ t : Fin grid0.N, (cfg0.win 8).flush t = true → t.val = 7)

theorem final_dg : (dats m 0 c).arrAt 8 cfg0.N = dgOut m c := by
  refine (dats m 0 c).arrAt_eq_of_covers 8 _ (by decide +kernel) fun t hf y => ?_
  blk_simp
  rw [after0_8]
  have ht : t.val = 7 := last_8 t hf
  have hy : (y : S1x1024.Idx) = ix2 0 (y 1) := by
    funext a
    match a with
    | 0 => exact Subsingleton.elim (α := Fin 1) _ _
    | 1 => rfl
  refine (congrArg (outsAt0 m c t.val t.isLt).2.1 hy).trans ((gain_sum m c (y 1) t.val t.isLt).trans ?_)
  unfold dgOut backGain
  dsimp only
  rw [emb8 t y, ht]
  exact Finset.sum_range _

/-- The run ends with the three results, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = dxOut m c
      ∧ r.2.mem ((c.tc : Thread nD τ).loc main_v0_1) = dgOut m c
      ∧ r.2.mem ((c.tc : Thread nD τ).loc main_v0_2) = hOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(FramePost.out_eq h.1 c 7).trans (final_dx m c), (FramePost.out_eq h.1 c 8).trans (final_dg m c),
    (FramePost.out_eq h.1 c 9).trans (final_h m c), h.2.1 c⟩) (θ_run_and (run_main m ρ) (frame m ρ))

end Cert.Kernel11Ideal.Hand
-- ==== Proof.MixBackReference.lean ====
/- The reference of the gradient through the mixer's normalisation: its stages read one after the other, and its run, whose
   three results are the same functions of its arguments as the kernel's. -/
module

public import proofs.«01_k».proof.Proof.MixBack
public import proofs.«01_k».proof.Proof.Gen.Reference11Ideal.Run
public import proofs.«01_k».proof.Proof.Gen.Reference11Ideal.Read

@[expose] public section

set_option maxRecDepth 16384

noncomputable section

namespace Cert.Ffn

open Idealize.ShloMosaic Idealize.ShloMosaic.ValueIdx

/-- What the chain rule makes of the input's gradient is the sum the kernel forms. -/
theorem backIn_chain (D X G N : ℕ → ℕ → EReal) (r : ℕ) (d : Fin 1024) {S : EReal}
    (hS : S = Ideal.div ((∑ k : Fin 1024, X r k.val * (N r k.val * G 0 k.val))
      * (Ideal.ofBits .f32 0xBF000000#32 * Ideal.div (scale X r) (meansq X r))) (Ideal.ofBits .f32 0x44800000#32)) :
    D r d.val + (N r d.val * G 0 d.val * scale X r + X r d.val * S + S * X r d.val) = backIn D X G N r d.val :=
  row_chain X r (fun k => N r k.val) (fun k => G 0 k.val) (D r d.val) d hS

end Cert.Ffn

namespace Cert.Reference11Ideal.Hand

open Cert.Ffn Cert.Reference11Ideal Cert.Reference11Ideal.Gen Cert.Reference11Ideal.Read
open Idealize.ShloMosaic Idealize.ShloMosaic.ValueIdx Idealize.SL.Sem

section Stages

variable (x0 x1 : (⟨S4096x1024, .f32⟩ : BufTy).Contents (Elt Ideal)) (x2 : (⟨S1x1024, .f32⟩ : BufTy).Contents (Elt Ideal))
  (x3 : (⟨S4096x512, .bf16⟩ : BufTy).Contents (Elt Ideal)) (x4 : (⟨S4096x256, .bf16⟩ : BufTy).Contents (Elt Ideal))
  (x5 : (⟨S4096x1024, .bf16⟩ : BufTy).Contents (Elt Ideal)) (x6 : (⟨S1792x1024, .bf16⟩ : BufTy).Contents (Elt Ideal))

/-- The gradient of the normalised rows, from the arguments. -/
abbrev norms : ℕ → ℕ → EReal := dRow (three (ent2 (a := 4096) (b := 512) x3) (ent2 (a := 4096) (b := 256) x4) (ent2 (a := 4096) (b := 1024) x5))
  (ent2 (a := 1792) (b := 1024) x6)

theorem meansq_val (i : S4096x1.Idx) : val_main_v6 (F := Ideal) x1 i = meansq (ent2 (a := 4096) (b := 1024) x1) (i 0).val := by
  rw [val_main_v6_apply, val_main_v4_apply, val_main_v2_apply, val_main_v1_apply, val_main_v3_apply, val_main_v5_apply]
  unfold meansq
  refine congrArg (fun b : EReal => Ideal.div b (Ideal.ofBits .f32 0x44800000#32) + Ideal.ofBits .f32 0x358637BD#32)
    ((congrArg₂ (fun a b : EReal => a + b) Ideal.ofBits_zero_f32 (Finset.sum_congr rfl fun k _ => ?_)).trans (zero_add _))
  rw [val_main_v0_apply]
  exact congrArg₂ (fun a b : EReal => a * b) (ent2_of (a := 4096) (b := 1024) x1 _ rfl rfl) (ent2_of (a := 4096) (b := 1024) x1 _ rfl rfl)

theorem scale_val (i : S4096x1.Idx) : val_main_v7 (F := Ideal) x1 i = scale (ent2 (a := 4096) (b := 1024) x1) (i 0).val := by
  rw [val_main_v7_apply]
  exact congrArg Ideal.rsqrt (meansq_val x1 i)

theorem scaled_val (i : S4096x1024.Idx) :
    val_main_v12 (F := Ideal) x1 i = ent2 (a := 4096) (b := 1024) x1 (i 0).val (i 1).val * scale (ent2 (a := 4096) (b := 1024) x1) (i 0).val := by
  rw [val_main_v12_apply, val_main_v11_apply]
  exact congrArg₂ (fun a b : EReal => a * b) (ent2_of (a := 4096) (b := 1024) x1 i rfl rfl) (scale_val x1 _)

theorem h_val (i : S4096x1024.Idx) :
    val_main_v41 (F := Ideal) x1 x2 i = normed (ent2 (a := 4096) (b := 1024) x1) (ent2 (a := 1) (b := 1024) x2) (i 0).val (i 1).val := by
  rw [val_main_v41_apply]
  show val_main_v14 (F := Ideal) x1 x2 i = _
  rw [val_main_v14_apply, val_main_v13_apply]
  exact congrArg₂ (fun a b : EReal => a * b) (scaled_val x1 i) (ent2_of (a := 1) (b := 1024) x2 _ rfl rfl)

theorem rows_val (i : S4096x1024.Idx) : val_main_v20 (F := Ideal) x3 x4 x5 x6 i = norms x3 x4 x5 x6 (i 0).val (i 1).val := by
  rw [val_main_v20_apply]
  refine Finset.sum_congr rfl fun k _ => ?_
  rw [val_main_v16_apply, val_main_v18_apply]
  refine congrArg₂ (fun a b : EReal => a * b) (three_val x3 x4 x5 concatenates_S4096x512_S4096x256_S4096x1024_S4096x1792_d1 _) ?_
  show val_main_v17 (F := Ideal) x6 _ = _
  rw [val_main_v17_apply]
  exact ent2_of (a := 1792) (b := 1024) x6 _ rfl rfl

theorem gain_val (i : S1x1024.Idx) : val_main_v23 (F := Ideal) x1 x3 x4 x5 x6 i
    = backGain (ent2 (a := 4096) (b := 1024) x1) (norms x3 x4 x5 x6) (i 1).val := by
  have hi0 : (i 0).val < 1 := (i 0).isLt
  rw [val_main_v23_apply, val_main_v22_apply]
  unfold backGain
  refine (congrArg₂ (fun a b : EReal => a + b) Ideal.ofBits_zero_f32 (Finset.sum_congr rfl fun k _ => ?_)).trans (zero_add _)
  rw [val_main_v21_apply]
  refine (congrArg₂ (fun a b : EReal => a * b) (scaled_val x1 _) (rows_val x3 x4 x5 x6 _)).trans ((mul_comm _ _).trans ?_)
  have e : (idx_main_v22 (idx_main_v23 i) k 1).val = (i 1).val := by
    show (i 0).val * 1024 + (i 1).val = (i 1).val
    omega
  rw [e]

/-- The gradient of the normalised entry, times the gain. -/
theorem gained_val (i : S4096x1024.Idx) : val_main_v25 (F := Ideal) x2 x3 x4 x5 x6 i
    = norms x3 x4 x5 x6 (i 0).val (i 1).val * ent2 (a := 1) (b := 1024) x2 0 (i 1).val := by
  rw [val_main_v25_apply, val_main_v24_apply]
  exact congrArg₂ (fun a b : EReal => a * b) (rows_val x3 x4 x5 x6 i) (ent2_of (a := 1) (b := 1024) x2 _ rfl rfl)

/-- The mean square's share of a row's gradient. -/
theorem share_val (i : S4096.Idx) : val_main_v34 (F := Ideal) x1 x2 x3 x4 x5 x6 i
    = Ideal.div ((∑ k : Fin 1024, ent2 (a := 4096) (b := 1024) x1 (i 0).val k.val
        * (norms x3 x4 x5 x6 (i 0).val k.val * ent2 (a := 1) (b := 1024) x2 0 k.val))
      * (Ideal.ofBits .f32 0xBF000000#32 * Ideal.div (scale (ent2 (a := 4096) (b := 1024) x1) (i 0).val) (meansq (ent2 (a := 4096) (b := 1024) x1) (i 0).val)))
      (Ideal.ofBits .f32 0x44800000#32) := by
  rw [val_main_v34_apply]
  refine (congrArg₂ (fun a b : EReal => a + b) Ideal.ofBits_zero_f32 (Fin.sum_univ_one _)).trans ((zero_add _).trans ?_)
  rw [val_main_v33_apply, val_main_v32_apply, val_main_v31_apply, val_main_v28_apply, val_main_v27_apply, val_main_v10_apply, val_main_v9_apply,
    val_main_v8_apply]
  refine congrArg (fun e : EReal => Ideal.div e (Ideal.ofBits .f32 0x44800000#32)) (congrArg₂ (fun a b : EReal => a * b) ?_
    (congrArg₂ (fun a b : EReal => Ideal.ofBits .f32 0xBF000000#32 * Ideal.div a b) (scale_val x1 _) (meansq_val x1 _)))
  refine (congrArg₂ (fun a b : EReal => a + b) Ideal.ofBits_zero_f32 (Finset.sum_congr rfl fun k _ => ?_)).trans (zero_add _)
  rw [val_main_v26_apply]
  have er : (idx_main_v27 (idx_main_v28 (idx_main_v34 i 0)) k 0).val = (i 0).val := by
    show (i 0).val * 1 + 0 = (i 0).val
    omega
  refine congrArg₂ (fun a b : EReal => a * b) (ent2_of (a := 4096) (b := 1024) x1 _ er rfl) ((gained_val x2 x3 x4 x5 x6 _).trans ?_)
  rw [er]

theorem dx_val (i : S4096x1024.Idx) : val_main_v40 (F := Ideal) x0 x1 x2 x3 x4 x5 x6 i
    = backIn (ent2 (a := 4096) (b := 1024) x0) (ent2 (a := 4096) (b := 1024) x1) (ent2 (a := 1) (b := 1024) x2) (norms x3 x4 x5 x6) (i 0).val (i 1).val := by
  rw [val_main_v40_apply, val_main_v39_apply, val_main_v38_apply, val_main_v37_apply, val_main_v36_apply, val_main_v35_apply, val_main_v30_apply,
    val_main_v29_apply]
  refine Eq.trans ?_ (backIn_chain _ _ _ _ (i 0).val (i 1) rfl)
  have ex : x1 i = _ := ent2_of (a := 4096) (b := 1024) x1 i rfl rfl
  have es := share_val x1 x2 x3 x4 x5 x6 (idx_main_v35 i)
  exact congrArg₂ (fun a b : EReal => a + b) (ent2_of (a := 4096) (b := 1024) x0 i rfl rfl)
    (congrArg₂ (fun a b : EReal => a + b) (congrArg₂ (fun a b : EReal => a + b)
      (congrArg₂ (fun a b : EReal => a * b) (gained_val x2 x3 x4 x5 x6 i) (scale_val x1 _))
      (congrArg₂ (fun a b : EReal => a * b) ex es)) (congrArg₂ (fun a b : EReal => a * b) es ex))

end Stages

/-- The reference's run ends with the same three results, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let D := ent2 (a := 4096) (b := 1024) (m ((c.tc : Thread nD τ).loc main_arg0))
      let X := ent2 (a := 4096) (b := 1024) (m ((c.tc : Thread nD τ).loc main_arg1))
      let G := ent2 (a := 1) (b := 1024) (m ((c.tc : Thread nD τ).loc main_arg2))
      let N := norms (m ((c.tc : Thread nD τ).loc main_arg3)) (m ((c.tc : Thread nD τ).loc main_arg4)) (m ((c.tc : Thread nD τ).loc main_arg5))
        (m ((c.tc : Thread nD τ).loc main_arg6))
      r.2.mem ((c.tc : Thread nD τ).loc main_v40) = (fun i : S4096x1024.Idx => backIn D X G N (i 0).val (i 1).val)
      ∧ r.2.mem ((c.tc : Thread nD τ).loc main_v23) = (fun i : S1x1024.Idx => backGain X N (i 1).val)
      ∧ r.2.mem ((c.tc : Thread nD τ).loc main_v41) = (fun i : S4096x1024.Idx => normed X G (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨e0, e1, e2, u⟩ := h c
    exact ⟨e0.trans ((val_main_v40_eq _ _).trans (funext (dx_val _ _ _ _ _ _ _))),
      e1.trans ((val_main_v23_eq _ _ _ _ _).trans (funext (gain_val _ _ _ _ _))),
      e2.trans ((val_main_v41_eq _ _).trans (funext (h_val _ _))), u⟩)
    (Value.run (F := Ideal) m ρ)

end Cert.Reference11Ideal.Hand
-- ==== Proof.GradIn.lean ====
/- The gradient of the FFN's input projection: every one of its four column blocks is the sum, over all 4096 rows, of the
   products of the normalised input's and the gate-and-up gradient's entries. -/
module

public import proofs.«01_k».proof.Proof.Entries
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Ffn

open Idealize.ShloMosaic Idealize.ShloMosaic.ValueIdx Idealize.ShloMosaic.TcCoe Idealize.SL.Sem
open Idealize.ShloMosaic.Pipeline (Dat Cfg Window FramePost)

/-- Block `b` of the gradient at row `d` and column `f`. -/
def gradIn (H : ℕ → ℕ → EReal) (Z : ℕ → ℕ → ℕ → EReal) (b d f : ℕ) : EReal :=
  ∑ r : Fin 4096, H r.val d * Z (b / 2) r.val (b % 2 * 1408 + f)

end Cert.Ffn

namespace Cert.Kernel2Ideal.Hand

open Cert.Ffn Cert.Kernel2Ideal Cert.Kernel2Ideal.Gen
open Idealize.ShloMosaic Idealize.ShloMosaic.ValueIdx Idealize.ShloMosaic.TcCoe Idealize.SL.Sem
open Idealize.ShloMosaic.Pipeline (Dat Cfg Window FramePost)

theorem prod_apply (x : FVec Ideal S2048x1024 .bf16) (y : FVec Ideal S2048x1408 .bf16) (d : Fin 1024) (f : Fin 1408) :
    matmul dot_S2048x1024_S2048x1408_S1024x1408_0_0_1_1_n_n none x y (constant S1024x1408 .f32 0x00000000#32) (ix2 d f)
      = ∑ r : Fin 2048, x (ix2 r d) * y (ix2 r f) :=
  product_at _ rfl rfl x y _ _ _ (fun k => by funext a; match a with | 0 => rfl | 1 => rfl)
    fun k => by funext a; match a with | 0 => rfl | 1 => rfl

theorem pay1_apply (j : S1024x1408.Idx) : k0_pay1 (F := Ideal) j = 0 := by
  unfold k0_pay1
  rw [shapeCast_self]
  exact Ideal.ofBits_zero_f32

theorem pay2_apply (x : Vec Ideal S1024x1408 .f32) (h : Vec Ideal S2048x1024 .bf16) (z : Vec Ideal S1x2048x1408 .bf16) (d : Fin 1024) (f : Fin 1408) :
    k0_pay2 (F := Ideal) x h z (ix2 d f) = x (ix2 d f) + ∑ r : Fin 2048, h (ix2 r d) * z (ix3 0 r f) := by
  unfold k0_pay2
  rw [shapeCast_self]
  refine congrArg (fun e : EReal => (x (ix2 d f) : EReal) + e) ((prod_apply h _ d f).trans ?_)
  refine Finset.sum_congr rfl fun r _ => ?_
  congr 1
  exact shapeCast_apply _ _ _ (ix3 0 r f) (by rewrite [Shape.rowMajor_val_two, Shape.rowMajor_val_three]; show (0 * 2048 + r.val) * 1408 + f.val = r.val * 1408 + f.val; omega)

theorem pay3_apply (x : Vec Ideal S1024x1408 .f32) (d : Fin 1024) (f : Fin 1408) : k0_pay3 (F := Ideal) x (ix3 0 d f) = x (ix2 d f) := by
  unfold k0_pay3
  exact shapeCast_apply _ _ _ (ix2 d f) (by rewrite [Shape.rowMajor_val_two, Shape.rowMajor_val_three]; show d.val * 1408 + f.val = (0 * 1024 + d.val) * 1408 + f.val; omega)

theorem e0 : ∀ t : Fin cfg0.N, win0_0.index t = ![half t.val, 0] := (by decide +kernel : ∀ t : Fin grid0.N, win0_0.index t = ![half t.val, 0])
theorem e1 : ∀ t : Fin cfg0.N, win0_1.index t = ![t.val / 4, half t.val, t.val / 2 % 2] := (by decide +kernel : ∀ t : Fin grid0.N, win0_1.index t = ![t.val / 4, half t.val, t.val / 2 % 2])
theorem e2 : ∀ t : Fin cfg0.N, win0_2.index t = ![t.val / 2, 0, 0] := (by decide +kernel : ∀ t : Fin grid0.N, win0_2.index t = ![t.val / 2, 0, 0])

variable (m : (ℓ : Loc nD τ sig) → Buf (Elt Ideal) ℓ) (c : Dev nD)

def argH : ℕ → ℕ → EReal := ent2 (a := 4096) (b := 1024) (m ((c : Thread nD τ).loc main_arg0))
def argZ : ℕ → ℕ → ℕ → EReal := ent3 (a := 2) (b := 4096) (d := 2816) (m ((c : Thread nD τ).loc main_arg1))

theorem in0 (t : Fin cfg0.N) (r : Fin 2048) (d : Fin 1024) : iblk m c 0 t (ix2 r d) = argH m c (half t.val * 2048 + r.val) d.val := by
  blk_simp [iblk]
  rw [show V m c main_arg0 = m ((c : Thread nD τ).loc main_arg0) from V_main_arg0 m c]
  refine (ent2_at (a := 4096) (b := 1024) _ _).trans ?_
  unfold argH
  blk_simp [e0]

theorem in1 (t : Fin cfg0.N) (r : Fin 2048) (f : Fin 1408) :
    iblk m c 1 t (ix3 0 r f) = argZ m c (t.val / 4) (half t.val * 2048 + r.val) (t.val / 2 % 2 * 1408 + f.val) := by
  blk_simp [iblk]
  rw [show V m c main_arg1 = m ((c : Thread nD τ).loc main_arg1) from V_main_arg1 m c]
  refine (ent3_at (a := 2) (b := 4096) (d := 2816) _ _).trans ?_
  unfold argZ
  blk_simp [e1]

/-- What the scratch holds after the first half. -/
theorem acc_first (t : Fin cfg0.N) (h0 : t.val % 2 = 0) (h1 : ¬t.val % 2 = 1) (d : Fin 1024) (f : Fin 1408) :
    (outsAt0 m c t.val t.isLt).2 (ix2 d f)
      = ∑ r : Fin 2048, argH m c (half t.val * 2048 + r.val) d.val * argZ m c (t.val / 4) (half t.val * 2048 + r.val) (t.val / 2 % 2 * 1408 + f.val) := by
  rw [outsAt0_A m c t h0 h1]; frame_out
  rw [pay2_apply, pay1_apply, zero_add]
  simp only [in0, in1]

theorem out_last (t : Fin cfg0.N) (h0 : ¬t.val % 2 = 0) (h1 : t.val % 2 = 1) (d : Fin 1024) (f : Fin 1408) :
    (outsAt0 m c t.val t.isLt).1 (ix3 0 d f) = gradIn (argH m c) (argZ m c) (t.val / 2) d.val f.val := by
  rw [outsAt0_B m c t h0 h1]; frame_out
  rw [pay3_apply, pay2_apply]
  rw [Idealize.ShloMosaic.read_unread_whole, acc_first m c ⟨t.val - 1, by omega⟩ (by show (t.val - 1) % 2 = 0; omega) (by show ¬(t.val - 1) % 2 = 1; omega)]
  simp only [in0, in1]
  have e : (t.val - 1) / 2 = t.val / 2 := by omega
  have e4 : (t.val - 1) / 4 = t.val / 4 := by omega
  rw [e, e4]
  refine (sum_turns (fun k => argH m c k d.val * argZ m c (t.val / 4) k (t.val / 2 % 2 * 1408 + f.val)) t.val h1).trans ?_
  unfold gradIn
  rw [Nat.div_div_eq_div_mul]

/-- The four blocks of core `c`. -/
def outIn : Buf (Elt Ideal) ((c : Thread nD τ).loc main_v1) := fun i : S4x1024x1408.Idx => gradIn (argH m c) (argZ m c) (i 0).val (i 1).val (i 2).val

theorem emb2 (t : Fin cfg0.N) (y : S1x1024x1408.Idx) : ((win0_2.blk t).view.emb y 0 : ℕ) = t.val / 2
    ∧ ((win0_2.blk t).view.emb y 1 : ℕ) = (y 1).val ∧ ((win0_2.blk t).view.emb y 2 : ℕ) = (y 2).val := by
  have : (y 0).val = 0 := Nat.lt_one_iff.mp (y 0).isLt
  refine ⟨?_, ?_, ?_⟩
  · blk_simp [e2]
  · blk_simp [e2]
  · blk_simp [e2]

theorem final_in : (dats m 0 c).arrAt 2 cfg0.N = outIn m c := by
  refine (dats m 0 c).arrAt_eq_of_covers 2 _ (by decide +kernel) fun t hf y => ?_
  blk_simp
  rw [after0_2]
  have h1 := (flush0_2 t).mp hf
  obtain ⟨p, q, s⟩ := emb2 t y
  have ey : y = ix3 (0 : Fin 1) (y 1) (y 2) := (eq_ix3 y).trans (by congr 1; exact Fin.ext (Nat.lt_one_iff.mp (y 0).isLt))
  refine (congrArg (outsAt0 m c t.val t.isLt).1 ey).trans ((out_last m c t (by omega) h1 (y 1) (y 2)).trans ?_)
  unfold outIn
  dsimp only
  rw [p, q, s]

/-- The run ends with the four blocks, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = outIn m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(FramePost.out_eq h.1 c 2).trans (final_in m c), h.2.1 c⟩) (θ_run_and (run_main m ρ) (frame m ρ))

end Cert.Kernel2Ideal.Hand

namespace Cert.Reference2Ideal.Hand

open Cert.Ffn Cert.Reference2Ideal Cert.Reference2Ideal.Gen Cert.Reference2Ideal.Read
open Idealize.ShloMosaic Idealize.ShloMosaic.ValueIdx Idealize.SL.Sem

theorem out_val (x0 : (⟨S4096x1024, .bf16⟩ : BufTy).Contents (Elt Ideal)) (x1 : (⟨S2x4096x2816, .bf16⟩ : BufTy).Contents (Elt Ideal)) (i : S4x1024x1408.Idx) :
    val_main_v10 (F := Ideal) x0 x1 i = gradIn (ent2 (a := 4096) (b := 1024) x0) (ent3 (a := 2) (b := 4096) (d := 2816) x1) (i 0).val (i 1).val (i 2).val := by
  have i0 : (i 0).val < 4 := (i 0).isLt
  have i1 : (i 1).val < 1024 := (i 1).isLt
  have i2 : (i 2).val < 1408 := (i 2).isLt
  rw [val_main_v10_apply]
  show val_main_v9 (F := Ideal) x0 x1 i = _
  rw [val_main_v9_apply, val_main_v8_apply, val_main_v7_apply, val_main_v6_apply]
  unfold gradIn
  refine Finset.sum_congr rfl fun r _ => ?_
  rw [mul_comm]
  have r0 : r.val < 4096 := r.isLt
  congr 1
  · rw [val_main_v0_apply]
    refine (ent2_at (a := 4096) (b := 1024) x0 _).trans ?_
    congr 1
    show (((i 1).val * 4 + (i 0).val) * 1408 + (i 2).val) / 5632 = (i 1).val
    omega
  · rw [val_main_v3_apply]
    show val_main_v2 (F := Ideal) x1 _ = _
    rw [val_main_v2_apply, val_main_v1_apply]
    refine (ent3_at (a := 2) (b := 4096) (d := 2816) x1 _).trans ?_
    have q : (((i 1).val * 4 + (i 0).val) * 1408 + (i 2).val) % 5632 = (i 0).val * 1408 + (i 2).val := by omega
    congr 1
    · show (r.val * 5632 + (((i 1).val * 4 + (i 0).val) * 1408 + (i 2).val) % 5632) / 2816 % 2 = (i 0).val / 2
      omega
    · show (r.val * 5632 + (((i 1).val * 4 + (i 0).val) * 1408 + (i 2).val) % 5632) / 5632 = r.val
      omega
    · show (r.val * 5632 + (((i 1).val * 4 + (i 0).val) * 1408 + (i 2).val) % 5632) % 2816 = (i 0).val % 2 * 1408 + (i 2).val
      omega

/-- The reference's run ends with the same four blocks, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun i : S4x1024x1408.Idx =>
        gradIn (ent2 (a := 4096) (b := 1024) (m ((c.tc : Thread nD τ).loc main_arg0))) (ent3 (a := 2) (b := 4096) (d := 2816) (m ((c.tc : Thread nD τ).loc main_arg1)))
          (i 0).val (i 1).val (i 2).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v10_eq _ _).trans (funext (out_val _ _))), (h c).2⟩) (Value.run (F := Ideal) m ρ)

end Cert.Reference2Ideal.Hand
-- ==== Proof.GradOut.lean ====
/- The gradient of the FFN's output projection: the sum, over all 4096 rows, of the products of the activation's and the
   block's output gradient's entries, its 2816 rows dealt to four devices. -/
module

public import proofs.«01_k».proof.Proof.Entries
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Ffn

open Idealize.ShloMosaic Idealize.ShloMosaic.ValueIdx

/-- Row `f` and column `d` of the gradient. -/
def gradOut (A D : ℕ → ℕ → EReal) (f d : ℕ) : EReal := ∑ r : Fin 4096, A r.val f * D r.val d

end Cert.Ffn

namespace Cert.Kernel3Ideal.Hand

open Cert.Ffn Cert.Kernel3Ideal Cert.Kernel3Ideal.Gen
open Idealize.ShloMosaic Idealize.ShloMosaic.ValueIdx Idealize.ShloMosaic.TcCoe Idealize.SL.Sem
open Idealize.ShloMosaic.Pipeline (Dat Cfg Window FramePost)

theorem prod_apply (x : FVec Ideal S2048x1408 .bf16) (y : FVec Ideal S2048x1024 .bf16) (f : Fin 1408) (d : Fin 1024) :
    matmul dot_S2048x1408_S2048x1024_S1408x1024_0_0_1_1_n_n none x y (constant S1408x1024 .f32 0x00000000#32) (ix2 f d)
      = ∑ r : Fin 2048, x (ix2 r f) * y (ix2 r d) :=
  product_at _ rfl rfl x y _ _ _ (fun k => by funext a; match a with | 0 => rfl | 1 => rfl)
    fun k => by funext a; match a with | 0 => rfl | 1 => rfl

theorem pay1_apply (j : S1408x1024.Idx) : k0_pay1 (F := Ideal) j = 0 := by
  unfold k0_pay1
  rw [shapeCast_self]
  exact Ideal.ofBits_zero_f32

theorem pay2_apply (x : Vec Ideal S1408x1024 .f32) (a : Vec Ideal S2048x1408 .bf16) (y : Vec Ideal S2048x1024 .bf16) (f : Fin 1408) (d : Fin 1024) :
    k0_pay2 (F := Ideal) x a y (ix2 f d) = x (ix2 f d) + ∑ r : Fin 2048, a (ix2 r f) * y (ix2 r d) := by
  unfold k0_pay2
  rw [shapeCast_self]
  exact congrArg (fun e : EReal => (x (ix2 f d) : EReal) + e) (prod_apply a y f d)

theorem pay3_apply (x : Vec Ideal S1408x1024 .f32) (k : Fin 2) (s : Fin 704) (d : Fin 1024) :
    k0_pay3 (F := Ideal) x (ix3 k s d) = x (ix2 ⟨k.val * 704 + s.val, by omega⟩ d) := by
  unfold k0_pay3
  exact shapeCast_apply _ _ _ (ix2 ⟨k.val * 704 + s.val, by omega⟩ d) (by rewrite [Shape.rowMajor_val_two, Shape.rowMajor_val_three]; rfl)

theorem e0 : ∀ t : Fin cfg0.N, win0_0.index t = ![half t.val, t.val / 2] := (by decide +kernel : ∀ t : Fin grid0.N, win0_0.index t = ![half t.val, t.val / 2])
theorem e1 : ∀ t : Fin cfg0.N, win0_1.index t = ![half t.val, 0] := (by decide +kernel : ∀ t : Fin grid0.N, win0_1.index t = ![half t.val, 0])
theorem e2 : ∀ t : Fin cfg0.N, win0_2.index t = ![t.val / 2, 0, 0] := (by decide +kernel : ∀ t : Fin grid0.N, win0_2.index t = ![t.val / 2, 0, 0])

variable (m : (ℓ : Loc nD τ sig) → Buf (Elt Ideal) ℓ) (c : Dev nD)

def argA : ℕ → ℕ → EReal := ent2 (a := 4096) (b := 2816) (m ((c : Thread nD τ).loc main_arg0))
def argD : ℕ → ℕ → EReal := ent2 (a := 4096) (b := 1024) (m ((c : Thread nD τ).loc main_arg1))

theorem in0 (t : Fin cfg0.N) (r : Fin 2048) (f : Fin 1408) : iblk m c 0 t (ix2 r f) = argA m c (half t.val * 2048 + r.val) (t.val / 2 * 1408 + f.val) := by
  blk_simp [iblk]
  rw [show V m c main_arg0 = m ((c : Thread nD τ).loc main_arg0) from V_main_arg0 m c]
  refine (ent2_at (a := 4096) (b := 2816) _ _).trans ?_
  unfold argA
  blk_simp [e0]

theorem in1 (t : Fin cfg0.N) (r : Fin 2048) (d : Fin 1024) : iblk m c 1 t (ix2 r d) = argD m c (half t.val * 2048 + r.val) d.val := by
  blk_simp [iblk]
  rw [show V m c main_arg1 = m ((c : Thread nD τ).loc main_arg1) from V_main_arg1 m c]
  refine (ent2_at (a := 4096) (b := 1024) _ _).trans ?_
  unfold argD
  blk_simp [e1]

/-- What the scratch holds after the first half. -/
theorem acc_first (t : Fin cfg0.N) (h0 : t.val % 2 = 0) (h1 : ¬t.val % 2 = 1) (f : Fin 1408) (d : Fin 1024) :
    (outsAt0 m c t.val t.isLt).2 (ix2 f d)
      = ∑ r : Fin 2048, argA m c (half t.val * 2048 + r.val) (t.val / 2 * 1408 + f.val) * argD m c (half t.val * 2048 + r.val) d.val := by
  rw [outsAt0_A m c t h0 h1]; frame_out
  rw [pay2_apply, pay1_apply, zero_add]
  simp only [in0, in1]

theorem out_last (t : Fin cfg0.N) (h0 : ¬t.val % 2 = 0) (h1 : t.val % 2 = 1) (k : Fin 2) (s : Fin 704) (d : Fin 1024) :
    (outsAt0 m c t.val t.isLt).1 (ix3 k s d) = gradOut (argA m c) (argD m c) (t.val / 2 * 1408 + (k.val * 704 + s.val)) d.val := by
  rw [outsAt0_B m c t h0 h1]; frame_out
  rw [pay3_apply, pay2_apply]
  rw [Idealize.ShloMosaic.read_unread_whole, acc_first m c ⟨t.val - 1, by omega⟩ (by show (t.val - 1) % 2 = 0; omega) (by show ¬(t.val - 1) % 2 = 1; omega)]
  simp only [in0, in1]
  have e : (t.val - 1) / 2 = t.val / 2 := by omega
  rw [e]
  exact sum_turns (fun r => argA m c r (t.val / 2 * 1408 + (k.val * 704 + s.val)) * argD m c r d.val) t.val h1

/-- The four devices' rows, as core `c` computes them. -/
def outOut : Buf (Elt Ideal) ((c : Thread nD τ).loc main_v1) := fun i : S4x704x1024.Idx => gradOut (argA m c) (argD m c) ((i 0).val * 704 + (i 1).val) (i 2).val

theorem emb2 (t : Fin cfg0.N) (y : S2x704x1024.Idx) : ((win0_2.blk t).view.emb y 0 : ℕ) = t.val / 2 * 2 + (y 0).val
    ∧ ((win0_2.blk t).view.emb y 1 : ℕ) = (y 1).val ∧ ((win0_2.blk t).view.emb y 2 : ℕ) = (y 2).val := by
  refine ⟨?_, ?_, ?_⟩ <;> blk_simp [e2]

theorem final_out : (dats m 0 c).arrAt 2 cfg0.N = outOut m c := by
  refine (dats m 0 c).arrAt_eq_of_covers 2 _ (by decide +kernel) fun t hf y => ?_
  blk_simp
  rw [after0_2]
  have h1 := (flush0_2 t).mp hf
  obtain ⟨p, q, s⟩ := emb2 t y
  refine (congrArg (outsAt0 m c t.val t.isLt).1 (eq_ix3 y)).trans ((out_last m c t (by omega) h1 (y 0) (y 1) (y 2)).trans ?_)
  unfold outOut
  dsimp only
  rw [p, q, s]
  rw [show (t.val / 2 * 2 + (y 0).val) * 704 + (y 1).val = t.val / 2 * 1408 + ((y 0).val * 704 + (y 1).val) by omega]

/-- The run ends with the four devices' rows, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = outOut m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(FramePost.out_eq h.1 c 2).trans (final_out m c), h.2.1 c⟩) (θ_run_and (run_main m ρ) (frame m ρ))

end Cert.Kernel3Ideal.Hand

namespace Cert.Reference3Ideal.Hand

open Cert.Ffn Cert.Reference3Ideal Cert.Reference3Ideal.Gen Cert.Reference3Ideal.Read
open Idealize.ShloMosaic Idealize.ShloMosaic.ValueIdx Idealize.SL.Sem

theorem out_val (x0 : (⟨S4096x2816, .bf16⟩ : BufTy).Contents (Elt Ideal)) (x1 : (⟨S4096x1024, .bf16⟩ : BufTy).Contents (Elt Ideal)) (i : S4x704x1024.Idx) :
    val_main_v7 (F := Ideal) x0 x1 i = gradOut (ent2 (a := 4096) (b := 2816) x0) (ent2 (a := 4096) (b := 1024) x1) ((i 0).val * 704 + (i 1).val) (i 2).val := by
  have i2 : (i 2).val < 1024 := (i 2).isLt
  rw [val_main_v7_apply]
  show val_main_v6 (F := Ideal) x0 x1 i = _
  rw [val_main_v6_apply, val_main_v5_apply, val_main_v4_apply]
  unfold gradOut
  refine Finset.sum_congr rfl fun r _ => ?_
  rw [mul_comm]
  congr 1
  · rw [val_main_v0_apply]
    refine (ent2_at (a := 4096) (b := 2816) x0 _).trans ?_
    congr 1
    show (((i 0).val * 704 + (i 1).val) * 1024 + (i 2).val) / 1024 = (i 0).val * 704 + (i 1).val
    omega
  · rw [val_main_v3_apply]
    refine (ent2_at (a := 4096) (b := 1024) x1 _).trans ?_
    congr 1
    show (((i 0).val * 704 + (i 1).val) * 1024 + (i 2).val) % 1024 = (i 2).val
    omega

/-- The reference's run ends with the same rows, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = (fun i : S4x704x1024.Idx =>
        gradOut (ent2 (a := 4096) (b := 2816) (m ((c.tc : Thread nD τ).loc main_arg0))) (ent2 (a := 4096) (b := 1024) (m ((c.tc : Thread nD τ).loc main_arg1)))
          ((i 0).val * 704 + (i 1).val) (i 2).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v7_eq _ _).trans (funext (out_val _ _))), (h c).2⟩) (Value.run (F := Ideal) m ρ)

end Cert.Reference3Ideal.Hand
-- ==== Proof.FwdPrinted.lean ====
/- The FFN forward kernel as printed and as read over the extended reals have one text, so the run of the one is the run
   of the other. -/
module

public import proofs.«01_k».proof.Proof.FwdFrame
public import proofs.«01_k».proof.Proof.Gen.Kernel4
public import proofs.«01_k».proof.Defs

@[expose] public section

set_option maxRecDepth 65536

namespace Cert.Ffn

open Idealize.ShloMosaic

attribute [local instance] Cert.Kernel4.Gen.facts Cert.Kernel4Ideal.Gen.facts

variable {F : FTy → Type} [FloatOps F]

/-- The two body tables are one. -/
theorem bodies_eq : @Cert.Kernel4.defs₀ F _ _ = @Cert.Kernel4Ideal.defs₀ F _ _ := by
  unfold Kernel4.defs₀ Kernel4Ideal.defs₀
  refine congrArg (Defs.onTc (Λ := Kernel4Ideal.Λ₀)) (funext fun l => ?_)
  match l with
  | ⟨0, h⟩ =>
    funext x
    rfl

theorem tables_eq : @Cert.Kernel4.defs F _ _ = @Cert.Kernel4Ideal.defs F _ _ := by
  unfold Kernel4.defs Kernel4Ideal.defs
  rw [bodies_eq]
  rfl

set_option maxHeartbeats 4000000 in
/-- The frame claim of the printed kernel. -/
theorem printed_frame : @Cert.quiescent_Kernel4 Cert.Kernel4.Gen.facts := fun m ρ _ => by
  rw [tables_eq]
  exact Cert.Kernel4Ideal.Hand.frame (F := Bits) m ρ

end Cert.Ffn
-- ==== Proof.FwdValue.lean ====
/- The two results of the feed-forward layer's forward kernel: the layer's output, and the first product's gates and values. -/
module

public import proofs.«01_k».proof.Proof.FwdPay
public import Idealize.ShloMosaic.Lib.Pipeline.ValueKit.Tiles

@[expose] public section

set_option maxRecDepth 16384

noncomputable section

namespace Cert.Kernel4Ideal.Hand

open Cert.Ffn Cert.Kernel4Ideal Cert.Kernel4Ideal.Gen
open Idealize.ShloMosaic Idealize.ShloMosaic.ValueIdx Idealize.ShloMosaic.TcCoe Idealize.SL.Sem
open Idealize.ShloMosaic.Pipeline (Dat Cfg Window FramePost)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![0, t.val, 0] := (by decide +kernel : ∀ t : Fin grid0.N, win0_3.index t = ![0, t.val, 0])

variable (m : (ℓ : Loc nD τ sig) → Buf (Elt Ideal) ℓ) (c : Dev nD)

def argX : ℕ → ℕ → EReal := ent2 (a := 4096) (b := 1024) (m ((c : Thread nD τ).loc main_arg0))
def argG : ℕ → ℕ → EReal := ent2 (a := 1) (b := 1024) (m ((c : Thread nD τ).loc main_arg1))
def argW : ℕ → ℕ → ℕ → EReal := ent3 (a := 4) (b := 1024) (d := 1408) (m ((c : Thread nD τ).loc main_arg2))
def argV : ℕ → ℕ → EReal := ent2 (a := 2816) (b := 1024) (m ((c : Thread nD τ).loc main_arg3))

/-! ## What a point reads -/

theorem in0 (t : Fin cfg0.N) (r : Fin 512) (d : Fin 1024) : iblk m c 0 t (ix2 r d) = argX m c (t.val * 512 + r.val) d.val := by
  blk_simp [iblk]
  rw [show V m c main_arg0 = m ((c : Thread nD τ).loc main_arg0) from V_main_arg0 m c]
  refine (ent2_at (a := 4096) (b := 1024) _ _).trans ?_
  unfold argX
  blk_simp [e0]

theorem in1 (t : Fin cfg0.N) (d : Fin 1024) : iblk m c 1 t (ix2 0 d) = argG m c 0 d.val := by
  blk_simp [iblk]
  rw [show V m c main_arg1 = m ((c : Thread nD τ).loc main_arg1) from V_main_arg1 m c]
  refine (ent2_at (a := 1) (b := 1024) _ _).trans ?_
  unfold argG
  blk_simp [e1]

theorem win_eq : wIn m c = m ((c : Thread nD τ).loc main_arg2) := V_main_arg2 m c
theorem wout_eq : wOut m c = m ((c : Thread nD τ).loc main_arg3) := V_main_arg3 m c

/-- Slab `b` of the first weights, `n` columns of it from column `o` on. -/
theorem in_slab (b o n : ℕ) (h : ∀ a : Fin 3, (![b, 0, o] : Fin 3 → ℕ) a + (![1, 1024, n] : Fin 3 → ℕ) a ≤ S4x1024x1408.size a) (k : Fin 1024) (f : Fin n) :
    View.ld (View.read (Elt Ideal) (View.whole cc0_scratch0) ((Memref.isWhole_whole cc0_scratch0).unread (wIn m c)))
      (Rect.unit (s := S4x1024x1408) ![b, 0, o] ![1, 1024, n] h) (ix3 0 k f) = argW m c b k.val (o + f.val) := by
  rw [Idealize.ShloMosaic.read_unread_whole, win_eq]
  refine (ent3_at (a := 4) (b := 1024) (d := 1408) _ _).trans ?_
  rw [Idealize.ShloMosaic.Rect.idx_unit_val, Idealize.ShloMosaic.Rect.idx_unit_val, Idealize.ShloMosaic.Rect.idx_unit_val]
  show ent3 _ (b + 0) (0 + k.val) (o + f.val) = argW m c b k.val (o + f.val)
  rw [Nat.add_zero, Nat.zero_add]
  rfl

/-- The second weights, `n` rows of them from row `o` on. -/
theorem in_rows (o n : ℕ) (h : ∀ a : Fin 2, (![o, 0] : Fin 2 → ℕ) a + (![n, 1024] : Fin 2 → ℕ) a ≤ S2816x1024.size a) (f : Fin n) (d : Fin 1024) :
    View.ld (View.read (Elt Ideal) (View.whole cc0_scratch1) ((Memref.isWhole_whole cc0_scratch1).unread (wOut m c)))
      (Rect.unit (s := S2816x1024) ![o, 0] ![n, 1024] h) (ix2 f d) = argV m c (o + f.val) d.val := by
  rw [Idealize.ShloMosaic.read_unread_whole, wout_eq]
  refine (ent2_at (a := 2816) (b := 1024) _ _).trans ?_
  rw [Idealize.ShloMosaic.Rect.idx_unit_val, Idealize.ShloMosaic.Rect.idx_unit_val]
  show ent2 _ (o + f.val) (0 + d.val) = argV m c (o + f.val) d.val
  rw [Nat.zero_add]
  rfl

theorem norm_at (t : Fin cfg0.N) (r : Fin 512) (d : Fin 1024) :
    k0_pay5 (F := Ideal) (iblk m c 0 t) (iblk m c 1 t) (ix2 r d) = normed (argX m c) (argG m c) (t.val * 512 + r.val) d.val := by
  rw [pay5_apply]
  unfold normed
  simp only [in0, in1]

theorem wide_of (X G : ℕ → ℕ → EReal) (W : ℕ → ℕ → ℕ → EReal) (r b q : ℕ) (hq : q < 1408) :
    ∑ k : Fin 1024, normed X G r k.val * W b k.val q = wide X G W r (b * 1408 + q) := by
  unfold wide
  rw [show (b * 1408 + q) / 1408 = b by omega, show (b * 1408 + q) % 1408 = q by omega]

/-- A chunk's gate, value and weight are those of column `f`. -/
theorem part_of (X G : ℕ → ℕ → EReal) (W : ℕ → ℕ → ℕ → EReal) (V : ℕ → ℕ → EReal) (r d : ℕ) {f p q s : ℕ} {g u v : EReal}
    (hg : g = wide X G W r p) (hu : u = wide X G W r q) (hv : v = V s d) (ep : p = f) (eq : q = 2816 + f) (es : s = f) :
    gated g u * v = part X G W V r d f := by
  subst ep eq es hg hu hv
  rfl

theorem wide768 (t : Fin cfg0.N) (b o : ℕ) (h : ∀ a : Fin 3, (![b, 0, o] : Fin 3 → ℕ) a + (![1, 1024, 768] : Fin 3 → ℕ) a ≤ S4x1024x1408.size a)
    (r : Fin 512) (f : Fin 768) :
    k0_pay17 (F := Ideal) (k0_pay5 (F := Ideal) (iblk m c 0 t) (iblk m c 1 t))
      (View.ld (View.read (Elt Ideal) (View.whole cc0_scratch0) ((Memref.isWhole_whole cc0_scratch0).unread (wIn m c)))
        (Rect.unit (s := S4x1024x1408) ![b, 0, o] ![1, 1024, 768] h)) (ix2 r f)
      = wide (argX m c) (argG m c) (argW m c) (t.val * 512 + r.val) (b * 1408 + (o + f.val)) := by
  have hb : o + 768 ≤ 1408 := h 2
  rw [up768, ← wide_of _ _ _ _ _ _ (by omega)]
  exact Finset.sum_congr rfl fun k _ => congrArg₂ (fun a b : EReal => a * b) (norm_at m c t r k) (in_slab m c b o 768 h k f)

theorem wide640 (t : Fin cfg0.N) (b o : ℕ) (h : ∀ a : Fin 3, (![b, 0, o] : Fin 3 → ℕ) a + (![1, 1024, 640] : Fin 3 → ℕ) a ≤ S4x1024x1408.size a)
    (r : Fin 512) (f : Fin 640) :
    k0_pay12 (F := Ideal) (k0_pay5 (F := Ideal) (iblk m c 0 t) (iblk m c 1 t))
      (View.ld (View.read (Elt Ideal) (View.whole cc0_scratch0) ((Memref.isWhole_whole cc0_scratch0).unread (wIn m c)))
        (Rect.unit (s := S4x1024x1408) ![b, 0, o] ![1, 1024, 640] h)) (ix2 r f)
      = wide (argX m c) (argG m c) (argW m c) (t.val * 512 + r.val) (b * 1408 + (o + f.val)) := by
  have hb : o + 640 ≤ 1408 := h 2
  rw [up640, ← wide_of _ _ _ _ _ _ (by omega)]
  exact Finset.sum_congr rfl fun k _ => congrArg₂ (fun a b : EReal => a * b) (norm_at m c t r k) (in_slab m c b o 640 h k f)

/-! ## What a point leaves -/

theorem x_at (t : Fin cfg0.N) (r : Fin 512) (d : Fin 1024) :
    xAt m c t (ix2 r d) = layer (argX m c) (argG m c) (argW m c) (argV m c) (t.val * 512 + r.val) d.val := by
  unfold xAt restRun; frame_out
  rw [pay4_apply, pay21_apply, pay11_apply]
  unfold layer
  rw [← sum_chunks (part (argX m c) (argG m c) (argW m c) (argV m c) (t.val * 512 + r.val) d.val), in0]
  refine congrArg (fun e : EReal => argX m c (t.val * 512 + r.val) d.val + Ideal.ofBits .f32 0x3F000000#32 * e) ?_
  refine congrArg₂ (fun e e' : EReal => e + e') (congrArg₂ (fun e e' : EReal => e + e') (congrArg₂ (fun e e' : EReal => e + e')
    (congrArg₂ (fun e e' : EReal => e + e') Ideal.ofBits_zero_f32 ?_) ?_) ?_) ?_
    <;> refine Finset.sum_congr rfl fun f _ => ?_
  · exact part_of _ _ _ _ _ _ (wide768 m c t 0 0 _ r f) (wide768 m c t 2 0 _ r f) (in_rows m c 0 768 _ f d) (by omega) (by omega) (by omega)
  · rw [pay16_apply]
    exact part_of _ _ _ _ _ _ (wide640 m c t 0 768 _ r f) (wide640 m c t 2 768 _ r f) (in_rows m c 768 640 _ f d) (by omega) (by omega) (by omega)
  · exact part_of _ _ _ _ _ _ (wide768 m c t 1 0 _ r f) (wide768 m c t 3 0 _ r f) (in_rows m c 1408 768 _ f d) (by omega) (by omega) (by omega)
  · exact part_of _ _ _ _ _ _ (wide640 m c t 1 768 _ r f) (wide640 m c t 3 768 _ r f) (in_rows m c 2176 640 _ f d) (by omega) (by omega) (by omega)

/-- The first product's block at a point: the gates, then the values. -/
def guBlock (t : Fin cfg0.N) : S2x512x2816.Idx → EReal := fun y =>
  wide (argX m c) (argG m c) (argW m c) (t.val * 512 + (y 1).val) ((y 0).val * 2816 + (y 2).val)

theorem laid768 (t : Fin cfg0.N) (s o b q : ℕ) (e : s * 2816 + o = b * 1408 + q)
    (h : ∀ a : Fin 3, (![b, 0, q] : Fin 3 → ℕ) a + (![1, 1024, 768] : Fin 3 → ℕ) a ≤ S4x1024x1408.size a)
    (h' : ∀ a : Fin 3, (![s, 0, o] : Fin 3 → ℕ) a + (![1, 512, 768] : Fin 3 → ℕ) a ≤ S2x512x2816.size a) (x : S1x512x768.Idx) :
    shapeCast S1x512x768 (truncf (F := Ideal) .bf16 (k0_pay17 (F := Ideal) (k0_pay5 (F := Ideal) (iblk m c 0 t) (iblk m c 1 t))
      (View.ld (View.read (Elt Ideal) (View.whole cc0_scratch0) ((Memref.isWhole_whole cc0_scratch0).unread (wIn m c)))
        (Rect.unit (s := S4x1024x1408) ![b, 0, q] ![1, 1024, 768] h))) bitsLt_bf16_f32) shapeCasts_S512x768_S1x512x768 x
      = guBlock m c t ((Rect.unit (s := S2x512x2816) ![s, 0, o] ![1, 512, 768] h').emb x) := by
  have hx : x = ix3 0 (x 1) (x 2) := by
    funext a
    match a with
    | 0 => exact Subsingleton.elim (α := Fin 1) _ _
    | 1 => rfl
    | 2 => rfl
  rw [hx]
  refine (lie768 _ (x 1) (x 2)).trans ((wide768 m c t b q h (x 1) (x 2)).trans ?_)
  show _ = wide (argX m c) (argG m c) (argW m c) (t.val * 512 + (0 + 1 * (x 1).val)) ((s + 1 * 0) * 2816 + (o + 1 * (x 2).val))
  rw [show b * 1408 + (q + (x 2).val) = (s + 1 * 0) * 2816 + (o + 1 * (x 2).val) by omega, Nat.one_mul (x 1).val, Nat.zero_add]

theorem laid640 (t : Fin cfg0.N) (s o b q : ℕ) (e : s * 2816 + o = b * 1408 + q)
    (h : ∀ a : Fin 3, (![b, 0, q] : Fin 3 → ℕ) a + (![1, 1024, 640] : Fin 3 → ℕ) a ≤ S4x1024x1408.size a)
    (h' : ∀ a : Fin 3, (![s, 0, o] : Fin 3 → ℕ) a + (![1, 512, 640] : Fin 3 → ℕ) a ≤ S2x512x2816.size a) (x : S1x512x640.Idx) :
    shapeCast S1x512x640 (truncf (F := Ideal) .bf16 (k0_pay12 (F := Ideal) (k0_pay5 (F := Ideal) (iblk m c 0 t) (iblk m c 1 t))
      (View.ld (View.read (Elt Ideal) (View.whole cc0_scratch0) ((Memref.isWhole_whole cc0_scratch0).unread (wIn m c)))
        (Rect.unit (s := S4x1024x1408) ![b, 0, q] ![1, 1024, 640] h))) bitsLt_bf16_f32) shapeCasts_S512x640_S1x512x640 x
      = guBlock m c t ((Rect.unit (s := S2x512x2816) ![s, 0, o] ![1, 512, 640] h').emb x) := by
  have hx : x = ix3 0 (x 1) (x 2) := by
    funext a
    match a with
    | 0 => exact Subsingleton.elim (α := Fin 1) _ _
    | 1 => rfl
    | 2 => rfl
  rw [hx]
  refine (lie640 _ (x 1) (x 2)).trans ((wide640 m c t b q h (x 1) (x 2)).trans ?_)
  show _ = wide (argX m c) (argG m c) (argW m c) (t.val * 512 + (0 + 1 * (x 1).val)) ((s + 1 * 0) * 2816 + (o + 1 * (x 2).val))
  rw [show b * 1408 + (q + (x 2).val) = (s + 1 * 0) * 2816 + (o + 1 * (x 2).val) by omega, Nat.one_mul (x 1).val, Nat.zero_add]

theorem gu_at (t : Fin cfg0.N) (y : S2x512x2816.Idx) : guAt m c t y = guBlock m c t y := by
  unfold guAt restRun; frame_out
  refine View.canon_apply_of_pieces (Val := Elt Ideal) (S := S2x512x2816) (e := .bf16) (guBlock m c t) _ (View.PiecesOf.mem ?_) y
    (View.cover_of_tiledBy _ ![1, 512, 128] (by sl_kernel_rfl) y)
  refine ⟨?_, ?_, ?_, ?_, ?_, ?_, ?_, ?_, trivial⟩
  · exact laid640 m c t 1 2176 3 768 (by omega) _ inb_S2x512x2816_S1x512x640_1_0_2176
  · exact laid640 m c t 0 2176 1 768 (by omega) _ inb_S2x512x2816_S1x512x640_0_0_2176
  · exact laid768 m c t 1 1408 3 0 (by omega) _ inb_S2x512x2816_S1x512x768_1_0_1408
  · exact laid768 m c t 0 1408 1 0 (by omega) _ inb_S2x512x2816_S1x512x768_0_0_1408
  · exact laid640 m c t 1 768 2 768 (by omega) _ inb_S2x512x2816_S1x512x640_1_0_768
  · exact laid640 m c t 0 768 0 768 (by omega) _ inb_S2x512x2816_S1x512x640_0_0_768
  · exact laid768 m c t 1 0 2 0 (by omega) _ inb_S2x512x2816_S1x512x768_1_0_0
  · exact laid768 m c t 0 0 0 0 (by omega) _ inb_S2x512x2816_S1x512x768_0_0_0

/-! ## The results after the run -/

/-- The layer's output, as core `c` computes it. -/
def xOut : Buf (Elt Ideal) ((c : Thread nD τ).loc main_v0_0) := fun i : S4096x1024.Idx =>
  layer (argX m c) (argG m c) (argW m c) (argV m c) (i 0).val (i 1).val

/-- The first product, as core `c` computes it. -/
def guOut : Buf (Elt Ideal) ((c : Thread nD τ).loc main_v0_1) := fun i : S2x4096x2816.Idx =>
  wide (argX m c) (argG m c) (argW m c) (i 1).val ((i 0).val * 2816 + (i 2).val)

theorem emb2 (t : Fin cfg0.N) (y : S512x1024.Idx) : ((win0_2.blk t).view.emb y 0 : ℕ) = t.val * 512 + (y 0).val
    ∧ ((win0_2.blk t).view.emb y 1 : ℕ) = (y 1).val := by
  refine ⟨?_, ?_⟩ <;> blk_simp [e2]

theorem emb3 (t : Fin cfg0.N) (y : S2x512x2816.Idx) : ((win0_3.blk t).view.emb y 0 : ℕ) = (y 0).val
    ∧ ((win0_3.blk t).view.emb y 1 : ℕ) = t.val * 512 + (y 1).val ∧ ((win0_3.blk t).view.emb y 2 : ℕ) = (y 2).val := by
  refine ⟨?_, ?_, ?_⟩ <;> blk_simp [e3]

theorem final_x : (dats m 0 c).arrAt 2 cfg0.N = xOut m c := by
  refine (dats m 0 c).arrAt_eq_of_covers 2 _ (by decide +kernel) fun t hf y => ?_
  blk_simp
  rw [after_2]
  obtain ⟨p, q⟩ := emb2 t y
  refine (congrArg (xAt m c t) (eq_ix2 y)).trans ((x_at m c t (y 0) (y 1)).trans ?_)
  unfold xOut
  dsimp only
  rw [p, q]

theorem final_gu : (dats m 0 c).arrAt 3 cfg0.N = guOut m c := by
  refine (dats m 0 c).arrAt_eq_of_covers 3 _ (by decide +kernel) fun t hf y => ?_
  blk_simp
  rw [after_3]
  obtain ⟨p, q, s⟩ := emb3 t y
  refine (gu_at m c t y).trans ?_
  unfold guOut guBlock
  dsimp only
  rw [p, q, s]

/-- The run ends with both results, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = xOut m c
      ∧ r.2.mem ((c.tc : Thread nD τ).loc main_v0_1) = guOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(FramePost.out_eq h.1 c 2).trans (final_x m c), (FramePost.out_eq h.1 c 3).trans (final_gu m c), h.2.1 c⟩)
    (θ_run_and (run_main m ρ) (frame m ρ))

end Cert.Kernel4Ideal.Hand
-- ==== Proof.BwdLoad.lean ====
/- The FFN backward kernel's first point: it copies both weights into scratch, six copies started and waited for, clears
   the scale's gradient, and then does what every other point does. -/
module

public import proofs.«01_k».proof.Proof.Gen.Kernel5Ideal.Frame
public import proofs.«01_k».proof.Proof.Gen.Kernel5Ideal.Skeleton
public import proofs.«01_k».proof.Proof.FwdLoad
public import Idealize.ShloMosaic.Lib.Pipeline.Value

@[expose] public section

set_option maxRecDepth 65536

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the first point does before the rest: the copies, started and waited for, and zeros stored over the scale's gradient. -/
def loads (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg5 : Memref sig .tc .hbm S4x1024x1408 .bf16) (harg5 : arg5.IsWhole) (arg6 : Memref sig .tc .hbm S2816x1024 .bf16) (harg6 : arg6.IsWhole) (arg7 : Memref sig .tc .hbm S8x128 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (arg16 : DmaSems sig S6) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v179 : DmaSems sig S1 := arg16.slice (Rect.unit (s := S6) ![3] S1.size inb_S6_S1_3)
  let v180 : DmaSems sig S_ := v179.squeeze S_ squeezes_S1_S_
  let v181 : Memref sig .tc .vmem S1x1024x1408 .bf16 := arg14.slice (Rect.unit (s := S4x1024x1408) ![3, 0, 0] S1x1024x1408.size inb_S4x1024x1408_S1x1024x1408_3_0_0) (fun _ => rfl)
  let v182 : Memref sig .tc .vmem S1024x1408 .bf16 := v181.squeeze S1024x1408 squeezes_S1x1024x1408_S1024x1408
  let v183 : Memref sig .tc .hbm S1x1024x1408 .bf16 := arg5.slice (Rect.unit (s := S4x1024x1408) ![3, 0, 0] S1x1024x1408.size inb_S4x1024x1408_S1x1024x1408_3_0_0) (fun _ => rfl)
  let v184 : Memref sig .tc .hbm S1024x1408 .bf16 := v183.squeeze S1024x1408 squeezes_S1x1024x1408_S1024x1408
  Prog.lift (.waitDma2 v180.sem v184 v182 ((harg5.wordExact_slice rfl _ wordsbf16_S4x1024x1408_S1x1024x1408_3_0_0).reshape _ _) ((harg14.wordExact_slice rfl _ wordsbf16_S4x1024x1408_S1x1024x1408_3_0_0).reshape _ _))
  let v185 : DmaSems sig S1 := arg16.slice (Rect.unit (s := S6) ![4] S1.size inb_S6_S1_4)
  let v186 : DmaSems sig S_ := v185.squeeze S_ squeezes_S1_S_
  let v187 : Memref sig .tc .vmem S1408x1024 .bf16 := arg15.slice (Rect.unit (s := S2816x1024) ![0, 0] S1408x1024.size inb_S2816x1024_S1408x1024_0_0) (fun _ => rfl)
  let v188 : Memref sig .tc .hbm S1408x1024 .bf16 := arg6.slice (Rect.unit (s := S2816x1024) ![0, 0] S1408x1024.size inb_S2816x1024_S1408x1024_0_0) (fun _ => rfl)
  Prog.lift (.waitDma2 v186.sem v188 v187 (harg6.wordExact_slice rfl _ wordsbf16_S2816x1024_S1408x1024_0_0) (harg15.wordExact_slice rfl _ wordsbf16_S2816x1024_S1408x1024_0_0))
  let v189 : DmaSems sig S1 := arg16.slice (Rect.unit (s := S6) ![5] S1.size inb_S6_S1_5)
  let v190 : DmaSems sig S_ := v189.squeeze S_ squeezes_S1_S_
  let v191 : Memref sig .tc .vmem S1408x1024 .bf16 := arg15.slice (Rect.unit (s := S2816x1024) ![1408, 0] S1408x1024.size inb_S2816x1024_S1408x1024_1408_0) (fun _ => rfl)
  let v192 : Memref sig .tc .hbm S1408x1024 .bf16 := arg6.slice (Rect.unit (s := S2816x1024) ![1408, 0] S1408x1024.size inb_S2816x1024_S1408x1024_1408_0) (fun _ => rfl)
  Prog.lift (.waitDma2 v190.sem v192 v191 (harg6.wordExact_slice rfl _ wordsbf16_S2816x1024_S1408x1024_1408_0) (harg15.wordExact_slice rfl _ wordsbf16_S2816x1024_S1408x1024_1408_0))
  let v194 : Vec F S1x1024 .f32 ← Prog.lift (.load arg9 (Rect.unit (s := S1x1024) ![0, 0] S1x1024.size inb_S1x1024_S1x1024_0_0).toLoadRect (View.loadsAt_vmem h_S1x1024))
  Prog.lift (.store arg9 (Rect.unit (s := S1x1024) ![0, 0] S1x1024.size inb_S1x1024_S1x1024_0_0) (k0_pay6 (F := F)) Finset.univ (View.stores_vmem_bits_univ h_S1x1024 rfl) (.inl rfl))
  pure ⟨⟩

/-- The branch's condition at a point. -/
abbrev firstPoint (i : grid0.Coords) : Prop := (Scalar.cmpi .ne (Scalar.extui (Scalar.cmpi .eq (BitVec.ofNat 32 (i 0).val) 0#32)) 0#32) = 1#1

set_option maxHeartbeats 1000000 in
theorem body_first (i j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg5 : Memref sig .tc .hbm S4x1024x1408 .bf16) (harg5 : arg5.IsWhole) (arg6 : Memref sig .tc .hbm S2816x1024 .bf16) (harg6 : arg6.IsWhole) (arg7 : Memref sig .tc .hbm S8x128 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (arg16 : DmaSems sig S6) (hi : firstPoint i) (hj : ¬firstPoint j) :
    cc0_ffn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
      = (loads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 >>= fun _ =>
          cc0_ffn_bwd j arg1 harg1 arg2 harg2 arg3 harg3 arg4 harg4 arg5 harg5 arg6 harg6 arg7 harg7 arg8 harg8 arg9 harg9 arg10 harg10 arg11 harg11 arg12 harg12 arg13 harg13 arg14 harg14 arg15 harg15 arg16) := by
  simp only [cc0_ffn_bwd_eq_skeleton]; unfold cc0_ffn_bwd_skel
  simp only [k0_part3_eq_skeleton]; unfold k0_part3_skel
  dsimp only
  rw [dif_pos hi, dif_neg hj]
  unfold loads
  simp only [bind_assoc, pure_bind]
  rfl

abbrev scM0_0 : Memref sig .tc .vmem S4x1024x1408 .bf16 := Memref.whole cc0_scratch0
abbrev scM0_1 : Memref sig .tc .vmem S2816x1024 .bf16 := Memref.whole cc0_scratch1
abbrev hbM0_0 : Memref sig .tc .hbm S4x1024x1408 .bf16 := Memref.whole main_arg3
abbrev hbM0_1 : Memref sig .tc .hbm S2816x1024 .bf16 := Memref.whole main_arg4
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The six cells of the copies, all at zero. -/
abbrev cells (c : Dev nD) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)

/-- One piece over the whole of the scale's gradient leaves what it wrote. -/
theorem read_scale (v : View sig .tc .vmem S1x1024 .f32) (f : v.ty.Contents (Elt F)) (x : Vec F S1x1024 .f32) :
    v.read (Elt F) (v.writes (Elt F) f [⟨Rect.unit (s := S1x1024) ![0, 0] S1x1024.size inb_S1x1024_S1x1024_0_0, x⟩]) = x :=
  funext fun y => by
    refine (View.read_writes_apply_eq_canon v f y _ ?_).trans ?_
    · exact View.cover_of_tiledL [⟨Rect.unit (s := S1x1024) ![0, 0] S1x1024.size inb_S1x1024_S1x1024_0_0, x⟩] S1x1024.size (by sl_kernel_rfl) y
    · rw [View.canon_unit_zero (by decide +kernel)]

set_option sl_exec.dmaWindow true in
set_option maxHeartbeats 2000000 in
theorem loads_run (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole)
    (fh0 : HbBuf0 (F := F) c hbM0_0) (fh1 : HbBuf0 (F := F) c hbM0_1) (W : Waits sig Unit) (K : PUnit → sProp 𝕄) :
    iprop((∃ f, hbPt0 c scM0_0 f) ∗ (∃ f, hbPt0 c scM0_1 f) ∗ cells (F := F) c
        ∗ hbPt0 c hbM0_0 fh0 ∗ hbPt0 c hbM0_1 fh1 ∗ owes (c : Thread nD τ) 0 W ∗ (∃ d, owns (c : Thread nD τ) arg9 fullShare d)
        ∗ (iprop((∃ f, ⌜scM0_0.view.read (Elt F) f = hbM0_0.view.read (Elt F) fh0⌝ ∗ hbPt0 c scM0_0 f)
            ∗ (∃ f, ⌜scM0_1.view.read (Elt F) f = hbM0_1.view.read (Elt F) fh1⌝ ∗ hbPt0 c scM0_1 f)
            ∗ cells (F := F) c ∗ hbPt0 c hbM0_0 fh0 ∗ hbPt0 c hbM0_1 fh1 ∗ (∃ W', owes (c : Thread nD τ) 0 W')
            ∗ owns (c : Thread nD τ) arg9 fullShare (k0_pay6 (F := F))) -∗ K ⟨⟩))
      ⊢ wp frame (wpE (defs₀ (F := F)) Variants.none c none) Set.univ
          (loads i arg1 harg1 arg2 harg2 arg3 harg3 arg4 harg4 (Memref.whole main_arg3) (Memref.isWhole_whole _) (Memref.whole main_arg4) (Memref.isWhole_whole _) (Memref.whole main_v19) (Memref.isWhole_whole _) arg8 harg8 arg9 harg9 arg10 harg10 arg11 harg11 arg12 harg12 arg13 harg13 scM0_0 (Memref.isWhole_whole _) scM0_1 (Memref.isWhole_whole _) cc0_scratch2) K := by
  unfold loads
  simp only [k0_part1_eq_skeleton, k0_part2_eq_skeleton]
  iintro ⟨⟨%f0, HS0⟩, ⟨%f1, HS1⟩, ⟨Hq0, Hq1, Hq2, Hq3, Hq4, Hq5⟩, Hh0, Hh1, HW, ⟨%d9, H9⟩, Hk⟩
  unfold owns
  icases H9 with ⟨%f9, -, H9⟩
  sl_exec
  sl_step
  iapply Hk
  isplitl [HS0]
  · iexists _
    isplitr
    swap
    · iexact HS0
    ipureintro
    funext y
    refine (Cert.Kernel4Ideal.Hand.slab_put scM0_0.view hbM0_0.view _ _ _ fh0 y).trans ?_
    split_ifs with h3
    · rfl
    refine (Cert.Kernel4Ideal.Hand.slab_put scM0_0.view hbM0_0.view _ _ _ fh0 y).trans ?_
    split_ifs with h2
    · rfl
    refine (Cert.Kernel4Ideal.Hand.slab_put scM0_0.view hbM0_0.view _ _ _ fh0 y).trans ?_
    split_ifs with h1
    · rfl
    refine (Cert.Kernel4Ideal.Hand.slab_put scM0_0.view hbM0_0.view _ _ _ fh0 y).trans ?_
    split_ifs with h0
    · rfl
    rcases Cert.Kernel4Ideal.Hand.slab_cover y with h | h | h | h
    exacts [absurd h h3, absurd h h2, absurd h h1, absurd h h0]
  isplitl [HS1]
  · iexists _
    isplitr
    swap
    · iexact HS1
    ipureintro
    funext y
    refine (Cert.Kernel4Ideal.Hand.slice_put scM0_1.view hbM0_1.view _ _ fh1 y).trans ?_
    split_ifs with h1
    · rfl
    refine (Cert.Kernel4Ideal.Hand.slice_put scM0_1.view hbM0_1.view _ _ fh1 y).trans ?_
    split_ifs with h0
    · rfl
    rcases Cert.Kernel4Ideal.Hand.slice_cover y with h | h
    exacts [absurd h h1, absurd h h0]
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  isplitl [HW]; · iexists _; iexact HW
  iexists _; isplitr
  swap; · iexact H9
  ipureintro
  exact read_scale _ _ _

end Cert.Kernel5Ideal.Hand
-- ==== Proof.BwdRun.lean ====
/- One point of the FFN backward kernel, the weights already in scratch: what it leaves in the six results' buffers. -/
module

public import proofs.«01_k».proof.Proof.BwdLoad

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The kernel's body behind the branch: the pieces it leaves in the six results' buffers, and that it runs to them, the
    inputs and the weights in scratch as they were. The scale's gradient is read before it is written. -/
noncomputable def restRun (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j)
    (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) :
    Σ' (L8 : List (View.Piece (Elt F) S256x1024 .f32)), Σ' (L9 : List (View.Piece (Elt F) S1x1024 .f32)), Σ' (L10 : List (View.Piece (Elt F) S256x1024 .bf16)), Σ' (L11 : List (View.Piece (Elt F) S2x256x2816 .bf16)), Σ' (L12 : List (View.Piece (Elt F) S256x2816 .bf16)), { L13 : List (View.Piece (Elt F) S256x1024 .bf16) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg8 fullShare d) ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare xs0 ∗ owns (c : Thread nD τ) arg15 fullShare xs1) -∗ K ⟨⟩))
          ⊢ wp frame (wpE (defs₀ (F := F)) Variants.none c none) Set.univ (cc0_ffn_bwd j arg1 harg1 arg2 harg2 arg3 harg3 arg4 harg4 (Memref.whole main_arg3) (Memref.isWhole_whole _) (Memref.whole main_arg4) (Memref.isWhole_whole _) (Memref.whole main_v19) (Memref.isWhole_whole _) arg8 harg8 arg9 harg9 arg10 harg10 arg11 harg11 arg12 harg12 arg13 harg13 arg14 harg14 arg15 harg15 cc0_scratch2) K } := by
  refine ⟨?_, ?_, ?_, ?_, ?_, ?_, fun K => ?run⟩
  case run =>
    simp only [cc0_ffn_bwd_eq_skeleton]; unfold cc0_ffn_bwd_skel
    simp only [k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg9.eq_unread hf9; obtain rfl := harg14.eq_unread hf14; obtain rfl := harg15.eq_unread hf15
    sl_exec (disch := first | sl_exact hj)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg14.read_unread _
      iexact H14
    iexists _; isplitr; · ipureintro; exact harg15.read_unread _
    iexact H15

theorem cover_dx (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j) (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) (y : S256x1024.Idx) :
    ∃ pc ∈ (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).1, y ∈ pc.1.set :=
  View.cover_of_tiledL (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).1 S256x1024.size (by sl_kernel_rfl) y

theorem cover_dg (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j) (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) (y : S1x1024.Idx) :
    ∃ pc ∈ (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.1, y ∈ pc.1.set :=
  View.cover_of_tiledL (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.1 S1x1024.size (by sl_kernel_rfl) y

theorem cover_h (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j) (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) (y : S256x1024.Idx) :
    ∃ pc ∈ (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.1, y ∈ pc.1.set :=
  View.cover_of_tiledL (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.1 S256x1024.size (by sl_kernel_rfl) y

theorem cover_dgu (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j) (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) (y : S2x256x2816.Idx) :
    ∃ pc ∈ (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.2.1, y ∈ pc.1.set :=
  View.cover_of_tiledBy (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.2.1 ![1, 256, 1408] (by sl_kernel_rfl) y

theorem cover_act (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j) (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) (y : S256x2816.Idx) :
    ∃ pc ∈ (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.2.2.1, y ∈ pc.1.set :=
  View.cover_of_tiledBy (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.2.2.1 ![256, 1408] (by sl_kernel_rfl) y

theorem cover_dy (c : Dev nD) (j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (hj : ¬firstPoint j) (x0 : Vec F S256x1024 .f32) (x1 : Vec F S256x1024 .f32) (x2 : Vec F S1x1024 .f32) (x3 : Vec F S2x256x2816 .bf16) (x5 : Vec F S1x1024 .f32) (xs0 : Vec F S4x1024x1408 .bf16) (xs1 : Vec F S2816x1024 .bf16) (y : S256x1024.Idx) :
    ∃ pc ∈ (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.2.2.2.1, y ∈ pc.1.set :=
  View.cover_of_tiledL (restRun c j arg1 harg1 arg2 harg2 arg3 harg3 arg4 harg4 arg8 harg8 arg9 harg9 arg10 harg10 arg11 harg11 arg12 harg12 arg13 harg13 arg14 harg14 arg15 harg15 hj x0 x1 x2 x3 x5 xs0 xs1).2.2.2.2.2.1 S256x1024.size (by sl_kernel_rfl) y

end Cert.Kernel5Ideal.Hand
-- ==== Proof.BwdFrame.lean ====
/- The FFN backward kernel's run, point after point: the weights copied into scratch and the scale's gradient cleared at
   the first, every point's results written from its own blocks, the scale's gradient added to. -/
module

public import proofs.«01_k».proof.Proof.BwdRun
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem main_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's staging buffer holds its block at every point. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The branch is taken at the first point and at no other. -/
theorem firstPoint_iff : ∀ t : Fin cfg0.N, firstPoint (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [firstPoint, e0]
    word_cmp
   : ∀ t : Fin grid0.N, firstPoint (grid0.coords t) ↔ t.val = 0)

/-- A point that is not the first. -/
abbrev j₁ : grid0.Coords := grid0.coords ⟨1, by rw [N_0]; decide⟩
theorem not_first₁ : ¬firstPoint j₁ := fun h => absurd ((firstPoint_iff _).mp h) (by decide)

set_option maxHeartbeats 1000000 in
/-- The body does the same at any two points that are not the first. -/
theorem body_rest (i j : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x256x2816 .bf16) (harg4 : arg4.IsWhole) (arg5 : Memref sig .tc .hbm S4x1024x1408 .bf16) (harg5 : arg5.IsWhole) (arg6 : Memref sig .tc .hbm S2816x1024 .bf16) (harg6 : arg6.IsWhole) (arg7 : Memref sig .tc .hbm S8x128 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S2x256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S4x1024x1408 .bf16) (harg14 : arg14.IsWhole) (arg15 : Memref sig .tc .vmem S2816x1024 .bf16) (harg15 : arg15.IsWhole) (arg16 : DmaSems sig S6) (hi : ¬firstPoint i) (hj : ¬firstPoint j) :
    cc0_ffn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
      = cc0_ffn_bwd j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 := by
  simp only [cc0_ffn_bwd_eq_skeleton]; unfold cc0_ffn_bwd_skel
  simp only [k0_part3_eq_skeleton]; unfold k0_part3_skel
  dsimp only
  rw [dif_neg hi, dif_neg hj]
  rfl

abbrev VO0_4 : View sig .tc .vmem S256x1024 .f32 := (Memref.whole cc0_stg4_0 : Memref sig .tc .vmem S256x1024 .f32).view
abbrev VO0_5 : View sig .tc .vmem S1x1024 .f32 := (Memref.whole cc0_stg5_0 : Memref sig .tc .vmem S1x1024 .f32).view
abbrev VO0_6 : View sig .tc .vmem S256x1024 .bf16 := (Memref.whole cc0_stg6_0 : Memref sig .tc .vmem S256x1024 .bf16).view
abbrev VO0_7 : View sig .tc .vmem S2x256x2816 .bf16 := (Memref.whole cc0_stg7_0 : Memref sig .tc .vmem S2x256x2816 .bf16).view
abbrev VO0_8 : View sig .tc .vmem S256x2816 .bf16 := (Memref.whole cc0_stg8_0 : Memref sig .tc .vmem S256x2816 .bf16).view
abbrev VO0_9 : View sig .tc .vmem S256x1024 .bf16 := (Memref.whole cc0_stg9_0 : Memref sig .tc .vmem S256x1024 .bf16).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256x2816 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2816 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .bf16 := win0_9.stage (cfg0.slots t 9)
abbrev hs0_9 (t : Fin cfg0.N) : (ms0_9 t).IsWhole := hstage0_9 ((cfg0.slots t 9).cast nbuf0_9)

abbrev osem0 : Fin 6 → SemLoc sig := fun j => (![SemLoc.dma 18, SemLoc.dma 19, SemLoc.dma 20, SemLoc.dma 21, SemLoc.dma 22, SemLoc.dma 23] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem0 [0, 1, 2, 3, 4, 5] (by decide) (by decide)]; rfl
def H0 : Finset (Ref sig .tc) := {main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt0 c hbM0_0 (V m c main_arg3) ∗ hbPt0 c hbM0_1 (V m c main_arg4))) := by
  rw [Pipeline.ΦD_eq, scopedRest0_eq, ownSems00_eq, hbmPts0_eq]; simp only [scM0_0, scM0_1, owns_whole]; try rfl

/-- The two weights, as the copies read them. -/
def wIn (c : Dev nD) : Vec F S4x1024x1408 .bf16 := hbM0_0.view.read (Elt F) (V m c main_arg3)
def wOut (c : Dev nD) : Vec F S2816x1024 .bf16 := hbM0_1.view.read (Elt F) (V m c main_arg4)

theorem scr_open (c : Dev nD) (b : Ref sig .tc) :
    iprop(∃ d, owns (c : Thread nD τ) (Memref.whole b) fullShare d) ⊢ (iprop(∃ f, hbPt0 (F := F) c (Memref.whole b) f) : sProp 𝕄) := by
  unfold owns
  simp only [View.set_whole]
  iintro ⟨%d, %f, -, H⟩
  iexists f; iexact H

theorem scr_close (c : Dev nD) (b : Ref sig .tc) (w) :
    (iprop(∃ f, ⌜(Memref.whole b).view.read (Elt F) f = w⌝ ∗ hbPt0 (F := F) c (Memref.whole b) f) : sProp 𝕄)
      ⊢ owns (c : Thread nD τ) (Memref.whole b) fullShare w := by
  unfold owns
  simp only [View.set_whole]
  iintro ⟨%f, %hf, H⟩
  iexists f
  isplitr
  · ipureintro; exact hf
  iexact H

/-- The run of a point that finds `x` in the scale's gradient. -/
abbrev ptAt (c : Dev nD) (t : Fin cfg0.N) (x : Vec F S1x1024 .f32) :=
  restRun c j₁ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) not_first₁ (iblk m c 0 t) (iblk m c 1 t) (iblk m c 2 t) (iblk m c 3 t) x (wIn m c) (wOut m c)

/-- What such a point leaves in the results' buffers. -/
def dxOf (c : Dev nD) (t : Fin cfg0.N) (x : Vec F S1x1024 .f32) : Vec F S256x1024 .f32 :=
  VO0_4.read (Elt F) (VO0_4.writes (Elt F) VO0_4.junk (ptAt m c t x).1)
def dgOf (c : Dev nD) (t : Fin cfg0.N) (x : Vec F S1x1024 .f32) : Vec F S1x1024 .f32 :=
  VO0_5.read (Elt F) (VO0_5.writes (Elt F) VO0_5.junk (ptAt m c t x).2.1)
def hOf (c : Dev nD) (t : Fin cfg0.N) (x : Vec F S1x1024 .f32) : Vec F S256x1024 .bf16 :=
  VO0_6.read (Elt F) (VO0_6.writes (Elt F) VO0_6.junk (ptAt m c t x).2.2.1)
def dguOf (c : Dev nD) (t : Fin cfg0.N) (x : Vec F S1x1024 .f32) : Vec F S2x256x2816 .bf16 :=
  VO0_7.read (Elt F) (VO0_7.writes (Elt F) VO0_7.junk (ptAt m c t x).2.2.2.1)
def actOf (c : Dev nD) (t : Fin cfg0.N) (x : Vec F S1x1024 .f32) : Vec F S256x2816 .bf16 :=
  VO0_8.read (Elt F) (VO0_8.writes (Elt F) VO0_8.junk (ptAt m c t x).2.2.2.2.1)
def dyOf (c : Dev nD) (t : Fin cfg0.N) (x : Vec F S1x1024 .f32) : Vec F S256x1024 .bf16 :=
  VO0_9.read (Elt F) (VO0_9.writes (Elt F) VO0_9.junk (ptAt m c t x).2.2.2.2.2.1)

set_option maxHeartbeats 1000000 in
/-- The body behind the branch, run at a point that finds `x` in the scale's gradient. -/
theorem point_run (c : Dev nD) (t : Fin cfg0.N) (x : Vec F S1x1024 .f32) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ (∃ d, owns (c : Thread nD τ) (ms0_4 t) fullShare d) ∗ owns (c : Thread nD τ) (ms0_5 t) fullShare x ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d) ∗ owns (c : Thread nD τ) scM0_0 fullShare (wIn m c) ∗ owns (c : Thread nD τ) scM0_1 fullShare (wOut m c)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (dxOf m c t x) ∗ owns (c : Thread nD τ) (ms0_5 t) fullShare (dgOf m c t x) ∗ owns (c : Thread nD τ) (ms0_6 t) fullShare (hOf m c t x) ∗ owns (c : Thread nD τ) (ms0_7 t) fullShare (dguOf m c t x) ∗ owns (c : Thread nD τ) (ms0_8 t) fullShare (actOf m c t x) ∗ owns (c : Thread nD τ) (ms0_9 t) fullShare (dyOf m c t x) ∗ owns (c : Thread nD τ) scM0_0 fullShare (wIn m c) ∗ owns (c : Thread nD τ) scM0_1 fullShare (wOut m c)) -∗ K ⟨⟩))
      ⊢ wp frame (wpE (defs₀ (F := F)) Variants.none c none) Set.univ (cc0_ffn_bwd j₁ (ms0_0 t) (hs0_0 t) (ms0_1 t) (hs0_1 t) (ms0_2 t) (hs0_2 t) (ms0_3 t) (hs0_3 t) (Memref.whole main_arg3) (Memref.isWhole_whole _) (Memref.whole main_arg4) (Memref.isWhole_whole _) (Memref.whole main_v19) (Memref.isWhole_whole _) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) cc0_scratch2) K := by
  iintro ⟨H0, H1, H2, H3, H4, H5, H6, H7, H8, H9, HS0, HS1, Hk⟩
  iapply ((ptAt m c t x).2.2.2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, ⟨%e4, H4⟩, ⟨%e5, H5⟩, ⟨%e6, H6⟩, ⟨%e7, H7⟩, ⟨%e8, H8⟩, ⟨%e9, H9⟩, HS0, HS1⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; unfold dxOf; exact View.read_writes_of_cover _ _ _ _ _ (cover_dx c _ _ _ _ _ _ _ _ _ _ _ _ _ _ _ _ _ _ _ _ _ _ _ _ _ _ _ _ _ _ _ _ _)
  isplitl [H5]
  · unfold owns; iexists _; isplitr
    swap; · iexact H5
    ipureintro; unfold dgOf; exact View.read_writes_of_cover _ _ _ _ _ (cover_dg c _ _ _ _ _ _ _ _ _ _ _ _ _ _ _ _ _ _ _ _ _ _ _ _ _ _ _ _ _ _ _ _ _)
  isplitl [H6]
  · unfold owns; iexists _; isplitr
    swap; · iexact H6
    ipureintro; unfold hOf; exact View.read_writes_of_cover _ _ _ _ _ (cover_h c _ _ _ _ _ _ _ _ _ _ _ _ _ _ _ _ _ _ _ _ _ _ _ _ _ _ _ _ _ _ _ _ _)
  isplitl [H7]
  · unfold owns; iexists _; isplitr
    swap; · iexact H7
    ipureintro; unfold dguOf; exact View.read_writes_of_cover _ _ _ _ _ (cover_dgu c _ _ _ _ _ _ _ _ _ _ _ _ _ _ _ _ _ _ _ _ _ _ _ _ _ _ _ _ _ _ _ _ _)
  isplitl [H8]
  · unfold owns; iexists _; isplitr
    swap; · iexact H8
    ipureintro; unfold actOf; exact View.read_writes_of_cover _ _ _ _ _ (cover_act c _ _ _ _ _ _ _ _ _ _ _ _ _ _ _ _ _ _ _ _ _ _ _ _ _ _ _ _ _ _ _ _ _)
  isplitl [H9]
  · unfold owns; iexists _; isplitr
    swap; · iexact H9
    ipureintro; unfold dyOf; exact View.read_writes_of_cover _ _ _ _ _ (cover_dy c _ _ _ _ _ _ _ _ _ _ _ _ _ _ _ _ _ _ _ _ _ _ _ _ _ _ _ _ _ _ _ _ _)
  isplitl [HS0]; · iexact HS0
  iexact HS1

/-- The scale's gradient as a point finds it: cleared at the first, then what the points before added up. -/
def dgIn (c : Dev nD) : ℕ → Vec F S1x1024 .f32
  | 0 => k0_pay6 (F := F)
  | n + 1 => if h : n < cfg0.N then dgOf m c ⟨n, h⟩ (dgIn c n) else k0_pay6 (F := F)

/-- What each point leaves. -/
def dxAt (c : Dev nD) (t : Fin cfg0.N) : Vec F S256x1024 .f32 := dxOf m c t (dgIn m c t.val)
def dgAt (c : Dev nD) (t : Fin cfg0.N) : Vec F S1x1024 .f32 := dgOf m c t (dgIn m c t.val)
def hAt (c : Dev nD) (t : Fin cfg0.N) : Vec F S256x1024 .bf16 := hOf m c t (dgIn m c t.val)
def dguAt (c : Dev nD) (t : Fin cfg0.N) : Vec F S2x256x2816 .bf16 := dguOf m c t (dgIn m c t.val)
def actAt (c : Dev nD) (t : Fin cfg0.N) : Vec F S256x2816 .bf16 := actOf m c t (dgIn m c t.val)
def dyAt (c : Dev nD) (t : Fin cfg0.N) : Vec F S256x1024 .bf16 := dyOf m c t (dgIn m c t.val)

theorem dgIn_pos (c : Dev nD) (t : Fin cfg0.N) (ht : t.val ≠ 0) :
    dgIn m c t.val = dgAt m c ⟨t.val - 1, Nat.lt_of_le_of_lt (Nat.sub_le _ _) t.isLt⟩ := by
  obtain ⟨n, hn⟩ := t
  cases n with
  | zero => exact absurd rfl ht
  | succ n =>
    show dgIn m c (n + 1) = _
    rw [dgIn, dif_pos (Nat.lt_of_succ_lt hn)]
    rfl

/-- The invariant: before the first point the launch's, afterwards the same with the weights in scratch. -/
def inv (c : Dev nD) : (n : ℕ) → n ≤ cfg0.N → sProp 𝕄
  | 0, _ => Pipeline.ΦD osem0 spec0 H0 (V m) c
  | _ + 1, _ => iprop(iprop(owns (c : Thread nD τ) scM0_0 fullShare (wIn m c) ∗ owns (c : Thread nD τ) scM0_1 fullShare (wOut m c)) ∗ (∃ r, prngReg c r) ∗ cells (F := F) c ∗ iprop(hbPt0 c hbM0_0 (V m c main_arg3) ∗ hbPt0 c hbM0_1 (V m c main_arg4)))

theorem inv_zero (c : Dev nD) (n : ℕ) (h : n ≤ cfg0.N) (hz : n = 0) : inv m c n h = Pipeline.ΦD osem0 spec0 H0 (V m) c := by
  subst hz; rfl

theorem inv_pos (c : Dev nD) (n : ℕ) (h : n ≤ cfg0.N) (hz : n ≠ 0) : inv m c n h = iprop(iprop(owns (c : Thread nD τ) scM0_0 fullShare (wIn m c) ∗ owns (c : Thread nD τ) scM0_1 fullShare (wOut m c)) ∗ (∃ r, prngReg c r) ∗ cells (F := F) c ∗ iprop(hbPt0 c hbM0_0 (V m c main_arg3) ∗ hbPt0 c hbM0_1 (V m c main_arg4))) := by
  cases n with
  | zero => exact absurd rfl hz
  | succ n => rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxAt m c t
    | ⟨5, _⟩ => dgAt m c t
    | ⟨6, _⟩ => hAt m c t
    | ⟨7, _⟩ => dguAt m c t
    | ⟨8, _⟩ => actAt m c t
    | ⟨9, _⟩ => dyAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dxAt m c t := by dsimp only [dats]
theorem after_5 (c : Dev nD) (t : Fin cfg0.N) : (dats m 0 c).after 5 t = dgAt m c t := by dsimp only [dats]
theorem after_6 (c : Dev nD) (t : Fin cfg0.N) : (dats m 0 c).after 6 t = hAt m c t := by dsimp only [dats]
theorem after_7 (c : Dev nD) (t : Fin cfg0.N) : (dats m 0 c).after 7 t = dguAt m c t := by dsimp only [dats]
theorem after_8 (c : Dev nD) (t : Fin cfg0.N) : (dats m 0 c).after 8 t = actAt m c t := by dsimp only [dats]
theorem after_9 (c : Dev nD) (t : Fin cfg0.N) : (dats m 0 c).after 9 t = dyAt m c t := by dsimp only [dats]
theorem before_0 (c : Dev nD) (t : Fin cfg0.N) (d) : (dats m 0 c).before 0 t d = iblk m c 0 t :=
  before0 m (dats m 0 c) (A_eq m c 0) (after_0 m c) t d
theorem before_1 (c : Dev nD) (t : Fin cfg0.N) (d) : (dats m 0 c).before 1 t d = iblk m c 1 t :=
  before1 m (dats m 0 c) (A_eq m c 1) (after_1 m c) t d
theorem before_2 (c : Dev nD) (t : Fin cfg0.N) (d) : (dats m 0 c).before 2 t d = iblk m c 2 t :=
  before2 m (dats m 0 c) (A_eq m c 2) (after_2 m c) t d
theorem before_3 (c : Dev nD) (t : Fin cfg0.N) (d) : (dats m 0 c).before 3 t d = iblk m c 3 t :=
  before3 m (dats m 0 c) (A_eq m c 3) (after_3 m c) t d

/-- The scale's gradient is written back at the last point only. -/
theorem kept_5 : ∀ t : Fin cfg0.N, t.val ≠ 0 → (cfg0.win 5).flush ⟨t.val - 1, Nat.lt_of_le_of_lt (Nat.sub_le _ _) t.isLt⟩ = false := by
  decide +kernel

theorem before_5 (c : Dev nD) (t : Fin cfg0.N) (ht : t.val ≠ 0) (d) : (dats m 0 c).before 5 t d = dgIn m c t.val := by
  rw [Dat.before_out_kept _ 5 rfl t ht (kept_5 t ht) (fun _ => rfl) (fun _ _ => rfl), after_5, dgIn_pos m c t ht]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = inv m c (t.val + 1) t.isLt from rfl, inv_pos m c _ _ (Nat.succ_ne_zero _),
    after_0, after_1, after_2, after_3, after_4, after_5, after_6, after_7, after_8, after_9]
  unfold Dat.owesAt Pipeline.owesWithin
  rw [show (dats m 0 c).owed t.castSucc = 0 from rfl, show (dats m 0 c).owed t.succ = 0 from rfl]
  by_cases hz : t.val = 0
  · rw [inv_castSucc m c t, inv_zero m c _ _ hz, PhiD0_eq, body_first _ j₁ _ _ _ _ _ _ _ _ _ _ _ _ _ _ _ _ _ _ _ _ _ _ _ _ _ _ _ _ _ _ _ ((firstPoint_iff t).mpr hz) not_first₁]
    iintro ⟨⟨⟨⟨%s0, HS0⟩, ⟨%s1, HS1⟩⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [wp_bind]
    iapply (loads_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (V m c main_arg3) (V m c main_arg4) W _)
    isplitl [HS0]; · iapply (scr_open c cc0_scratch0); iexists s0; iexact HS0
    isplitl [HS1]; · iapply (scr_open c cc0_scratch1); iexists s1; iexact HS1
    isplitl [Hq]; · iexact Hq
    isplitl [Hh0]; · iexact Hh0
    isplitl [Hh1]; · iexact Hh1
    isplitl [HW]; · iexact HW
    isplitl [H5]; · iexists _; iexact H5
    iintro ⟨HS0, HS1, Hq, Hh0, Hh1, ⟨%W', HW⟩, H5⟩
    ihave HS0 : iprop(owns (c : Thread nD τ) scM0_0 fullShare (wIn m c)) $$ [HS0]
    · iapply (scr_close c cc0_scratch0 (wIn m c)); iexact HS0
    ihave HS1 : iprop(owns (c : Thread nD τ) scM0_1 fullShare (wOut m c)) $$ [HS1]
    · iapply (scr_close c cc0_scratch1 (wOut m c)); iexact HS1
    rw [show (k0_pay6 (F := F)) = dgIn m c t.val by rw [hz]; rfl]
    iapply (point_run m c t (dgIn m c t.val) _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW]
    · iexists _; isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv_castSucc m c t, inv_pos m c _ _ hz, body_rest _ j₁ _ _ _ _ _ _ _ _ _ _ _ _ _ _ _ _ _ _ _ _ _ _ _ _ _ _ _ _ _ _ _ (fun h => hz ((firstPoint_iff t).mp h)) not_first₁]
    simp only [before_5 m c t hz]
    iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_run m c t (dgIn m c t.val) _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW]
    · iexists _; isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = inv m c 0 (Nat.zero_le _) from rfl, inv_zero m c 0 _ rfl]
  try exact Idealize.SL.BI.Entails.refl _

/-- After the last point the invariant gives the launch's back. -/
theorem hout (c : Dev nD) : (dats m 0 c).Φ (Fin.last cfg0.N) ⊢ Pipeline.ΦD osem0 spec0 H0 (V m) c := by
  rw [show (dats m 0 c).Φ (Fin.last cfg0.N) = inv m c cfg0.N le_rfl from rfl, inv_pos m c _ _ (by rw [show cfg0.N = 16 from N_0]; decide), PhiD0_eq]
  iintro ⟨⟨HS0, HS1⟩, Hg, Hq, ⟨Hh0, Hh1⟩⟩
  isplitl [HS0 HS1]
  · isplitl [HS0]
    · iexists _; iexact HS0
    iexists _; iexact HS1
  isplitl [Hg]; · iexact Hg
  isplitl [Hq]; · iexact Hq
  isplitl [Hh0]; · iexact Hh0
  iexact Hh1

set_option backward.isDefEq.respectTransparency.types false in
/-- The launch: every execution ends, the arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_region m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel5Ideal.Hand
-- ==== Proof.BwdPrinted.lean ====
/- The FFN backward kernel as printed and as read over the extended reals have one text, so the run of the one is the run
   of the other. -/
module

public import proofs.«01_k».proof.Proof.BwdFrame
public import proofs.«01_k».proof.Proof.Gen.Kernel5
public import proofs.«01_k».proof.Defs

@[expose] public section

set_option maxRecDepth 65536

namespace Cert.FfnBwd

open Idealize.ShloMosaic

attribute [local instance] Cert.Kernel5.Gen.facts Cert.Kernel5Ideal.Gen.facts

variable {F : FTy → Type} [FloatOps F]

/-- The two body tables are one. -/
theorem bodies_eq : @Cert.Kernel5.defs₀ F _ _ = @Cert.Kernel5Ideal.defs₀ F _ _ := by
  unfold Kernel5.defs₀ Kernel5Ideal.defs₀
  refine congrArg (Defs.onTc (Λ := Kernel5Ideal.Λ₀)) (funext fun l => ?_)
  match l with
  | ⟨0, h⟩ =>
    funext x
    rfl

theorem tables_eq : @Cert.Kernel5.defs F _ _ = @Cert.Kernel5Ideal.defs F _ _ := by
  unfold Kernel5.defs Kernel5Ideal.defs
  rw [bodies_eq]
  rfl

set_option maxHeartbeats 4000000 in
/-- The frame claim of the printed kernel. -/
theorem printed_frame : @Cert.quiescent_Kernel5 Cert.Kernel5.Gen.facts := fun m ρ _ => by
  rw [tables_eq]
  exact Cert.Kernel5Ideal.Hand.frame (F := Bits) m ρ

end Cert.FfnBwd
-- ==== Proof.BwdPay.lean ====
/- What one point of the feed-forward layer's gradient computes, entry by entry, as sums over extended reals. -/
module

public import proofs.«01_k».proof.Proof.BwdMath
public import proofs.«01_k».proof.Proof.Gen.Kernel5Ideal.Skeleton

@[expose] public section

set_option maxRecDepth 16384

noncomputable section

namespace Cert.Kernel5Ideal.Hand

open Cert.Ffn Cert.Kernel5Ideal Cert.Kernel5Ideal.Gen
open Idealize.ShloMosaic Idealize.ShloMosaic.ValueIdx

/-! ## Rows and columns -/

theorem lift_apply {α : Type} (x : S1x256x1408.Idx → α) (r : Fin 256) (f : Fin 1408) :
    shapeCast S256x1408 x shapeCasts_S1x256x1408_S256x1408 (ix2 r f) = x (ix3 0 r f) :=
  shapeCast_apply _ _ _ (ix3 0 r f) (by rewrite [Shape.rowMajor_val_two, Shape.rowMajor_val_three]; simp [ix2, ix3])

theorem lie_apply {α : Type} (x : S256x1408.Idx → α) (r : Fin 256) (f : Fin 1408) :
    shapeCast S1x256x1408 x shapeCasts_S256x1408_S1x256x1408 (ix3 0 r f) = x (ix2 r f) :=
  shapeCast_apply _ _ _ (ix2 r f) (by rewrite [Shape.rowMajor_val_two, Shape.rowMajor_val_three]; simp [ix2, ix3])

theorem slab_apply {α : Type} (x : S1x1024x1408.Idx → α) (d : Fin 1024) (f : Fin 1408) :
    shapeCast S1024x1408 x shapeCasts_S1x1024x1408_S1024x1408 (ix2 d f) = x (ix3 0 d f) :=
  shapeCast_apply _ _ _ (ix3 0 d f) (by rewrite [Shape.rowMajor_val_two, Shape.rowMajor_val_three]; simp [ix2, ix3])

/-! ## The products -/

theorem act_product (h : FVec Ideal S256x1024 .bf16) (v : FVec Ideal S1408x1024 .bf16) (r : Fin 256) (f : Fin 1408) :
    matmul dot_S256x1024_S1408x1024_S256x1408_1_1_0_0_n_n none h v (constant S256x1408 .f32 0x00000000#32) (ix2 r f)
      = ∑ k : Fin 1024, h (ix2 r k) * v (ix2 f k) :=
  product_at _ rfl rfl h v _ _ _ (fun k => by funext a; match a with | 0 => rfl | 1 => rfl)
    fun k => by funext a; match a with | 0 => rfl | 1 => rfl

theorem norm_product (g : FVec Ideal S256x1408 .bf16) (w : Vec Ideal S1x1024x1408 .bf16) (r : Fin 256) (d : Fin 1024) :
    matmul (F := Ideal) dot_S256x1408_S1024x1408_S256x1024_1_1_0_0_n_n none g
        (shapeCast S1024x1408 w shapeCasts_S1x1024x1408_S1024x1408 : FVec Ideal S1024x1408 .bf16) (constant S256x1024 .f32 0x00000000#32) (ix2 r d)
      = ∑ f : Fin 1408, g (ix2 r f) * w (ix3 0 d f) := by
  refine (Ideal.matmul_constant_zero_apply dot_S256x1408_S1024x1408_S256x1024_1_1_0_0_n_n none g _ (ix2 r d)).trans ?_
  rw [← Equiv.sum_comp (contrEquiv1 dot_S256x1408_S1024x1408_S256x1024_1_1_0_0_n_n 1408 rfl rfl).symm]
  refine Finset.sum_congr rfl fun k _ => ?_
  refine congrArg₂ (fun a b : EReal => a * b) (congrArg g (by funext a; match a with | 0 => rfl | 1 => rfl)) ?_
  exact shapeCast_apply _ _ _ (ix3 0 d k) (by rewrite [Shape.rowMajor_val_two, Shape.rowMajor_val_three]; simp [ix2, ix3]; rfl)

/-! ## The gated values and their gradients, the first half of the columns -/

theorem pay9_apply (D : Vec Ideal S256x1024 .f32) (v : Vec Ideal S1408x1024 .bf16) (r : Fin 256) (f : Fin 1408) :
    k0_pay9 (F := Ideal) D v (ix2 r f) = ∑ k : Fin 1024, Ideal.ofBits .f32 0x3F000000#32 * D (ix2 r k) * v (ix2 f k) :=
  act_product _ v r f

theorem pay20_apply (h : FVec Ideal S256x1024 .bf16) (v : Vec Ideal S1408x1024 .bf16) (r : Fin 256) (f : Fin 1408) :
    k0_pay20 (F := Ideal) h v (ix2 r f) = ∑ k : Fin 1024, h (ix2 r k) * v (ix2 f k) :=
  act_product h v r f

theorem pay10_apply (g : Vec Ideal S1x256x1408 .bf16) (r : Fin 256) (f : Fin 1408) : k0_pay10 (F := Ideal) g (ix2 r f) = g (ix3 0 r f) :=
  lift_apply g r f

theorem pay11_apply (g : Vec Ideal S1x256x1408 .bf16) (r : Fin 256) (f : Fin 1408) : k0_pay11 (F := Ideal) g (ix2 r f) = g (ix3 0 r f) :=
  lift_apply g r f

theorem pay12_apply (g : Vec Ideal S1x256x1408 .bf16) (r : Fin 256) (f : Fin 1408) : k0_pay12 (F := Ideal) g (ix2 r f) = gate (g (ix3 0 r f)) :=
  (gate_kernel _).trans (congrArg gate (lift_apply g r f))

theorem pay13_apply (g : Vec Ideal S1x256x1408 .bf16) (r : Fin 256) (f : Fin 1408) :
    k0_pay13 (F := Ideal) g (ix2 r f) = g (ix3 0 r f) * gate (g (ix3 0 r f)) :=
  congrArg₂ (fun a b : EReal => a * b) (pay10_apply g r f) (pay12_apply g r f)

theorem pay14_apply (g u : Vec Ideal S1x256x1408 .bf16) (r : Fin 256) (f : Fin 1408) :
    k0_pay14 (F := Ideal) g u (ix2 r f) = gated (g (ix3 0 r f)) (u (ix3 0 r f)) :=
  congrArg₂ (fun a b : EReal => a * b) (pay13_apply g r f) (pay11_apply u r f)

/-- The gradient of a gate, its four factors given. -/
theorem gateGrad_of {a u s p : EReal} {g : EReal} (hs : s = gate g) (hp : p = g * gate g) :
    a * u * (s + p * (Ideal.ofBits .f32 0x3F800000#32 - s)) = gateGrad a g u := by
  rw [hs, hp]; rfl

theorem pay15_apply (D : Vec Ideal S256x1024 .f32) (v : Vec Ideal S1408x1024 .bf16) (g u : Vec Ideal S1x256x1408 .bf16) (r : Fin 256) (f : Fin 1408) :
    k0_pay15 (F := Ideal) D v g u (ix2 r f) = gateGrad (k0_pay9 (F := Ideal) D v (ix2 r f)) (g (ix3 0 r f)) (u (ix3 0 r f)) := by
  rw [← pay11_apply u r f]
  exact gateGrad_of (pay12_apply g r f) (pay13_apply g r f)

theorem pay16_apply (a s : FVec Ideal S256x1408 .f32) (r : Fin 256) (f : Fin 1408) :
    k0_pay16 (F := Ideal) a s (ix2 r f) = a (ix2 r f) * s (ix2 r f) := rfl

/-! ## The same for the second half -/

theorem pay23_apply (g : Vec Ideal S1x256x1408 .bf16) (r : Fin 256) (f : Fin 1408) : k0_pay23 (F := Ideal) g (ix2 r f) = gate (g (ix3 0 r f)) :=
  pay12_apply g r f

theorem pay24_apply (g : Vec Ideal S1x256x1408 .bf16) (r : Fin 256) (f : Fin 1408) :
    k0_pay24 (F := Ideal) g (ix2 r f) = g (ix3 0 r f) * gate (g (ix3 0 r f)) :=
  pay13_apply g r f

theorem pay25_apply (g u : Vec Ideal S1x256x1408 .bf16) (r : Fin 256) (f : Fin 1408) :
    k0_pay25 (F := Ideal) g u (ix2 r f) = gated (g (ix3 0 r f)) (u (ix3 0 r f)) :=
  pay14_apply g u r f

theorem pay26_apply (a : FVec Ideal S256x1408 .f32) (g u : Vec Ideal S1x256x1408 .bf16) (r : Fin 256) (f : Fin 1408) :
    k0_pay26 (F := Ideal) a (k0_pay22 u) (k0_pay23 g) (k0_pay24 g) (ix2 r f) = gateGrad (a (ix2 r f)) (g (ix3 0 r f)) (u (ix3 0 r f)) := by
  rw [← pay11_apply u r f]
  exact gateGrad_of (pay23_apply g r f) (pay24_apply g r f)

theorem pay27_apply (a s : FVec Ideal S256x1408 .f32) (r : Fin 256) (f : Fin 1408) :
    k0_pay27 (F := Ideal) a s (ix2 r f) = a (ix2 r f) * s (ix2 r f) := rfl

/-! ## The gradient of the normalised row -/

theorem pay19_apply (z : FVec Ideal S256x1024 .f32) (a s : FVec Ideal S256x1408 .f32) (g : FVec Ideal S256x1408 .bf16)
    (w w' : Vec Ideal S1x1024x1408 .bf16) (r : Fin 256) (d : Fin 1024) :
    k0_pay19 (F := Ideal) z a s g w w' (ix2 r d)
      = z (ix2 r d) + ∑ f : Fin 1408, g (ix2 r f) * w (ix3 0 d f) + ∑ f : Fin 1408, k0_pay16 a s (ix2 r f) * w' (ix3 0 d f) := by
  unfold k0_pay19
  exact congrArg₂ (fun e e' : EReal => (z (ix2 r d) : EReal) + e + e') (norm_product _ w r d) (norm_product _ w' r d)

theorem pay30_apply (z : FVec Ideal S256x1024 .f32) (a u s p : FVec Ideal S256x1408 .f32)
    (w w' : Vec Ideal S1x1024x1408 .bf16) (r : Fin 256) (d : Fin 1024) :
    k0_pay30 (F := Ideal) z a u s p w w' (ix2 r d)
      = z (ix2 r d) + ∑ f : Fin 1408, k0_pay26 a u s p (ix2 r f) * w (ix3 0 d f) + ∑ f : Fin 1408, k0_pay27 a p (ix2 r f) * w' (ix3 0 d f) := by
  unfold k0_pay30
  exact congrArg₂ (fun e e' : EReal => (z (ix2 r d) : EReal) + e + e') (norm_product _ w r d) (norm_product _ w' r d)

/-! ## Back through the normalisation -/

theorem pay31_apply (x : Vec Ideal S256x1024 .f32) (r : Fin 256) :
    k0_pay31 (F := Ideal) x (ix2 r 0)
      = Ideal.div (∑ k : Fin 1024, x (ix2 r k) * x (ix2 r k)) (Ideal.ofBits .f32 0x44800000#32) + Ideal.ofBits .f32 0x358637BD#32 :=
  congrArg (fun e : EReal => Ideal.div e (Ideal.ofBits .f32 0x44800000#32) + Ideal.ofBits .f32 0x358637BD#32) ((stand_apply _ r).trans (row_sum _ r))

theorem pay2_apply (x : Vec Ideal S256x1024 .f32) (q : FVec Ideal S256x1 .f32) (r : Fin 256) (d : Fin 1024) :
    k0_pay2 (F := Ideal) x q (ix2 r d) = x (ix2 r d) * Ideal.rsqrt (q (ix2 r 0)) :=
  congrArg (fun e : EReal => x (ix2 r d) * e) (along_apply _ r d)

theorem pay5_apply (x : Vec Ideal S256x1024 .f32) (g : Vec Ideal S1x1024 .f32) (q : FVec Ideal S256x1 .f32) (r : Fin 256) (d : Fin 1024) :
    k0_pay5 (F := Ideal) x g q (ix2 r d) = x (ix2 r d) * Ideal.rsqrt (q (ix2 r 0)) * g (ix2 0 d) :=
  congrArg₂ (fun a b : EReal => a * b) (pay2_apply x q r d) (down_apply g r d)

theorem pay4_apply (n : FVec Ideal S256x1024 .f32) (x : Vec Ideal S256x1024 .f32) (q : FVec Ideal S256x1 .f32) (s : Vec Ideal S1x1024 .f32) (d : Fin 1024) :
    k0_pay4 (F := Ideal) n x q s (ix2 0 d) = s (ix2 0 d) + ∑ r : Fin 256, n (ix2 r d) * (x (ix2 r d) * Ideal.rsqrt (q (ix2 r 0))) := by
  unfold k0_pay4
  refine congrArg₂ (fun a b : EReal => a + b) (congrFun (shapeCast_self _ _) _) ((flat_apply _ d).trans ((column_sum _ d).trans ?_))
  exact Finset.sum_congr rfl fun r _ => congrArg (fun e : EReal => n (ix2 r d) * e) (pay2_apply x q r d)

theorem pay3_apply (n : FVec Ideal S256x1024 .f32) (x : Vec Ideal S256x1024 .f32) (g : Vec Ideal S1x1024 .f32) (q : FVec Ideal S256x1 .f32)
    (D : Vec Ideal S256x1024 .f32) (r : Fin 256) (d : Fin 1024) :
    k0_pay3 (F := Ideal) n x g q D (ix2 r d)
      = D (ix2 r d) + Ideal.rsqrt (q (ix2 r 0)) * (n (ix2 r d) * g (ix2 0 d) - x (ix2 r d) * Ideal.rsqrt (q (ix2 r 0))
        * Ideal.div (∑ k : Fin 1024, n (ix2 r k) * g (ix2 0 k) * (x (ix2 r k) * Ideal.rsqrt (q (ix2 r 0)))) (Ideal.ofBits .f32 0x44800000#32)) := by
  unfold k0_pay3
  have e : multiReduction .add [1] S256 (mulf (mulf n (broadcastTo S256x1024 g broadcasts_S1x1024_S256x1024)) (k0_pay2 x q)) 0x00000000#32
      reduces_S256x1024_S256 (.inl rfl) rfl (ix1 r)
        = ∑ k : Fin 1024, n (ix2 r k) * g (ix2 0 k) * (x (ix2 r k) * Ideal.rsqrt (q (ix2 r 0))) :=
    (row_sum _ r).trans (Finset.sum_congr rfl fun k _ =>
      congrArg₂ (fun a b : EReal => n (ix2 r k) * a * b) (down_apply g r k) (pay2_apply x q r k))
  refine congrArg₂ (fun a b : EReal => (D (ix2 r d) : EReal) + a * b) (along_apply _ r d)
    (congrArg₂ (fun a b : EReal => a - b) (congrArg (fun a : EReal => n (ix2 r d) * a) (down_apply g r d))
      (congrArg₂ (fun a b : EReal => a * b) (pay2_apply x q r d) ((along_apply _ r d).trans ?_)))
  exact congrArg (fun a : EReal => Ideal.div a (Ideal.ofBits .f32 0x44800000#32)) ((stand_apply _ r).trans e)

end Cert.Kernel5Ideal.Hand
-- ==== Proof.BwdValue.lean ====
/- The six results of the feed-forward layer's backward kernel: the gradients of the input, of the gain and of the first
   product, and the three arrays the weights' gradients are computed from. -/
module

public import proofs.«01_k».proof.Proof.BwdPay
public import proofs.«01_k».proof.Proof.BwdFrame
public import proofs.«01_k».proof.Proof.FwdReference
public import Idealize.ShloMosaic.Lib.StableHlo.RunRead
public import Idealize.ShloMosaic.Lib.Pipeline.ValueKit.Tiles

@[expose] public section

set_option maxRecDepth 16384

noncomputable section

namespace Cert.Kernel5Ideal.Hand

open Cert.Ffn Cert.Kernel5Ideal Cert.Kernel5Ideal.Gen
open Idealize.ShloMosaic Idealize.ShloMosaic.ValueIdx Idealize.ShloMosaic.TcCoe Idealize.SL.Sem
open Idealize.ShloMosaic.Pipeline (Dat Cfg Window FramePost)

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![0, t.val, 0] := (by decide +kernel : ∀ t : Fin grid0.N, win0_3.index t = ![0, t.val, 0])
theorem e4 : ∀ t : Fin cfg0.N, win0_4.index t = ![t.val, 0] := (by decide +kernel : ∀ t : Fin grid0.N, win0_4.index t = ![t.val, 0])
theorem e5 : ∀ t : Fin cfg0.N, win0_5.index t = ![0, 0] := (by decide +kernel : ∀ t : Fin grid0.N, win0_5.index t = ![0, 0])
theorem e6 : ∀ t : Fin cfg0.N, win0_6.index t = ![t.val, 0] := (by decide +kernel : ∀ t : Fin grid0.N, win0_6.index t = ![t.val, 0])
theorem e7 : ∀ t : Fin cfg0.N, win0_7.index t = ![0, t.val, 0] := (by decide +kernel : ∀ t : Fin grid0.N, win0_7.index t = ![0, t.val, 0])
theorem e8 : ∀ t : Fin cfg0.N, win0_8.index t = ![t.val, 0] := (by decide +kernel : ∀ t : Fin grid0.N, win0_8.index t = ![t.val, 0])
theorem e9 : ∀ t : Fin cfg0.N, win0_9.index t = ![t.val, 0] := (by decide +kernel : ∀ t : Fin grid0.N, win0_9.index t = ![t.val, 0])

variable (m : (ℓ : Loc nD τ sig) → Buf (Elt Ideal) ℓ) (c : Dev nD)

def argD : ℕ → ℕ → EReal := ent2 (a := 4096) (b := 1024) (m ((c : Thread nD τ).loc main_arg0))
def argX : ℕ → ℕ → EReal := ent2 (a := 4096) (b := 1024) (m ((c : Thread nD τ).loc main_arg1))
def argG : ℕ → ℕ → EReal := ent2 (a := 1) (b := 1024) (m ((c : Thread nD τ).loc main_arg2))
def argW : ℕ → ℕ → ℕ → EReal := ent3 (a := 4) (b := 1024) (d := 1408) (m ((c : Thread nD τ).loc main_arg3))
def argV : ℕ → ℕ → EReal := ent2 (a := 2816) (b := 1024) (m ((c : Thread nD τ).loc main_arg4))

/-! ## What a point reads -/

theorem in0 (t : Fin cfg0.N) (r : Fin 256) (d : Fin 1024) : iblk m c 0 t (ix2 r d) = argD m c (t.val * 256 + r.val) d.val := by
  blk_simp [iblk]
  rw [show V m c main_arg0 = m ((c : Thread nD τ).loc main_arg0) from V_main_arg0 m c]
  refine (ent2_at (a := 4096) (b := 1024) _ _).trans ?_
  unfold argD
  blk_simp [e0]

theorem in1 (t : Fin cfg0.N) (r : Fin 256) (d : Fin 1024) : iblk m c 1 t (ix2 r d) = argX m c (t.val * 256 + r.val) d.val := by
  blk_simp [iblk]
  rw [show V m c main_arg1 = m ((c : Thread nD τ).loc main_arg1) from V_main_arg1 m c]
  refine (ent2_at (a := 4096) (b := 1024) _ _).trans ?_
  unfold argX
  blk_simp [e1]

theorem in2 (t : Fin cfg0.N) (d : Fin 1024) : iblk m c 2 t (ix2 0 d) = argG m c 0 d.val := by
  blk_simp [iblk]
  rw [show V m c main_arg2 = m ((c : Thread nD τ).loc main_arg2) from V_main_arg2 m c]
  refine (ent2_at (a := 1) (b := 1024) _ _).trans ?_
  unfold argG
  blk_simp [e2]

/-- The saved product is the one the layer's forward reference computes. -/
theorem saved_eq : V m c main_v18 = Cert.Reference4Ideal.Read.val_main_v27 (F := Ideal) (m ((c : Thread nD τ).loc main_arg1))
    (m ((c : Thread nD τ).loc main_arg2)) (m ((c : Thread nD τ).loc main_arg3)) := by
  unfold V
  after_reads_simp
  rfl

theorem in3 (t : Fin cfg0.N) (y : S2x256x2816.Idx) :
    iblk m c 3 t y = wide (argX m c) (argG m c) (argW m c) (t.val * 256 + (y 1).val) ((y 0).val * 2816 + (y 2).val) := by
  blk_simp [iblk]
  rw [saved_eq]
  refine (Cert.Reference4Ideal.Hand.gu_val _ _ _ _).trans ?_
  unfold argX argG argW
  blk_simp [e3]

theorem win_eq : wIn m c = m ((c : Thread nD τ).loc main_arg3) := V_main_arg3 m c
theorem wout_eq : wOut m c = m ((c : Thread nD τ).loc main_arg4) := V_main_arg4 m c

/-- Slab `b` of the first weights. -/
theorem in_slab (b : ℕ) (h : ∀ a : Fin 3, (![b, 0, 0] : Fin 3 → ℕ) a + (![1, 1024, 1408] : Fin 3 → ℕ) a ≤ S4x1024x1408.size a) (k : Fin 1024) (f : Fin 1408) :
    View.ld (View.read (Elt Ideal) (View.whole cc0_scratch0) ((Memref.isWhole_whole cc0_scratch0).unread (wIn m c)))
      (Rect.unit (s := S4x1024x1408) ![b, 0, 0] ![1, 1024, 1408] h) (ix3 0 k f) = argW m c b k.val f.val := by
  rw [Idealize.ShloMosaic.read_unread_whole, win_eq]
  refine (ent3_at (a := 4) (b := 1024) (d := 1408) _ _).trans ?_
  rw [Idealize.ShloMosaic.Rect.idx_unit_val, Idealize.ShloMosaic.Rect.idx_unit_val, Idealize.ShloMosaic.Rect.idx_unit_val]
  show ent3 _ (b + 0) (0 + k.val) (0 + f.val) = argW m c b k.val f.val
  rw [Nat.add_zero, Nat.zero_add, Nat.zero_add]
  rfl

/-- Half of the second weights' rows, from row `o` on. -/
abbrev vRows (o : ℕ) (h : ∀ a : Fin 2, (![o, 0] : Fin 2 → ℕ) a + (![1408, 1024] : Fin 2 → ℕ) a ≤ S2816x1024.size a) : Vec Ideal S1408x1024 .bf16 :=
  View.ld (View.read (Elt Ideal) (View.whole cc0_scratch1) ((Memref.isWhole_whole cc0_scratch1).unread (wOut m c)))
    (Rect.unit (s := S2816x1024) ![o, 0] ![1408, 1024] h)

theorem in_rows (o : ℕ) (h : ∀ a : Fin 2, (![o, 0] : Fin 2 → ℕ) a + (![1408, 1024] : Fin 2 → ℕ) a ≤ S2816x1024.size a) (f : Fin 1408) (d : Fin 1024) :
    vRows m c o h (ix2 f d) = argV m c (o + f.val) d.val := by
  unfold vRows
  rw [Idealize.ShloMosaic.read_unread_whole, wout_eq]
  refine (ent2_at (a := 2816) (b := 1024) _ _).trans ?_
  rw [Idealize.ShloMosaic.Rect.idx_unit_val, Idealize.ShloMosaic.Rect.idx_unit_val]
  show ent2 _ (o + f.val) (0 + d.val) = argV m c (o + f.val) d.val
  rw [Nat.zero_add]
  rfl

/-- Half of the saved gates (`s` is 0) or values (`s` is 1), from column `o` on. -/
abbrev gu (t : Fin cfg0.N) (s o : ℕ) (h : ∀ a : Fin 3, (![s, 0, o] : Fin 3 → ℕ) a + (![1, 256, 1408] : Fin 3 → ℕ) a ≤ S2x256x2816.size a) :
    Vec Ideal S1x256x1408 .bf16 :=
  View.ld (iblk m c 3 t) (Rect.unit (s := S2x256x2816) ![s, 0, o] ![1, 256, 1408] h)

theorem in_half (t : Fin cfg0.N) (s o : ℕ) (h : ∀ a : Fin 3, (![s, 0, o] : Fin 3 → ℕ) a + (![1, 256, 1408] : Fin 3 → ℕ) a ≤ S2x256x2816.size a)
    (r : Fin 256) (f : Fin 1408) :
    gu m c t s o h (ix3 0 r f) = wide (argX m c) (argG m c) (argW m c) (t.val * 256 + r.val) (s * 2816 + (o + f.val)) := by
  refine (in3 m c t _).trans ?_
  rw [Idealize.ShloMosaic.Rect.idx_unit_val, Idealize.ShloMosaic.Rect.idx_unit_val, Idealize.ShloMosaic.Rect.idx_unit_val]
  show wide _ _ _ (t.val * 256 + (0 + r.val)) ((s + 0) * 2816 + (o + f.val)) = _
  rw [Nat.zero_add, Nat.add_zero]

/-! ## The gradients of a point's gates and values -/

theorem dact_at (t : Fin cfg0.N) (o : ℕ) (h : ∀ a : Fin 2, (![o, 0] : Fin 2 → ℕ) a + (![1408, 1024] : Fin 2 → ℕ) a ≤ S2816x1024.size a)
    (r : Fin 256) (f : Fin 1408) :
    k0_pay9 (F := Ideal) (iblk m c 0 t) (vRows m c o h) (ix2 r f) = dAct (argD m c) (argV m c) (t.val * 256 + r.val) (o + f.val) := by
  rw [pay9_apply]
  exact Finset.sum_congr rfl fun k _ => congrArg₂ (fun a b : EReal => Ideal.ofBits .f32 0x3F000000#32 * a * b) (in0 m c t r k) (in_rows m c o h f k)

/-- The gradient of the first product in a point's row `r`. -/
abbrev wideAt (t : Fin cfg0.N) (r : Fin 256) (p : ℕ) : EReal :=
  dWide (argD m c) (argX m c) (argG m c) (argW m c) (argV m c) (t.val * 256 + r.val) p

theorem gate_at (t : Fin cfg0.N) (o : ℕ) (h h0 h1) (r : Fin 256) (f : Fin 1408) :
    gateGrad (k0_pay9 (F := Ideal) (iblk m c 0 t) (vRows m c o h) (ix2 r f)) (gu m c t 0 o h0 (ix3 0 r f)) (gu m c t 1 o h1 (ix3 0 r f))
      = wideAt m c t r (o + f.val) := by
  have ho : o + 1408 ≤ 2816 := h 0
  rw [dact_at, in_half, in_half, show 0 * 2816 + (o + f.val) = o + f.val by omega, Nat.one_mul]
  unfold wideAt dWide
  rw [if_pos (by omega)]

theorem value_at (t : Fin cfg0.N) (o : ℕ) (h h0) (r : Fin 256) (f : Fin 1408) :
    k0_pay9 (F := Ideal) (iblk m c 0 t) (vRows m c o h) (ix2 r f) * (gu m c t 0 o h0 (ix3 0 r f) * gate (gu m c t 0 o h0 (ix3 0 r f)))
      = wideAt m c t r (2816 + (o + f.val)) := by
  rw [dact_at, in_half, show 0 * 2816 + (o + f.val) = o + f.val by omega]
  unfold wideAt dWide valueGrad
  rw [if_neg (by omega), show 2816 + (o + f.val) - 2816 = o + f.val by omega]

theorem gate0_at (t : Fin cfg0.N) (h h0 h1) (r : Fin 256) (f : Fin 1408) :
    k0_pay15 (F := Ideal) (iblk m c 0 t) (vRows m c 0 h) (gu m c t 0 0 h0) (gu m c t 1 0 h1) (ix2 r f) = wideAt m c t r (0 + f.val) :=
  (pay15_apply _ _ _ _ r f).trans (gate_at m c t 0 h h0 h1 r f)

theorem gate1_at (t : Fin cfg0.N) (h h0 h1) (r : Fin 256) (f : Fin 1408) :
    k0_pay26 (F := Ideal) (k0_pay20 (k0_pay7 (iblk m c 0 t)) (vRows m c 1408 h)) (k0_pay22 (gu m c t 1 1408 h1)) (k0_pay23 (gu m c t 0 1408 h0))
      (k0_pay24 (gu m c t 0 1408 h0)) (ix2 r f) = wideAt m c t r (1408 + f.val) :=
  (pay26_apply _ _ _ r f).trans (gate_at m c t 1408 h h0 h1 r f)

theorem value0_at (t : Fin cfg0.N) (h h0) (r : Fin 256) (f : Fin 1408) :
    k0_pay16 (F := Ideal) (k0_pay9 (iblk m c 0 t) (vRows m c 0 h)) (k0_pay13 (gu m c t 0 0 h0)) (ix2 r f) = wideAt m c t r (2816 + (0 + f.val)) :=
  (congrArg (fun e : EReal => k0_pay9 (F := Ideal) (iblk m c 0 t) (vRows m c 0 h) (ix2 r f) * e) (pay13_apply _ r f)).trans (value_at m c t 0 h h0 r f)

theorem value1_at (t : Fin cfg0.N) (h h0) (r : Fin 256) (f : Fin 1408) :
    k0_pay27 (F := Ideal) (k0_pay20 (k0_pay7 (iblk m c 0 t)) (vRows m c 1408 h)) (k0_pay24 (gu m c t 0 1408 h0)) (ix2 r f)
      = wideAt m c t r (2816 + (1408 + f.val)) :=
  (congrArg (fun e : EReal => k0_pay9 (F := Ideal) (iblk m c 0 t) (vRows m c 1408 h) (ix2 r f) * e) (pay24_apply _ r f)).trans (value_at m c t 1408 h h0 r f)

/-! ## The gradient of a point's normalised rows -/

/-- The block of it a point computes. -/
def nAt (t : Fin cfg0.N) : FVec Ideal S256x1024 .f32 :=
  k0_pay30 (k0_pay19 k0_pay8
      (k0_pay9 (iblk m c 0 t) (vRows m c 0 inb_S2816x1024_S1408x1024_0_0))
      (k0_pay13 (gu m c t 0 0 inb_S2x256x2816_S1x256x1408_0_0_0))
      (k0_pay15 (iblk m c 0 t) (vRows m c 0 inb_S2816x1024_S1408x1024_0_0) (gu m c t 0 0 inb_S2x256x2816_S1x256x1408_0_0_0)
        (gu m c t 1 0 inb_S2x256x2816_S1x256x1408_1_0_0))
      (View.ld (View.read (Elt Ideal) (View.whole cc0_scratch0) ((Memref.isWhole_whole cc0_scratch0).unread (wIn m c))) (Rect.unit (s := S4x1024x1408) ![0, 0, 0] ![1, 1024, 1408] inb_S4x1024x1408_S1x1024x1408_0_0_0))
      (View.ld (View.read (Elt Ideal) (View.whole cc0_scratch0) ((Memref.isWhole_whole cc0_scratch0).unread (wIn m c))) (Rect.unit (s := S4x1024x1408) ![2, 0, 0] ![1, 1024, 1408] inb_S4x1024x1408_S1x1024x1408_2_0_0)))
    (k0_pay20 (k0_pay7 (iblk m c 0 t)) (vRows m c 1408 inb_S2816x1024_S1408x1024_1408_0))
    (k0_pay22 (gu m c t 1 1408 inb_S2x256x2816_S1x256x1408_1_0_1408))
    (k0_pay23 (gu m c t 0 1408 inb_S2x256x2816_S1x256x1408_0_0_1408))
    (k0_pay24 (gu m c t 0 1408 inb_S2x256x2816_S1x256x1408_0_0_1408))
    (View.ld (View.read (Elt Ideal) (View.whole cc0_scratch0) ((Memref.isWhole_whole cc0_scratch0).unread (wIn m c))) (Rect.unit (s := S4x1024x1408) ![1, 0, 0] ![1, 1024, 1408] inb_S4x1024x1408_S1x1024x1408_1_0_0))
    (View.ld (View.read (Elt Ideal) (View.whole cc0_scratch0) ((Memref.isWhole_whole cc0_scratch0).unread (wIn m c))) (Rect.unit (s := S4x1024x1408) ![3, 0, 0] ![1, 1024, 1408] inb_S4x1024x1408_S1x1024x1408_3_0_0))

/-- A slab's column is the whole product's. -/
theorem slab_of (g : ℕ → EReal) (W : ℕ → ℕ → ℕ → EReal) (d b q p : ℕ) (hq : q < 1408) (hp : p = b * 1408 + q) {x y : EReal}
    (hx : x = g p) (hy : y = W b d q) : x * y = g p * W (p / 1408) d (p % 1408) := by
  subst hx hy hp
  rw [show (b * 1408 + q) / 1408 = b by omega, show (b * 1408 + q) % 1408 = q by omega]

theorem n_at (t : Fin cfg0.N) (r : Fin 256) (d : Fin 1024) :
    nAt m c t (ix2 r d) = dNorm (argD m c) (argX m c) (argG m c) (argW m c) (argV m c) (t.val * 256 + r.val) d.val := by
  unfold nAt
  rw [pay30_apply, pay19_apply]
  unfold dNorm
  rw [← sum_slabs fun p => wideAt m c t r p * argW m c (p / 1408) d.val (p % 1408)]
  refine congrArg₂ (fun e e' : EReal => e + e') (congrArg₂ (fun e e' : EReal => e + e') (congrArg₂ (fun e e' : EReal => e + e')
    (congrArg₂ (fun e e' : EReal => e + e') Ideal.ofBits_zero_f32 ?_) ?_) ?_) ?_
    <;> refine Finset.sum_congr rfl fun f _ => ?_
  · exact slab_of (wideAt m c t r) _ _ 0 f.val _ f.isLt (by omega) ((gate0_at m c t _ _ _ r f).trans (congrArg _ (by omega))) (in_slab m c 0 _ d f)
  · exact slab_of (wideAt m c t r) _ _ 2 f.val _ f.isLt (by omega) ((value0_at m c t _ _ r f).trans (congrArg _ (by omega))) (in_slab m c 2 _ d f)
  · exact slab_of (wideAt m c t r) _ _ 1 f.val _ f.isLt (by omega) ((gate1_at m c t _ _ _ r f).trans (congrArg _ (by omega))) (in_slab m c 1 _ d f)
  · exact slab_of (wideAt m c t r) _ _ 3 f.val _ f.isLt (by omega) ((value1_at m c t _ _ r f).trans (congrArg _ (by omega))) (in_slab m c 3 _ d f)

theorem scale_at (t : Fin cfg0.N) (r : Fin 256) :
    Ideal.rsqrt (k0_pay31 (F := Ideal) (iblk m c 1 t) (ix2 r 0)) = scale (argX m c) (t.val * 256 + r.val) := by
  rw [pay31_apply]
  unfold scale meansq
  simp only [in1]

/-! ## What a point leaves -/

theorem dx_at (t : Fin cfg0.N) (x : Vec Ideal S1x1024 .f32) (r : Fin 256) (d : Fin 1024) :
    dxOf m c t x (ix2 r d) = dIn (argD m c) (argX m c) (argG m c) (argW m c) (argV m c) (t.val * 256 + r.val) d.val := by
  unfold dxOf ptAt restRun; frame_out
  refine (pay3_apply (nAt m c t) (iblk m c 1 t) (iblk m c 2 t) (k0_pay31 (iblk m c 1 t)) (iblk m c 0 t) r d).trans ?_
  unfold dIn
  simp only [n_at, scale_at, in0, in1, in2]

theorem dg_at (t : Fin cfg0.N) (x : Vec Ideal S1x1024 .f32) (d : Fin 1024) :
    dgOf m c t x (ix2 0 d) = x (ix2 0 d) + ∑ r : Fin 256, dNorm (argD m c) (argX m c) (argG m c) (argW m c) (argV m c) (t.val * 256 + r.val) d.val
      * (argX m c (t.val * 256 + r.val) d.val * scale (argX m c) (t.val * 256 + r.val)) := by
  unfold dgOf ptAt restRun; frame_out
  refine (pay4_apply (nAt m c t) (iblk m c 1 t) (k0_pay31 (iblk m c 1 t)) x d).trans ?_
  simp only [n_at, scale_at, in1]

theorem h_at (t : Fin cfg0.N) (x : Vec Ideal S1x1024 .f32) (r : Fin 256) (d : Fin 1024) :
    hOf m c t x (ix2 r d) = normed (argX m c) (argG m c) (t.val * 256 + r.val) d.val := by
  unfold hOf ptAt restRun; frame_out
  refine (pay5_apply (iblk m c 1 t) (iblk m c 2 t) (k0_pay31 (iblk m c 1 t)) r d).trans ?_
  rw [scale_at, in1, in2]
  rfl

theorem dy_at (t : Fin cfg0.N) (x : Vec Ideal S1x1024 .f32) (r : Fin 256) (d : Fin 1024) :
    dyOf m c t x (ix2 r d) = Ideal.ofBits .f32 0x3F000000#32 * argD m c (t.val * 256 + r.val) d.val := by
  unfold dyOf ptAt restRun; frame_out
  exact congrArg (fun e : EReal => Ideal.ofBits .f32 0x3F000000#32 * e) (in0 m c t r d)

/-- The gated values of a point's rows. -/
def actBlock (t : Fin cfg0.N) : S256x2816.Idx → EReal := fun y =>
  gated (wide (argX m c) (argG m c) (argW m c) (t.val * 256 + (y 0).val) (y 1).val)
    (wide (argX m c) (argG m c) (argW m c) (t.val * 256 + (y 0).val) (2816 + (y 1).val))

theorem act_place (P : ℕ → ℕ → EReal) (t a o b : ℕ) : gated (P (t * 256 + a) (0 * 2816 + (o + b))) (P (t * 256 + a) (1 * 2816 + (o + b)))
    = gated (P (t * 256 + (0 + 1 * a)) (o + 1 * b)) (P (t * 256 + (0 + 1 * a)) (2816 + (o + 1 * b))) := by
  simp only [Nat.zero_mul, Nat.zero_add, Nat.one_mul]

theorem act_half (t : Fin cfg0.N) (o : ℕ) (h0 h1) (h : ∀ a : Fin 2, (![0, o] : Fin 2 → ℕ) a + (![256, 1408] : Fin 2 → ℕ) a ≤ S256x2816.size a) (x : S256x1408.Idx) :
    k0_pay14 (F := Ideal) (gu m c t 0 o h0) (gu m c t 1 o h1) x = actBlock m c t ((Rect.unit (s := S256x2816) ![0, o] ![256, 1408] h).emb x) := by
  refine (congrArg _ (eq_ix2 x)).trans ((pay14_apply _ _ (x 0) (x 1)).trans ?_)
  refine (congrArg₂ gated (in_half m c t 0 o h0 (x 0) (x 1)) (in_half m c t 1 o h1 (x 0) (x 1))).trans ?_
  exact act_place (wide (argX m c) (argG m c) (argW m c)) t.val (x 0).val o (x 1).val

theorem act_at (t : Fin cfg0.N) (x : Vec Ideal S1x1024 .f32) (y : S256x2816.Idx) : actOf m c t x y = actBlock m c t y := by
  unfold actOf ptAt restRun; frame_out
  refine View.canon_apply_of_pieces (Val := Elt Ideal) (S := S256x2816) (e := .bf16) (actBlock m c t) _ (View.PiecesOf.mem ?_) y
    (View.cover_of_tiledBy _ ![256, 1408] (by sl_kernel_rfl) y)
  refine ⟨?_, ?_, trivial⟩
  · exact act_half m c t 1408 inb_S2x256x2816_S1x256x1408_0_0_1408 inb_S2x256x2816_S1x256x1408_1_0_1408 inb_S256x2816_S256x1408_0_1408
  · exact act_half m c t 0 inb_S2x256x2816_S1x256x1408_0_0_0 inb_S2x256x2816_S1x256x1408_1_0_0 inb_S256x2816_S256x1408_0_0

/-- The first product's gradient in a point's rows: the gates', then the values'. -/
def dguBlock (t : Fin cfg0.N) : S2x256x2816.Idx → EReal := fun y => wideAt m c t (y 1) ((y 0).val * 2816 + (y 2).val)

theorem laid (t : Fin cfg0.N) (s o : ℕ) (g : FVec Ideal S256x1408 .bf16) (hg : ∀ r f, g (ix2 r f) = wideAt m c t r (s * 2816 + (o + f.val)))
    (h : ∀ a : Fin 3, (![s, 0, o] : Fin 3 → ℕ) a + (![1, 256, 1408] : Fin 3 → ℕ) a ≤ S2x256x2816.size a) (x : S1x256x1408.Idx) :
    shapeCast S1x256x1408 g shapeCasts_S256x1408_S1x256x1408 x
      = dguBlock m c t ((Rect.unit (s := S2x256x2816) ![s, 0, o] ![1, 256, 1408] h).emb x) := by
  have hx : x = ix3 0 (x 1) (x 2) := by
    funext a
    match a with
    | 0 => exact Subsingleton.elim (α := Fin 1) _ _
    | 1 => rfl
    | 2 => rfl
  rw [hx]
  refine (lie_apply _ (x 1) (x 2)).trans ((hg (x 1) (x 2)).trans ?_)
  unfold wideAt
  show _ = dWide (argD m c) (argX m c) (argG m c) (argW m c) (argV m c) (t.val * 256 + (0 + 1 * (x 1).val)) ((s + 1 * 0) * 2816 + (o + 1 * (x 2).val))
  rw [show s * 2816 + (o + (x 2).val) = (s + 1 * 0) * 2816 + (o + 1 * (x 2).val) by omega, Nat.one_mul (x 1).val, Nat.zero_add]

theorem dgu_at (t : Fin cfg0.N) (x : Vec Ideal S1x1024 .f32) (y : S2x256x2816.Idx) : dguOf m c t x y = dguBlock m c t y := by
  unfold dguOf ptAt restRun; frame_out
  refine View.canon_apply_of_pieces (Val := Elt Ideal) (S := S2x256x2816) (e := .bf16) (dguBlock m c t) _ (View.PiecesOf.mem ?_) y
    (View.cover_of_tiledBy _ ![1, 256, 1408] (by sl_kernel_rfl) y)
  refine ⟨?_, ?_, ?_, ?_, trivial⟩
  · exact laid m c t 1 1408 _ (fun r f => (value1_at m c t inb_S2816x1024_S1408x1024_1408_0 inb_S2x256x2816_S1x256x1408_0_0_1408 r f).trans (congrArg _ (by omega)))
      inb_S2x256x2816_S1x256x1408_1_0_1408
  · exact laid m c t 0 1408 _ (fun r f => (gate1_at m c t inb_S2816x1024_S1408x1024_1408_0 inb_S2x256x2816_S1x256x1408_0_0_1408
      inb_S2x256x2816_S1x256x1408_1_0_1408 r f).trans (congrArg _ (by omega))) inb_S2x256x2816_S1x256x1408_0_0_1408
  · exact laid m c t 1 0 _ (fun r f => (value0_at m c t inb_S2816x1024_S1408x1024_0_0 inb_S2x256x2816_S1x256x1408_0_0_0 r f).trans (congrArg _ (by omega)))
      inb_S2x256x2816_S1x256x1408_1_0_0
  · exact laid m c t 0 0 _ (fun r f => (gate0_at m c t inb_S2816x1024_S1408x1024_0_0 inb_S2x256x2816_S1x256x1408_0_0_0
      inb_S2x256x2816_S1x256x1408_1_0_0 r f).trans (congrArg _ (by omega))) inb_S2x256x2816_S1x256x1408_0_0_0

/-! ## The gain's gradient, point after point -/

/-- What row `r` adds to the gain's gradient in column `d`. -/
abbrev gainRow (d r : ℕ) : EReal :=
  dNorm (argD m c) (argX m c) (argG m c) (argW m c) (argV m c) r d * (argX m c r d * scale (argX m c) r)

/-- After `n` points the first `256 n` rows are in it. -/
theorem gain_sum (d : Fin 1024) : ∀ n : ℕ, n ≤ cfg0.N → dgIn m c n (ix2 0 d) = ∑ r ∈ Finset.range (n * 256), gainRow m c d.val r
  | 0, _ => by
    rw [Nat.zero_mul, Finset.range_zero, Finset.sum_empty]
    exact Ideal.ofBits_zero_f32
  | n + 1, h => by
    rw [dgIn, dif_pos (Nat.lt_of_succ_le h), dg_at, gain_sum d n (Nat.le_of_succ_le h), Nat.succ_mul, Finset.sum_range_add]
    refine congrArg (fun e : EReal => ∑ r ∈ Finset.range (n * 256), gainRow m c d.val r + e) ?_
    exact (Finset.sum_range fun r => gainRow m c d.val (n * 256 + r)).symm

/-! ## The results after the run -/

def dxOut : Buf (Elt Ideal) ((c : Thread nD τ).loc main_v20_0) := fun i : S4096x1024.Idx =>
  dIn (argD m c) (argX m c) (argG m c) (argW m c) (argV m c) (i 0).val (i 1).val
def dgOut : Buf (Elt Ideal) ((c : Thread nD τ).loc main_v20_1) := fun i : S1x1024.Idx =>
  dGain (argD m c) (argX m c) (argG m c) (argW m c) (argV m c) (i 1).val
def hOut : Buf (Elt Ideal) ((c : Thread nD τ).loc main_v20_2) := fun i : S4096x1024.Idx =>
  normed (argX m c) (argG m c) (i 0).val (i 1).val
def dguOut : Buf (Elt Ideal) ((c : Thread nD τ).loc main_v20_3) := fun i : S2x4096x2816.Idx =>
  dWide (argD m c) (argX m c) (argG m c) (argW m c) (argV m c) (i 1).val ((i 0).val * 2816 + (i 2).val)
def actOut : Buf (Elt Ideal) ((c : Thread nD τ).loc main_v20_4) := fun i : S4096x2816.Idx =>
  gated (wide (argX m c) (argG m c) (argW m c) (i 0).val (i 1).val) (wide (argX m c) (argG m c) (argW m c) (i 0).val (2816 + (i 1).val))
def dyOut : Buf (Elt Ideal) ((c : Thread nD τ).loc main_v20_5) := fun i : S4096x1024.Idx =>
  Ideal.ofBits .f32 0x3F000000#32 * argD m c (i 0).val (i 1).val

theorem emb4 (t : Fin cfg0.N) (y : S256x1024.Idx) : ((win0_4.blk t).view.emb y 0 : ℕ) = t.val * 256 + (y 0).val
    ∧ ((win0_4.blk t).view.emb y 1 : ℕ) = (y 1).val := by
  refine ⟨?_, ?_⟩ <;> blk_simp [e4]

theorem emb6 (t : Fin cfg0.N) (y : S256x1024.Idx) : ((win0_6.blk t).view.emb y 0 : ℕ) = t.val * 256 + (y 0).val
    ∧ ((win0_6.blk t).view.emb y 1 : ℕ) = (y 1).val := by
  refine ⟨?_, ?_⟩ <;> blk_simp [e6]

theorem emb8 (t : Fin cfg0.N) (y : S256x2816.Idx) : ((win0_8.blk t).view.emb y 0 : ℕ) = t.val * 256 + (y 0).val
    ∧ ((win0_8.blk t).view.emb y 1 : ℕ) = (y 1).val := by
  refine ⟨?_, ?_⟩ <;> blk_simp [e8]

theorem emb9 (t : Fin cfg0.N) (y : S256x1024.Idx) : ((win0_9.blk t).view.emb y 0 : ℕ) = t.val * 256 + (y 0).val
    ∧ ((win0_9.blk t).view.emb y 1 : ℕ) = (y 1).val := by
  refine ⟨?_, ?_⟩ <;> blk_simp [e9]

theorem emb5 (t : Fin cfg0.N) (y : S1x1024.Idx) : ((win0_5.blk t).view.emb y 1 : ℕ) = (y 1).val := by
  blk_simp [e5]

theorem emb7 (t : Fin cfg0.N) (y : S2x256x2816.Idx) : ((win0_7.blk t).view.emb y 0 : ℕ) = (y 0).val
    ∧ ((win0_7.blk t).view.emb y 1 : ℕ) = t.val * 256 + (y 1).val ∧ ((win0_7.blk t).view.emb y 2 : ℕ) = (y 2).val := by
  refine ⟨?_, ?_, ?_⟩ <;> blk_simp [e7]

theorem final_dx : (dats m 0 c).arrAt 4 cfg0.N = dxOut m c := by
  refine (dats m 0 c).arrAt_eq_of_covers 4 _ (by decide +kernel) fun t hf y => ?_
  blk_simp
  rw [after_4]
  obtain ⟨p, q⟩ := emb4 t y
  refine (congrArg (dxAt m c t) (eq_ix2 y)).trans ((dx_at m c t _ (y 0) (y 1)).trans ?_)
  unfold dxOut
  dsimp only
  rw [p, q]

theorem final_h : (dats m 0 c).arrAt 6 cfg0.N = hOut m c := by
  refine (dats m 0 c).arrAt_eq_of_covers 6 _ (by decide +kernel) fun t hf y => ?_
  blk_simp
  rw [after_6]
  obtain ⟨p, q⟩ := emb6 t y
  refine (congrArg (hAt m c t) (eq_ix2 y)).trans ((h_at m c t _ (y 0) (y 1)).trans ?_)
  unfold hOut
  dsimp only
  rw [p, q]

theorem final_dy : (dats m 0 c).arrAt 9 cfg0.N = dyOut m c := by
  refine (dats m 0 c).arrAt_eq_of_covers 9 _ (by decide +kernel) fun t hf y => ?_
  blk_simp
  rw [after_9]
  obtain ⟨p, q⟩ := emb9 t y
  refine (congrArg (dyAt m c t) (eq_ix2 y)).trans ((dy_at m c t _ (y 0) (y 1)).trans ?_)
  unfold dyOut
  dsimp only
  rw [p, q]

theorem final_act : (dats m 0 c).arrAt 8 cfg0.N = actOut m c := by
  refine (dats m 0 c).arrAt_eq_of_covers 8 _ (by decide +kernel) fun t hf y => ?_
  blk_simp
  rw [after_8]
  obtain ⟨p, q⟩ := emb8 t y
  refine (act_at m c t _ y).trans ?_
  unfold actOut actBlock
  dsimp only
  rw [p, q]

theorem final_dgu : (dats m 0 c).arrAt 7 cfg0.N = dguOut m c := by
  refine (dats m 0 c).arrAt_eq_of_covers 7 _ (by decide +kernel) fun t hf y => ?_
  blk_simp
  rw [after_7]
  obtain ⟨p, q, s⟩ := emb7 t y
  refine (dgu_at m c t _ y).trans ?_
  unfold dguOut dguBlock wideAt
  dsimp only
  rw [p, q, s]

theorem last_5 : ∀ t : Fin cfg0.N, (cfg0.win 5).flush t = true → t.val = 15 :=
  (by decide +kernel : ∀ t : Fin grid0.N, (cfg0.win 5).flush t = true → t.val = 15)

theorem dg_last (t : Fin cfg0.N) (ht : t.val = 15) (d : Fin 1024) :
    dgAt m c t (ix2 0 d) = dGain (argD m c) (argX m c) (argG m c) (argW m c) (argV m c) d.val := by
  have e : dgAt m c t = dgIn m c (t.val + 1) := by rw [dgIn, dif_pos t.isLt]; rfl
  unfold dGain
  rw [e, gain_sum m c d (t.val + 1) t.isLt, ht]
  exact Finset.sum_range _

theorem final_dg : (dats m 0 c).arrAt 5 cfg0.N = dgOut m c := by
  refine (dats m 0 c).arrAt_eq_of_covers 5 _ (by decide +kernel) fun t hf y => ?_
  blk_simp
  rw [after_5]
  have ht : t.val = 15 := last_5 t hf
  have hy : (y : S1x1024.Idx) = ix2 0 (y 1) := by
    funext a
    match a with
    | 0 => exact Subsingleton.elim (α := Fin 1) _ _
    | 1 => rfl
  refine (congrArg (dgAt m c t) hy).trans ((dg_last m c t ht (y 1)).trans ?_)
  unfold dgOut
  dsimp only
  rw [emb5 t y]

/-- The run ends with the six results, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v20_0) = dxOut m c
      ∧ r.2.mem ((c.tc : Thread nD τ).loc main_v20_1) = dgOut m c
      ∧ r.2.mem ((c.tc : Thread nD τ).loc main_v20_2) = hOut m c
      ∧ r.2.mem ((c.tc : Thread nD τ).loc main_v20_3) = dguOut m c
      ∧ r.2.mem ((c.tc : Thread nD τ).loc main_v20_4) = actOut m c
      ∧ r.2.mem ((c.tc : Thread nD τ).loc main_v20_5) = dyOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(FramePost.out_eq h.1 c 4).trans (final_dx m c), (FramePost.out_eq h.1 c 5).trans (final_dg m c),
    (FramePost.out_eq h.1 c 6).trans (final_h m c), (FramePost.out_eq h.1 c 7).trans (final_dgu m c), (FramePost.out_eq h.1 c 8).trans (final_act m c),
    (FramePost.out_eq h.1 c 9).trans (final_dy m c), h.2.1 c⟩)
    (θ_run_and (run_main m ρ) (frame m ρ))

end Cert.Kernel5Ideal.Hand
-- ==== Proof.BwdReference.lean ====
/- The reference of the FFN's backward call: its stages read one after the other, and its run, whose six results are the
   same functions of its arguments as the kernel's wherever those arguments are real numbers. -/
module

public import proofs.«01_k».proof.Defs
public import proofs.«01_k».proof.Proof.Finite
public import proofs.«01_k».proof.Proof.BwdMath
public import proofs.«01_k».proof.Proof.FwdReference
public import proofs.«01_k».proof.Proof.Gen.Reference5Ideal.Run
public import proofs.«01_k».proof.Proof.Gen.Reference5Ideal.Read

@[expose] public section

set_option maxRecDepth 16384

noncomputable section

namespace Cert.Reference5Ideal.Hand

open Cert.Ffn Cert.Reference5Ideal Cert.Reference5Ideal.Gen Cert.Reference5Ideal.Read
open Idealize.ShloMosaic Idealize.ShloMosaic.ValueIdx Idealize.SL.Sem

/-- The side conditions the precondition's printed function states. -/
theorem finite5_facts : Cert.Pre_finite5.Facts where
  bcast_S_S4096x1024 := by decide
  bcast_S_S1x1024 := by decide
  bitsLt_bf16_f32 := by decide
  bcast_S_S4x1024x1408 := by decide
  bcast_S_S2816x1024 := by decide

theorem num_of {x : EReal} (h : x ≠ ⊤ ∧ x ≠ ⊥) : Num x := ⟨x.toReal, (EReal.coe_toReal h.1 h.2).symm⟩

theorem ent2_num {a b : ℕ} {v : (⟨2, ![a, b]⟩ : Shape).Idx → EReal} (h : ∀ i, Num (v i)) (r c : ℕ) : Num (ent2 v r c) := by
  unfold ent2
  split_ifs
  · exact h _
  · exact ⟨0, EReal.coe_zero.symm⟩

theorem ent3_num {a b d : ℕ} {v : (⟨3, ![a, b, d]⟩ : Shape).Idx → EReal} (h : ∀ i, Num (v i)) (k r c : ℕ) : Num (ent3 v k r c) := by
  unfold ent3
  split_ifs
  · exact h _
  · exact ⟨0, EReal.coe_zero.symm⟩

theorem num_of_below {x : EReal} (h : BitVec.ofBool (decide (max x (-x) < Ideal.ofBits .f32 0x7F800000#32)) = 1#1) : Num x :=
  num_of (Cert.ReferenceIdeal.Hand.real_of_abs_lt (by rw [← Cert.ReferenceIdeal.Hand.c_pinf]; exact h))

section Pre
variable [Cert.Pre_finite5.Facts] (x0 x1 : (⟨S4096x1024, .f32⟩ : BufTy).Contents (Elt Ideal)) (x2 : (⟨S1x1024, .f32⟩ : BufTy).Contents (Elt Ideal))
  (x3 : (⟨S4x1024x1408, .bf16⟩ : BufTy).Contents (Elt Ideal)) (x4 : (⟨S2816x1024, .bf16⟩ : BufTy).Contents (Elt Ideal))

theorem num0 (h : (Cert.Pre_finite5.fn (F := Ideal) x0 x1 x2 x3 x4).1 = fun _ => 1#1) (i : S4096x1024.Idx) : Num (x0 i) :=
  num_of_below (congrFun h i)
theorem num1 (h : (Cert.Pre_finite5.fn (F := Ideal) x0 x1 x2 x3 x4).2.1 = fun _ => 1#1) (i : S4096x1024.Idx) : Num (x1 i) :=
  num_of_below (congrFun h i)
theorem num2 (h : (Cert.Pre_finite5.fn (F := Ideal) x0 x1 x2 x3 x4).2.2.1 = fun _ => 1#1) (i : S1x1024.Idx) : Num (x2 i) :=
  num_of_below (congrFun h i)
theorem num3 (h : (Cert.Pre_finite5.fn (F := Ideal) x0 x1 x2 x3 x4).2.2.2.1 = fun _ => 1#1) (i : S4x1024x1408.Idx) : Num (x3 i) :=
  num_of_below (congrFun h i)
theorem num4 (h : (Cert.Pre_finite5.fn (F := Ideal) x0 x1 x2 x3 x4).2.2.2.2 = fun _ => 1#1) (i : S2816x1024.Idx) : Num (x4 i) :=
  num_of_below (congrFun h i)

end Pre

section Stages

variable (x0 x1 : (⟨S4096x1024, .f32⟩ : BufTy).Contents (Elt Ideal)) (x2 : (⟨S1x1024, .f32⟩ : BufTy).Contents (Elt Ideal))
  (x3 : (⟨S4x1024x1408, .bf16⟩ : BufTy).Contents (Elt Ideal)) (x4 : (⟨S2816x1024, .bf16⟩ : BufTy).Contents (Elt Ideal))

theorem meansq_val (i : S4096x1.Idx) : val_main_v10 (F := Ideal) x1 i = meansq (ent2 (a := 4096) (b := 1024) x1) (i 0).val := by
  rw [val_main_v10_apply, val_main_v8_apply, val_main_v6_apply, val_main_v5_apply, val_main_v7_apply, val_main_v9_apply]
  unfold meansq
  refine congrArg (fun b : EReal => Ideal.div b (Ideal.ofBits .f32 0x44800000#32) + Ideal.ofBits .f32 0x358637BD#32)
    ((congrArg₂ (fun a b : EReal => a + b) Ideal.ofBits_zero_f32 (Finset.sum_congr rfl fun k _ => ?_)).trans (zero_add _))
  rw [val_main_v4_apply]
  exact congrArg₂ (fun a b : EReal => a * b) (ent2_of (a := 4096) (b := 1024) x1 _ rfl rfl) (ent2_of (a := 4096) (b := 1024) x1 _ rfl rfl)

theorem scale_val (i : S4096x1.Idx) : val_main_v11 (F := Ideal) x1 i = scale (ent2 (a := 4096) (b := 1024) x1) (i 0).val := by
  rw [val_main_v11_apply]
  exact congrArg Ideal.rsqrt (meansq_val x1 i)

theorem scaled_val (i : S4096x1024.Idx) :
    val_main_v16 (F := Ideal) x1 i = ent2 (a := 4096) (b := 1024) x1 (i 0).val (i 1).val * scale (ent2 (a := 4096) (b := 1024) x1) (i 0).val := by
  rw [val_main_v16_apply, val_main_v15_apply]
  exact congrArg₂ (fun a b : EReal => a * b) (ent2_of (a := 4096) (b := 1024) x1 i rfl rfl) (scale_val x1 _)

theorem norm_val (i : S4096x1024.Idx) :
    val_main_v18 (F := Ideal) x1 x2 i = normed (ent2 (a := 4096) (b := 1024) x1) (ent2 (a := 1) (b := 1024) x2) (i 0).val (i 1).val := by
  rw [val_main_v18_apply, val_main_v17_apply]
  exact congrArg₂ (fun a b : EReal => a * b) (scaled_val x1 i) (ent2_of (a := 1) (b := 1024) x2 _ rfl rfl)

/-- The first weights, side by side. -/
theorem side_val (i : S1024x5632.Idx) :
    val_main_v2 (F := Ideal) x3 i = ent3 (a := 4) (b := 1024) (d := 1408) x3 ((i 1).val / 1408) (i 0).val ((i 1).val % 1408) := by
  have h0 : (i 0).val < 1024 := (i 0).isLt
  have h1 : (i 1).val < 5632 := (i 1).isLt
  rw [val_main_v2_apply]
  show val_main_v1 (F := Ideal) x3 _ = _
  rw [val_main_v1_apply, val_main_v0_apply]
  refine ent3_of (a := 4) (b := 1024) (d := 1408) x3 _ ?_ ?_ ?_
  · show ((i 0).val * 5632 + (i 1).val) / 1408 % 4 = (i 1).val / 1408
    omega
  · show ((i 0).val * 5632 + (i 1).val) / 5632 = (i 0).val
    omega
  · show ((i 0).val * 5632 + (i 1).val) % 1408 = (i 1).val % 1408
    omega

theorem wide_val (i : S4096x5632.Idx) :
    val_main_v19 (F := Ideal) x1 x2 x3 i
      = wide (ent2 (a := 4096) (b := 1024) x1) (ent2 (a := 1) (b := 1024) x2) (ent3 (a := 4) (b := 1024) (d := 1408) x3) (i 0).val (i 1).val := by
  rw [val_main_v19_apply]
  unfold wide
  exact Finset.sum_congr rfl fun k _ => congrArg₂ (fun a b : EReal => a * b) (norm_val x1 x2 _) (side_val x3 _)

theorem gate_in (i : S4096x2816.Idx) : val_main_v20 (F := Ideal) x1 x2 x3 i
    = wide (ent2 (a := 4096) (b := 1024) x1) (ent2 (a := 1) (b := 1024) x2) (ent3 (a := 4) (b := 1024) (d := 1408) x3) (i 0).val (i 1).val := by
  rw [val_main_v20_apply]
  exact (wide_val x1 x2 x3 _).trans (congrArg₂ _ (by rfl) (by rfl))

theorem value_in (i : S4096x2816.Idx) : val_main_v21 (F := Ideal) x1 x2 x3 i
    = wide (ent2 (a := 4096) (b := 1024) x1) (ent2 (a := 1) (b := 1024) x2) (ent3 (a := 4) (b := 1024) (d := 1408) x3) (i 0).val (2816 + (i 1).val) := by
  rw [val_main_v21_apply]
  exact (wide_val x1 x2 x3 _).trans (congrArg₂ _ (by rfl) (by rfl))

theorem gate_val (i : S4096x2816.Idx) : val_main_v22_2 (F := Ideal) x1 x2 x3 i
    = gate (wide (ent2 (a := 4096) (b := 1024) x1) (ent2 (a := 1) (b := 1024) x2) (ent3 (a := 4) (b := 1024) (d := 1408) x3) (i 0).val (i 1).val) := by
  rw [val_main_v22_2_apply, val_main_call0_v4_apply, val_main_call0_v3_apply, val_main_call0_v2_apply, val_main_call0_v1_apply, val_main_call0_v0_apply]
  exact congrArg gate (gate_in x1 x2 x3 i)

theorem silu_val (i : S4096x2816.Idx) : val_main_v22_0 (F := Ideal) x1 x2 x3 i
    = (fun g : EReal => g * gate g) (wide (ent2 (a := 4096) (b := 1024) x1) (ent2 (a := 1) (b := 1024) x2) (ent3 (a := 4) (b := 1024) (d := 1408) x3) (i 0).val (i 1).val) := by
  rw [val_main_v22_0_apply]
  exact congrArg₂ (fun a b : EReal => a * b) (gate_in x1 x2 x3 i) (gate_val x1 x2 x3 i)

theorem act_val (i : S4096x2816.Idx) : val_main_v59 (F := Ideal) x1 x2 x3 i
    = gated (wide (ent2 (a := 4096) (b := 1024) x1) (ent2 (a := 1) (b := 1024) x2) (ent3 (a := 4) (b := 1024) (d := 1408) x3) (i 0).val (i 1).val)
      (wide (ent2 (a := 4096) (b := 1024) x1) (ent2 (a := 1) (b := 1024) x2) (ent3 (a := 4) (b := 1024) (d := 1408) x3) (i 0).val (2816 + (i 1).val)) := by
  rw [val_main_v59_apply]
  show val_main_v23 (F := Ideal) x1 x2 x3 i = _
  rw [val_main_v23_apply]
  exact congrArg₂ (fun a b : EReal => a * b) (silu_val x1 x2 x3 i) (value_in x1 x2 x3 i)

theorem half_val (i : S4096x1024.Idx) :
    val_main_v28 (F := Ideal) x0 i = Ideal.ofBits .f32 0x3F000000#32 * ent2 (a := 4096) (b := 1024) x0 (i 0).val (i 1).val := by
  rw [val_main_v28_apply, val_main_v27_apply]
  exact congrArg (fun e : EReal => Ideal.ofBits .f32 0x3F000000#32 * e) (ent2_of (a := 4096) (b := 1024) x0 i rfl rfl)

theorem dAct_val (i : S4096x2816.Idx) : val_main_v29 (F := Ideal) x0 x4 i
    = dAct (ent2 (a := 4096) (b := 1024) x0) (ent2 (a := 2816) (b := 1024) x4) (i 0).val (i 1).val := by
  rw [val_main_v29_apply]
  unfold dAct
  refine Finset.sum_congr rfl fun k _ => congrArg₂ (fun a b : EReal => a * b) (half_val x0 _) ?_
  rw [val_main_v3_apply]
  exact ent2_of (a := 2816) (b := 1024) x4 _ rfl rfl

theorem value_grad (i : S4096x2816.Idx) : val_main_v30 (F := Ideal) x0 x1 x2 x3 x4 i
    = valueGrad (dAct (ent2 (a := 4096) (b := 1024) x0) (ent2 (a := 2816) (b := 1024) x4) (i 0).val (i 1).val)
      (wide (ent2 (a := 4096) (b := 1024) x1) (ent2 (a := 1) (b := 1024) x2) (ent3 (a := 4) (b := 1024) (d := 1408) x3) (i 0).val (i 1).val) := by
  rw [val_main_v30_apply]
  exact (congrArg₂ (fun a b : EReal => a * b) (silu_val x1 x2 x3 i) (dAct_val x0 x4 i)).trans (mul_comm _ _)

variable (h0 : ∀ i, Num (x0 i)) (h1 : ∀ i, Num (x1 i)) (h2 : ∀ i, Num (x2 i)) (h3 : ∀ i, Num (x3 i)) (h4 : ∀ i, Num (x4 i))

include h0 h1 h2 h3 h4

theorem gate_grad (i : S4096x2816.Idx) : val_main_v32 (F := Ideal) x0 x1 x2 x3 x4 i
    = gateGrad (dAct (ent2 (a := 4096) (b := 1024) x0) (ent2 (a := 2816) (b := 1024) x4) (i 0).val (i 1).val)
      (wide (ent2 (a := 4096) (b := 1024) x1) (ent2 (a := 1) (b := 1024) x2) (ent3 (a := 4) (b := 1024) (d := 1408) x3) (i 0).val (i 1).val)
      (wide (ent2 (a := 4096) (b := 1024) x1) (ent2 (a := 1) (b := 1024) x2) (ent3 (a := 4) (b := 1024) (d := 1408) x3) (i 0).val (2816 + (i 1).val)) := by
  have hw := wide_num (ent2_num (a := 4096) (b := 1024) h1) (ent2_num (a := 1) (b := 1024) h2) (ent3_num (a := 4) (b := 1024) (d := 1408) h3) (i 0).val
  refine Eq.trans ?_ (gateGrad_chain (dAct_num (ent2_num (a := 4096) (b := 1024) h0) (ent2_num (a := 2816) (b := 1024) h4) (i 0).val (i 1).val) (hw _) (hw _))
  have e31 : val_main_v31 (F := Ideal) x0 x1 x2 x3 x4 i = _ := (val_main_v31_apply x0 x1 x2 x3 x4 i).trans
    (congrArg₂ (fun a b : EReal => a * b) (dAct_val x0 x4 i) (value_in x1 x2 x3 i))
  rw [val_main_v32_apply, val_main_call1_v1_apply, val_main_call1_v2_apply, val_main_call1_v0_apply, val_main_v22_1_apply, val_main_call0_v7_apply,
    val_main_call0_v6_apply]
  exact congrArg₂ (fun a b : EReal => a + b) (congrArg₂ (fun a b : EReal => a * b) e31 (gate_val x1 x2 x3 i))
    (congrArg₂ (fun a b : EReal => a * b) (congrArg₂ (fun a b : EReal => a * b) (gate_in x1 x2 x3 i) e31)
      (congrArg (fun s : EReal => s * (Ideal.ofBits .f32 0x3F800000#32 - s)) (gate_val x1 x2 x3 i)))

/-- Gates and values side by side: a column below 2816 is a gate's, the others are a value's. -/
theorem dWide_val (i : S4096x5632.Idx) : val_main_v33 (F := Ideal) x0 x1 x2 x3 x4 i = dWide (ent2 (a := 4096) (b := 1024) x0) (ent2 (a := 4096) (b := 1024) x1) (ent2 (a := 1) (b := 1024) x2)
    (ent3 (a := 4) (b := 1024) (d := 1408) x3) (ent2 (a := 2816) (b := 1024) x4) (i 0).val (i 1).val := by
  have hi0 : (i 0).val < 4096 := (i 0).isLt
  have hi1 : (i 1).val < 5632 := (i 1).isLt
  unfold dWide val_main_v33
  by_cases hp : (i 1).val < 2816
  · rw [if_pos hp]
    exact (concatenate_pair_apply_left (t := S4096x5632) (s₁ := S4096x2816) (s₂ := S4096x2816) 1 _ _ concatenates_S4096x2816_S4096x2816_S4096x5632_d1 i rfl
      (ix2 (⟨(i 0).val, hi0⟩ : Fin 4096) (⟨(i 1).val, hp⟩ : Fin 2816)) (fun b => by fin_cases b <;> rfl)).trans
      (gate_grad x0 x1 x2 x3 x4 h0 h1 h2 h3 h4 _)
  · rw [if_neg hp]
    exact (concatenate_pair_apply_right (t := S4096x5632) (s₁ := S4096x2816) (s₂ := S4096x2816) 1 _ _ concatenates_S4096x2816_S4096x2816_S4096x5632_d1 i rfl rfl
      (ix2 (⟨(i 0).val, hi0⟩ : Fin 4096) (⟨(i 1).val - 2816, by omega⟩ : Fin 2816)) (fun b hb => by
        fin_cases b
        · rfl
        · exact absurd rfl hb)
      (show (i 1).val - 2816 + 2816 = (i 1).val by omega)).trans
      (value_grad x0 x1 x2 x3 x4 _)

theorem dgu_val (i : S2x4096x2816.Idx) : val_main_v58 (F := Ideal) x0 x1 x2 x3 x4 i = dWide (ent2 (a := 4096) (b := 1024) x0) (ent2 (a := 4096) (b := 1024) x1) (ent2 (a := 1) (b := 1024) x2)
    (ent3 (a := 4) (b := 1024) (d := 1408) x3) (ent2 (a := 2816) (b := 1024) x4) (i 1).val ((i 0).val * 2816 + (i 2).val) := by
  have hi0 : (i 0).val < 2 := (i 0).isLt
  have hi2 : (i 2).val < 2816 := (i 2).isLt
  rw [val_main_v58_apply]
  show val_main_v57 (F := Ideal) x0 x1 x2 x3 x4 i = _
  rw [val_main_v57_apply, val_main_v56_apply, dWide_val x0 x1 x2 x3 x4 h0 h1 h2 h3 h4]
  refine congrArg₂ _ ?_ ?_
  · show (((i 1).val * 2 + (i 0).val) * 2816 + (i 2).val) / 5632 = (i 1).val
    omega
  · show (((i 1).val * 2 + (i 0).val) * 2816 + (i 2).val) % 5632 = (i 0).val * 2816 + (i 2).val
    omega

theorem dNorm_val (i : S4096x1024.Idx) : val_main_v34 (F := Ideal) x0 x1 x2 x3 x4 i = dNorm (ent2 (a := 4096) (b := 1024) x0) (ent2 (a := 4096) (b := 1024) x1) (ent2 (a := 1) (b := 1024) x2)
    (ent3 (a := 4) (b := 1024) (d := 1408) x3) (ent2 (a := 2816) (b := 1024) x4) (i 0).val (i 1).val := by
  rw [val_main_v34_apply]
  unfold dNorm
  exact Finset.sum_congr rfl fun k _ => congrArg₂ (fun a b : EReal => a * b) (dWide_val x0 x1 x2 x3 x4 h0 h1 h2 h3 h4 _) (side_val x3 _)

theorem dGain_val (i : S1x1024.Idx) : val_main_v37 (F := Ideal) x0 x1 x2 x3 x4 i = dGain (ent2 (a := 4096) (b := 1024) x0) (ent2 (a := 4096) (b := 1024) x1) (ent2 (a := 1) (b := 1024) x2)
    (ent3 (a := 4) (b := 1024) (d := 1408) x3) (ent2 (a := 2816) (b := 1024) x4) (i 1).val := by
  have hi0 : (i 0).val < 1 := (i 0).isLt
  have hi1 : (i 1).val < 1024 := (i 1).isLt
  rw [val_main_v37_apply, val_main_v36_apply]
  unfold dGain
  refine (congrArg₂ (fun a b : EReal => a + b) Ideal.ofBits_zero_f32 (Finset.sum_congr rfl fun k _ => ?_)).trans (zero_add _)
  rw [val_main_v35_apply]
  refine (congrArg₂ (fun a b : EReal => a * b) (scaled_val x1 _) (dNorm_val x0 x1 x2 x3 x4 h0 h1 h2 h3 h4 _)).trans ((mul_comm _ _).trans ?_)
  have e : (idx_main_v36 (idx_main_v37 i) k 1).val = (i 1).val := by
    show (i 0).val * 1024 + (i 1).val = (i 1).val
    omega
  rw [e]

/-- The gradient of the normalised entry, times the gain. -/
theorem gained_val (i : S4096x1024.Idx) : val_main_v39 (F := Ideal) x0 x1 x2 x3 x4 i = dNorm (ent2 (a := 4096) (b := 1024) x0) (ent2 (a := 4096) (b := 1024) x1) (ent2 (a := 1) (b := 1024) x2)
    (ent3 (a := 4) (b := 1024) (d := 1408) x3) (ent2 (a := 2816) (b := 1024) x4) (i 0).val (i 1).val * ent2 (a := 1) (b := 1024) x2 0 (i 1).val := by
  rw [val_main_v39_apply, val_main_v38_apply]
  exact congrArg₂ (fun a b : EReal => a * b) (dNorm_val x0 x1 x2 x3 x4 h0 h1 h2 h3 h4 i) (ent2_of (a := 1) (b := 1024) x2 _ rfl rfl)

/-- The mean square's share of a row's gradient. -/
theorem share_val (i : S4096.Idx) : val_main_v48 (F := Ideal) x0 x1 x2 x3 x4 i
    = Ideal.div ((∑ k : Fin 1024, ent2 (a := 4096) (b := 1024) x1 (i 0).val k.val * (dNorm (ent2 (a := 4096) (b := 1024) x0) (ent2 (a := 4096) (b := 1024) x1) (ent2 (a := 1) (b := 1024) x2)
        (ent3 (a := 4) (b := 1024) (d := 1408) x3) (ent2 (a := 2816) (b := 1024) x4) (i 0).val k.val * ent2 (a := 1) (b := 1024) x2 0 k.val))
      * (Ideal.ofBits .f32 0xBF000000#32 * Ideal.div (scale (ent2 (a := 4096) (b := 1024) x1) (i 0).val) (meansq (ent2 (a := 4096) (b := 1024) x1) (i 0).val)))
      (Ideal.ofBits .f32 0x44800000#32) := by
  rw [val_main_v48_apply]
  refine (congrArg₂ (fun a b : EReal => a + b) Ideal.ofBits_zero_f32 (Fin.sum_univ_one _)).trans ((zero_add _).trans ?_)
  rw [val_main_v47_apply, val_main_v46_apply, val_main_v45_apply, val_main_v42_apply, val_main_v41_apply, val_main_v14_apply, val_main_v13_apply,
    val_main_v12_apply]
  refine congrArg (fun e : EReal => Ideal.div e (Ideal.ofBits .f32 0x44800000#32)) (congrArg₂ (fun a b : EReal => a * b) ?_
    (congrArg₂ (fun a b : EReal => Ideal.ofBits .f32 0xBF000000#32 * Ideal.div a b) (scale_val x1 _) (meansq_val x1 _)))
  refine (congrArg₂ (fun a b : EReal => a + b) Ideal.ofBits_zero_f32 (Finset.sum_congr rfl fun k _ => ?_)).trans (zero_add _)
  rw [val_main_v40_apply]
  have er : (idx_main_v41 (idx_main_v42 (idx_main_v48 i 0)) k 0).val = (i 0).val := by
    show (i 0).val * 1 + 0 = (i 0).val
    omega
  refine congrArg₂ (fun a b : EReal => a * b) (ent2_of (a := 4096) (b := 1024) x1 _ er rfl) ((gained_val x0 x1 x2 x3 x4 h0 h1 h2 h3 h4 _).trans ?_)
  rw [er]

theorem dx_val (i : S4096x1024.Idx) : val_main_v54 (F := Ideal) x0 x1 x2 x3 x4 i = dIn (ent2 (a := 4096) (b := 1024) x0) (ent2 (a := 4096) (b := 1024) x1) (ent2 (a := 1) (b := 1024) x2)
    (ent3 (a := 4) (b := 1024) (d := 1408) x3) (ent2 (a := 2816) (b := 1024) x4) (i 0).val (i 1).val := by
  rw [val_main_v54_apply, val_main_v53_apply, val_main_v52_apply, val_main_v51_apply, val_main_v50_apply, val_main_v49_apply, val_main_v44_apply,
    val_main_v43_apply]
  refine Eq.trans ?_ (dIn_chain _ _ _ _ _ (i 0).val (i 1) rfl)
  have ex : x1 i = _ := ent2_of (a := 4096) (b := 1024) x1 i rfl rfl
  have es := share_val x0 x1 x2 x3 x4 h0 h1 h2 h3 h4 (idx_main_v49 i)
  exact congrArg₂ (fun a b : EReal => a + b) (ent2_of (a := 4096) (b := 1024) x0 i rfl rfl)
    (congrArg₂ (fun a b : EReal => a + b) (congrArg₂ (fun a b : EReal => a + b)
      (congrArg₂ (fun a b : EReal => a * b) (gained_val x0 x1 x2 x3 x4 h0 h1 h2 h3 h4 i) (scale_val x1 _))
      (congrArg₂ (fun a b : EReal => a * b) ex es)) (congrArg₂ (fun a b : EReal => a * b) es ex))

end Stages

/-- The reference's run ends with the same six results, its arguments unchanged. -/
theorem run_value (m : (ℓ : Loc nD τ sig) → Buf (Elt Ideal) ℓ) (ρ : Dev nD → PrngReg)
    (hr : ∀ c : Dev nD, (∀ i : S4096x1024.Idx, Num (m ((c.tc : Thread nD τ).loc main_arg0) i)) ∧ (∀ i : S4096x1024.Idx, Num (m ((c.tc : Thread nD τ).loc main_arg1) i))
      ∧ (∀ i : S1x1024.Idx, Num (m ((c.tc : Thread nD τ).loc main_arg2) i)) ∧ (∀ i : S4x1024x1408.Idx, Num (m ((c.tc : Thread nD τ).loc main_arg3) i))
      ∧ (∀ i : S2816x1024.Idx, Num (m ((c.tc : Thread nD τ).loc main_arg4) i))) :
    θ_run defs (onTc (τ := τ) (main (F := Ideal))) ⟨m, fun _ => 0, ρ⟩ fun r => ∀ c : Dev nD,
      let D := ent2 (a := 4096) (b := 1024) (m ((c.tc : Thread nD τ).loc main_arg0))
      let X := ent2 (a := 4096) (b := 1024) (m ((c.tc : Thread nD τ).loc main_arg1))
      let G := ent2 (a := 1) (b := 1024) (m ((c.tc : Thread nD τ).loc main_arg2))
      let W := ent3 (a := 4) (b := 1024) (d := 1408) (m ((c.tc : Thread nD τ).loc main_arg3))
      let V := ent2 (a := 2816) (b := 1024) (m ((c.tc : Thread nD τ).loc main_arg4))
      r.2.mem ((c.tc : Thread nD τ).loc main_v54) = (fun i : S4096x1024.Idx => dIn D X G W V (i 0).val (i 1).val)
      ∧ r.2.mem ((c.tc : Thread nD τ).loc main_v37) = (fun i : S1x1024.Idx => dGain D X G W V (i 1).val)
      ∧ r.2.mem ((c.tc : Thread nD τ).loc main_v55) = (fun i : S4096x1024.Idx => normed X G (i 0).val (i 1).val)
      ∧ r.2.mem ((c.tc : Thread nD τ).loc main_v58) = (fun i : S2x4096x2816.Idx => dWide D X G W V (i 1).val ((i 0).val * 2816 + (i 2).val))
      ∧ r.2.mem ((c.tc : Thread nD τ).loc main_v59) = (fun i : S4096x2816.Idx => gated (wide X G W (i 0).val (i 1).val) (wide X G W (i 0).val (2816 + (i 1).val)))
      ∧ r.2.mem ((c.tc : Thread nD τ).loc main_v60) = (fun i : S4096x1024.Idx => Ideal.ofBits .f32 0x3F000000#32 * D (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨e0, e1, e2, e3, e4, e5, u⟩ := h c
    obtain ⟨r0, r1, r2, r3, r4⟩ := hr c
    exact ⟨e0.trans ((val_main_v54_eq _ _).trans (funext (dx_val _ _ _ _ _ r0 r1 r2 r3 r4))),
      e1.trans ((val_main_v37_eq _ _).trans (funext (dGain_val _ _ _ _ _ r0 r1 r2 r3 r4))),
      e2.trans ((val_main_v55_eq _ _).trans (funext (norm_val _ _))),
      e3.trans ((val_main_v58_eq _ _).trans (funext (dgu_val _ _ _ _ _ r0 r1 r2 r3 r4))),
      e4.trans ((val_main_v59_eq _ _ _).trans (funext (act_val _ _ _))),
      e5.trans ((val_main_v60_eq _).trans (funext (half_val _))), u⟩)
    (Value.run (F := Ideal) m ρ)

end Cert.Reference5Ideal.Hand
-- ==== Proof.MixOutBwd.lean ====
/- Back through the mixer's output projection: the block's gradient as it came, and its product with the projection's
   rows, the first 512 of them the attention's and the others the convolution's. -/
module

public import proofs.«01_k».proof.Proof.FwdReference
public import proofs.«01_k».proof.Proof.Gen.Kernel6Ideal.Frame
public import proofs.«01_k».proof.Proof.Gen.Reference6Ideal.Run
public import proofs.«01_k».proof.Proof.Gen.Reference6Ideal.Read

@[expose] public section

set_option maxRecDepth 16384

noncomputable section

namespace Cert.Ffn

open Idealize.ShloMosaic Idealize.ShloMosaic.ValueIdx

/-- The gradient of the mixed row's entry `f`. -/
def dMix (D W : ℕ → ℕ → EReal) (r f : ℕ) : EReal := ∑ k : Fin 1024, D r k.val * W f k.val

end Cert.Ffn

namespace Cert.Kernel6Ideal.Hand

open Cert.Ffn Cert.Kernel6Ideal Cert.Kernel6Ideal.Gen
open Idealize.ShloMosaic Idealize.ShloMosaic.ValueIdx Idealize.ShloMosaic.TcCoe Idealize.SL.Sem
open Idealize.ShloMosaic.Pipeline (Dat Cfg Window FramePost)

theorem prod_apply (x : FVec Ideal S1024x1024 .bf16) (y : FVec Ideal S512x1024 .bf16) (r : Fin 1024) (f : Fin 512) :
    matmul dot_S1024x1024_S512x1024_S1024x512_1_1_0_0_n_n none x y (constant S1024x512 .f32 0x00000000#32) (ix2 r f)
      = ∑ k : Fin 1024, x (ix2 r k) * y (ix2 f k) :=
  product_at _ rfl rfl x y _ _ _ (fun k => by funext a; match a with | 0 => rfl | 1 => rfl)
    fun k => by funext a; match a with | 0 => rfl | 1 => rfl

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])

variable (m : (ℓ : Loc nD τ sig) → Buf (Elt Ideal) ℓ) (c : Dev nD)

def argD : ℕ → ℕ → EReal := ent2 (a := 4096) (b := 1024) (m ((c : Thread nD τ).loc main_arg0))
def argW : ℕ → ℕ → EReal := ent2 (a := 1024) (b := 1024) (m ((c : Thread nD τ).loc main_arg1))

theorem in0 (t : Fin cfg0.N) (r : Fin 1024) (k : Fin 1024) : iblk m c 0 t (ix2 r k) = argD m c (t.val * 1024 + r.val) k.val := by
  blk_simp [iblk]
  rw [show V m c main_arg0 = m ((c : Thread nD τ).loc main_arg0) from V_main_arg0 m c]
  refine (ent2_at (a := 4096) (b := 1024) _ _).trans ?_
  unfold argD
  blk_simp [e0]

theorem in1 (t : Fin cfg0.N) (f : Fin 1024) (k : Fin 1024) : iblk m c 1 t (ix2 f k) = argW m c f.val k.val := by
  blk_simp [iblk]
  rw [show V m c main_arg1 = m ((c : Thread nD τ).loc main_arg1) from V_main_arg1 m c]
  refine (ent2_at (a := 1024) (b := 1024) _ _).trans ?_
  unfold argW
  blk_simp [e1]

theorem rows1 (t : Fin cfg0.N) (o : ℕ) (h : ∀ a : Fin 2, (![o, 0] : Fin 2 → ℕ) a + S512x1024.size a ≤ S1024x1024.size a) (f : Fin 512) (k : Fin 1024) :
    View.ld (iblk m c 1 t) (Rect.unit (s := S1024x1024) ![o, 0] S512x1024.size h) (ix2 f k) = argW m c (o + f.val) k.val := by
  have ho : o + 512 ≤ 1024 := h 0
  refine Eq.trans (congrArg (iblk m c 1 t) ?_) (in1 m c t ⟨o + f.val, by omega⟩ k)
  funext a
  match a with
  | 0 => exact Fin.ext (show o + 1 * f.val = o + f.val by omega)
  | 1 => exact Fin.ext (show 0 + 1 * k.val = k.val by omega)

/-- The gradient itself. -/
def outD : Buf (Elt Ideal) ((c : Thread nD τ).loc main_v0_0) := fun i : S4096x1024.Idx => argD m c (i 0).val (i 1).val
/-- What goes back to the attention. -/
def outA : Buf (Elt Ideal) ((c : Thread nD τ).loc main_v0_1) := fun i : S4096x512.Idx => dMix (argD m c) (argW m c) (i 0).val (i 1).val
/-- What goes back to the convolution. -/
def outC : Buf (Elt Ideal) ((c : Thread nD τ).loc main_v0_2) := fun i : S4096x512.Idx => dMix (argD m c) (argW m c) (i 0).val (512 + (i 1).val)

theorem emb2 (t : Fin cfg0.N) (y : S1024x1024.Idx) : ((win0_2.blk t).view.emb y 0 : ℕ) = t.val * 1024 + (y 0).val ∧ ((win0_2.blk t).view.emb y 1 : ℕ) = (y 1).val := by
  refine ⟨?_, ?_⟩ <;> blk_simp [e2]
theorem emb3 (t : Fin cfg0.N) (y : S1024x512.Idx) : ((win0_3.blk t).view.emb y 0 : ℕ) = t.val * 1024 + (y 0).val ∧ ((win0_3.blk t).view.emb y 1 : ℕ) = (y 1).val := by
  refine ⟨?_, ?_⟩ <;> blk_simp [e3]
theorem emb4 (t : Fin cfg0.N) (y : S1024x512.Idx) : ((win0_4.blk t).view.emb y 0 : ℕ) = t.val * 1024 + (y 0).val ∧ ((win0_4.blk t).view.emb y 1 : ℕ) = (y 1).val := by
  refine ⟨?_, ?_⟩ <;> blk_simp [e4]

theorem final_d : (dats m 0 c).arrAt 2 cfg0.N = outD m c := by
  refine (dats m 0 c).arrAt_eq_of_covers 2 _ (by decide +kernel) fun t hf y => ?_
  blk_simp
  rw [after0_2]
  unfold out0_2; frame_out
  obtain ⟨p, q⟩ := emb2 t y
  refine (congrArg (iblk m c 0 t) (eq_ix2 y)).trans ((in0 m c t (y 0) (y 1)).trans ?_)
  unfold outD
  dsimp only
  rw [p, q]

theorem final_a : (dats m 0 c).arrAt 3 cfg0.N = outA m c := by
  refine (dats m 0 c).arrAt_eq_of_covers 3 _ (by decide +kernel) fun t hf y => ?_
  blk_simp
  rw [after0_3]
  unfold out0_3; frame_out
  obtain ⟨p, q⟩ := emb3 t y
  refine (congrArg (k0_pay2 (F := Ideal) (iblk m c 0 t) _) (eq_ix2 y)).trans ((prod_apply _ _ (y 0) (y 1)).trans ?_)
  unfold outA dMix
  dsimp only
  rw [p, q]
  refine Finset.sum_congr rfl fun k _ => congrArg₂ (fun a b : EReal => a * b) (in0 m c t (y 0) k) ((rows1 m c t 0 inb_S1024x1024_S512x1024_0_0 (y 1) k).trans ?_)
  rw [Nat.zero_add]

theorem final_c : (dats m 0 c).arrAt 4 cfg0.N = outC m c := by
  refine (dats m 0 c).arrAt_eq_of_covers 4 _ (by decide +kernel) fun t hf y => ?_
  blk_simp
  rw [after0_4]
  unfold out0_4; frame_out
  obtain ⟨p, q⟩ := emb4 t y
  refine (congrArg (k0_pay3 (F := Ideal) (iblk m c 0 t) _) (eq_ix2 y)).trans ((prod_apply _ _ (y 0) (y 1)).trans ?_)
  unfold outC dMix
  dsimp only
  rw [p, q]
  exact Finset.sum_congr rfl fun k _ => congrArg₂ (fun a b : EReal => a * b) (in0 m c t (y 0) k) (rows1 m c t 512 inb_S1024x1024_S512x1024_512_0 (y 1) k)

/-- The run ends with the three results, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = outD m c ∧ r.2.mem ((c.tc : Thread nD τ).loc main_v0_1) = outA m c
      ∧ r.2.mem ((c.tc : Thread nD τ).loc main_v0_2) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(FramePost.out_eq h.1 c 2).trans (final_d m c), (FramePost.out_eq h.1 c 3).trans (final_a m c),
    (FramePost.out_eq h.1 c 4).trans (final_c m c), h.2.1 c⟩) (θ_run_and (run_main m ρ) (frame m ρ))

end Cert.Kernel6Ideal.Hand

namespace Cert.Reference6Ideal.Hand

open Cert.Ffn Cert.Reference6Ideal Cert.Reference6Ideal.Gen Cert.Reference6Ideal.Read
open Idealize.ShloMosaic Idealize.ShloMosaic.ValueIdx Idealize.SL.Sem

variable (x0 : (⟨S4096x1024, .f32⟩ : BufTy).Contents (Elt Ideal)) (x1 : (⟨S1024x1024, .bf16⟩ : BufTy).Contents (Elt Ideal))

theorem prod_val (i : S4096x1024.Idx) :
    val_main_v3 (F := Ideal) x0 x1 i = dMix (ent2 (a := 4096) (b := 1024) x0) (ent2 (a := 1024) (b := 1024) x1) (i 0).val (i 1).val := by
  rw [val_main_v3_apply]
  exact Finset.sum_congr rfl fun k _ => congrArg₂ (fun a b : EReal => a * b) (ent2_of (a := 4096) (b := 1024) x0 _ rfl rfl) (ent2_of (a := 1024) (b := 1024) x1 _ rfl rfl)

theorem attn_val (i : S4096x512.Idx) :
    val_main_v6 (F := Ideal) x0 x1 i = dMix (ent2 (a := 4096) (b := 1024) x0) (ent2 (a := 1024) (b := 1024) x1) (i 0).val (i 1).val := by
  rw [val_main_v6_apply]
  show val_main_v5 (F := Ideal) x0 x1 i = _
  rw [val_main_v5_apply, prod_val]

theorem conv_val (i : S4096x512.Idx) :
    val_main_v7 (F := Ideal) x0 x1 i = dMix (ent2 (a := 4096) (b := 1024) x0) (ent2 (a := 1024) (b := 1024) x1) (i 0).val (512 + (i 1).val) := by
  rw [val_main_v7_apply, prod_val]

/-- The reference's run ends with the same three results, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let D := ent2 (a := 4096) (b := 1024) (m ((c.tc : Thread nD τ).loc main_arg0))
      let W := ent2 (a := 1024) (b := 1024) (m ((c.tc : Thread nD τ).loc main_arg1))
      r.2.mem ((c.tc : Thread nD τ).loc main_v4) = (fun i : S4096x1024.Idx => D (i 0).val (i 1).val)
      ∧ r.2.mem ((c.tc : Thread nD τ).loc main_v6) = (fun i : S4096x512.Idx => dMix D W (i 0).val (i 1).val)
      ∧ r.2.mem ((c.tc : Thread nD τ).loc main_v7) = (fun i : S4096x512.Idx => dMix D W (i 0).val (512 + (i 1).val))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨a, b, d, u⟩ := h c
    exact ⟨a.trans ((val_main_v4_eq _).trans (funext fun i => (val_main_v4_apply _ i).trans (ent2_of (a := 4096) (b := 1024) _ i rfl rfl))),
      b.trans ((val_main_v6_eq _ _).trans (funext (attn_val _ _))), d.trans ((val_main_v7_eq _ _).trans (funext (conv_val _ _))), u⟩)
    (Value.run (F := Ideal) m ρ)

end Cert.Reference6Ideal.Hand
-- ==== Proof.MixGradOut.lean ====
/- The gradient of the mixer's output projection: the sum, over all 4096 rows, of the products of the mixed row's entries,
   the attention's before the convolution's, and the block's output gradient's. -/
module

public import proofs.«01_k».proof.Proof.GradOut
public import proofs.«01_k».proof.Proof.MixBeside
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel7Ideal.Hand

open Cert.Ffn Cert.Kernel7Ideal Cert.Kernel7Ideal.Gen
open Idealize.ShloMosaic Idealize.ShloMosaic.ValueIdx Idealize.ShloMosaic.TcCoe Idealize.SL.Sem
open Idealize.ShloMosaic.Pipeline (Dat Cfg Window FramePost)

theorem prod_apply (x : FVec Ideal S2048x512 .bf16) (y : FVec Ideal S2048x1024 .bf16) (f : Fin 512) (d : Fin 1024) :
    matmul dot_S2048x512_S2048x1024_S512x1024_0_0_1_1_n_n none x y (constant S512x1024 .f32 0x00000000#32) (ix2 f d)
      = ∑ r : Fin 2048, x (ix2 r f) * y (ix2 r d) :=
  product_at _ rfl rfl x y _ _ _ (fun k => by funext a; match a with | 0 => rfl | 1 => rfl)
    fun k => by funext a; match a with | 0 => rfl | 1 => rfl

theorem pay2_apply (x : Vec Ideal S512x1024 .f32) (a : Vec Ideal S2048x512 .bf16) (y : Vec Ideal S2048x1024 .bf16) (f : Fin 512) (d : Fin 1024) :
    k0_pay2 (F := Ideal) x a y (ix2 f d) = x (ix2 f d) + ∑ r : Fin 2048, a (ix2 r f) * y (ix2 r d) := by
  unfold k0_pay2
  rw [shapeCast_self]
  exact congrArg (fun e : EReal => (x (ix2 f d) : EReal) + e) (prod_apply a y f d)

theorem pay3_apply (x : Vec Ideal S512x1024 .f32) (a : Vec Ideal S2048x512 .bf16) (y : Vec Ideal S2048x1024 .bf16) (f : Fin 512) (d : Fin 1024) :
    k0_pay3 (F := Ideal) x a y (ix2 f d) = x (ix2 f d) + ∑ r : Fin 2048, a (ix2 r f) * y (ix2 r d) := by
  unfold k0_pay3
  rw [shapeCast_self]
  exact congrArg (fun e : EReal => (x (ix2 f d) : EReal) + e) (prod_apply a y f d)

theorem zero_at (j : S1024x1024.Idx) : k0_pay1 (F := Ideal) j = 0 := by
  unfold k0_pay1
  rw [shapeCast_self]
  exact Ideal.ofBits_zero_f32

theorem e0 : ∀ t : Fin cfg0.N, win0_0.index t = ![half t.val, 0] := (by decide +kernel : ∀ t : Fin grid0.N, win0_0.index t = ![half t.val, 0])
theorem e1 : ∀ t : Fin cfg0.N, win0_1.index t = ![half t.val, 0] := (by decide +kernel : ∀ t : Fin grid0.N, win0_1.index t = ![half t.val, 0])
theorem e2 : ∀ t : Fin cfg0.N, win0_2.index t = ![half t.val, 0] := (by decide +kernel : ∀ t : Fin grid0.N, win0_2.index t = ![half t.val, 0])
theorem e3 : ∀ t : Fin cfg0.N, win0_3.index t = ![0, 0] := (by decide +kernel : ∀ t : Fin grid0.N, win0_3.index t = ![0, 0])

variable (m : (ℓ : Loc nD τ sig) → Buf (Elt Ideal) ℓ) (c : Dev nD)

def argA : ℕ → ℕ → EReal := ent2 (a := 4096) (b := 512) (m ((c : Thread nD τ).loc main_arg0))
def argC : ℕ → ℕ → EReal := ent2 (a := 4096) (b := 512) (m ((c : Thread nD τ).loc main_arg1))
def argD : ℕ → ℕ → EReal := ent2 (a := 4096) (b := 1024) (m ((c : Thread nD τ).loc main_arg2))
/-- The mixed rows. -/
def mix : ℕ → ℕ → EReal := beside (argA m c) (argC m c)

theorem in0 (t : Fin cfg0.N) (r : Fin 2048) (f : Fin 512) : iblk m c 0 t (ix2 r f) = argA m c (half t.val * 2048 + r.val) f.val := by
  blk_simp [iblk]
  rw [show V m c main_arg0 = m ((c : Thread nD τ).loc main_arg0) from V_main_arg0 m c]
  refine (ent2_at (a := 4096) (b := 512) _ _).trans ?_
  unfold argA
  blk_simp [e0]

theorem in1 (t : Fin cfg0.N) (r : Fin 2048) (f : Fin 512) : iblk m c 1 t (ix2 r f) = argC m c (half t.val * 2048 + r.val) f.val := by
  blk_simp [iblk]
  rw [show V m c main_arg1 = m ((c : Thread nD τ).loc main_arg1) from V_main_arg1 m c]
  refine (ent2_at (a := 4096) (b := 512) _ _).trans ?_
  unfold argC
  blk_simp [e1]

theorem in2 (t : Fin cfg0.N) (r : Fin 2048) (d : Fin 1024) : iblk m c 2 t (ix2 r d) = argD m c (half t.val * 2048 + r.val) d.val := by
  blk_simp [iblk]
  rw [show V m c main_arg2 = m ((c : Thread nD τ).loc main_arg2) from V_main_arg2 m c]
  refine (ent2_at (a := 4096) (b := 1024) _ _).trans ?_
  unfold argD
  blk_simp [e2]

/-- What point `t`'s rows contribute to row `f` and column `d`. -/
def turnAt (t : Fin cfg0.N) (f d : ℕ) : EReal :=
  ∑ r : Fin 2048, mix m c (half t.val * 2048 + r.val) f * argD m c (half t.val * 2048 + r.val) d

def turn (t : Fin cfg0.N) (y : S1024x1024.Idx) : EReal := turnAt m c t (y 0).val (y 1).val

theorem turn_at (t : Fin cfg0.N) (y : S1024x1024.Idx) (f d : ℕ) (hf : (y 0).val = f) (hd : (y 1).val = d) : turn m c t y = turnAt m c t f d := by
  subst hf hd
  rfl

/-- The convolution's rows of the scratch after a point's store. -/
theorem upper (t : Fin cfg0.N) (X : Vec Ideal S1024x1024 .f32) (h : ∀ a : Fin 2, (![512, 0] : Fin 2 → ℕ) a + S512x1024.size a ≤ S1024x1024.size a) (x : S512x1024.Idx) :
    k0_pay3 (F := Ideal) (View.ld X (Rect.unit (s := S1024x1024) ![512, 0] S512x1024.size h)) (iblk m c 1 t) (iblk m c 2 t) x
      = X ((Rect.unit (s := S1024x1024) ![512, 0] S512x1024.size h).emb x) + turn m c t ((Rect.unit (s := S1024x1024) ![512, 0] S512x1024.size h).emb x) := by
  obtain ⟨f, d, rfl⟩ : ∃ (f : Fin 512) (d : Fin 1024), x = ix2 f d := ⟨x 0, x 1, eq_ix2 x⟩
  rw [pay3_apply, turn_at m c t _ (512 + f.val) d.val (show 512 + 1 * f.val = 512 + f.val by omega) (show 0 + 1 * d.val = d.val by omega)]
  refine congrArg (fun e : EReal => (X ((Rect.unit (s := S1024x1024) ![512, 0] S512x1024.size h).emb (ix2 f d)) : EReal) + e) ?_
  unfold turnAt mix
  refine Finset.sum_congr rfl fun r _ => ?_
  rw [in1, in2, beside_right]

/-- The attention's rows of the scratch after a point's store. -/
theorem lower (t : Fin cfg0.N) (X : Vec Ideal S1024x1024 .f32) (h : ∀ a : Fin 2, (![0, 0] : Fin 2 → ℕ) a + S512x1024.size a ≤ S1024x1024.size a) (x : S512x1024.Idx) :
    k0_pay2 (F := Ideal) (View.ld X (Rect.unit (s := S1024x1024) ![0, 0] S512x1024.size h)) (iblk m c 0 t) (iblk m c 2 t) x
      = X ((Rect.unit (s := S1024x1024) ![0, 0] S512x1024.size h).emb x) + turn m c t ((Rect.unit (s := S1024x1024) ![0, 0] S512x1024.size h).emb x) := by
  obtain ⟨f, d, rfl⟩ : ∃ (f : Fin 512) (d : Fin 1024), x = ix2 f d := ⟨x 0, x 1, eq_ix2 x⟩
  rw [pay2_apply, turn_at m c t _ (0 + f.val) d.val (show 0 + 1 * f.val = 0 + f.val by omega) (show 0 + 1 * d.val = d.val by omega)]
  refine congrArg (fun e : EReal => (X ((Rect.unit (s := S1024x1024) ![0, 0] S512x1024.size h).emb (ix2 f d)) : EReal) + e) ?_
  unfold turnAt mix
  refine Finset.sum_congr rfl fun r _ => ?_
  rw [in0, in2, Nat.zero_add f.val, beside_left _ _ _ f.isLt]

/-- What the scratch holds after the first half. -/
theorem acc_first (t : Fin cfg0.N) (h0 : t.val % 2 = 0) (h1 : ¬t.val % 2 = 1) (y : S1024x1024.Idx) : (outsAt0 m c t.val t.isLt).2 y = turn m c t y := by
  rw [outsAt0_A m c t h0 h1]; frame_out
  simp (disch := decide) only [↓ View.readCov_skip, ↓ View.readCov_cons_toLoadRect, ↓ View.readCov_fill]
  refine View.canon_append_of_piecesOf (Val := Elt Ideal) (s := S1024x1024) (e := .f32) (turn m c t) [_] [_, _] ?_ y
    (View.cover_of_tiledBy _ ![512, 1024] (by sl_kernel_rfl) y)
  refine ⟨?_, ?_, trivial⟩
  · exact fun x => (upper m c t _ inb_S1024x1024_S512x1024_512_0 x).trans ((congrArg (fun e : EReal => e + _) (zero_at _)).trans (zero_add _))
  · exact fun x => (lower m c t _ inb_S1024x1024_S512x1024_0_0 x).trans ((congrArg (fun e : EReal => e + _) (zero_at _)).trans (zero_add _))

/-- The whole gradient. -/
def grads (y : S1024x1024.Idx) : EReal := gradOut (mix m c) (argD m c) (y 0).val (y 1).val

theorem turns (t : Fin cfg0.N) (h1 : t.val % 2 = 1) (h : t.val - 1 < cfg0.N) (y : S1024x1024.Idx) :
    turn m c ⟨t.val - 1, h⟩ y + turn m c t y = grads m c y := by
  unfold grads turn turnAt gradOut
  exact sum_turns (fun r => mix m c r (y 0).val * argD m c r (y 1).val) t.val h1

theorem cut_apply (v : Vec Ideal S1024x1024 .f32) (y : S1024x1024.Idx) : k0_pay4 (F := Ideal) v y = v y := rfl

/-- What the second half leaves in the output's buffer. -/
theorem out_last (t : Fin cfg0.N) (h0 : ¬t.val % 2 = 0) (h1 : t.val % 2 = 1) (y : S1024x1024.Idx) :
    (outsAt0 m c t.val t.isLt).1 y = grads m c y := by
  rw [outsAt0_B m c t h0 h1]; frame_out
  simp only [Idealize.ShloMosaic.read_unread_whole]
  rw [cut_apply, View.readCov_eq_canon']
  dsimp only
  have ht : t.val - 1 < cfg0.N := lt_of_le_of_lt (Nat.sub_le _ _) t.isLt
  have held : ∀ z, (outsAt0 m c (t.val - 1) ht).2 z = turn m c ⟨t.val - 1, ht⟩ z :=
    acc_first m c ⟨t.val - 1, ht⟩ (by show (t.val - 1) % 2 = 0; omega) (by show ¬(t.val - 1) % 2 = 1; omega)
  have whole : (Rect.unit (s := S1024x1024) ![0, 0] ![1024, 1024] inb_S1024x1024_S1024x1024_0_0).toLoadRect.idx y = y := by
    funext a
    match a with
    | 0 => exact Fin.ext (show 0 + 1 * (y 0).val = (y 0).val by omega)
    | 1 => exact Fin.ext (show 0 + 1 * (y 1).val = (y 1).val by omega)
  rw [whole]
  refine View.canon_apply_of_pieces (Val := Elt Ideal) (S := S1024x1024) (e := .f32)
    (grads m c) _ (View.PiecesOf.mem ?_) y
    (View.cover_of_tiledBy _ ![512, 1024] (by sl_kernel_rfl) y)
  refine ⟨?_, ?_, trivial⟩
  · exact fun x => (upper m c t _ inb_S1024x1024_S512x1024_512_0 x).trans ((congrArg (fun e : EReal => e + _) (held _)).trans (turns m c t h1 ht _))
  · exact fun x => (lower m c t _ inb_S1024x1024_S512x1024_0_0 x).trans ((congrArg (fun e : EReal => e + _) (held _)).trans (turns m c t h1 ht _))

/-- The whole gradient, as core `c` computes it. -/
def outW : Buf (Elt Ideal) ((c : Thread nD τ).loc main_v0) := grads m c

theorem emb3 (t : Fin cfg0.N) (y : S1024x1024.Idx) : ((win0_3.blk t).view.emb y 0 : ℕ) = (y 0).val ∧ ((win0_3.blk t).view.emb y 1 : ℕ) = (y 1).val := by
  refine ⟨?_, ?_⟩ <;> blk_simp [e3]

theorem final_out : (dats m 0 c).arrAt 3 cfg0.N = outW m c := by
  refine (dats m 0 c).arrAt_eq_of_covers 3 _ (by decide +kernel) fun t hf y => ?_
  blk_simp
  rw [after0_3]
  have h1 := (flush0_3 t).mp hf
  obtain ⟨p, q⟩ := emb3 t y
  refine (out_last m c t (by omega) h1 y).trans ?_
  unfold outW grads
  rw [p, q]

/-- The run ends with the gradient, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0) = outW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(FramePost.out_eq h.1 c 3).trans (final_out m c), h.2.1 c⟩) (θ_run_and (run_main m ρ) (frame m ρ))

end Cert.Kernel7Ideal.Hand

namespace Cert.Reference7Ideal.Hand

open Cert.Ffn Cert.Reference7Ideal Cert.Reference7Ideal.Gen Cert.Reference7Ideal.Read
open Idealize.ShloMosaic Idealize.ShloMosaic.ValueIdx Idealize.SL.Sem

theorem out_val (x0 x1 : (⟨S4096x512, .bf16⟩ : BufTy).Contents (Elt Ideal)) (x2 : (⟨S4096x1024, .bf16⟩ : BufTy).Contents (Elt Ideal)) (i : S1024x1024.Idx) :
    val_main_v7 (F := Ideal) x0 x1 x2 i
      = gradOut (beside (ent2 (a := 4096) (b := 512) x0) (ent2 (a := 4096) (b := 512) x1)) (ent2 (a := 4096) (b := 1024) x2) (i 0).val (i 1).val := by
  rw [val_main_v7_apply]
  show val_main_v6 (F := Ideal) x0 x1 x2 i = _
  rw [val_main_v6_apply, val_main_v5_apply]
  refine Finset.sum_congr rfl fun r _ => (mul_comm _ _).trans ?_
  exact congrArg₂ (fun a b : EReal => a * b) (beside_val x0 x1 concatenates_S4096x512_S4096x512_S4096x1024_d1 _) (ent2_of (a := 4096) (b := 1024) x2 _ rfl rfl)

/-- The reference's run ends with the same gradient, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = (fun i : S1024x1024.Idx =>
        gradOut (beside (ent2 (a := 4096) (b := 512) (m ((c.tc : Thread nD τ).loc main_arg0))) (ent2 (a := 4096) (b := 512) (m ((c.tc : Thread nD τ).loc main_arg1))))
          (ent2 (a := 4096) (b := 1024) (m ((c.tc : Thread nD τ).loc main_arg2))) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v7_eq _ _ _).trans (funext (out_val _ _ _))), (h c).2⟩) (Value.run (F := Ideal) m ρ)

end Cert.Reference7Ideal.Hand
-- ==== Proof.MixGradIn.lean ====
/- The gradient of the mixer's input projection: the sum, over all 4096 rows, of the products of the projected row's
   gradient, its queries', its keys' and values', and its convolution's columns one after another, and the normalised row. -/
module

public import proofs.«01_k».proof.Proof.GradOut
public import proofs.«01_k».proof.Proof.MixBeside
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit.Acc
public import Idealize.ShloMosaic.Lib.Pipeline.ValueKit.Geometry
public import Idealize.ShloMosaic.Lib.Pipeline.ReadBack

@[expose] public section

set_option maxRecDepth 16384

noncomputable section

namespace Cert.Kernel8Ideal.Hand

open Cert.Ffn Cert.Kernel8Ideal Cert.Kernel8Ideal.Gen
open Idealize.ShloMosaic Idealize.ShloMosaic.ValueIdx Idealize.ShloMosaic.TcCoe Idealize.SL.Sem
open Idealize.ShloMosaic.Pipeline (Dat Cfg Window FramePost)

theorem prod512 (x : FVec Ideal S2048x512 .bf16) (y : FVec Ideal S2048x1024 .bf16) (f : Fin 512) (d : Fin 1024) :
    matmul dot_S2048x512_S2048x1024_S512x1024_0_0_1_1_n_n none x y (constant S512x1024 .f32 0x00000000#32) (ix2 f d)
      = ∑ r : Fin 2048, x (ix2 r f) * y (ix2 r d) :=
  product_at _ rfl rfl x y _ _ _ (fun k => by funext a; match a with | 0 => rfl | 1 => rfl)
    fun k => by funext a; match a with | 0 => rfl | 1 => rfl

theorem prod256 (x : FVec Ideal S2048x256 .bf16) (y : FVec Ideal S2048x1024 .bf16) (f : Fin 256) (d : Fin 1024) :
    matmul dot_S2048x256_S2048x1024_S256x1024_0_0_1_1_n_n none x y (constant S256x1024 .f32 0x00000000#32) (ix2 f d)
      = ∑ r : Fin 2048, x (ix2 r f) * y (ix2 r d) :=
  product_at _ rfl rfl x y _ _ _ (fun k => by funext a; match a with | 0 => rfl | 1 => rfl)
    fun k => by funext a; match a with | 0 => rfl | 1 => rfl

theorem prod1024 (x : FVec Ideal S2048x1024 .bf16) (y : FVec Ideal S2048x1024 .bf16) (f : Fin 1024) (d : Fin 1024) :
    matmul dot_S2048x1024_S2048x1024_S1024x1024_0_0_1_1_n_n none x y (constant S1024x1024 .f32 0x00000000#32) (ix2 f d)
      = ∑ r : Fin 2048, x (ix2 r f) * y (ix2 r d) :=
  product_at _ rfl rfl x y _ _ _ (fun k => by funext a; match a with | 0 => rfl | 1 => rfl)
    fun k => by funext a; match a with | 0 => rfl | 1 => rfl

theorem pay3_apply (x : Vec Ideal S512x1024 .f32) (a : Vec Ideal S2048x512 .bf16) (y : Vec Ideal S2048x1024 .bf16) (f : Fin 512) (d : Fin 1024) :
    k0_pay3 (F := Ideal) x a y (ix2 f d) = x (ix2 f d) + ∑ r : Fin 2048, a (ix2 r f) * y (ix2 r d) := by
  unfold k0_pay3
  rw [shapeCast_self]
  exact congrArg (fun e : EReal => (x (ix2 f d) : EReal) + e) (prod512 a y f d)

theorem pay4_apply (x : Vec Ideal S256x1024 .f32) (a : Vec Ideal S2048x256 .bf16) (y : Vec Ideal S2048x1024 .bf16) (f : Fin 256) (d : Fin 1024) :
    k0_pay4 (F := Ideal) x a y (ix2 f d) = x (ix2 f d) + ∑ r : Fin 2048, a (ix2 r f) * y (ix2 r d) := by
  unfold k0_pay4
  rw [shapeCast_self]
  exact congrArg (fun e : EReal => (x (ix2 f d) : EReal) + e) (prod256 a y f d)

theorem pay5_apply (x : Vec Ideal S1024x1024 .f32) (a : Vec Ideal S2048x1024 .bf16) (y : Vec Ideal S2048x1024 .bf16) (f : Fin 1024) (d : Fin 1024) :
    k0_pay5 (F := Ideal) x a y (ix2 f d) = x (ix2 f d) + ∑ r : Fin 2048, a (ix2 r f) * y (ix2 r d) := by
  unfold k0_pay5
  rw [shapeCast_self]
  exact congrArg (fun e : EReal => (x (ix2 f d) : EReal) + e) (prod1024 a y f d)

theorem zero_at (j : S1792x1024.Idx) : k0_pay2 (F := Ideal) j = 0 := by
  unfold k0_pay2
  rw [shapeCast_self]
  exact Ideal.ofBits_zero_f32

theorem e0 : ∀ t : Fin cfg0.N, win0_0.index t = ![half t.val, 0] := (by decide +kernel : ∀ t : Fin grid0.N, win0_0.index t = ![half t.val, 0])
theorem e1 : ∀ t : Fin cfg0.N, win0_1.index t = ![half t.val, 0] := (by decide +kernel : ∀ t : Fin grid0.N, win0_1.index t = ![half t.val, 0])
theorem e2 : ∀ t : Fin cfg0.N, win0_2.index t = ![half t.val, 0] := (by decide +kernel : ∀ t : Fin grid0.N, win0_2.index t = ![half t.val, 0])
theorem e3 : ∀ t : Fin cfg0.N, win0_3.index t = ![half t.val, 0] := (by decide +kernel : ∀ t : Fin grid0.N, win0_3.index t = ![half t.val, 0])
theorem e4 : ∀ t : Fin cfg0.N, win0_4.index t = ![0, 0] := (by decide +kernel : ∀ t : Fin grid0.N, win0_4.index t = ![0, 0])

variable (m : (ℓ : Loc nD τ sig) → Buf (Elt Ideal) ℓ) (c : Dev nD)

def argQ : ℕ → ℕ → EReal := ent2 (a := 4096) (b := 512) (m ((c : Thread nD τ).loc main_arg0))
def argK : ℕ → ℕ → EReal := ent2 (a := 4096) (b := 256) (m ((c : Thread nD τ).loc main_arg1))
def argU : ℕ → ℕ → EReal := ent2 (a := 4096) (b := 1024) (m ((c : Thread nD τ).loc main_arg2))
def argD : ℕ → ℕ → EReal := ent2 (a := 4096) (b := 1024) (m ((c : Thread nD τ).loc main_arg3))
/-- The projected row's gradient. -/
def mix : ℕ → ℕ → EReal := three (argQ m c) (argK m c) (argU m c)

theorem in0 (t : Fin cfg0.N) (r : Fin 2048) (f : Fin 512) : iblk m c 0 t (ix2 r f) = argQ m c (half t.val * 2048 + r.val) f.val := by
  blk_simp [iblk]
  rw [show V m c main_arg0 = m ((c : Thread nD τ).loc main_arg0) from V_main_arg0 m c]
  refine (ent2_at (a := 4096) (b := 512) _ _).trans ?_
  unfold argQ
  blk_simp [e0]

theorem in1 (t : Fin cfg0.N) (r : Fin 2048) (f : Fin 256) : iblk m c 1 t (ix2 r f) = argK m c (half t.val * 2048 + r.val) f.val := by
  blk_simp [iblk]
  rw [show V m c main_arg1 = m ((c : Thread nD τ).loc main_arg1) from V_main_arg1 m c]
  refine (ent2_at (a := 4096) (b := 256) _ _).trans ?_
  unfold argK
  blk_simp [e1]

theorem in2 (t : Fin cfg0.N) (r : Fin 2048) (f : Fin 1024) : iblk m c 2 t (ix2 r f) = argU m c (half t.val * 2048 + r.val) f.val := by
  blk_simp [iblk]
  rw [show V m c main_arg2 = m ((c : Thread nD τ).loc main_arg2) from V_main_arg2 m c]
  refine (ent2_at (a := 4096) (b := 1024) _ _).trans ?_
  unfold argU
  blk_simp [e2]

theorem in3 (t : Fin cfg0.N) (r : Fin 2048) (d : Fin 1024) : iblk m c 3 t (ix2 r d) = argD m c (half t.val * 2048 + r.val) d.val := by
  blk_simp [iblk]
  rw [show V m c main_arg3 = m ((c : Thread nD τ).loc main_arg3) from V_main_arg3 m c]
  refine (ent2_at (a := 4096) (b := 1024) _ _).trans ?_
  unfold argD
  blk_simp [e3]

/-- What point `t`'s rows contribute to row `f` and column `d`. -/
def turnAt (t : Fin cfg0.N) (f d : ℕ) : EReal :=
  ∑ r : Fin 2048, mix m c (half t.val * 2048 + r.val) f * argD m c (half t.val * 2048 + r.val) d

def turn (t : Fin cfg0.N) (y : S1792x1024.Idx) : EReal := turnAt m c t (y 0).val (y 1).val

theorem turn_at (t : Fin cfg0.N) (y : S1792x1024.Idx) (f d : ℕ) (hf : (y 0).val = f) (hd : (y 1).val = d) : turn m c t y = turnAt m c t f d := by
  subst hf hd
  rfl

/-- The convolution's rows of the scratch after a point's store. -/
theorem third (t : Fin cfg0.N) (X : Vec Ideal S1792x1024 .f32) (h : ∀ a : Fin 2, (![768, 0] : Fin 2 → ℕ) a + S1024x1024.size a ≤ S1792x1024.size a) (x : S1024x1024.Idx) :
    k0_pay5 (F := Ideal) (View.ld X (Rect.unit (s := S1792x1024) ![768, 0] S1024x1024.size h)) (iblk m c 2 t) (iblk m c 3 t) x
      = X ((Rect.unit (s := S1792x1024) ![768, 0] S1024x1024.size h).emb x) + turn m c t ((Rect.unit (s := S1792x1024) ![768, 0] S1024x1024.size h).emb x) := by
  obtain ⟨f, d, rfl⟩ : ∃ (f : Fin 1024) (d : Fin 1024), x = ix2 f d := ⟨x 0, x 1, eq_ix2 x⟩
  rw [pay5_apply, turn_at m c t _ (768 + f.val) d.val (show 768 + 1 * f.val = 768 + f.val by omega) (show 0 + 1 * d.val = d.val by omega)]
  refine congrArg (fun e : EReal => (X ((Rect.unit (s := S1792x1024) ![768, 0] S1024x1024.size h).emb (ix2 f d)) : EReal) + e) ?_
  unfold turnAt mix
  refine Finset.sum_congr rfl fun r _ => ?_
  rw [in2, in3, three_last]

/-- The keys' and values' rows of the scratch after a point's store. -/
theorem second (t : Fin cfg0.N) (X : Vec Ideal S1792x1024 .f32) (h : ∀ a : Fin 2, (![512, 0] : Fin 2 → ℕ) a + S256x1024.size a ≤ S1792x1024.size a) (x : S256x1024.Idx) :
    k0_pay4 (F := Ideal) (View.ld X (Rect.unit (s := S1792x1024) ![512, 0] S256x1024.size h)) (iblk m c 1 t) (iblk m c 3 t) x
      = X ((Rect.unit (s := S1792x1024) ![512, 0] S256x1024.size h).emb x) + turn m c t ((Rect.unit (s := S1792x1024) ![512, 0] S256x1024.size h).emb x) := by
  obtain ⟨f, d, rfl⟩ : ∃ (f : Fin 256) (d : Fin 1024), x = ix2 f d := ⟨x 0, x 1, eq_ix2 x⟩
  rw [pay4_apply, turn_at m c t _ (512 + f.val) d.val (show 512 + 1 * f.val = 512 + f.val by omega) (show 0 + 1 * d.val = d.val by omega)]
  refine congrArg (fun e : EReal => (X ((Rect.unit (s := S1792x1024) ![512, 0] S256x1024.size h).emb (ix2 f d)) : EReal) + e) ?_
  unfold turnAt mix
  refine Finset.sum_congr rfl fun r _ => ?_
  rw [in1, in3, three_middle _ _ _ _ f.isLt]

/-- The queries' rows of the scratch after a point's store. -/
theorem first (t : Fin cfg0.N) (X : Vec Ideal S1792x1024 .f32) (h : ∀ a : Fin 2, (![0, 0] : Fin 2 → ℕ) a + S512x1024.size a ≤ S1792x1024.size a) (x : S512x1024.Idx) :
    k0_pay3 (F := Ideal) (View.ld X (Rect.unit (s := S1792x1024) ![0, 0] S512x1024.size h)) (iblk m c 0 t) (iblk m c 3 t) x
      = X ((Rect.unit (s := S1792x1024) ![0, 0] S512x1024.size h).emb x) + turn m c t ((Rect.unit (s := S1792x1024) ![0, 0] S512x1024.size h).emb x) := by
  obtain ⟨f, d, rfl⟩ : ∃ (f : Fin 512) (d : Fin 1024), x = ix2 f d := ⟨x 0, x 1, eq_ix2 x⟩
  rw [pay3_apply, turn_at m c t _ (0 + f.val) d.val (show 0 + 1 * f.val = 0 + f.val by omega) (show 0 + 1 * d.val = d.val by omega)]
  refine congrArg (fun e : EReal => (X ((Rect.unit (s := S1792x1024) ![0, 0] S512x1024.size h).emb (ix2 f d)) : EReal) + e) ?_
  unfold turnAt mix
  refine Finset.sum_congr rfl fun r _ => ?_
  rw [in0, in3, Nat.zero_add f.val, three_first _ _ _ _ f.isLt]

/-- What the scratch holds after the first half. -/
theorem acc_first (t : Fin cfg0.N) (h0 : t.val % 2 = 0) (h1 : ¬t.val % 2 = 1) (y : S1792x1024.Idx) : (outsAt0 m c t.val t.isLt).2 y = turn m c t y := by
  rw [outsAt0_A m c t h0 h1]; frame_out
  simp (disch := decide) only [↓ View.readCov_skip, ↓ View.readCov_cons_toLoadRect, ↓ View.readCov_fill]
  refine View.canon_append_of_piecesOf (Val := Elt Ideal) (s := S1792x1024) (e := .f32) (turn m c t) [_] [_, _, _] ?_ y
    (View.cover_of_tiledBy _ ![256, 1024] (by sl_kernel_rfl) y)
  refine ⟨?_, ?_, ?_, trivial⟩
  · exact fun x => (third m c t _ inb_S1792x1024_S1024x1024_768_0 x).trans ((congrArg (fun e : EReal => e + _) (zero_at _)).trans (zero_add _))
  · exact fun x => (second m c t _ inb_S1792x1024_S256x1024_512_0 x).trans ((congrArg (fun e : EReal => e + _) (zero_at _)).trans (zero_add _))
  · exact fun x => (first m c t _ inb_S1792x1024_S512x1024_0_0 x).trans ((congrArg (fun e : EReal => e + _) (zero_at _)).trans (zero_add _))

/-- The whole gradient. -/
def grads (y : S1792x1024.Idx) : EReal := gradOut (mix m c) (argD m c) (y 0).val (y 1).val

theorem turns (t : Fin cfg0.N) (h1 : t.val % 2 = 1) (h : t.val - 1 < cfg0.N) (y : S1792x1024.Idx) :
    turn m c ⟨t.val - 1, h⟩ y + turn m c t y = grads m c y := by
  unfold grads turn turnAt gradOut
  exact sum_turns (fun r => mix m c r (y 0).val * argD m c r (y 1).val) t.val h1

theorem cut_apply (v : Vec Ideal S1792x1024 .f32) (y : S1792x1024.Idx) : k0_pay1 (F := Ideal) v y = v y := rfl

/-- What the second half leaves in the output's buffer. -/
theorem out_last (t : Fin cfg0.N) (h0 : ¬t.val % 2 = 0) (h1 : t.val % 2 = 1) (y : S1792x1024.Idx) :
    (outsAt0 m c t.val t.isLt).1 y = grads m c y := by
  rw [outsAt0_B m c t h0 h1]; frame_out
  simp only [Idealize.ShloMosaic.read_unread_whole]
  rw [cut_apply, View.readCov_eq_canon']
  dsimp only
  have ht : t.val - 1 < cfg0.N := lt_of_le_of_lt (Nat.sub_le _ _) t.isLt
  have held : ∀ z, (outsAt0 m c (t.val - 1) ht).2 z = turn m c ⟨t.val - 1, ht⟩ z :=
    acc_first m c ⟨t.val - 1, ht⟩ (by show (t.val - 1) % 2 = 0; omega) (by show ¬(t.val - 1) % 2 = 1; omega)
  have whole : (Rect.unit (s := S1792x1024) ![0, 0] ![1792, 1024] inb_S1792x1024_S1792x1024_0_0).toLoadRect.idx y = y := by
    funext a
    match a with
    | 0 => exact Fin.ext (show 0 + 1 * (y 0).val = (y 0).val by omega)
    | 1 => exact Fin.ext (show 0 + 1 * (y 1).val = (y 1).val by omega)
  rw [whole]
  refine View.canon_apply_of_pieces (Val := Elt Ideal) (S := S1792x1024) (e := .f32)
    (grads m c) _ (View.PiecesOf.mem ?_) y
    (View.cover_of_tiledBy _ ![256, 1024] (by sl_kernel_rfl) y)
  refine ⟨?_, ?_, ?_, trivial⟩
  · exact fun x => (third m c t _ inb_S1792x1024_S1024x1024_768_0 x).trans ((congrArg (fun e : EReal => e + _) (held _)).trans (turns m c t h1 ht _))
  · exact fun x => (second m c t _ inb_S1792x1024_S256x1024_512_0 x).trans ((congrArg (fun e : EReal => e + _) (held _)).trans (turns m c t h1 ht _))
  · exact fun x => (first m c t _ inb_S1792x1024_S512x1024_0_0 x).trans ((congrArg (fun e : EReal => e + _) (held _)).trans (turns m c t h1 ht _))

/-- The whole gradient, as core `c` computes it. -/
def outW : Buf (Elt Ideal) ((c : Thread nD τ).loc main_v0) := grads m c

theorem emb4 (t : Fin cfg0.N) (y : S1792x1024.Idx) : ((win0_4.blk t).view.emb y 0 : ℕ) = (y 0).val ∧ ((win0_4.blk t).view.emb y 1 : ℕ) = (y 1).val := by
  refine ⟨?_, ?_⟩ <;> blk_simp [e4]

theorem final_out : (dats m 0 c).arrAt 4 cfg0.N = outW m c := by
  refine (dats m 0 c).arrAt_eq_of_covers 4 _ (by decide +kernel) fun t hf y => ?_
  blk_simp
  rw [after0_4]
  have h1 := (flush0_4 t).mp hf
  obtain ⟨p, q⟩ := emb4 t y
  refine (out_last m c t (by omega) h1 y).trans ?_
  unfold outW grads
  rw [p, q]

/-- The run ends with the gradient, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0) = outW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(FramePost.out_eq h.1 c 4).trans (final_out m c), h.2.1 c⟩) (θ_run_and (run_main m ρ) (frame m ρ))

end Cert.Kernel8Ideal.Hand

namespace Cert.Reference8Ideal.Hand

open Cert.Ffn Cert.Reference8Ideal Cert.Reference8Ideal.Gen Cert.Reference8Ideal.Read
open Idealize.ShloMosaic Idealize.ShloMosaic.ValueIdx Idealize.SL.Sem

theorem out_val (x0 : (⟨S4096x512, .bf16⟩ : BufTy).Contents (Elt Ideal)) (x1 : (⟨S4096x256, .bf16⟩ : BufTy).Contents (Elt Ideal))
    (x2 x3 : (⟨S4096x1024, .bf16⟩ : BufTy).Contents (Elt Ideal)) (i : S1792x1024.Idx) :
    val_main_v8 (F := Ideal) x0 x1 x2 x3 i
      = gradOut (three (ent2 (a := 4096) (b := 512) x0) (ent2 (a := 4096) (b := 256) x1) (ent2 (a := 4096) (b := 1024) x2)) (ent2 (a := 4096) (b := 1024) x3) (i 0).val (i 1).val := by
  rw [val_main_v8_apply]
  show val_main_v7 (F := Ideal) x0 x1 x2 x3 i = _
  rw [val_main_v7_apply, val_main_v6_apply, val_main_v5_apply]
  refine Finset.sum_congr rfl fun r _ => ?_
  exact congrArg₂ (fun a b : EReal => a * b) (three_val x0 x1 x2 concatenates_S4096x512_S4096x256_S4096x1024_S4096x1792_d1 _) (ent2_of (a := 4096) (b := 1024) x3 _ rfl rfl)

/-- The reference's run ends with the same gradient, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = (fun i : S1792x1024.Idx =>
        gradOut (three (ent2 (a := 4096) (b := 512) (m ((c.tc : Thread nD τ).loc main_arg0))) (ent2 (a := 4096) (b := 256) (m ((c.tc : Thread nD τ).loc main_arg1)))
          (ent2 (a := 4096) (b := 1024) (m ((c.tc : Thread nD τ).loc main_arg2)))) (ent2 (a := 4096) (b := 1024) (m ((c.tc : Thread nD τ).loc main_arg3))) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v8_eq _ _ _ _).trans (funext (out_val _ _ _ _))), (h c).2⟩) (Value.run (F := Ideal) m ρ)

end Cert.Reference8Ideal.Hand
-- ==== Proof.MixIn.lean ====
/- The mixer's input projection: each row is scaled by its root mean square and the gain and multiplied with the
   projection's 1792 rows, the first 768 for the attention and the others for the convolution. -/
module

public import proofs.«01_k».proof.Proof.FwdReference
public import proofs.«01_k».proof.Proof.Gen.Kernel9Ideal.Frame
public import proofs.«01_k».proof.Proof.Gen.Reference9Ideal.Run
public import proofs.«01_k».proof.Proof.Gen.Reference9Ideal.Read

@[expose] public section

set_option maxRecDepth 16384

noncomputable section

namespace Cert.Ffn

open Idealize.ShloMosaic Idealize.ShloMosaic.ValueIdx

/-- Column `f` of the projected row `r`. -/
def projected (X G T : ℕ → ℕ → EReal) (r f : ℕ) : EReal := ∑ k : Fin 1024, normed X G r k.val * T f k.val

end Cert.Ffn

namespace Cert.Kernel9Ideal.Hand

open Cert.Ffn Cert.Kernel9Ideal Cert.Kernel9Ideal.Gen
open Idealize.ShloMosaic Idealize.ShloMosaic.ValueIdx Idealize.ShloMosaic.TcCoe Idealize.SL.Sem
open Idealize.ShloMosaic.Pipeline (Dat Cfg Window FramePost)

/-! ## The normalised block -/

theorem pay1_apply (x : Vec Ideal S1024x1024 .f32) (g : Vec Ideal S1x1024 .f32) (r d : Fin 1024) :
    k0_pay1 (F := Ideal) x g (ix2 r d)
      = x (ix2 r d) * Ideal.rsqrt (Ideal.div (∑ k : Fin 1024, x (ix2 r k) * x (ix2 r k)) (Ideal.ofBits .f32 0x44800000#32) + Ideal.ofBits .f32 0x358637BD#32)
        * g (ix2 0 d) := by
  unfold k0_pay1
  refine (congrArg₂ (fun a b : EReal => x (ix2 r d) * a * b) (along_apply _ r d) (down_apply g r d)).trans ?_
  refine congrArg (fun e : EReal => x (ix2 r d) * Ideal.rsqrt (Ideal.div e (Ideal.ofBits .f32 0x44800000#32) + Ideal.ofBits .f32 0x358637BD#32) * g (ix2 0 d)) ?_
  exact (stand_apply _ r).trans (row_sum _ r)

/-! ## The products -/

theorem attn_apply (x : FVec Ideal S1024x1024 .bf16) (y : FVec Ideal S768x1024 .bf16) (r : Fin 1024) (f : Fin 768) :
    matmul dot_S1024x1024_S768x1024_S1024x768_1_1_0_0_n_n none x y (constant S1024x768 .f32 0x00000000#32) (ix2 r f)
      = ∑ k : Fin 1024, x (ix2 r k) * y (ix2 f k) :=
  product_at _ rfl rfl x y _ _ _ (fun k => by funext a; match a with | 0 => rfl | 1 => rfl)
    fun k => by funext a; match a with | 0 => rfl | 1 => rfl

theorem conv_apply (x y : FVec Ideal S1024x1024 .bf16) (r f : Fin 1024) :
    matmul dot_S1024x1024_S1024x1024_S1024x1024_1_1_0_0_n_n none x y (constant S1024x1024 .f32 0x00000000#32) (ix2 r f)
      = ∑ k : Fin 1024, x (ix2 r k) * y (ix2 f k) :=
  product_at _ rfl rfl x y _ _ _ (fun k => by funext a; match a with | 0 => rfl | 1 => rfl)
    fun k => by funext a; match a with | 0 => rfl | 1 => rfl

/-! ## The blocks -/

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])

variable (m : (ℓ : Loc nD τ sig) → Buf (Elt Ideal) ℓ) (c : Dev nD)

def argX : ℕ → ℕ → EReal := ent2 (a := 4096) (b := 1024) (m ((c : Thread nD τ).loc main_arg0))
def argG : ℕ → ℕ → EReal := ent2 (a := 1) (b := 1024) (m ((c : Thread nD τ).loc main_arg1))
def argT : ℕ → ℕ → EReal := ent2 (a := 1792) (b := 1024) (m ((c : Thread nD τ).loc main_arg2))

theorem in0 (t : Fin cfg0.N) (r : Fin 1024) (k : Fin 1024) : iblk m c 0 t (ix2 r k) = argX m c (t.val * 1024 + r.val) k.val := by
  blk_simp [iblk]
  rw [show V m c main_arg0 = m ((c : Thread nD τ).loc main_arg0) from V_main_arg0 m c]
  refine (ent2_at (a := 4096) (b := 1024) _ _).trans ?_
  unfold argX
  blk_simp [e0]

theorem in1 (t : Fin cfg0.N) (k : Fin 1024) : iblk m c 1 t (ix2 0 k) = argG m c 0 k.val := by
  blk_simp [iblk]
  rw [show V m c main_arg1 = m ((c : Thread nD τ).loc main_arg1) from V_main_arg1 m c]
  refine (ent2_at (a := 1) (b := 1024) _ _).trans ?_
  unfold argG
  blk_simp [e1]

theorem in2 (t : Fin cfg0.N) (f : Fin 1792) (k : Fin 1024) : iblk m c 2 t (ix2 f k) = argT m c f.val k.val := by
  blk_simp [iblk]
  rw [show V m c main_arg2 = m ((c : Thread nD τ).loc main_arg2) from V_main_arg2 m c]
  refine (ent2_at (a := 1792) (b := 1024) _ _).trans ?_
  unfold argT
  blk_simp [e2]

theorem rows2 (t : Fin cfg0.N) (o n : ℕ) (h : ∀ a : Fin 2, (![o, 0] : Fin 2 → ℕ) a + (![n, 1024] : Fin 2 → ℕ) a ≤ S1792x1024.size a) (f : Fin n) (k : Fin 1024) :
    View.ld (iblk m c 2 t) (Rect.unit (s := S1792x1024) ![o, 0] ![n, 1024] h) (ix2 f k) = argT m c (o + f.val) k.val := by
  have ho : o + n ≤ 1792 := h 0
  refine Eq.trans (congrArg (iblk m c 2 t) ?_) (in2 m c t ⟨o + f.val, by omega⟩ k)
  funext a
  match a with
  | 0 => exact Fin.ext (show o + 1 * f.val = o + f.val by omega)
  | 1 => exact Fin.ext (show 0 + 1 * k.val = k.val by omega)

theorem norm_at (t : Fin cfg0.N) (r d : Fin 1024) :
    k0_pay1 (F := Ideal) (iblk m c 0 t) (iblk m c 1 t) (ix2 r d) = normed (argX m c) (argG m c) (t.val * 1024 + r.val) d.val := by
  rw [pay1_apply]
  unfold normed
  rw [in0 m c t r d, in1 m c t d]
  refine congrArg (fun e : EReal => argX m c (t.val * 1024 + r.val) d.val * Ideal.rsqrt (Ideal.div e (Ideal.ofBits .f32 0x44800000#32)
    + Ideal.ofBits .f32 0x358637BD#32) * argG m c 0 d.val) ?_
  exact Finset.sum_congr rfl fun k _ => congrArg (fun e : EReal => e * e) (in0 m c t r k)

/-- The attention's columns. -/
def outA : Buf (Elt Ideal) ((c : Thread nD τ).loc main_v0_0) := fun i : S4096x768.Idx => projected (argX m c) (argG m c) (argT m c) (i 0).val (i 1).val
/-- The convolution's columns. -/
def outC : Buf (Elt Ideal) ((c : Thread nD τ).loc main_v0_1) := fun i : S4096x1024.Idx => projected (argX m c) (argG m c) (argT m c) (i 0).val (768 + (i 1).val)

theorem emb3 (t : Fin cfg0.N) (y : S1024x768.Idx) : ((win0_3.blk t).view.emb y 0 : ℕ) = t.val * 1024 + (y 0).val ∧ ((win0_3.blk t).view.emb y 1 : ℕ) = (y 1).val := by
  refine ⟨?_, ?_⟩ <;> blk_simp [e3]
theorem emb4 (t : Fin cfg0.N) (y : S1024x1024.Idx) : ((win0_4.blk t).view.emb y 0 : ℕ) = t.val * 1024 + (y 0).val ∧ ((win0_4.blk t).view.emb y 1 : ℕ) = (y 1).val := by
  refine ⟨?_, ?_⟩ <;> blk_simp [e4]

theorem final_a : (dats m 0 c).arrAt 3 cfg0.N = outA m c := by
  refine (dats m 0 c).arrAt_eq_of_covers 3 _ (by decide +kernel) fun t hf y => ?_
  blk_simp
  rw [after0_3]
  unfold out0_3; frame_out
  obtain ⟨p, q⟩ := emb3 t y
  refine (congrArg (k0_pay2 (F := Ideal) (iblk m c 0 t) (iblk m c 1 t) _) (eq_ix2 y)).trans ((attn_apply _ _ (y 0) (y 1)).trans ?_)
  unfold outA projected
  dsimp only
  rw [p, q]
  refine Finset.sum_congr rfl fun k _ => congrArg₂ (fun a b : EReal => a * b) (norm_at m c t (y 0) k) ((rows2 m c t 0 768 inb_S1792x1024_S768x1024_0_0 (y 1) k).trans ?_)
  rw [Nat.zero_add]

theorem final_c : (dats m 0 c).arrAt 4 cfg0.N = outC m c := by
  refine (dats m 0 c).arrAt_eq_of_covers 4 _ (by decide +kernel) fun t hf y => ?_
  blk_simp
  rw [after0_4]
  unfold out0_4; frame_out
  obtain ⟨p, q⟩ := emb4 t y
  refine (congrArg (k0_pay3 (F := Ideal) (iblk m c 0 t) (iblk m c 1 t) _) (eq_ix2 y)).trans ((conv_apply _ _ (y 0) (y 1)).trans ?_)
  unfold outC projected
  dsimp only
  rw [p, q]
  exact Finset.sum_congr rfl fun k _ => congrArg₂ (fun a b : EReal => a * b) (norm_at m c t (y 0) k) (rows2 m c t 768 1024 inb_S1792x1024_S1024x1024_768_0 (y 1) k)

/-- The run ends with both groups of columns, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = outA m c ∧ r.2.mem ((c.tc : Thread nD τ).loc main_v0_1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(FramePost.out_eq h.1 c 3).trans (final_a m c), (FramePost.out_eq h.1 c 4).trans (final_c m c), h.2.1 c⟩)
    (θ_run_and (run_main m ρ) (frame m ρ))

end Cert.Kernel9Ideal.Hand

namespace Cert.Reference9Ideal.Hand

open Cert.Ffn Cert.Reference9Ideal Cert.Reference9Ideal.Gen Cert.Reference9Ideal.Read
open Idealize.ShloMosaic Idealize.ShloMosaic.ValueIdx Idealize.SL.Sem

variable (x0 : (⟨S4096x1024, .f32⟩ : BufTy).Contents (Elt Ideal)) (x1 : (⟨S1x1024, .f32⟩ : BufTy).Contents (Elt Ideal)) (x2 : (⟨S1792x1024, .bf16⟩ : BufTy).Contents (Elt Ideal))

theorem norm_val (i : S4096x1024.Idx) :
    val_main_v11 (F := Ideal) x0 x1 i = normed (ent2 (a := 4096) (b := 1024) x0) (ent2 (a := 1) (b := 1024) x1) (i 0).val (i 1).val := by
  rw [val_main_v11_apply, val_main_v9_apply, val_main_v8_apply, val_main_v7_apply, val_main_v6_apply, val_main_v4_apply, val_main_v2_apply,
    val_main_v1_apply, val_main_v3_apply, val_main_v5_apply, val_main_v10_apply]
  unfold normed
  refine congrArg₂ (fun a b : EReal => a * b) (congrArg₂ (fun a b : EReal => a * Ideal.rsqrt (Ideal.div b (Ideal.ofBits .f32 0x44800000#32) + Ideal.ofBits .f32 0x358637BD#32))
    (ent2_of (a := 4096) (b := 1024) x0 i rfl rfl) ?_) (ent2_of (a := 1) (b := 1024) x1 _ ?_ rfl)
  · refine (congrArg₂ (fun a b : EReal => a + b) Ideal.ofBits_zero_f32 (Finset.sum_congr rfl fun k _ => ?_)).trans (zero_add _)
    rw [val_main_v0_apply]
    exact congrArg (fun e : EReal => e * e) (ent2_of (a := 4096) (b := 1024) x0 _ rfl rfl)
  · rfl

theorem prod_val (i : S4096x1792.Idx) : val_main_v14 (F := Ideal) x0 x1 x2 i
    = projected (ent2 (a := 4096) (b := 1024) x0) (ent2 (a := 1) (b := 1024) x1) (ent2 (a := 1792) (b := 1024) x2) (i 0).val (i 1).val := by
  rw [val_main_v14_apply]
  refine Finset.sum_congr rfl fun k _ => congrArg₂ (fun a b : EReal => a * b) (norm_val x0 x1 _) ?_
  show val_main_v12 (F := Ideal) x2 _ = _
  rw [val_main_v12_apply]
  exact ent2_of (a := 1792) (b := 1024) x2 _ rfl rfl

theorem attn_val (i : S4096x768.Idx) : val_main_v16 (F := Ideal) x0 x1 x2 i
    = projected (ent2 (a := 4096) (b := 1024) x0) (ent2 (a := 1) (b := 1024) x1) (ent2 (a := 1792) (b := 1024) x2) (i 0).val (i 1).val := by
  rw [val_main_v16_apply]
  show val_main_v15 (F := Ideal) x0 x1 x2 i = _
  rw [val_main_v15_apply, prod_val]

theorem conv_val (i : S4096x1024.Idx) : val_main_v17 (F := Ideal) x0 x1 x2 i
    = projected (ent2 (a := 4096) (b := 1024) x0) (ent2 (a := 1) (b := 1024) x1) (ent2 (a := 1792) (b := 1024) x2) (i 0).val (768 + (i 1).val) := by
  rw [val_main_v17_apply, prod_val]

/-- The reference's run ends with the same columns, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let X := ent2 (a := 4096) (b := 1024) (m ((c.tc : Thread nD τ).loc main_arg0))
      let G := ent2 (a := 1) (b := 1024) (m ((c.tc : Thread nD τ).loc main_arg1))
      let T := ent2 (a := 1792) (b := 1024) (m ((c.tc : Thread nD τ).loc main_arg2))
      r.2.mem ((c.tc : Thread nD τ).loc main_v16) = (fun i : S4096x768.Idx => projected X G T (i 0).val (i 1).val)
      ∧ r.2.mem ((c.tc : Thread nD τ).loc main_v17) = (fun i : S4096x1024.Idx => projected X G T (i 0).val (768 + (i 1).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨a, b, u⟩ := h c
    exact ⟨a.trans ((val_main_v16_eq _ _ _).trans (funext (attn_val _ _ _))), b.trans ((val_main_v17_eq _ _ _).trans (funext (conv_val _ _ _))), u⟩)
    (Value.run (F := Ideal) m ρ)

end Cert.Reference9Ideal.Hand
-- ==== Proof.MixOutFwd.lean ====
/- The mixer's output projection: to each row of the block is added the product of the row's attention and convolution,
   side by side, with the projection. -/
module

public import proofs.«01_k».proof.Proof.FwdReference
public import proofs.«01_k».proof.Proof.MixBeside
public import proofs.«01_k».proof.Proof.Gen.Kernel10Ideal.Frame
public import proofs.«01_k».proof.Proof.Gen.Reference10Ideal.Run
public import proofs.«01_k».proof.Proof.Gen.Reference10Ideal.Read

@[expose] public section

set_option maxRecDepth 16384

noncomputable section

namespace Cert.Ffn

open Idealize.ShloMosaic Idealize.ShloMosaic.ValueIdx

/-- The block's new entry in row `r` and column `d`. -/
def mixedOut (X A C W : ℕ → ℕ → EReal) (r d : ℕ) : EReal := X r d + ∑ k : Fin 1024, beside A C r k.val * W k.val d

/-- The sum taken over the attention's columns, then over the convolution's. -/
theorem mixedOut_parts (X A C W : ℕ → ℕ → EReal) (r d : ℕ) :
    X r d + ∑ k : Fin 512, A r k.val * W k.val d + ∑ k : Fin 512, C r k.val * W (512 + k.val) d = mixedOut X A C W r d := by
  have e : ∑ k : Fin 1024, beside A C r k.val * W k.val d
      = ∑ k : Fin 512, beside A C r k.val * W k.val d + ∑ k : Fin 512, beside A C r (512 + k.val) * W (512 + k.val) d :=
    Fin.sum_univ_add (a := 512) (b := 512) (fun k => beside A C r k.val * W k.val d)
  unfold mixedOut
  rw [e, add_assoc]
  refine congrArg₂ (fun a b : EReal => X r d + (a + b)) (Finset.sum_congr rfl fun k _ => ?_) (Finset.sum_congr rfl fun k _ => ?_)
  · rw [beside_left A C r k.isLt]
  · rw [beside_right]

end Cert.Ffn

namespace Cert.Kernel10Ideal.Hand

open Cert.Ffn Cert.Kernel10Ideal Cert.Kernel10Ideal.Gen
open Idealize.ShloMosaic Idealize.ShloMosaic.ValueIdx Idealize.ShloMosaic.TcCoe Idealize.SL.Sem
open Idealize.ShloMosaic.Pipeline (Dat Cfg Window FramePost)

theorem prod_apply (x : FVec Ideal S1024x512 .bf16) (y : FVec Ideal S512x1024 .bf16) (r d : Fin 1024) :
    matmul dot_S1024x512_S512x1024_S1024x1024_1_0_0_1_n_n none x y (constant S1024x1024 .f32 0x00000000#32) (ix2 r d)
      = ∑ k : Fin 512, x (ix2 r k) * y (ix2 k d) :=
  product_at _ rfl rfl x y _ _ _ (fun k => by funext a; match a with | 0 => rfl | 1 => rfl)
    fun k => by funext a; match a with | 0 => rfl | 1 => rfl

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])

variable (m : (ℓ : Loc nD τ sig) → Buf (Elt Ideal) ℓ) (c : Dev nD)

def argX : ℕ → ℕ → EReal := ent2 (a := 4096) (b := 1024) (m ((c : Thread nD τ).loc main_arg0))
def argA : ℕ → ℕ → EReal := ent2 (a := 4096) (b := 512) (m ((c : Thread nD τ).loc main_arg1))
def argC : ℕ → ℕ → EReal := ent2 (a := 4096) (b := 512) (m ((c : Thread nD τ).loc main_arg2))
def argW : ℕ → ℕ → EReal := ent2 (a := 1024) (b := 1024) (m ((c : Thread nD τ).loc main_arg3))

theorem in0 (t : Fin cfg0.N) (r d : Fin 1024) : iblk m c 0 t (ix2 r d) = argX m c (t.val * 1024 + r.val) d.val := by
  blk_simp [iblk]
  rw [show V m c main_arg0 = m ((c : Thread nD τ).loc main_arg0) from V_main_arg0 m c]
  refine (ent2_at (a := 4096) (b := 1024) _ _).trans ?_
  unfold argX
  blk_simp [e0]

theorem in1 (t : Fin cfg0.N) (r : Fin 1024) (k : Fin 512) : iblk m c 1 t (ix2 r k) = argA m c (t.val * 1024 + r.val) k.val := by
  blk_simp [iblk]
  rw [show V m c main_arg1 = m ((c : Thread nD τ).loc main_arg1) from V_main_arg1 m c]
  refine (ent2_at (a := 4096) (b := 512) _ _).trans ?_
  unfold argA
  blk_simp [e1]

theorem in2 (t : Fin cfg0.N) (r : Fin 1024) (k : Fin 512) : iblk m c 2 t (ix2 r k) = argC m c (t.val * 1024 + r.val) k.val := by
  blk_simp [iblk]
  rw [show V m c main_arg2 = m ((c : Thread nD τ).loc main_arg2) from V_main_arg2 m c]
  refine (ent2_at (a := 4096) (b := 512) _ _).trans ?_
  unfold argC
  blk_simp [e2]

theorem in3 (t : Fin cfg0.N) (k d : Fin 1024) : iblk m c 3 t (ix2 k d) = argW m c k.val d.val := by
  blk_simp [iblk]
  rw [show V m c main_arg3 = m ((c : Thread nD τ).loc main_arg3) from V_main_arg3 m c]
  refine (ent2_at (a := 1024) (b := 1024) _ _).trans ?_
  unfold argW
  blk_simp [e3]

theorem rows3 (t : Fin cfg0.N) (o : ℕ) (h : ∀ a : Fin 2, (![o, 0] : Fin 2 → ℕ) a + S512x1024.size a ≤ S1024x1024.size a) (k : Fin 512) (d : Fin 1024) :
    View.ld (iblk m c 3 t) (Rect.unit (s := S1024x1024) ![o, 0] S512x1024.size h) (ix2 k d) = argW m c (o + k.val) d.val := by
  have ho : o + 512 ≤ 1024 := h 0
  refine Eq.trans (congrArg (iblk m c 3 t) ?_) (in3 m c t ⟨o + k.val, by omega⟩ d)
  funext a
  match a with
  | 0 => exact Fin.ext (show o + 1 * k.val = o + k.val by omega)
  | 1 => exact Fin.ext (show 0 + 1 * d.val = d.val by omega)

/-- The block's new rows, as core `c` computes them. -/
def outX : Buf (Elt Ideal) ((c : Thread nD τ).loc main_v0) := fun i : S4096x1024.Idx => mixedOut (argX m c) (argA m c) (argC m c) (argW m c) (i 0).val (i 1).val

theorem emb4 (t : Fin cfg0.N) (y : S1024x1024.Idx) : ((win0_4.blk t).view.emb y 0 : ℕ) = t.val * 1024 + (y 0).val ∧ ((win0_4.blk t).view.emb y 1 : ℕ) = (y 1).val := by
  refine ⟨?_, ?_⟩ <;> blk_simp [e4]

theorem final_out : (dats m 0 c).arrAt 4 cfg0.N = outX m c := by
  refine (dats m 0 c).arrAt_eq_of_covers 4 _ (by decide +kernel) fun t hf y => ?_
  blk_simp
  rw [after0_4]
  unfold out0_4; frame_out
  obtain ⟨p, q⟩ := emb4 t y
  refine (congrArg (k0_pay1 (F := Ideal) (iblk m c 0 t) (iblk m c 1 t) _ (iblk m c 2 t) _) (eq_ix2 y)).trans ?_
  unfold outX
  dsimp only
  rw [p, q, ← mixedOut_parts]
  refine congrArg₂ (fun a b : EReal => a + b) (congrArg₂ (fun a b : EReal => a + b) (in0 m c t (y 0) (y 1))
    ((prod_apply _ _ (y 0) (y 1)).trans (Finset.sum_congr rfl fun k _ => congrArg₂ (fun a b : EReal => a * b) (in1 m c t (y 0) k)
      ((rows3 m c t 0 inb_S1024x1024_S512x1024_0_0 k (y 1)).trans ?_))))
    ((prod_apply _ _ (y 0) (y 1)).trans (Finset.sum_congr rfl fun k _ => congrArg₂ (fun a b : EReal => a * b) (in2 m c t (y 0) k)
      (rows3 m c t 512 inb_S1024x1024_S512x1024_512_0 k (y 1))))
  rw [Nat.zero_add]

/-- The run ends with the block's new rows, its arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v0) = outX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(FramePost.out_eq h.1 c 4).trans (final_out m c), h.2.1 c⟩) (θ_run_and (run_main m ρ) (frame m ρ))

end Cert.Kernel10Ideal.Hand

namespace Cert.Reference10Ideal.Hand

open Cert.Ffn Cert.Reference10Ideal Cert.Reference10Ideal.Gen Cert.Reference10Ideal.Read
open Idealize.ShloMosaic Idealize.ShloMosaic.ValueIdx Idealize.SL.Sem

theorem out_val (x0 : (⟨S4096x1024, .f32⟩ : BufTy).Contents (Elt Ideal)) (x1 x2 : (⟨S4096x512, .bf16⟩ : BufTy).Contents (Elt Ideal))
    (x3 : (⟨S1024x1024, .bf16⟩ : BufTy).Contents (Elt Ideal)) (i : S4096x1024.Idx) : val_main_v4 (F := Ideal) x0 x1 x2 x3 i
      = mixedOut (ent2 (a := 4096) (b := 1024) x0) (ent2 (a := 4096) (b := 512) x1) (ent2 (a := 4096) (b := 512) x2) (ent2 (a := 1024) (b := 1024) x3) (i 0).val (i 1).val := by
  rw [val_main_v4_apply, val_main_v3_apply]
  refine congrArg₂ (fun a b : EReal => a + b) (ent2_of (a := 4096) (b := 1024) x0 i rfl rfl) (Finset.sum_congr rfl fun k _ => ?_)
  exact congrArg₂ (fun a b : EReal => a * b) (beside_val x1 x2 concatenates_S4096x512_S4096x512_S4096x1024_d1 _) (ent2_of (a := 1024) (b := 1024) x3 _ rfl rfl)

/-- The reference's run ends with the same rows, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun i : S4096x1024.Idx =>
        mixedOut (ent2 (a := 4096) (b := 1024) (m ((c.tc : Thread nD τ).loc main_arg0))) (ent2 (a := 4096) (b := 512) (m ((c.tc : Thread nD τ).loc main_arg1)))
          (ent2 (a := 4096) (b := 512) (m ((c.tc : Thread nD τ).loc main_arg2))) (ent2 (a := 1024) (b := 1024) (m ((c.tc : Thread nD τ).loc main_arg3)))
          (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v4_eq _ _ _ _).trans (funext (out_val _ _ _ _))), (h c).2⟩) (Value.run (F := Ideal) m ρ)

end Cert.Reference10Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.AttnFrame
public import proofs.«01_k».proof.Proof.PrintedFrame
public import proofs.«01_k».proof.Proof.AttnValue
public import proofs.«01_k».proof.Proof.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.MixBack
public import proofs.«01_k».proof.Proof.MixBackReference
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.GradIn
public import proofs.«01_k».proof.Proof.GradOut
public import proofs.«01_k».proof.Proof.FwdPrinted
public import proofs.«01_k».proof.Proof.FwdValue
public import proofs.«01_k».proof.Proof.FwdReference
public import proofs.«01_k».proof.Proof.BwdPrinted
public import proofs.«01_k».proof.Proof.BwdValue
public import proofs.«01_k».proof.Proof.BwdReference
public import proofs.«01_k».proof.Proof.MixOutBwd
public import proofs.«01_k».proof.Proof.MixGradOut
public import proofs.«01_k».proof.Proof.MixGradIn
public import proofs.«01_k».proof.Proof.MixIn
public import proofs.«01_k».proof.Proof.MixOutFwd
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run, read at its arguments; it declares no semaphore. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's run and the reference's at the same real arguments end in the same numbers. -/
theorem algebraic (hP : Cert.Pre_finite.Facts) : Cert.algebraic_KernelIdeal_ReferenceIdeal_pre_finite (hPre_finite := hP) := by
  intro m g m' g' pre same
  have hr : ∀ c : Dev Cert.KernelIdeal.nD, _ := fun c =>
    And.intro (Cert.ReferenceIdeal.Hand.real0 _ _ _ (pre c).1)
      (And.intro (Cert.ReferenceIdeal.Hand.real1 _ _ _ (pre c).2.1) (Cert.ReferenceIdeal.Hand.real2 _ _ _ (pre c).2.2))
  refine ⟨fun c => Cert.KernelIdeal.Hand.outDQ m c, fun c => Cert.KernelIdeal.Hand.outDKV m c, fun c => Cert.KernelIdeal.Hand.outDSK m c,
    Cert.KernelIdeal.Hand.run_value m g hr, ?_⟩
  refine (θ_run Cert.ReferenceIdeal.defs _ _).mono (fun r h c => ?_)
    (Cert.ReferenceIdeal.Hand.run_value m' g' fun c => by
      obtain ⟨e0, e1, e2⟩ := same c
      rw [e0, e1, e2]
      exact hr c)
  obtain ⟨a, b, d, u⟩ := h c
  obtain ⟨e0, e1, e2⟩ := same c
  refine ⟨a.trans ?_, b.trans ?_, d.trans ?_, u⟩ <;> rw [e0, e1, e2] <;> rfl

/-- The runs of the two references of the FFN's weight gradients, read at their arguments; neither declares a semaphore. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference of the input projection's gradient at the same arguments end in the same numbers. -/
theorem algebraic2 : Cert.algebraic_Kernel2Ideal_Reference2Ideal := by
  intro m g m' g' _ same
  refine ⟨fun c => Cert.Kernel2Ideal.Hand.outIn m c, Cert.Kernel2Ideal.Hand.run_value m g, ?_⟩
  refine (θ_run Cert.Reference2Ideal.defs _ _).mono (fun r h c => ⟨(h c).1.trans ?_, (h c).2⟩) (Cert.Reference2Ideal.Hand.run_value m' g')
  obtain ⟨e0, e1⟩ := same c
  rw [e0, e1]
  rfl

/-- Kernel and reference of the output projection's gradient at the same arguments end in the same numbers. -/
theorem algebraic3 : Cert.algebraic_Kernel3Ideal_Reference3Ideal := by
  intro m g m' g' _ same
  refine ⟨fun c => Cert.Kernel3Ideal.Hand.outOut m c, Cert.Kernel3Ideal.Hand.run_value m g, ?_⟩
  refine (θ_run Cert.Reference3Ideal.defs _ _).mono (fun r h c => ⟨(h c).1.trans ?_, (h c).2⟩) (Cert.Reference3Ideal.Hand.run_value m' g')
  obtain ⟨e0, e1⟩ := same c
  rw [e0, e1]
  rfl

/-- The run of the reference of the FFN's forward call, read at its arguments; it declares no semaphore. -/
theorem reference4_frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Kernel and reference of the FFN's forward call at the same arguments end in the same numbers. -/
theorem algebraic4 : Cert.algebraic_Kernel4Ideal_Reference4Ideal := by
  intro m g m' g' _ same
  refine ⟨fun c => Cert.Kernel4Ideal.Hand.xOut m c, fun c => Cert.Kernel4Ideal.Hand.guOut m c, Cert.Kernel4Ideal.Hand.run_value m g, ?_⟩
  refine (θ_run Cert.Reference4Ideal.defs _ _).mono (fun r h c => ⟨(h c).1.trans ?_, (h c).2.1.trans ?_, (h c).2.2⟩) (Cert.Reference4Ideal.Hand.run_value m' g')
  all_goals
    obtain ⟨e0, e1, e2, e3⟩ := same c
    simp only [e0, e1, e2, e3]
    rfl

/-- The run of the reference of the FFN's backward call, read at its arguments; it declares no semaphore. -/
theorem reference5_frame : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- Kernel and reference of the FFN's backward call at the same real arguments end in the same numbers. -/
theorem algebraic5 (hP : Cert.Pre_finite5.Facts) : Cert.algebraic_Kernel5Ideal_Reference5Ideal_pre_finite5 (hPre_finite5 := hP) := by
  intro m g m' g' pre same
  have hr : ∀ c : Dev Cert.Kernel5Ideal.nD, _ := fun c =>
    And.intro (Cert.Reference5Ideal.Hand.num0 _ _ _ _ _ (pre c).1)
      (And.intro (Cert.Reference5Ideal.Hand.num1 _ _ _ _ _ (pre c).2.1)
        (And.intro (Cert.Reference5Ideal.Hand.num2 _ _ _ _ _ (pre c).2.2.1)
          (And.intro (Cert.Reference5Ideal.Hand.num3 _ _ _ _ _ (pre c).2.2.2.1) (Cert.Reference5Ideal.Hand.num4 _ _ _ _ _ (pre c).2.2.2.2))))
  refine ⟨fun c => Cert.Kernel5Ideal.Hand.dxOut m c, fun c => Cert.Kernel5Ideal.Hand.dgOut m c, fun c => Cert.Kernel5Ideal.Hand.hOut m c,
    fun c => Cert.Kernel5Ideal.Hand.dguOut m c, fun c => Cert.Kernel5Ideal.Hand.actOut m c, fun c => Cert.Kernel5Ideal.Hand.dyOut m c,
    Cert.Kernel5Ideal.Hand.run_value m g, ?_⟩
  refine (θ_run Cert.Reference5Ideal.defs _ _).mono (fun r h c => ?_)
    (Cert.Reference5Ideal.Hand.run_value m' g' fun c => by
      obtain ⟨e0, e1, e2, e3, e4⟩ := same c
      rw [e0, e1, e2, e3, e4]
      exact hr c)
  obtain ⟨a0, a1, a2, a3, a4, a5, u⟩ := h c
  obtain ⟨e0, e1, e2, e3, e4⟩ := same c
  refine ⟨a0.trans ?_, a1.trans ?_, a2.trans ?_, a3.trans ?_, a4.trans ?_, a5.trans ?_, u⟩
  all_goals
    simp only [e0, e1, e2, e3, e4]
    rfl

/-- The runs of the references of the mixer's projections, read at their arguments; none declares a semaphore. -/
theorem reference6_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem reference7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem reference9_frame : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem reference10_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference of the output projection's backward call at the same arguments end in the same numbers. -/
theorem algebraic6 : Cert.algebraic_Kernel6Ideal_Reference6Ideal := by
  intro m g m' g' _ same
  refine ⟨fun c => Cert.Kernel6Ideal.Hand.outD m c, fun c => Cert.Kernel6Ideal.Hand.outA m c, fun c => Cert.Kernel6Ideal.Hand.outC m c, Cert.Kernel6Ideal.Hand.run_value m g, ?_⟩
  refine (θ_run Cert.Reference6Ideal.defs _ _).mono (fun r h c => ⟨(h c).1.trans ?_, (h c).2.1.trans ?_, (h c).2.2.1.trans ?_, (h c).2.2.2⟩) (Cert.Reference6Ideal.Hand.run_value m' g')
  all_goals
    obtain ⟨e0, e1⟩ := same c
    simp only [e0, e1]
    rfl

/-- Kernel and reference of the output projection's gradient at the same arguments end in the same numbers. -/
theorem algebraic7 : Cert.algebraic_Kernel7Ideal_Reference7Ideal := by
  intro m g m' g' _ same
  refine ⟨fun c => Cert.Kernel7Ideal.Hand.outW m c, Cert.Kernel7Ideal.Hand.run_value m g, ?_⟩
  refine (θ_run Cert.Reference7Ideal.defs _ _).mono (fun r h c => ⟨(h c).1.trans ?_, (h c).2⟩) (Cert.Reference7Ideal.Hand.run_value m' g')
  all_goals
    obtain ⟨e0, e1, e2⟩ := same c
    simp only [e0, e1, e2]
    rfl

/-- Kernel and reference of the input projection's gradient in the mixer at the same arguments end in the same numbers. -/
theorem algebraic8 : Cert.algebraic_Kernel8Ideal_Reference8Ideal := by
  intro m g m' g' _ same
  refine ⟨fun c => Cert.Kernel8Ideal.Hand.outW m c, Cert.Kernel8Ideal.Hand.run_value m g, ?_⟩
  refine (θ_run Cert.Reference8Ideal.defs _ _).mono (fun r h c => ⟨(h c).1.trans ?_, (h c).2⟩) (Cert.Reference8Ideal.Hand.run_value m' g')
  all_goals
    obtain ⟨e0, e1, e2, e3⟩ := same c
    simp only [e0, e1, e2, e3]
    rfl

/-- Kernel and reference of the mixer's input projection at the same arguments end in the same numbers. -/
theorem algebraic9 : Cert.algebraic_Kernel9Ideal_Reference9Ideal := by
  intro m g m' g' _ same
  refine ⟨fun c => Cert.Kernel9Ideal.Hand.outA m c, fun c => Cert.Kernel9Ideal.Hand.outC m c, Cert.Kernel9Ideal.Hand.run_value m g, ?_⟩
  refine (θ_run Cert.Reference9Ideal.defs _ _).mono (fun r h c => ⟨(h c).1.trans ?_, (h c).2.1.trans ?_, (h c).2.2⟩) (Cert.Reference9Ideal.Hand.run_value m' g')
  all_goals
    obtain ⟨e0, e1, e2⟩ := same c
    simp only [e0, e1, e2]
    rfl

/-- Kernel and reference of the mixer's output projection at the same arguments end in the same numbers. -/
theorem algebraic10 : Cert.algebraic_Kernel10Ideal_Reference10Ideal := by
  intro m g m' g' _ same
  refine ⟨fun c => Cert.Kernel10Ideal.Hand.outX m c, Cert.Kernel10Ideal.Hand.run_value m g, ?_⟩
  refine (θ_run Cert.Reference10Ideal.defs _ _).mono (fun r h c => ⟨(h c).1.trans ?_, (h c).2⟩) (Cert.Reference10Ideal.Hand.run_value m' g')
  all_goals
    obtain ⟨e0, e1, e2, e3⟩ := same c
    simp only [e0, e1, e2, e3]
    rfl

/-- The run of the reference of the gradient through the mixer's normalisation, read at its arguments; it declares no semaphore. -/
theorem reference11_frame : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- Kernel and reference of the gradient through the mixer's normalisation at the same arguments end in the same numbers. -/
theorem algebraic11 : Cert.algebraic_Kernel11Ideal_Reference11Ideal := by
  intro m g m' g' _ same
  refine ⟨fun c => Cert.Kernel11Ideal.Hand.dxOut m c, fun c => Cert.Kernel11Ideal.Hand.dgOut m c, fun c => Cert.Kernel11Ideal.Hand.hOut m c,
    Cert.Kernel11Ideal.Hand.run_value m g, ?_⟩
  refine (θ_run Cert.Reference11Ideal.defs _ _).mono (fun r h c => ?_)
    (Cert.Reference11Ideal.Hand.run_value m' g')
  obtain ⟨a0, a1, a2, u⟩ := h c
  obtain ⟨e0, e1, e2, e3, e4, e5, e6⟩ := same c
  refine ⟨a0.trans ?_, a1.trans ?_, a2.trans ?_, u⟩
  all_goals
    simp only [e0, e1, e2, e3, e4, e5, e6]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.ReferenceIdeal.Hand.finite_facts,
  Cert.Reference5Ideal.Hand.finite5_facts,
  fun m ρ _ => Cert.Kernel.Hand.frame m ρ, fun m ρ _ => Cert.KernelIdeal.Hand.frame m ρ, fun m ρ _ => Cert.KernelIdeal.Hand.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  Cert.Ffn.printed_frame, fun m ρ _ => Cert.Kernel4Ideal.Hand.frame m ρ, reference4_frame,
  Cert.FfnBwd.printed_frame, fun m ρ _ => Cert.Kernel5Ideal.Hand.frame m ρ, fun m ρ _ => Cert.Kernel5Ideal.Hand.frame m ρ, reference5_frame,
  fun m ρ _ => reference5_frame m ρ trivial,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  IdealRules.named_const.statement Cert.KernelIdeal.κ "mask" .f32 0xF149F2CA#32 ⊥ rfl,
  algebraic Cert.ReferenceIdeal.Hand.finite_facts, trivial, algebraic2, trivial, algebraic3, trivial, algebraic4,
  trivial, algebraic5 Cert.Reference5Ideal.Hand.finite5_facts,
  trivial, algebraic6, trivial, algebraic7, trivial, algebraic8, trivial, algebraic9, trivial, algebraic10,
  trivial, algebraic11⟩

end Cert.Proof

end
